-- ==== Defs.lean ====
def Pre_Kernel [hPre_plan_fits : Cert.Pre_plan_fits.Facts] (m : (ℓ : Loc Cert.Kernel.nD Cert.Kernel.τ Cert.Kernel.sig) → Buf (Elt Bits) ℓ) : Prop :=
  ∀ c : Dev Cert.Kernel.nD,
    (Cert.Pre_plan_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_plan_fits : Cert.Pre_plan_fits.Facts] (m : (ℓ : Loc Cert.KernelIdeal.nD Cert.KernelIdeal.τ Cert.KernelIdeal.sig) → Buf (Elt Ideal) ℓ) : Prop :=
  ∀ c : Dev Cert.KernelIdeal.nD,
    (Cert.Pre_plan_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plan_fits [hPre_plan_fits : Cert.Pre_plan_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_plan_fits : Cert.Pre_plan_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_plan_fits : Cert.Pre_plan_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_plan_fits [hReferenceIdeal : Cert.ReferenceIdeal.Facts] [hPre_plan_fits : Cert.Pre_plan_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plan_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  True

def algebraic_KernelIdeal_ReferenceIdeal_on_rows_routed [hKernelIdeal : Cert.KernelIdeal.Facts] [hReferenceIdeal : Cert.ReferenceIdeal.Facts] [hPre_plan_fits : Cert.Pre_plan_fits.Facts] [hOn_rows_routed : Cert.On_rows_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![98304, 1024]⟩ : Shape).Idx, (Cert.On_rows_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![98304, 1024]⟩ : Shape).Idx, (Cert.On_rows_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v17) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.bf16_pair.BufferStatement Cert.Kernel3Ideal.S32768x2x512 Cert.Kernel3Ideal.S32768x1x512
  ∧ IdealRules.bf16_pair.BufferStatement Cert.Kernel3Ideal.S512x2x512 Cert.Kernel3Ideal.S512x1x512
  ∧ IdealRules.truncf_extf.Statement Cert.Kernel3Ideal.S512x1024 .f32 .bf16
  ∧ IdealRules.bf16_pair.Statement Cert.Kernel3Ideal.S512x2x512 Cert.Kernel3Ideal.S512x1x512
  ∧ IdealRules.bf16_pack.Statement Cert.Kernel3Ideal.S512x512
  ∧ IdealRules.truncf_extf.Statement Cert.Kernel3Ideal.S512x128 .f32 .bf16

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v20_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_plan_fits : Cert.Pre_plan_fits.Facts) (hOn_rows_routed : Cert.On_rows_routed.Facts),
    quiescent_Kernel (hKernel := hKernel) (hPre_plan_fits := hPre_plan_fits)
    ∧ quiescent_KernelIdeal (hKernelIdeal := hKernelIdeal) (hPre_plan_fits := hPre_plan_fits)
    ∧ quiescent_ReferenceIdeal (hReferenceIdeal := hReferenceIdeal)
    ∧ quiescent_ReferenceIdeal_pre_plan_fits (hReferenceIdeal := hReferenceIdeal) (hPre_plan_fits := hPre_plan_fits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_rows_routed (hKernelIdeal := hKernelIdeal) (hReferenceIdeal := hReferenceIdeal) (hPre_plan_fits := hPre_plan_fits) (hOn_rows_routed := hOn_rows_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== On_rows_routed.lean ====
abbrev S96 : Shape := ⟨1, ![96]⟩
abbrev S1 : Shape := ⟨1, ![1]⟩
abbrev S98304x1024 : Shape := ⟨2, ![98304, 1024]⟩
abbrev S32x1024x256 : Shape := ⟨3, ![32, 1024, 256]⟩
abbrev S32x256x1024 : Shape := ⟨3, ![32, 256, 1024]⟩
abbrev S96x4 : Shape := ⟨2, ![96, 4]⟩
abbrev S_ : Shape := ⟨0, ![]⟩
abbrev S96x1 : Shape := ⟨2, ![96, 1]⟩
abbrev S96x4x1x1 : Shape := ⟨4, ![96, 4, 1, 1]⟩
abbrev S96x4x256x1024 : Shape := ⟨4, ![96, 4, 256, 1024]⟩

class Facts : Prop where
  shapeCasts_S1_S_ : S1.ShapeCasts S_
  bcast_S_S96x4 : S_.BroadcastsInDim S96x4 (![] : Fin 0 → Fin S96x4.rank)
  bcast_S96_S96x1_0 : S96.BroadcastsInDim S96x1 (![0] : Fin 1 → Fin S96x1.rank)
  bcast_S96x1_S96x4_0_1 : S96x1.BroadcastsInDim S96x4 (![0, 1] : Fin 2 → Fin S96x4.rank)
  bcast_S96x4_S96x4x1x1_0_1 : S96x4.BroadcastsInDim S96x4x1x1 (![0, 1] : Fin 2 → Fin S96x4x1x1.rank)
  bcast_S96x4x1x1_S96x4x256x1024_0_1_2_3 : S96x4x1x1.BroadcastsInDim S96x4x256x1024 (![0, 1, 2, 3] : Fin 4 → Fin S96x4x256x1024.rank)
  shapeCasts_S96x4x256x1024_S98304x1024 : S96x4x256x1024.ShapeCasts S98304x1024

variable [Facts]

def fn {F : FTy → Type} [FloatOps F] (main_arg0 : IVec S96 32) (main_arg1 : IVec S1 32) (main_arg2 : IVec S96 32) (main_arg3 : IVec S96 32) (main_arg4 : IVec S96 32) (main_arg5 : FVec F S98304x1024 .bf16) (main_arg6 : FVec F S32x1024x256 .f32) (main_arg7 : FVec F S32x1024x256 .f32) (main_arg8 : FVec F S32x256x1024 .f32) : IVec S98304x1024 1 :=
  let main_v0 : IVec S96x4 32 := iotaInDim S96x4 32 0
  let main_v1 : IVec S96x4 32 := iotaInDim S96x4 32 1
  let main_v2 : IVec S_ 32 := shapeCast S_ main_arg1 shapeCasts_S1_S_
  let main_v3 : IVec S96x4 32 := broadcastInDim S96x4 ![] bcast_S_S96x4 main_v2
  let main_v4 : IVec S96x4 1 := cmpi .slt main_v0 main_v3
  let main_v5 : IVec S96x1 32 := broadcastInDim S96x1 ![0] bcast_S96_S96x1_0 main_arg4
  let main_v6 : IVec S96x4 32 := broadcastInDim S96x4 ![0, 1] bcast_S96x1_S96x4_0_1 main_v5
  let main_v7 : IVec S96x4 1 := cmpi .slt main_v1 main_v6
  let main_v8 : IVec S96x4 1 := andi main_v4 main_v7
  let main_v9 : IVec S96x4x1x1 1 := broadcastInDim S96x4x1x1 ![0, 1] bcast_S96x4_S96x4x1x1_0_1 main_v8
  let main_v10 : IVec S96x4x256x1024 1 := broadcastInDim S96x4x256x1024 ![0, 1, 2, 3] bcast_S96x4x1x1_S96x4x256x1024_0_1_2_3 main_v9
  let main_v11 : IVec S98304x1024 1 := shapeCast S98304x1024 main_v10 shapeCasts_S96x4x256x1024_S98304x1024
  main_v11
-- ==== Pre_plan_fits.lean ====
abbrev S96 : Shape := ⟨1, ![96]⟩
abbrev S1 : Shape := ⟨1, ![1]⟩
abbrev S98304x1024 : Shape := ⟨2, ![98304, 1024]⟩
abbrev S32x1024x256 : Shape := ⟨3, ![32, 1024, 256]⟩
abbrev S32x256x1024 : Shape := ⟨3, ![32, 256, 1024]⟩
abbrev S_ : Shape := ⟨0, ![]⟩
abbrev S95 : Shape := ⟨1, ![95]⟩

class Facts : Prop where
  shapeCasts_S1_S_ : S1.ShapeCasts S_
  bcast_S_S96 : S_.BroadcastsInDim S96 (![] : Fin 0 → Fin S96.rank)
  reducesTo_S96_S_d0 : S96.ReducesTo [0] S_
  h_S_ : 0 < S_.numel
  slices_S96_S95_1 : S96.Slices ![1] S95
  slices_S96_S95_0 : S96.Slices ![0] S95
  bcast_S_S95 : S_.BroadcastsInDim S95 (![] : Fin 0 → Fin S95.rank)
  slices_S96_S1_0 : S96.Slices ![0] S1
  slices_S96_S1_95 : S96.Slices ![95] S1
  reducesTo_S95_S_d0 : S95.ReducesTo [0] S_

variable [Facts]

def fn_part3 {F : FTy → Type} [FloatOps F] (main_v4 : IVec S_ 1) (main_v22 : IVec S_ 1) (main_v33 : IVec S95 1) (main_v44 : IVec S95 1) (main_v51 : IVec S_ 1) (main_v58 : IVec S96 1) : IVec S_ 1 :=
  let main_c_12 : IVec S_ 1 := constantI S_ 1 1#1
  let main_v59 : IVec S_ 1 := (fun x v => Host.reduce IntOp.andi x v reducesTo_S96_S_d0 h_S_) main_v58 main_c_12
  let main_v60 : IVec S_ 1 := andi main_v4 main_v22
  let main_v61 : IVec S95 1 := ori main_v33 main_v44
  let main_c_13 : IVec S_ 1 := constantI S_ 1 1#1
  let main_v62 : IVec S_ 1 := (fun x v => Host.reduce IntOp.andi x v reducesTo_S95_S_d0 h_S_) main_v61 main_c_13
  let main_v63 : IVec S_ 1 := andi main_v60 main_v62
  let main_v64 : IVec S_ 1 := andi main_v63 main_v51
  let main_v65 : IVec S_ 1 := andi main_v64 main_v59
  main_v65

def fn_part2 {F : FTy → Type} [FloatOps F] (main_arg1 : IVec S1 32) (main_arg2 : IVec S96 32) (main_arg3 : IVec S96 32) (main_arg4 : IVec S96 32) (main_v4 : IVec S_ 1) (main_v22 : IVec S_ 1) (main_v33 : IVec S95 1) (main_v38 : IVec S95 1) : IVec S_ 1 :=
  let main_v39 : IVec S95 32 := (extractStridedSlice S95 ![1] · slices_S96_S95_1) main_arg3
  let main_v40 : IVec S95 32 := (extractStridedSlice S95 ![0] · slices_S96_S95_0) main_arg3
  let main_c_8 : IVec S_ 32 := constantI S_ 32 1#32
  let main_v41 : IVec S95 32 := broadcastInDim S95 ![] bcast_S_S95 main_c_8
  let main_v42 : IVec S95 32 := addi main_v40 main_v41
  let main_v43 : IVec S95 1 := cmpi .eq main_v39 main_v42
  let main_v44 : IVec S95 1 := andi main_v38 main_v43
  let main_v45 : IVec S1 32 := (extractStridedSlice S1 ![0] · slices_S96_S1_0) main_arg3
  let main_v46 : IVec S_ 32 := shapeCast S_ main_v45 shapeCasts_S1_S_
  let main_c_9 : IVec S_ 32 := constantI S_ 32 0#32
  let main_v47 : IVec S_ 1 := cmpi .eq main_v46 main_c_9
  let main_v48 : IVec S1 32 := (extractStridedSlice S1 ![95] · slices_S96_S1_95) main_arg2
  let main_v49 : IVec S_ 32 := shapeCast S_ main_v48 shapeCasts_S1_S_
  let main_c_10 : IVec S_ 32 := constantI S_ 32 0#32
  let main_v50 : IVec S_ 1 := cmpi .slt main_v49 main_c_10
  let main_v51 : IVec S_ 1 := andi main_v47 main_v50
  let main_v52 : IVec S96 32 := iotaInDim S96 32 0
  let main_v53 : IVec S_ 32 := shapeCast S_ main_arg1 shapeCasts_S1_S_
  let main_v54 : IVec S96 32 := broadcastInDim S96 ![] bcast_S_S96 main_v53
  let main_v55 : IVec S96 1 := cmpi .slt main_v52 main_v54
  let main_c_11 : IVec S_ 32 := constantI S_ 32 0#32
  let main_v56 : IVec S96 32 := broadcastInDim S96 ![] bcast_S_S96 main_c_11
  let main_v57 : IVec S96 1 := cmpi .sle main_arg4 main_v56
  let main_v58 : IVec S96 1 := ori main_v55 main_v57
  fn_part3 (F := F) main_v4 main_v22 main_v33 main_v44 main_v51 main_v58

def fn_part1 {F : FTy → Type} [FloatOps F] (main_arg0 : IVec S96 32) (main_arg1 : IVec S1 32) (main_arg2 : IVec S96 32) (main_arg3 : IVec S96 32) (main_arg4 : IVec S96 32) (main_v4 : IVec S_ 1) (main_v15 : IVec S96 1) (main_v16 : IVec S96 32) : IVec S_ 1 :=
  let main_v17 : IVec S96 1 := cmpi .slt main_arg3 main_v16
  let main_v18 : IVec S96 1 := andi main_v15 main_v17
  let main_c_6 : IVec S_ 32 := constantI S_ 32 4#32
  let main_v19 : IVec S96 32 := broadcastInDim S96 ![] bcast_S_S96 main_c_6
  let main_v20 : IVec S96 1 := cmpi .sle main_arg4 main_v19
  let main_v21 : IVec S96 1 := andi main_v18 main_v20
  let main_c_7 : IVec S_ 1 := constantI S_ 1 1#1
  let main_v22 : IVec S_ 1 := (fun x v => Host.reduce IntOp.andi x v reducesTo_S96_S_d0 h_S_) main_v21 main_c_7
  let main_v23 : IVec S95 32 := (extractStridedSlice S95 ![1] · slices_S96_S95_1) main_arg0
  let main_v24 : IVec S95 32 := (extractStridedSlice S95 ![0] · slices_S96_S95_0) main_arg0
  let main_v25 : IVec S95 1 := cmpi .eq main_v23 main_v24
  let main_v26 : IVec S95 32 := (extractStridedSlice S95 ![1] · slices_S96_S95_1) main_arg2
  let main_v27 : IVec S95 32 := (extractStridedSlice S95 ![0] · slices_S96_S95_0) main_arg2
  let main_v28 : IVec S95 1 := cmpi .eq main_v26 main_v27
  let main_v29 : IVec S95 1 := andi main_v25 main_v28
  let main_v30 : IVec S95 32 := (extractStridedSlice S95 ![1] · slices_S96_S95_1) main_arg3
  let main_v31 : IVec S95 32 := (extractStridedSlice S95 ![0] · slices_S96_S95_0) main_arg3
  let main_v32 : IVec S95 1 := cmpi .eq main_v30 main_v31
  let main_v33 : IVec S95 1 := andi main_v29 main_v32
  let main_v34 : IVec S95 1 := noti main_v25
  let main_v35 : IVec S95 32 := (extractStridedSlice S95 ![0] · slices_S96_S95_0) main_arg2
  let main_v36 : IVec S95 32 := (extractStridedSlice S95 ![1] · slices_S96_S95_1) main_arg0
  let main_v37 : IVec S95 1 := cmpi .eq main_v35 main_v36
  let main_v38 : IVec S95 1 := andi main_v34 main_v37
  fn_part2 (F := F) main_arg1 main_arg2 main_arg3 main_arg4 main_v4 main_v22 main_v33 main_v38

def fn {F : FTy → Type} [FloatOps F] (main_arg0 : IVec S96 32) (main_arg1 : IVec S1 32) (main_arg2 : IVec S96 32) (main_arg3 : IVec S96 32) (main_arg4 : IVec S96 32) (main_arg5 : FVec F S98304x1024 .bf16) (main_arg6 : FVec F S32x1024x256 .f32) (main_arg7 : FVec F S32x1024x256 .f32) (main_arg8 : FVec F S32x256x1024 .f32) : IVec S_ 1 :=
  let main_v0 : IVec S_ 32 := shapeCast S_ main_arg1 shapeCasts_S1_S_
  let main_c : IVec S_ 32 := constantI S_ 32 1#32
  let main_v1 : IVec S_ 1 := cmpi .sge main_v0 main_c
  let main_v2 : IVec S_ 32 := shapeCast S_ main_arg1 shapeCasts_S1_S_
  let main_c_0 : IVec S_ 32 := constantI S_ 32 96#32
  let main_v3 : IVec S_ 1 := cmpi .sle main_v2 main_c_0
  let main_v4 : IVec S_ 1 := andi main_v1 main_v3
  let main_c_1 : IVec S_ 32 := constantI S_ 32 0#32
  let main_v5 : IVec S96 32 := broadcastInDim S96 ![] bcast_S_S96 main_c_1
  let main_v6 : IVec S96 1 := cmpi .sge main_arg0 main_v5
  let main_c_2 : IVec S_ 32 := constantI S_ 32 32#32
  let main_v7 : IVec S96 32 := broadcastInDim S96 ![] bcast_S_S96 main_c_2
  let main_v8 : IVec S96 1 := cmpi .slt main_arg0 main_v7
  let main_v9 : IVec S96 1 := andi main_v6 main_v8
  let main_c_3 : IVec S_ 32 := constantI S_ 32 32#32
  let main_v10 : IVec S96 32 := broadcastInDim S96 ![] bcast_S_S96 main_c_3
  let main_v11 : IVec S96 1 := cmpi .slt main_arg2 main_v10
  let main_v12 : IVec S96 1 := andi main_v9 main_v11
  let main_c_4 : IVec S_ 32 := constantI S_ 32 0#32
  let main_v13 : IVec S96 32 := broadcastInDim S96 ![] bcast_S_S96 main_c_4
  let main_v14 : IVec S96 1 := cmpi .sge main_arg3 main_v13
  let main_v15 : IVec S96 1 := andi main_v12 main_v14
  let main_c_5 : IVec S_ 32 := constantI S_ 32 96#32
  let main_v16 : IVec S96 32 := broadcastInDim S96 ![] bcast_S_S96 main_c_5
  fn_part1 (F := F) main_arg0 main_arg1 main_arg2 main_arg3 main_arg4 main_v4 main_v15 main_v16
-- ==== Kernel.lean ====
abbrev S96 : Shape := ⟨1, ![96]⟩
abbrev S1 : Shape := ⟨1, ![1]⟩
abbrev S98304x1024 : Shape := ⟨2, ![98304, 1024]⟩
abbrev S32x1024x256 : Shape := ⟨3, ![32, 1024, 256]⟩
abbrev S32x256x1024 : Shape := ⟨3, ![32, 256, 1024]⟩
abbrev S1024x256 : Shape := ⟨2, ![1024, 256]⟩
abbrev S256x1024 : Shape := ⟨2, ![256, 1024]⟩
abbrev S2x1024x256 : Shape := ⟨3, ![2, 1024, 256]⟩
abbrev S2x256x1024 : Shape := ⟨3, ![2, 256, 1024]⟩
abbrev S2x3 : Shape := ⟨2, ![2, 3]⟩
abbrev S3x1024x1024 : Shape := ⟨3, ![3, 1024, 1024]⟩
abbrev S3 : Shape := ⟨1, ![3]⟩
abbrev S2x1024x1024 : Shape := ⟨3, ![2, 1024, 1024]⟩
abbrev S2 : Shape := ⟨1, ![2]⟩
abbrev S_ : Shape := ⟨0, ![]⟩
abbrev S1x1024x1024 : Shape := ⟨3, ![1, 1024, 1024]⟩
abbrev S1024x1024 : Shape := ⟨2, ![1024, 1024]⟩
abbrev S1x1 : Shape := ⟨2, ![1, 1]⟩
abbrev S1x1024x256 : Shape := ⟨3, ![1, 1024, 256]⟩
abbrev S1x256x1024 : Shape := ⟨3, ![1, 256, 1024]⟩
abbrev S256x512 : Shape := ⟨2, ![256, 512]⟩
abbrev S512x256 : Shape := ⟨2, ![512, 256]⟩
abbrev S256x256 : Shape := ⟨2, ![256, 256]⟩

abbrev nBuf : Space → Nat
  | .hbm => 10
  | .vmem => 8
  | .smem => 6
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S96, .i32⟩
  | .hbm, ⟨3, _⟩ => ⟨S96, .i32⟩
  | .hbm, ⟨4, _⟩ => ⟨S96, .i32⟩
  | .hbm, ⟨5, _⟩ => ⟨S98304x1024, .bf16⟩
  | .hbm, ⟨6, _⟩ => ⟨S32x1024x256, .f32⟩
  | .hbm, ⟨7, _⟩ => ⟨S32x1024x256, .f32⟩
  | .hbm, ⟨8, _⟩ => ⟨S32x256x1024, .f32⟩
  | .hbm, ⟨9, _⟩ => ⟨S98304x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S2x1024x256, .f32⟩
  | .local _ .vmem, ⟨4, _⟩ => ⟨S2x1024x256, .f32⟩
  | .local _ .vmem, ⟨5, _⟩ => ⟨S2x256x1024, .f32⟩
  | .local _ .vmem, ⟨6, _⟩ => ⟨S3x1024x1024, .bf16⟩
  | .local _ .vmem, ⟨7, _⟩ => ⟨S2x1024x1024, .bf16⟩
  | .local _ .smem, ⟨0, _⟩ => ⟨S96, .i32⟩
  | .local _ .smem, ⟨1, _⟩ => ⟨S1, .i32⟩
  | .local _ .smem, ⟨2, _⟩ => ⟨S96, .i32⟩
  | .local _ .smem, ⟨3, _⟩ => ⟨S96, .i32⟩
  | .local _ .smem, ⟨4, _⟩ => ⟨S96, .i32⟩
  | .local _ .smem, ⟨5, _⟩ => ⟨S1, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scoped0 : Ref sig .tc := ⟨.vmem, 6, rfl⟩
abbrev cc0_scoped2 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_scratch7 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_18_r0 : BitVec 32 := 0#32
  let c3_i32_r0 : BitVec 32 := 3#32
  let v21_r0 : BitVec 32 := Scalar.remui c0_i32_18_r0 c3_i32_r0
  ![v21_r0.toNat]
def k0_off2 : Fin 3 → Nat :=
  let c0_i32_18_r0 : BitVec 32 := 0#32
  let c3_i32_r0 : BitVec 32 := 3#32
  let v21_r0 : BitVec 32 := Scalar.remui c0_i32_18_r0 c3_i32_r0
  let c0_i32_22_r0 : BitVec 32 := 0#32
  let c0_i32_23_r0 : BitVec 32 := 0#32
  ![v21_r0.toNat, 0, 0]
def k0_off3 (v22_r0 : BitVec 32) : Fin 2 → Nat :=
  let c1024_i32_r0 : BitVec 32 := 1024#32
  let c0_i32_21_r0 : BitVec 32 := 0#32
  let c1_i32_20_r0 : BitVec 32 := 1#32
  let v23_r0 : BitVec 32 := Scalar.subi v22_r0 c1_i32_20_r0
  let v24_r0 : BitVec 32 := Scalar.minsi c0_i32_21_r0 v23_r0
  let v25_r0 : BitVec 32 := Scalar.muli c1024_i32_r0 v24_r0
  let c0_i32_24_r0 : BitVec 32 := 0#32
  ![v25_r0.toNat, 0]

def k0_chk1 (v22_r0 : BitVec 32) : Prop :=
  (∀ a, (k0_off3 v22_r0) a + S1024x1024.size a ≤ S98304x1024.size a) ∧
  (∀ (hinb : ∀ a, (k0_off3 v22_r0) a + S1024x1024.size a ≤ S98304x1024.size a), (Rect.unit (s := S98304x1024) (k0_off3 v22_r0) S1024x1024.size hinb).WholeWords (EltTy.packing .bf16))
theorem k0_off3_inb : ∀ (v22_r0 : BitVec 32) (k0_hw1 : k0_chk1 v22_r0), ∀ a, (k0_off3 v22_r0) a + S1024x1024.size a ≤ S98304x1024.size a := fun v22_r0 k0_hw1 => k0_hw1.1
theorem k0_off3_wordsbf16 : ∀ (v22_r0 : BitVec 32) (k0_hw1 : k0_chk1 v22_r0), (Rect.unit (s := S98304x1024) (k0_off3 v22_r0) S1024x1024.size (k0_off3_inb v22_r0 k0_hw1)).WholeWords (EltTy.packing .bf16) := fun v22_r0 k0_hw1 => k0_hw1.2 (k0_off3_inb v22_r0 k0_hw1)

def k0_off4 : Fin 1 → Nat :=
  let c0_i32_25_r0 : BitVec 32 := 0#32
  let c1_i32_26_r0 : BitVec 32 := 1#32
  let v31_r0 : BitVec 32 := Scalar.addi c0_i32_25_r0 c1_i32_26_r0
  let c3_i32_75_r0 : BitVec 32 := 3#32
  let v82_r0 : BitVec 32 := Scalar.remui v31_r0 c3_i32_75_r0
  ![v82_r0.toNat]
def k0_off5 : Fin 3 → Nat :=
  let c0_i32_25_r0 : BitVec 32 := 0#32
  let c1_i32_26_r0 : BitVec 32 := 1#32
  let v31_r0 : BitVec 32 := Scalar.addi c0_i32_25_r0 c1_i32_26_r0
  let c3_i32_75_r0 : BitVec 32 := 3#32
  let v82_r0 : BitVec 32 := Scalar.remui v31_r0 c3_i32_75_r0
  let c0_i32_79_r0 : BitVec 32 := 0#32
  let c0_i32_80_r0 : BitVec 32 := 0#32
  ![v82_r0.toNat, 0, 0]
def k0_off6 (v83_r0 : BitVec 32) : Fin 2 → Nat :=
  let c1024_i32_78_r0 : BitVec 32 := 1024#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c96_i32_r0 : BitVec 32 := 96#32
  let v8_r0 : BitVec 1 := Scalar.cmpi .eq v7_r0 c96_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c1_i32_77_r0 : BitVec 32 := 1#32
  let v84_r0 : BitVec 32 := Scalar.subi v83_r0 c1_i32_77_r0
  let v85_r0 : BitVec 32 := Scalar.minsi v10_r0 v84_r0
  let v86_r0 : BitVec 32 := Scalar.muli c1024_i32_78_r0 v85_r0
  let c0_i32_81_r0 : BitVec 32 := 0#32
  ![v86_r0.toNat, 0]
def k0_cond1 (v32_r0 : BitVec 32) (v35_r0 : BitVec 32) : BitVec 1 :=
  let true_32_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c96_i32_r0 : BitVec 32 := 96#32
  let v8_r0 : BitVec 1 := Scalar.cmpi .eq v7_r0 c96_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c1_i32_28_r0 : BitVec 32 := 1#32
  let v33_r0 : BitVec 32 := Scalar.subi v32_r0 c1_i32_28_r0
  let v34_r0 : BitVec 32 := Scalar.minsi v10_r0 v33_r0
  let c0_i32_31_r0 : BitVec 32 := 0#32
  let c1_i32_30_r0 : BitVec 32 := 1#32
  let v36_r0 : BitVec 32 := Scalar.subi v35_r0 c1_i32_30_r0
  let v37_r0 : BitVec 32 := Scalar.minsi c0_i32_31_r0 v36_r0
  let v38_r0 : BitVec 1 := Scalar.cmpi .ne v34_r0 v37_r0
  let v39_r0 : BitVec 1 := Scalar.andi true_32_r0 v38_r0
  let true_33_r0 : BitVec 1 := 1#1
  let v40_r0 : BitVec 1 := Scalar.andi v39_r0 true_33_r0
  let v41_r0 : BitVec 32 := Scalar.extui v40_r0
  let c0_i32_34_r0 : BitVec 32 := 0#32
  let v42_r0 : BitVec 1 := Scalar.cmpi .ne v41_r0 c0_i32_34_r0
  v42_r0

def k0_chk2 (v32_r0 : BitVec 32) (v35_r0 : BitVec 32) (v83_r0 : BitVec 32) : Prop :=
  (∀ (k0_h1 : k0_cond1 v32_r0 v35_r0 = 1#1), ∀ a, (k0_off6 v83_r0) a + S1024x1024.size a ≤ S98304x1024.size a) ∧
  (∀ (k0_h1 : k0_cond1 v32_r0 v35_r0 = 1#1), ∀ (hinb : ∀ a, (k0_off6 v83_r0) a + S1024x1024.size a ≤ S98304x1024.size a), (Rect.unit (s := S98304x1024) (k0_off6 v83_r0) S1024x1024.size hinb).WholeWords (EltTy.packing .bf16))
theorem k0_off6_inb : ∀ (v32_r0 : BitVec 32) (v35_r0 : BitVec 32) (v83_r0 : BitVec 32) (k0_hw2 : k0_chk2 v32_r0 v35_r0 v83_r0), ∀ (k0_h1 : k0_cond1 v32_r0 v35_r0 = 1#1), ∀ a, (k0_off6 v83_r0) a + S1024x1024.size a ≤ S98304x1024.size a := fun v32_r0 v35_r0 v83_r0 k0_hw2 k0_h1 => k0_hw2.1 k0_h1
theorem k0_off6_wordsbf16 : ∀ (v32_r0 : BitVec 32) (v35_r0 : BitVec 32) (v83_r0 : BitVec 32) (k0_hw2 : k0_chk2 v32_r0 v35_r0 v83_r0), ∀ (k0_h1 : k0_cond1 v32_r0 v35_r0 = 1#1), (Rect.unit (s := S98304x1024) (k0_off6 v83_r0) S1024x1024.size (k0_off6_inb v32_r0 v35_r0 v83_r0 k0_hw2 k0_h1)).WholeWords (EltTy.packing .bf16) := fun v32_r0 v35_r0 v83_r0 k0_hw2 k0_h1 => k0_hw2.2 k0_h1 (k0_off6_inb v32_r0 v35_r0 v83_r0 k0_hw2 k0_h1)

@[reducible] def k0_t1_loop : Scf.Loop 32 :=
  let c0_i32_40_r0 : BitVec 32 := 0#32
  let c96_i32_41_r0 : BitVec 32 := 96#32
  let v45_r0 : BitVec 32 := Scalar.addi c0_i32_40_r0 c96_i32_41_r0
  let c1_i32_42_r0 : BitVec 32 := 1#32
  ⟨c0_i32_40_r0, v45_r0, c1_i32_42_r0⟩
def k0_off7 (arg19_r0 : BitVec 32) : Fin 1 → Nat :=
  let c3_i32_163_r0 : BitVec 32 := 3#32
  let v237_r0 : BitVec 32 := Scalar.remui arg19_r0 c3_i32_163_r0
  ![v237_r0.toNat]
def k0_cond2 (k0_t1 : Fin k0_t1_loop.trips) (arg23_r0 : BitVec 32) (v105_r0 : BitVec 32) (v108_r0 : BitVec 32) : BitVec 1 :=
  let true_84_r0 : BitVec 1 := 1#1
  let c1_i32_83_r0 : BitVec 32 := 1#32
  let v90_r0 : BitVec 32 := Scalar.addi arg23_r0 c1_i32_83_r0
  let v91_r0 : BitVec 32 := Scalar.select true_84_r0 v90_r0 arg23_r0
  let c96_i32_85_r0 : BitVec 32 := 96#32
  let v92_r0 : BitVec 1 := Scalar.cmpi .eq v91_r0 c96_i32_85_r0
  let c0_i32_86_r0 : BitVec 32 := 0#32
  let v93_r0 : BitVec 32 := Scalar.select v92_r0 c0_i32_86_r0 v91_r0
  let c0_i32_87_r0 : BitVec 32 := 0#32
  let v94_r0 : BitVec 32 := Scalar.addi v93_r0 c0_i32_87_r0
  let c1_i32_99_r0 : BitVec 32 := 1#32
  let v106_r0 : BitVec 32 := Scalar.subi v105_r0 c1_i32_99_r0
  let v107_r0 : BitVec 32 := Scalar.minsi v94_r0 v106_r0
  let true_89_r0 : BitVec 1 := 1#1
  let c1_i32_88_r0 : BitVec 32 := 1#32
  let v95_r0 : BitVec 32 := Scalar.addi v93_r0 c1_i32_88_r0
  let v96_r0 : BitVec 32 := Scalar.select true_89_r0 v95_r0 v93_r0
  let c96_i32_90_r0 : BitVec 32 := 96#32
  let v97_r0 : BitVec 1 := Scalar.cmpi .eq v96_r0 c96_i32_90_r0
  let c0_i32_91_r0 : BitVec 32 := 0#32
  let v98_r0 : BitVec 32 := Scalar.select v97_r0 c0_i32_91_r0 v96_r0
  let c0_i32_92_r0 : BitVec 32 := 0#32
  let v99_r0 : BitVec 32 := Scalar.addi v98_r0 c0_i32_92_r0
  let c1_i32_101_r0 : BitVec 32 := 1#32
  let v109_r0 : BitVec 32 := Scalar.subi v108_r0 c1_i32_101_r0
  let v110_r0 : BitVec 32 := Scalar.minsi v99_r0 v109_r0
  let v111_r0 : BitVec 1 := Scalar.cmpi .ne v107_r0 v110_r0
  let c0_i32_40_r0 : BitVec 32 := 0#32
  let c1_i32_42_r0 : BitVec 32 := 1#32
  let arg18_r0 : BitVec 32 := Scf.iv c0_i32_40_r0 c1_i32_42_r0 k0_t1
  let c94_i32_r0 : BitVec 32 := 94#32
  let v112_r0 : BitVec 1 := Scalar.cmpi .sge arg18_r0 c94_i32_r0
  let true_102_r0 : BitVec 1 := 1#1
  let v113_r0 : BitVec 1 := Scalar.xori v112_r0 true_102_r0
  let v114_r0 : BitVec 1 := Scalar.andi v111_r0 v113_r0
  let true_103_r0 : BitVec 1 := 1#1
  let v115_r0 : BitVec 1 := Scalar.andi v114_r0 true_103_r0
  let v116_r0 : BitVec 32 := Scalar.extui v115_r0
  let c0_i32_104_r0 : BitVec 32 := 0#32
  let v117_r0 : BitVec 1 := Scalar.cmpi .ne v116_r0 c0_i32_104_r0
  v117_r0

def k0_off8 (arg19_r0 : BitVec 32) : Fin 3 → Nat :=
  let c3_i32_163_r0 : BitVec 32 := 3#32
  let v237_r0 : BitVec 32 := Scalar.remui arg19_r0 c3_i32_163_r0
  let c0_i32_167_r0 : BitVec 32 := 0#32
  let c0_i32_168_r0 : BitVec 32 := 0#32
  ![v237_r0.toNat, 0, 0]
def k0_off9 (arg23_r0 : BitVec 32) (v238_r0 : BitVec 32) : Fin 2 → Nat :=
  let c1024_i32_166_r0 : BitVec 32 := 1024#32
  let true_89_r0 : BitVec 1 := 1#1
  let true_84_r0 : BitVec 1 := 1#1
  let c1_i32_83_r0 : BitVec 32 := 1#32
  let v90_r0 : BitVec 32 := Scalar.addi arg23_r0 c1_i32_83_r0
  let v91_r0 : BitVec 32 := Scalar.select true_84_r0 v90_r0 arg23_r0
  let c96_i32_85_r0 : BitVec 32 := 96#32
  let v92_r0 : BitVec 1 := Scalar.cmpi .eq v91_r0 c96_i32_85_r0
  let c0_i32_86_r0 : BitVec 32 := 0#32
  let v93_r0 : BitVec 32 := Scalar.select v92_r0 c0_i32_86_r0 v91_r0
  let c1_i32_88_r0 : BitVec 32 := 1#32
  let v95_r0 : BitVec 32 := Scalar.addi v93_r0 c1_i32_88_r0
  let v96_r0 : BitVec 32 := Scalar.select true_89_r0 v95_r0 v93_r0
  let c96_i32_90_r0 : BitVec 32 := 96#32
  let v97_r0 : BitVec 1 := Scalar.cmpi .eq v96_r0 c96_i32_90_r0
  let c0_i32_91_r0 : BitVec 32 := 0#32
  let v98_r0 : BitVec 32 := Scalar.select v97_r0 c0_i32_91_r0 v96_r0
  let c0_i32_92_r0 : BitVec 32 := 0#32
  let v99_r0 : BitVec 32 := Scalar.addi v98_r0 c0_i32_92_r0
  let c1_i32_165_r0 : BitVec 32 := 1#32
  let v239_r0 : BitVec 32 := Scalar.subi v238_r0 c1_i32_165_r0
  let v240_r0 : BitVec 32 := Scalar.minsi v99_r0 v239_r0
  let v241_r0 : BitVec 32 := Scalar.muli c1024_i32_166_r0 v240_r0
  let c0_i32_169_r0 : BitVec 32 := 0#32
  ![v241_r0.toNat, 0]

def k0_chk4 (k0_t1 : Fin k0_t1_loop.trips) (arg23_r0 : BitVec 32) (v105_r0 : BitVec 32) (v108_r0 : BitVec 32) (v238_r0 : BitVec 32) : Prop :=
  (∀ (k0_h2 : k0_cond2 k0_t1 arg23_r0 v105_r0 v108_r0 = 1#1), ∀ a, (k0_off9 arg23_r0 v238_r0) a + S1024x1024.size a ≤ S98304x1024.size a) ∧
  (∀ (k0_h2 : k0_cond2 k0_t1 arg23_r0 v105_r0 v108_r0 = 1#1), ∀ (hinb : ∀ a, (k0_off9 arg23_r0 v238_r0) a + S1024x1024.size a ≤ S98304x1024.size a), (Rect.unit (s := S98304x1024) (k0_off9 arg23_r0 v238_r0) S1024x1024.size hinb).WholeWords (EltTy.packing .bf16))
theorem k0_off9_inb : ∀ (k0_t1 : Fin k0_t1_loop.trips) (arg23_r0 : BitVec 32) (v105_r0 : BitVec 32) (v108_r0 : BitVec 32) (v238_r0 : BitVec 32) (k0_hw4 : k0_chk4 k0_t1 arg23_r0 v105_r0 v108_r0 v238_r0), ∀ (k0_h2 : k0_cond2 k0_t1 arg23_r0 v105_r0 v108_r0 = 1#1), ∀ a, (k0_off9 arg23_r0 v238_r0) a + S1024x1024.size a ≤ S98304x1024.size a := fun k0_t1 arg23_r0 v105_r0 v108_r0 v238_r0 k0_hw4 k0_h2 => k0_hw4.1 k0_h2
theorem k0_off9_wordsbf16 : ∀ (k0_t1 : Fin k0_t1_loop.trips) (arg23_r0 : BitVec 32) (v105_r0 : BitVec 32) (v108_r0 : BitVec 32) (v238_r0 : BitVec 32) (k0_hw4 : k0_chk4 k0_t1 arg23_r0 v105_r0 v108_r0 v238_r0), ∀ (k0_h2 : k0_cond2 k0_t1 arg23_r0 v105_r0 v108_r0 = 1#1), (Rect.unit (s := S98304x1024) (k0_off9 arg23_r0 v238_r0) S1024x1024.size (k0_off9_inb k0_t1 arg23_r0 v105_r0 v108_r0 v238_r0 k0_hw4 k0_h2)).WholeWords (EltTy.packing .bf16) := fun k0_t1 arg23_r0 v105_r0 v108_r0 v238_r0 k0_hw4 k0_h2 => k0_hw4.2 k0_h2 (k0_off9_inb k0_t1 arg23_r0 v105_r0 v108_r0 v238_r0 k0_hw4 k0_h2)

def k0_chk3 (k0_t1 : Fin k0_t1_loop.trips) (arg19_r0 : BitVec 32) (arg23_r0 : BitVec 32) (v105_r0 : BitVec 32) (v108_r0 : BitVec 32) : Prop :=
  (∀ (k0_h2 : k0_cond2 k0_t1 arg23_r0 v105_r0 v108_r0 = 1#1), ∀ a, (k0_off7 arg19_r0) a + S1.size a ≤ S3.size a) ∧
  (∀ (k0_h2 : k0_cond2 k0_t1 arg23_r0 v105_r0 v108_r0 = 1#1), ∀ a, (k0_off8 arg19_r0) a + S1x1024x1024.size a ≤ S3x1024x1024.size a) ∧
  (∀ (k0_h2 : k0_cond2 k0_t1 arg23_r0 v105_r0 v108_r0 = 1#1), ∀ (hinb : ∀ a, (k0_off8 arg19_r0) a + S1x1024x1024.size a ≤ S3x1024x1024.size a), (Rect.unit (s := S3x1024x1024) (k0_off8 arg19_r0) S1x1024x1024.size hinb).WholeWords (EltTy.packing .bf16))
theorem k0_off7_inb : ∀ (k0_t1 : Fin k0_t1_loop.trips) (arg19_r0 : BitVec 32) (arg23_r0 : BitVec 32) (v105_r0 : BitVec 32) (v108_r0 : BitVec 32) (k0_hw3 : k0_chk3 k0_t1 arg19_r0 arg23_r0 v105_r0 v108_r0), ∀ (k0_h2 : k0_cond2 k0_t1 arg23_r0 v105_r0 v108_r0 = 1#1), ∀ a, (k0_off7 arg19_r0) a + S1.size a ≤ S3.size a := fun k0_t1 arg19_r0 arg23_r0 v105_r0 v108_r0 k0_hw3 k0_h2 => k0_hw3.1 k0_h2
theorem k0_off8_inb : ∀ (k0_t1 : Fin k0_t1_loop.trips) (arg19_r0 : BitVec 32) (arg23_r0 : BitVec 32) (v105_r0 : BitVec 32) (v108_r0 : BitVec 32) (k0_hw3 : k0_chk3 k0_t1 arg19_r0 arg23_r0 v105_r0 v108_r0), ∀ (k0_h2 : k0_cond2 k0_t1 arg23_r0 v105_r0 v108_r0 = 1#1), ∀ a, (k0_off8 arg19_r0) a + S1x1024x1024.size a ≤ S3x1024x1024.size a := fun k0_t1 arg19_r0 arg23_r0 v105_r0 v108_r0 k0_hw3 k0_h2 => k0_hw3.2.1 k0_h2
theorem k0_off8_wordsbf16 : ∀ (k0_t1 : Fin k0_t1_loop.trips) (arg19_r0 : BitVec 32) (arg23_r0 : BitVec 32) (v105_r0 : BitVec 32) (v108_r0 : BitVec 32) (k0_hw3 : k0_chk3 k0_t1 arg19_r0 arg23_r0 v105_r0 v108_r0), ∀ (k0_h2 : k0_cond2 k0_t1 arg23_r0 v105_r0 v108_r0 = 1#1), (Rect.unit (s := S3x1024x1024) (k0_off8 arg19_r0) S1x1024x1024.size (k0_off8_inb k0_t1 arg19_r0 arg23_r0 v105_r0 v108_r0 k0_hw3 k0_h2)).WholeWords (EltTy.packing .bf16) := fun k0_t1 arg19_r0 arg23_r0 v105_r0 v108_r0 k0_hw3 k0_h2 => k0_hw3.2.2 k0_h2 (k0_off8_inb k0_t1 arg19_r0 arg23_r0 v105_r0 v108_r0 k0_hw3 k0_h2)

def k0_off10 (arg20_r0 : BitVec 32) : Fin 1 → Nat :=
  let c3_i32_166_r0 : BitVec 32 := 3#32
  let v241_r0 : BitVec 32 := Scalar.remui arg20_r0 c3_i32_166_r0
  ![v241_r0.toNat]
def k0_cond3 (k0_t1 : Fin k0_t1_loop.trips) (arg23_r0 : BitVec 32) (v131_r0 : BitVec 32) (v134_r0 : BitVec 32) : BitVec 1 :=
  let c0_i32_77_r0 : BitVec 32 := 0#32
  let v84_r0 : BitVec 32 := Scalar.addi arg23_r0 c0_i32_77_r0
  let c1_i32_114_r0 : BitVec 32 := 1#32
  let v132_r0 : BitVec 32 := Scalar.subi v131_r0 c1_i32_114_r0
  let v133_r0 : BitVec 32 := Scalar.minsi v84_r0 v132_r0
  let true_79_r0 : BitVec 1 := 1#1
  let c1_i32_78_r0 : BitVec 32 := 1#32
  let v85_r0 : BitVec 32 := Scalar.subi arg23_r0 c1_i32_78_r0
  let v86_r0 : BitVec 32 := Scalar.select true_79_r0 v85_r0 arg23_r0
  let c_m1_i32_80_r0 : BitVec 32 := 4294967295#32
  let v87_r0 : BitVec 1 := Scalar.cmpi .eq v86_r0 c_m1_i32_80_r0
  let c95_i32_81_r0 : BitVec 32 := 95#32
  let v88_r0 : BitVec 32 := Scalar.select v87_r0 c95_i32_81_r0 v86_r0
  let c0_i32_82_r0 : BitVec 32 := 0#32
  let v89_r0 : BitVec 32 := Scalar.addi v88_r0 c0_i32_82_r0
  let c1_i32_116_r0 : BitVec 32 := 1#32
  let v135_r0 : BitVec 32 := Scalar.subi v134_r0 c1_i32_116_r0
  let v136_r0 : BitVec 32 := Scalar.minsi v89_r0 v135_r0
  let v137_r0 : BitVec 1 := Scalar.cmpi .ne v133_r0 v136_r0
  let c0_i32_40_r0 : BitVec 32 := 0#32
  let c1_i32_42_r0 : BitVec 32 := 1#32
  let arg18_r0 : BitVec 32 := Scf.iv c0_i32_40_r0 c1_i32_42_r0 k0_t1
  let c0_i32_75_r0 : BitVec 32 := 0#32
  let v82_r0 : BitVec 1 := Scalar.cmpi .eq arg18_r0 c0_i32_75_r0
  let v138_r0 : BitVec 1 := Scalar.ori v137_r0 v82_r0
  let c0_i32_117_r0 : BitVec 32 := 0#32
  let v139_r0 : BitVec 1 := Scalar.cmpi .sge arg18_r0 c0_i32_117_r0
  let v140_r0 : BitVec 1 := Scalar.andi v138_r0 v139_r0
  let v141_r0 : BitVec 32 := Scalar.extui v140_r0
  let c0_i32_118_r0 : BitVec 32 := 0#32
  let v142_r0 : BitVec 1 := Scalar.cmpi .ne v141_r0 c0_i32_118_r0
  v142_r0

def k0_off11 (arg20_r0 : BitVec 32) : Fin 3 → Nat :=
  let c3_i32_166_r0 : BitVec 32 := 3#32
  let v241_r0 : BitVec 32 := Scalar.remui arg20_r0 c3_i32_166_r0
  let c0_i32_167_r0 : BitVec 32 := 0#32
  let c0_i32_168_r0 : BitVec 32 := 0#32
  ![v241_r0.toNat, 0, 0]
def k0_off12 (arg23_r0 : BitVec 32) (v237_r0 : BitVec 32) : Fin 2 → Nat :=
  let c1024_i32_165_r0 : BitVec 32 := 1024#32
  let c0_i32_77_r0 : BitVec 32 := 0#32
  let v84_r0 : BitVec 32 := Scalar.addi arg23_r0 c0_i32_77_r0
  let c1_i32_164_r0 : BitVec 32 := 1#32
  let v238_r0 : BitVec 32 := Scalar.subi v237_r0 c1_i32_164_r0
  let v239_r0 : BitVec 32 := Scalar.minsi v84_r0 v238_r0
  let v240_r0 : BitVec 32 := Scalar.muli c1024_i32_165_r0 v239_r0
  let c0_i32_169_r0 : BitVec 32 := 0#32
  ![v240_r0.toNat, 0]

def k0_chk6 (k0_t1 : Fin k0_t1_loop.trips) (arg23_r0 : BitVec 32) (v131_r0 : BitVec 32) (v134_r0 : BitVec 32) (v237_r0 : BitVec 32) : Prop :=
  (∀ (k0_h3 : k0_cond3 k0_t1 arg23_r0 v131_r0 v134_r0 = 1#1), ∀ a, (k0_off12 arg23_r0 v237_r0) a + S1024x1024.size a ≤ S98304x1024.size a) ∧
  (∀ (k0_h3 : k0_cond3 k0_t1 arg23_r0 v131_r0 v134_r0 = 1#1), ∀ (hinb : ∀ a, (k0_off12 arg23_r0 v237_r0) a + S1024x1024.size a ≤ S98304x1024.size a), (Rect.unit (s := S98304x1024) (k0_off12 arg23_r0 v237_r0) S1024x1024.size hinb).WholeWords (EltTy.packing .bf16))
theorem k0_off12_inb : ∀ (k0_t1 : Fin k0_t1_loop.trips) (arg23_r0 : BitVec 32) (v131_r0 : BitVec 32) (v134_r0 : BitVec 32) (v237_r0 : BitVec 32) (k0_hw6 : k0_chk6 k0_t1 arg23_r0 v131_r0 v134_r0 v237_r0), ∀ (k0_h3 : k0_cond3 k0_t1 arg23_r0 v131_r0 v134_r0 = 1#1), ∀ a, (k0_off12 arg23_r0 v237_r0) a + S1024x1024.size a ≤ S98304x1024.size a := fun k0_t1 arg23_r0 v131_r0 v134_r0 v237_r0 k0_hw6 k0_h3 => k0_hw6.1 k0_h3
theorem k0_off12_wordsbf16 : ∀ (k0_t1 : Fin k0_t1_loop.trips) (arg23_r0 : BitVec 32) (v131_r0 : BitVec 32) (v134_r0 : BitVec 32) (v237_r0 : BitVec 32) (k0_hw6 : k0_chk6 k0_t1 arg23_r0 v131_r0 v134_r0 v237_r0), ∀ (k0_h3 : k0_cond3 k0_t1 arg23_r0 v131_r0 v134_r0 = 1#1), (Rect.unit (s := S98304x1024) (k0_off12 arg23_r0 v237_r0) S1024x1024.size (k0_off12_inb k0_t1 arg23_r0 v131_r0 v134_r0 v237_r0 k0_hw6 k0_h3)).WholeWords (EltTy.packing .bf16) := fun k0_t1 arg23_r0 v131_r0 v134_r0 v237_r0 k0_hw6 k0_h3 => k0_hw6.2 k0_h3 (k0_off12_inb k0_t1 arg23_r0 v131_r0 v134_r0 v237_r0 k0_hw6 k0_h3)

def k0_chk5 (k0_t1 : Fin k0_t1_loop.trips) (arg20_r0 : BitVec 32) (arg23_r0 : BitVec 32) (v131_r0 : BitVec 32) (v134_r0 : BitVec 32) : Prop :=
  (∀ (k0_h3 : k0_cond3 k0_t1 arg23_r0 v131_r0 v134_r0 = 1#1), ∀ a, (k0_off10 arg20_r0) a + S1.size a ≤ S3.size a) ∧
  (∀ (k0_h3 : k0_cond3 k0_t1 arg23_r0 v131_r0 v134_r0 = 1#1), ∀ a, (k0_off11 arg20_r0) a + S1x1024x1024.size a ≤ S3x1024x1024.size a) ∧
  (∀ (k0_h3 : k0_cond3 k0_t1 arg23_r0 v131_r0 v134_r0 = 1#1), ∀ (hinb : ∀ a, (k0_off11 arg20_r0) a + S1x1024x1024.size a ≤ S3x1024x1024.size a), (Rect.unit (s := S3x1024x1024) (k0_off11 arg20_r0) S1x1024x1024.size hinb).WholeWords (EltTy.packing .bf16))
theorem k0_off10_inb : ∀ (k0_t1 : Fin k0_t1_loop.trips) (arg20_r0 : BitVec 32) (arg23_r0 : BitVec 32) (v131_r0 : BitVec 32) (v134_r0 : BitVec 32) (k0_hw5 : k0_chk5 k0_t1 arg20_r0 arg23_r0 v131_r0 v134_r0), ∀ (k0_h3 : k0_cond3 k0_t1 arg23_r0 v131_r0 v134_r0 = 1#1), ∀ a, (k0_off10 arg20_r0) a + S1.size a ≤ S3.size a := fun k0_t1 arg20_r0 arg23_r0 v131_r0 v134_r0 k0_hw5 k0_h3 => k0_hw5.1 k0_h3
theorem k0_off11_inb : ∀ (k0_t1 : Fin k0_t1_loop.trips) (arg20_r0 : BitVec 32) (arg23_r0 : BitVec 32) (v131_r0 : BitVec 32) (v134_r0 : BitVec 32) (k0_hw5 : k0_chk5 k0_t1 arg20_r0 arg23_r0 v131_r0 v134_r0), ∀ (k0_h3 : k0_cond3 k0_t1 arg23_r0 v131_r0 v134_r0 = 1#1), ∀ a, (k0_off11 arg20_r0) a + S1x1024x1024.size a ≤ S3x1024x1024.size a := fun k0_t1 arg20_r0 arg23_r0 v131_r0 v134_r0 k0_hw5 k0_h3 => k0_hw5.2.1 k0_h3
theorem k0_off11_wordsbf16 : ∀ (k0_t1 : Fin k0_t1_loop.trips) (arg20_r0 : BitVec 32) (arg23_r0 : BitVec 32) (v131_r0 : BitVec 32) (v134_r0 : BitVec 32) (k0_hw5 : k0_chk5 k0_t1 arg20_r0 arg23_r0 v131_r0 v134_r0), ∀ (k0_h3 : k0_cond3 k0_t1 arg23_r0 v131_r0 v134_r0 = 1#1), (Rect.unit (s := S3x1024x1024) (k0_off11 arg20_r0) S1x1024x1024.size (k0_off11_inb k0_t1 arg20_r0 arg23_r0 v131_r0 v134_r0 k0_hw5 k0_h3)).WholeWords (EltTy.packing .bf16) := fun k0_t1 arg20_r0 arg23_r0 v131_r0 v134_r0 k0_hw5 k0_h3 => k0_hw5.2.2 k0_h3 (k0_off11_inb k0_t1 arg20_r0 arg23_r0 v131_r0 v134_r0 k0_hw5 k0_h3)

def k0_off13 (v154_r0 : BitVec 32) : Fin 1 → Nat :=
  let v157_r0 : Index := Scalar.indexCast v154_r0
  ![v157_r0.toNat]

def k0_off14 (v158_r0 : BitVec 32) : Fin 3 → Nat :=
  let c0_i32_168_r0 : BitVec 32 := 0#32
  let c0_i32_169_r0 : BitVec 32 := 0#32
  ![v158_r0.toNat, 0, 0]
def k0_cond5 (v154_r0 : BitVec 32) : BitVec 1 :=
  let c0_i32_134_r0 : BitVec 32 := 0#32
  let v171_r0 : BitVec 1 := Scalar.cmpi .eq v154_r0 c0_i32_134_r0
  let v172_r0 : BitVec 32 := Scalar.extui v171_r0
  let c0_i32_135_r0 : BitVec 32 := 0#32
  let v173_r0 : BitVec 1 := Scalar.cmpi .ne v172_r0 c0_i32_135_r0
  v173_r0

def k0_off15 (v158_r0 : BitVec 32) : Fin 3 → Nat :=
  let c0_i32_182_r0 : BitVec 32 := 0#32
  let c0_i32_183_r0 : BitVec 32 := 0#32
  ![v158_r0.toNat, 0, 0]

def k0_chk8 (v154_r0 : BitVec 32) (v158_r0 : BitVec 32) : Prop :=
  (∀ (k0_h5 : k0_cond5 v154_r0 = 1#1), ∀ a, (k0_off14 v158_r0) a + S1x1024x256.size a ≤ S32x1024x256.size a) ∧
  (∀ (k0_h5 : k0_cond5 v154_r0 = 1#1), ∀ a, (k0_off15 v158_r0) a + S1x256x1024.size a ≤ S32x256x1024.size a)
theorem k0_off14_inb : ∀ (v154_r0 : BitVec 32) (v158_r0 : BitVec 32) (k0_hw8 : k0_chk8 v154_r0 v158_r0), ∀ (k0_h5 : k0_cond5 v154_r0 = 1#1), ∀ a, (k0_off14 v158_r0) a + S1x1024x256.size a ≤ S32x1024x256.size a := fun v154_r0 v158_r0 k0_hw8 k0_h5 => k0_hw8.1 k0_h5
theorem k0_off15_inb : ∀ (v154_r0 : BitVec 32) (v158_r0 : BitVec 32) (k0_hw8 : k0_chk8 v154_r0 v158_r0), ∀ (k0_h5 : k0_cond5 v154_r0 = 1#1), ∀ a, (k0_off15 v158_r0) a + S1x256x1024.size a ≤ S32x256x1024.size a := fun v154_r0 v158_r0 k0_hw8 k0_h5 => k0_hw8.2 k0_h5

def k0_off16 (v154_r0 : BitVec 32) : Fin 1 → Nat :=
  let c1_i32_137_r0 : BitVec 32 := 1#32
  let v175_r0 : BitVec 32 := Scalar.subi v154_r0 c1_i32_137_r0
  let c0_i32_138_r0 : BitVec 32 := 0#32
  let v176_r0 : BitVec 32 := Scalar.maxsi v175_r0 c0_i32_138_r0
  let v177_r0 : Index := Scalar.indexCast v176_r0
  ![v177_r0.toNat]
def k0_off17 (v160_r0 : BitVec 32) : Fin 2 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let c0_i32_163_r0 : BitVec 32 := 0#32
  ![v170_r0.toNat, 0]
def k0_cond6 (v154_r0 : BitVec 32) (v158_r0 : BitVec 32) (v178_r0 : BitVec 32) : BitVec 1 :=
  let c0_i32_136_r0 : BitVec 32 := 0#32
  let v174_r0 : BitVec 1 := Scalar.cmpi .eq v154_r0 c0_i32_136_r0
  let v179_r0 : BitVec 1 := Scalar.cmpi .ne v158_r0 v178_r0
  let v180_r0 : BitVec 1 := Scalar.ori v174_r0 v179_r0
  let v181_r0 : BitVec 32 := Scalar.extui v180_r0
  let c0_i32_139_r0 : BitVec 32 := 0#32
  let v182_r0 : BitVec 1 := Scalar.cmpi .ne v181_r0 c0_i32_139_r0
  v182_r0

def k0_off18 (v160_r0 : BitVec 32) : Fin 3 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let c0_i32_164_r0 : BitVec 32 := 0#32
  let c0_i32_165_r0 : BitVec 32 := 0#32
  ![v170_r0.toNat, 0, 0]
def k0_off19 (v158_r0 : BitVec 32) : Fin 3 → Nat :=
  let c0_i32_166_r0 : BitVec 32 := 0#32
  let c0_i32_167_r0 : BitVec 32 := 0#32
  ![v158_r0.toNat, 0, 0]
def k0_off20 (v160_r0 : BitVec 32) : Fin 2 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let c1_i32_168_r0 : BitVec 32 := 1#32
  ![v170_r0.toNat, 1]
def k0_off21 (v160_r0 : BitVec 32) : Fin 2 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let c2_i32_173_r0 : BitVec 32 := 2#32
  ![v170_r0.toNat, 2]
def k0_off22 (v160_r0 : BitVec 32) : Fin 3 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let c0_i32_174_r0 : BitVec 32 := 0#32
  let c0_i32_175_r0 : BitVec 32 := 0#32
  ![v170_r0.toNat, 0, 0]
def k0_off23 (v158_r0 : BitVec 32) : Fin 3 → Nat :=
  let c0_i32_176_r0 : BitVec 32 := 0#32
  let c0_i32_177_r0 : BitVec 32 := 0#32
  ![v158_r0.toNat, 0, 0]
def k0_off24 (v160_r0 : BitVec 32) : Fin 3 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v255_r0 : Index := Scalar.indexCast v170_r0
  let c0_178_r0 : Index := 0#32
  let c0_179_r0 : Index := 0#32
  ![v255_r0.toNat, 0, 0]
def k0_off25 (v160_r0 : BitVec 32) : Fin 3 → Nat :=
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v269_r0 : Index := Scalar.indexCast v170_r0
  let c0_186_r0 : Index := 0#32
  let c0_187_r0 : Index := 0#32
  ![v269_r0.toNat, 0, 0]
def k0_off26 (v154_r0 : BitVec 32) : Fin 1 → Nat :=
  let v276_r0 : Index := Scalar.indexCast v154_r0
  ![v276_r0.toNat]

def k0_chk9 (v154_r0 : BitVec 32) (v158_r0 : BitVec 32) (v160_r0 : BitVec 32) (v178_r0 : BitVec 32) : Prop :=
  (∀ (k0_h6 : k0_cond6 v154_r0 v158_r0 v178_r0 = 1#1), ∀ a, (k0_off17 v160_r0) a + S1x1.size a ≤ S2x3.size a) ∧
  (∀ (k0_h6 : k0_cond6 v154_r0 v158_r0 v178_r0 = 1#1), ∀ a, (k0_off18 v160_r0) a + S1x1024x256.size a ≤ S2x1024x256.size a) ∧
  (∀ (k0_h6 : k0_cond6 v154_r0 v158_r0 v178_r0 = 1#1), ∀ a, (k0_off19 v158_r0) a + S1x1024x256.size a ≤ S32x1024x256.size a) ∧
  (∀ (k0_h6 : k0_cond6 v154_r0 v158_r0 v178_r0 = 1#1), ∀ a, (k0_off20 v160_r0) a + S1x1.size a ≤ S2x3.size a) ∧
  (∀ (k0_h6 : k0_cond6 v154_r0 v158_r0 v178_r0 = 1#1), ∀ a, (k0_off21 v160_r0) a + S1x1.size a ≤ S2x3.size a) ∧
  (∀ (k0_h6 : k0_cond6 v154_r0 v158_r0 v178_r0 = 1#1), ∀ a, (k0_off22 v160_r0) a + S1x256x1024.size a ≤ S2x256x1024.size a) ∧
  (∀ (k0_h6 : k0_cond6 v154_r0 v158_r0 v178_r0 = 1#1), ∀ a, (k0_off23 v158_r0) a + S1x256x1024.size a ≤ S32x256x1024.size a) ∧
  (∀ (k0_h6 : k0_cond6 v154_r0 v158_r0 v178_r0 = 1#1), ∀ a, (k0_off24 v160_r0) a + S1x1024x256.size a ≤ S2x1024x256.size a) ∧
  (∀ (k0_h6 : k0_cond6 v154_r0 v158_r0 v178_r0 = 1#1), ∀ a, (k0_off25 v160_r0) a + S1x256x1024.size a ≤ S2x256x1024.size a) ∧
  (∀ (k0_h6 : k0_cond6 v154_r0 v158_r0 v178_r0 = 1#1), ∀ a, (k0_off26 v154_r0) a + S1.size a ≤ S96.size a)
theorem k0_off17_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off17 v160_r0) a + S1x1.size a ≤ S2x3.size a := fun v154_r0 v158_r0 v160_r0 v178_r0 k0_hw9 k0_h6 => k0_hw9.1 k0_h6
theorem k0_off18_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off18 v160_r0) a + S1x1024x256.size a ≤ S2x1024x256.size a := fun v154_r0 v158_r0 v160_r0 v178_r0 k0_hw9 k0_h6 => k0_hw9.2.1 k0_h6
theorem k0_off19_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off19 v158_r0) a + S1x1024x256.size a ≤ S32x1024x256.size a := fun v154_r0 v158_r0 v160_r0 v178_r0 k0_hw9 k0_h6 => k0_hw9.2.2.1 k0_h6
theorem k0_off20_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off20 v160_r0) a + S1x1.size a ≤ S2x3.size a := fun v154_r0 v158_r0 v160_r0 v178_r0 k0_hw9 k0_h6 => k0_hw9.2.2.2.1 k0_h6
theorem k0_off21_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off21 v160_r0) a + S1x1.size a ≤ S2x3.size a := fun v154_r0 v158_r0 v160_r0 v178_r0 k0_hw9 k0_h6 => k0_hw9.2.2.2.2.1 k0_h6
theorem k0_off22_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off22 v160_r0) a + S1x256x1024.size a ≤ S2x256x1024.size a := fun v154_r0 v158_r0 v160_r0 v178_r0 k0_hw9 k0_h6 => k0_hw9.2.2.2.2.2.1 k0_h6
theorem k0_off23_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off23 v158_r0) a + S1x256x1024.size a ≤ S32x256x1024.size a := fun v154_r0 v158_r0 v160_r0 v178_r0 k0_hw9 k0_h6 => k0_hw9.2.2.2.2.2.2.1 k0_h6
theorem k0_off24_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off24 v160_r0) a + S1x1024x256.size a ≤ S2x1024x256.size a := fun v154_r0 v158_r0 v160_r0 v178_r0 k0_hw9 k0_h6 => k0_hw9.2.2.2.2.2.2.2.1 k0_h6
theorem k0_off25_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off25 v160_r0) a + S1x256x1024.size a ≤ S2x256x1024.size a := fun v154_r0 v158_r0 v160_r0 v178_r0 k0_hw9 k0_h6 => k0_hw9.2.2.2.2.2.2.2.2.1 k0_h6
theorem k0_off26_inb : ∀ (v154_r0 : BitVec 32) (v158_r0 : BitVec 32) (v160_r0 : BitVec 32) (v178_r0 : BitVec 32) (k0_hw9 : k0_chk9 v154_r0 v158_r0 v160_r0 v178_r0), ∀ (k0_h6 : k0_cond6 v154_r0 v158_r0 v178_r0 = 1#1), ∀ a, (k0_off26 v154_r0) a + S1.size a ≤ S96.size a := fun v154_r0 v158_r0 v160_r0 v178_r0 k0_hw9 k0_h6 => k0_hw9.2.2.2.2.2.2.2.2.2 k0_h6

def k0_off27 (v154_r0 : BitVec 32) : Fin 1 → Nat :=
  let v281_r0 : Index := Scalar.indexCast v154_r0
  ![v281_r0.toNat]
def k0_cond7 (v277_r0 : BitVec 32) : BitVec 1 :=
  let c0_i32_190_r0 : BitVec 32 := 0#32
  let v278_r0 : BitVec 1 := Scalar.cmpi .sge v277_r0 c0_i32_190_r0
  let v279_r0 : BitVec 32 := Scalar.extui v278_r0
  let c0_i32_191_r0 : BitVec 32 := 0#32
  let v280_r0 : BitVec 1 := Scalar.cmpi .ne v279_r0 c0_i32_191_r0
  v280_r0

def k0_off28 (v160_r0 : BitVec 32) : Fin 2 → Nat :=
  let c1_i32_192_r0 : BitVec 32 := 1#32
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v283_r0 : BitVec 32 := Scalar.subi c1_i32_192_r0 v170_r0
  let c0_i32_193_r0 : BitVec 32 := 0#32
  ![v283_r0.toNat, 0]
def k0_off29 (v160_r0 : BitVec 32) : Fin 3 → Nat :=
  let c1_i32_192_r0 : BitVec 32 := 1#32
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v283_r0 : BitVec 32 := Scalar.subi c1_i32_192_r0 v170_r0
  let c0_i32_194_r0 : BitVec 32 := 0#32
  let c0_i32_195_r0 : BitVec 32 := 0#32
  ![v283_r0.toNat, 0, 0]
def k0_off30 (v282_r0 : BitVec 32) : Fin 3 → Nat :=
  let c0_i32_196_r0 : BitVec 32 := 0#32
  let c0_i32_197_r0 : BitVec 32 := 0#32
  ![v282_r0.toNat, 0, 0]

def k0_off31 (v160_r0 : BitVec 32) : Fin 2 → Nat :=
  let c1_i32_192_r0 : BitVec 32 := 1#32
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v283_r0 : BitVec 32 := Scalar.subi c1_i32_192_r0 v170_r0
  let c1_i32_198_r0 : BitVec 32 := 1#32
  ![v283_r0.toNat, 1]
def k0_off32 (v160_r0 : BitVec 32) : Fin 3 → Nat :=
  let c1_i32_192_r0 : BitVec 32 := 1#32
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v283_r0 : BitVec 32 := Scalar.subi c1_i32_192_r0 v170_r0
  let c0_i32_199_r0 : BitVec 32 := 0#32
  let c0_i32_200_r0 : BitVec 32 := 0#32
  ![v283_r0.toNat, 0, 0]
def k0_off33 (v160_r0 : BitVec 32) : Fin 2 → Nat :=
  let c1_i32_192_r0 : BitVec 32 := 1#32
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v283_r0 : BitVec 32 := Scalar.subi c1_i32_192_r0 v170_r0
  let c2_i32_203_r0 : BitVec 32 := 2#32
  ![v283_r0.toNat, 2]
def k0_off34 (v160_r0 : BitVec 32) : Fin 3 → Nat :=
  let c1_i32_192_r0 : BitVec 32 := 1#32
  let c2_i32_128_r0 : BitVec 32 := 2#32
  let c0_i32_129_r0 : BitVec 32 := 0#32
  let v161_r0 : BitVec 1 := Scalar.cmpi .eq c2_i32_128_r0 c0_i32_129_r0
  let c1_i32_130_r0 : BitVec 32 := 1#32
  let v162_r0 : BitVec 32 := Scalar.select v161_r0 c1_i32_130_r0 c2_i32_128_r0
  let v163_r0 : BitVec 32 := Scalar.remsi v160_r0 v162_r0
  let c0_i32_132_r0 : BitVec 32 := 0#32
  let v165_r0 : BitVec 1 := Scalar.cmpi .slt v163_r0 c0_i32_132_r0
  let c0_i32_133_r0 : BitVec 32 := 0#32
  let v166_r0 : BitVec 1 := Scalar.cmpi .slt v162_r0 c0_i32_133_r0
  let v167_r0 : BitVec 1 := Scalar.xori v165_r0 v166_r0
  let c0_i32_131_r0 : BitVec 32 := 0#32
  let v164_r0 : BitVec 1 := Scalar.cmpi .ne v163_r0 c0_i32_131_r0
  let v168_r0 : BitVec 1 := Scalar.andi v167_r0 v164_r0
  let v169_r0 : BitVec 32 := Scalar.addi v163_r0 v162_r0
  let v170_r0 : BitVec 32 := Scalar.select v168_r0 v169_r0 v163_r0
  let v283_r0 : BitVec 32 := Scalar.subi c1_i32_192_r0 v170_r0
  let c0_i32_204_r0 : BitVec 32 := 0#32
  let c0_i32_205_r0 : BitVec 32 := 0#32
  ![v283_r0.toNat, 0, 0]

def k0_chk10 (v154_r0 : BitVec 32) (v158_r0 : BitVec 32) (v160_r0 : BitVec 32) (v178_r0 : BitVec 32) (v277_r0 : BitVec 32) : Prop :=
  (∀ (k0_h6 : k0_cond6 v154_r0 v158_r0 v178_r0 = 1#1), ∀ (k0_h7 : k0_cond7 v277_r0 = 1#1), ∀ a, (k0_off27 v154_r0) a + S1.size a ≤ S96.size a) ∧
  (∀ (k0_h6 : k0_cond6 v154_r0 v158_r0 v178_r0 = 1#1), ∀ (k0_h7 : k0_cond7 v277_r0 = 1#1), ∀ a, (k0_off28 v160_r0) a + S1x1.size a ≤ S2x3.size a) ∧
  (∀ (k0_h6 : k0_cond6 v154_r0 v158_r0 v178_r0 = 1#1), ∀ (k0_h7 : k0_cond7 v277_r0 = 1#1), ∀ a, (k0_off29 v160_r0) a + S1x1024x256.size a ≤ S2x1024x256.size a) ∧
  (∀ (k0_h6 : k0_cond6 v154_r0 v158_r0 v178_r0 = 1#1), ∀ (k0_h7 : k0_cond7 v277_r0 = 1#1), ∀ a, (k0_off31 v160_r0) a + S1x1.size a ≤ S2x3.size a) ∧
  (∀ (k0_h6 : k0_cond6 v154_r0 v158_r0 v178_r0 = 1#1), ∀ (k0_h7 : k0_cond7 v277_r0 = 1#1), ∀ a, (k0_off32 v160_r0) a + S1x1024x256.size a ≤ S2x1024x256.size a) ∧
  (∀ (k0_h6 : k0_cond6 v154_r0 v158_r0 v178_r0 = 1#1), ∀ (k0_h7 : k0_cond7 v277_r0 = 1#1), ∀ a, (k0_off33 v160_r0) a + S1x1.size a ≤ S2x3.size a) ∧
  (∀ (k0_h6 : k0_cond6 v154_r0 v158_r0 v178_r0 = 1#1), ∀ (k0_h7 : k0_cond7 v277_r0 = 1#1), ∀ a, (k0_off34 v160_r0) a + S1x256x1024.size a ≤ S2x256x1024.size a)
theorem k0_off27_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off27 v154_r0) a + S1.size a ≤ S96.size a := fun v154_r0 v158_r0 v160_r0 v178_r0 v277_r0 k0_hw10 k0_h6 k0_h7 => k0_hw10.1 k0_h6 k0_h7
theorem k0_off28_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off28 v160_r0) a + S1x1.size a ≤ S2x3.size a := fun v154_r0 v158_r0 v160_r0 v178_r0 v277_r0 k0_hw10 k0_h6 k0_h7 => k0_hw10.2.1 k0_h6 k0_h7
theorem k0_off29_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off29 v160_r0) a + S1x1024x256.size a ≤ S2x1024x256.size a := fun v154_r0 v158_r0 v160_r0 v178_r0 v277_r0 k0_hw10 k0_h6 k0_h7 => k0_hw10.2.2.1 k0_h6 k0_h7
theorem k0_off31_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off31 v160_r0) a + S1x1.size a ≤ S2x3.size a := fun v154_r0 v158_r0 v160_r0 v178_r0 v277_r0 k0_hw10 k0_h6 k0_h7 => k0_hw10.2.2.2.1 k0_h6 k0_h7
theorem k0_off32_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off32 v160_r0) a + S1x1024x256.size a ≤ S2x1024x256.size a := fun v154_r0 v158_r0 v160_r0 v178_r0 v277_r0 k0_hw10 k0_h6 k0_h7 => k0_hw10.2.2.2.2.1 k0_h6 k0_h7
theorem k0_off33_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off33 v160_r0) a + S1x1.size a ≤ S2x3.size a := fun v154_r0 v158_r0 v160_r0 v178_r0 v277_r0 k0_hw10 k0_h6 k0_h7 => k0_hw10.2.2.2.2.2.1 k0_h6 k0_h7
theorem k0_off34_inb : ∀ (v154_r0 : BitVec 32) (v158_r0 : BitVec 32) (v160_r0 : BitVec 32) (v178_r0 : BitVec 32) (v277_r0 : BitVec 32) (k0_hw10 : k0_chk10 v154_r0 v158_r0 v160_r0 v178_r0 v277_r0), ∀ (k0_h6 : k0_cond6 v154_r0 v158_r0 v178_r0 = 1#1), ∀ (k0_h7 : k0_cond7 v277_r0 = 1#1), ∀ a, (k0_off34 v160_r0) a + S1x256x1024.size a ≤ S2x256x1024.size a := fun v154_r0 v158_r0 v160_r0 v178_r0 v277_r0 k0_hw10 k0_h6 k0_h7 => k0_hw10.2.2.2.2.2.2 k0_h6 k0_h7

def k0_off35 (v282_r0 : BitVec 32) : Fin 3 → Nat :=
  let c0_i32_206_r0 : BitVec 32 := 0#32
  let c0_i32_207_r0 : BitVec 32 := 0#32
  ![v282_r0.toNat, 0, 0]

def k0_chk11 (v154_r0 : BitVec 32) (v158_r0 : BitVec 32) (v178_r0 : BitVec 32) (v277_r0 : BitVec 32) (v282_r0 : BitVec 32) : Prop :=
  (∀ (k0_h6 : k0_cond6 v154_r0 v158_r0 v178_r0 = 1#1), ∀ (k0_h7 : k0_cond7 v277_r0 = 1#1), ∀ a, (k0_off30 v282_r0) a + S1x1024x256.size a ≤ S32x1024x256.size a) ∧
  (∀ (k0_h6 : k0_cond6 v154_r0 v158_r0 v178_r0 = 1#1), ∀ (k0_h7 : k0_cond7 v277_r0 = 1#1), ∀ a, (k0_off35 v282_r0) a + S1x256x1024.size a ≤ S32x256x1024.size a)
theorem k0_off30_inb : ∀ (v154_r0 : BitVec 32) (v158_r0 : BitVec 32) (v178_r0 : BitVec 32) (v277_r0 : BitVec 32) (v282_r0 : BitVec 32) (k0_hw11 : k0_chk11 v154_r0 v158_r0 v178_r0 v277_r0 v282_r0), ∀ (k0_h6 : k0_cond6 v154_r0 v158_r0 v178_r0 = 1#1), ∀ (k0_h7 : k0_cond7 v277_r0 = 1#1), ∀ a, (k0_off30 v282_r0) a + S1x1024x256.size a ≤ S32x1024x256.size a := fun v154_r0 v158_r0 v178_r0 v277_r0 v282_r0 k0_hw11 k0_h6 k0_h7 => k0_hw11.1 k0_h6 k0_h7
theorem k0_off35_inb : ∀ (v154_r0 : BitVec 32) (v158_r0 : BitVec 32) (v178_r0 : BitVec 32) (v277_r0 : BitVec 32) (v282_r0 : BitVec 32) (k0_hw11 : k0_chk11 v154_r0 v158_r0 v178_r0 v277_r0 v282_r0), ∀ (k0_h6 : k0_cond6 v154_r0 v158_r0 v178_r0 = 1#1), ∀ (k0_h7 : k0_cond7 v277_r0 = 1#1), ∀ a, (k0_off35 v282_r0) a + S1x256x1024.size a ≤ S32x256x1024.size a := fun v154_r0 v158_r0 v178_r0 v277_r0 v282_r0 k0_hw11 k0_h6 k0_h7 => k0_hw11.2 k0_h6 k0_h7

def k0_off36 (v154_r0 : BitVec 32) : Fin 1 → Nat :=
  let v183_r0 : Index := Scalar.indexCast v154_r0
  ![v183_r0.toNat]
def k0_off37 (arg20_r0 : BitVec 32) : Fin 3 → Nat :=
  let c3_i32_123_r0 : BitVec 32 := 3#32
  let v152_r0 : BitVec 32 := Scalar.remui arg20_r0 c3_i32_123_r0
  let c0_i32_163_r0 : BitVec 32 := 0#32
  let c0_i32_164_r0 : BitVec 32 := 0#32
  ![v152_r0.toNat, 0, 0]
def k0_cond8 (v184_r0 : BitVec 32) : BitVec 1 :=
  let c1_i32_140_r0 : BitVec 32 := 1#32
  let v185_r0 : BitVec 1 := Scalar.cmpi .eq v184_r0 c1_i32_140_r0
  let v186_r0 : BitVec 32 := Scalar.extui v185_r0
  let c0_i32_141_r0 : BitVec 32 := 0#32
  let v187_r0 : BitVec 1 := Scalar.cmpi .ne v186_r0 c0_i32_141_r0
  v187_r0

def k0_off38 (arg21_r0 : BitVec 32) : Fin 3 → Nat :=
  let c2_i32_124_r0 : BitVec 32 := 2#32
  let v153_r0 : BitVec 32 := Scalar.remui arg21_r0 c2_i32_124_r0
  let c0_i32_184_r0 : BitVec 32 := 0#32
  let c0_i32_185_r0 : BitVec 32 := 0#32
  ![v153_r0.toNat, 0, 0]
def k0_off39 (arg21_r0 : BitVec 32) : Fin 3 → Nat :=
  let c2_i32_124_r0 : BitVec 32 := 2#32
  let v153_r0 : BitVec 32 := Scalar.remui arg21_r0 c2_i32_124_r0
  let c0_i32_184_r0 : BitVec 32 := 0#32
  let c0_i32_185_r0 : BitVec 32 := 0#32
  ![v153_r0.toNat, 0, 0]

def k0_chk12 (arg20_r0 : BitVec 32) (arg21_r0 : BitVec 32) (v184_r0 : BitVec 32) : Prop :=
  (∀ (k0_h8 : k0_cond8 v184_r0 = 1#1), ∀ a, (k0_off37 arg20_r0) a + S1x1024x1024.size a ≤ S3x1024x1024.size a) ∧
  (∀ (k0_h8 : k0_cond8 v184_r0 = 1#1), ∀ a, (k0_off38 arg21_r0) a + S1x1024x1024.size a ≤ S2x1024x1024.size a) ∧
  (∀ (k0_h8 : k0_cond8 v184_r0 = 1#1), ∀ a, (k0_off39 arg21_r0) a + S1x256x1024.size a ≤ S2x1024x1024.size a) ∧
  (∀ (k0_h8 : k0_cond8 v184_r0 = 1#1), ∀ (hinb : ∀ a, (k0_off39 arg21_r0) a + S1x256x1024.size a ≤ S2x1024x1024.size a), (Rect.unit (s := S2x1024x1024) (k0_off39 arg21_r0) S1x256x1024.size hinb).PackedRows (EltTy.packing .bf16))
theorem k0_off37_inb : ∀ (arg20_r0 : BitVec 32) (arg21_r0 : BitVec 32) (v184_r0 : BitVec 32) (k0_hw12 : k0_chk12 arg20_r0 arg21_r0 v184_r0), ∀ (k0_h8 : k0_cond8 v184_r0 = 1#1), ∀ a, (k0_off37 arg20_r0) a + S1x1024x1024.size a ≤ S3x1024x1024.size a := fun arg20_r0 arg21_r0 v184_r0 k0_hw12 k0_h8 => k0_hw12.1 k0_h8
theorem k0_off38_inb : ∀ (arg20_r0 : BitVec 32) (arg21_r0 : BitVec 32) (v184_r0 : BitVec 32) (k0_hw12 : k0_chk12 arg20_r0 arg21_r0 v184_r0), ∀ (k0_h8 : k0_cond8 v184_r0 = 1#1), ∀ a, (k0_off38 arg21_r0) a + S1x1024x1024.size a ≤ S2x1024x1024.size a := fun arg20_r0 arg21_r0 v184_r0 k0_hw12 k0_h8 => k0_hw12.2.1 k0_h8
theorem k0_off39_inb : ∀ (arg20_r0 : BitVec 32) (arg21_r0 : BitVec 32) (v184_r0 : BitVec 32) (k0_hw12 : k0_chk12 arg20_r0 arg21_r0 v184_r0), ∀ (k0_h8 : k0_cond8 v184_r0 = 1#1), ∀ a, (k0_off39 arg21_r0) a + S1x256x1024.size a ≤ S2x1024x1024.size a := fun arg20_r0 arg21_r0 v184_r0 k0_hw12 k0_h8 => k0_hw12.2.2.1 k0_h8
theorem k0_off39_packedbf16 : ∀ (arg20_r0 : BitVec 32) (arg21_r0 : BitVec 32) (v184_r0 : BitVec 32) (k0_hw12 : k0_chk12 arg20_r0 arg21_r0 v184_r0), ∀ (k0_h8 : k0_cond8 v184_r0 = 1#1), (Rect.unit (s := S2x1024x1024) (k0_off39 arg21_r0) S1x256x1024.size (k0_off39_inb arg20_r0 arg21_r0 v184_r0 k0_hw12 k0_h8)).PackedRows (EltTy.packing .bf16) := fun arg20_r0 arg21_r0 v184_r0 k0_hw12 k0_h8 => k0_hw12.2.2.2 k0_h8 (k0_off39_inb arg20_r0 arg21_r0 v184_r0 k0_hw12 k0_h8)

def k0_off40 (v154_r0 : BitVec 32) : Fin 1 → Nat :=
  let v188_r0 : Index := Scalar.indexCast v154_r0
  ![v188_r0.toNat]
def k0_off41 (arg20_r0 : BitVec 32) : Fin 3 → Nat :=
  let c3_i32_123_r0 : BitVec 32 := 3#32
  let v152_r0 : BitVec 32 := Scalar.remui arg20_r0 c3_i32_123_r0
  let c0_i32_163_r0 : BitVec 32 := 0#32
  let c0_i32_164_r0 : BitVec 32 := 0#32
  ![v152_r0.toNat, 0, 0]
def k0_cond9 (v189_r0 : BitVec 32) : BitVec 1 :=
  let c2_i32_142_r0 : BitVec 32 := 2#32
  let v190_r0 : BitVec 1 := Scalar.cmpi .eq v189_r0 c2_i32_142_r0
  let v191_r0 : BitVec 32 := Scalar.extui v190_r0
  let c0_i32_143_r0 : BitVec 32 := 0#32
  let v192_r0 : BitVec 1 := Scalar.cmpi .ne v191_r0 c0_i32_143_r0
  v192_r0

def k0_off42 (arg21_r0 : BitVec 32) : Fin 3 → Nat :=
  let c2_i32_124_r0 : BitVec 32 := 2#32
  let v153_r0 : BitVec 32 := Scalar.remui arg21_r0 c2_i32_124_r0
  let c0_i32_206_r0 : BitVec 32 := 0#32
  let c0_i32_207_r0 : BitVec 32 := 0#32
  ![v153_r0.toNat, 0, 0]
def k0_off43 (arg21_r0 : BitVec 32) : Fin 3 → Nat :=
  let c2_i32_124_r0 : BitVec 32 := 2#32
  let v153_r0 : BitVec 32 := Scalar.remui arg21_r0 c2_i32_124_r0
  let c0_i32_206_r0 : BitVec 32 := 0#32
  let c0_i32_207_r0 : BitVec 32 := 0#32
  ![v153_r0.toNat, 0, 0]
def k0_off44 (arg21_r0 : BitVec 32) : Fin 3 → Nat :=
  let c2_i32_124_r0 : BitVec 32 := 2#32
  let v153_r0 : BitVec 32 := Scalar.remui arg21_r0 c2_i32_124_r0
  let c0_i32_211_r0 : BitVec 32 := 0#32
  ![v153_r0.toNat, 256, 0]

def k0_chk13 (arg20_r0 : BitVec 32) (arg21_r0 : BitVec 32) (v189_r0 : BitVec 32) : Prop :=
  (∀ (k0_h9 : k0_cond9 v189_r0 = 1#1), ∀ a, (k0_off41 arg20_r0) a + S1x1024x1024.size a ≤ S3x1024x1024.size a) ∧
  (∀ (k0_h9 : k0_cond9 v189_r0 = 1#1), ∀ a, (k0_off42 arg21_r0) a + S1x1024x1024.size a ≤ S2x1024x1024.size a) ∧
  (∀ (k0_h9 : k0_cond9 v189_r0 = 1#1), ∀ a, (k0_off43 arg21_r0) a + S1x256x1024.size a ≤ S2x1024x1024.size a) ∧
  (∀ (k0_h9 : k0_cond9 v189_r0 = 1#1), ∀ (hinb : ∀ a, (k0_off43 arg21_r0) a + S1x256x1024.size a ≤ S2x1024x1024.size a), (Rect.unit (s := S2x1024x1024) (k0_off43 arg21_r0) S1x256x1024.size hinb).PackedRows (EltTy.packing .bf16)) ∧
  (∀ (k0_h9 : k0_cond9 v189_r0 = 1#1), ∀ a, (k0_off44 arg21_r0) a + S1x256x1024.size a ≤ S2x1024x1024.size a) ∧
  (∀ (k0_h9 : k0_cond9 v189_r0 = 1#1), ∀ (hinb : ∀ a, (k0_off44 arg21_r0) a + S1x256x1024.size a ≤ S2x1024x1024.size a), (Rect.unit (s := S2x1024x1024) (k0_off44 arg21_r0) S1x256x1024.size hinb).PackedRows (EltTy.packing .bf16))
theorem k0_off41_inb : ∀ (arg20_r0 : BitVec 32) (arg21_r0 : BitVec 32) (v189_r0 : BitVec 32) (k0_hw13 : k0_chk13 arg20_r0 arg21_r0 v189_r0), ∀ (k0_h9 : k0_cond9 v189_r0 = 1#1), ∀ a, (k0_off41 arg20_r0) a + S1x1024x1024.size a ≤ S3x1024x1024.size a := fun arg20_r0 arg21_r0 v189_r0 k0_hw13 k0_h9 => k0_hw13.1 k0_h9
theorem k0_off42_inb : ∀ (arg20_r0 : BitVec 32) (arg21_r0 : BitVec 32) (v189_r0 : BitVec 32) (k0_hw13 : k0_chk13 arg20_r0 arg21_r0 v189_r0), ∀ (k0_h9 : k0_cond9 v189_r0 = 1#1), ∀ a, (k0_off42 arg21_r0) a + S1x1024x1024.size a ≤ S2x1024x1024.size a := fun arg20_r0 arg21_r0 v189_r0 k0_hw13 k0_h9 => k0_hw13.2.1 k0_h9
theorem k0_off43_inb : ∀ (arg20_r0 : BitVec 32) (arg21_r0 : BitVec 32) (v189_r0 : BitVec 32) (k0_hw13 : k0_chk13 arg20_r0 arg21_r0 v189_r0), ∀ (k0_h9 : k0_cond9 v189_r0 = 1#1), ∀ a, (k0_off43 arg21_r0) a + S1x256x1024.size a ≤ S2x1024x1024.size a := fun arg20_r0 arg21_r0 v189_r0 k0_hw13 k0_h9 => k0_hw13.2.2.1 k0_h9
theorem k0_off43_packedbf16 : ∀ (arg20_r0 : BitVec 32) (arg21_r0 : BitVec 32) (v189_r0 : BitVec 32) (k0_hw13 : k0_chk13 arg20_r0 arg21_r0 v189_r0), ∀ (k0_h9 : k0_cond9 v189_r0 = 1#1), (Rect.unit (s := S2x1024x1024) (k0_off43 arg21_r0) S1x256x1024.size (k0_off43_inb arg20_r0 arg21_r0 v189_r0 k0_hw13 k0_h9)).PackedRows (EltTy.packing .bf16) := fun arg20_r0 arg21_r0 v189_r0 k0_hw13 k0_h9 => k0_hw13.2.2.2.1 k0_h9 (k0_off43_inb arg20_r0 arg21_r0 v189_r0 k0_hw13 k0_h9)
theorem k0_off44_inb : ∀ (arg20_r0 : BitVec 32) (arg21_r0 : BitVec 32) (v189_r0 : BitVec 32) (k0_hw13 : k0_chk13 arg20_r0 arg21_r0 v189_r0), ∀ (k0_h9 : k0_cond9 v189_r0 = 1#1), ∀ a, (k0_off44 arg21_r0) a + S1x256x1024.size a ≤ S2x1024x1024.size a := fun arg20_r0 arg21_r0 v189_r0 k0_hw13 k0_h9 => k0_hw13.2.2.2.2.1 k0_h9
theorem k0_off44_packedbf16 : ∀ (arg20_r0 : BitVec 32) (arg21_r0 : BitVec 32) (v189_r0 : BitVec 32) (k0_hw13 : k0_chk13 arg20_r0 arg21_r0 v189_r0), ∀ (k0_h9 : k0_cond9 v189_r0 = 1#1), (Rect.unit (s := S2x1024x1024) (k0_off44 arg21_r0) S1x256x1024.size (k0_off44_inb arg20_r0 arg21_r0 v189_r0 k0_hw13 k0_h9)).PackedRows (EltTy.packing .bf16) := fun arg20_r0 arg21_r0 v189_r0 k0_hw13 k0_h9 => k0_hw13.2.2.2.2.2 k0_h9 (k0_off44_inb arg20_r0 arg21_r0 v189_r0 k0_hw13 k0_h9)

def k0_off45 (v154_r0 : BitVec 32) : Fin 1 → Nat :=
  let v193_r0 : Index := Scalar.indexCast v154_r0
  ![v193_r0.toNat]
def k0_off46 (arg20_r0 : BitVec 32) : Fin 3 → Nat :=
  let c3_i32_123_r0 : BitVec 32 := 3#32
  let v152_r0 : BitVec 32 := Scalar.remui arg20_r0 c3_i32_123_r0
  let c0_i32_163_r0 : BitVec 32 := 0#32
  let c0_i32_164_r0 : BitVec 32 := 0#32
  ![v152_r0.toNat, 0, 0]
def k0_cond10 (v194_r0 : BitVec 32) : BitVec 1 :=
  let c3_i32_144_r0 : BitVec 32 := 3#32
  let v195_r0 : BitVec 1 := Scalar.cmpi .eq v194_r0 c3_i32_144_r0
  let v196_r0 : BitVec 32 := Scalar.extui v195_r0
  let c0_i32_145_r0 : BitVec 32 := 0#32
  let v197_r0 : BitVec 1 := Scalar.cmpi .ne v196_r0 c0_i32_145_r0
  v197_r0

def k0_off47 (arg21_r0 : BitVec 32) : Fin 3 → Nat :=
  let c2_i32_124_r0 : BitVec 32 := 2#32
  let v153_r0 : BitVec 32 := Scalar.remui arg21_r0 c2_i32_124_r0
  let c0_i32_226_r0 : BitVec 32 := 0#32
  let c0_i32_227_r0 : BitVec 32 := 0#32
  ![v153_r0.toNat, 0, 0]
def k0_off48 (arg21_r0 : BitVec 32) : Fin 3 → Nat :=
  let c2_i32_124_r0 : BitVec 32 := 2#32
  let v153_r0 : BitVec 32 := Scalar.remui arg21_r0 c2_i32_124_r0
  let c0_i32_226_r0 : BitVec 32 := 0#32
  let c0_i32_227_r0 : BitVec 32 := 0#32
  ![v153_r0.toNat, 0, 0]
def k0_off49 (arg21_r0 : BitVec 32) : Fin 3 → Nat :=
  let c2_i32_124_r0 : BitVec 32 := 2#32
  let v153_r0 : BitVec 32 := Scalar.remui arg21_r0 c2_i32_124_r0
  let c0_i32_234_r0 : BitVec 32 := 0#32
  ![v153_r0.toNat, 256, 0]
def k0_off50 (arg21_r0 : BitVec 32) : Fin 3 → Nat :=
  let c2_i32_124_r0 : BitVec 32 := 2#32
  let v153_r0 : BitVec 32 := Scalar.remui arg21_r0 c2_i32_124_r0
  let c0_i32_238_r0 : BitVec 32 := 0#32
  ![v153_r0.toNat, 512, 0]

def k0_chk14 (arg20_r0 : BitVec 32) (arg21_r0 : BitVec 32) (v194_r0 : BitVec 32) : Prop :=
  (∀ (k0_h10 : k0_cond10 v194_r0 = 1#1), ∀ a, (k0_off46 arg20_r0) a + S1x1024x1024.size a ≤ S3x1024x1024.size a) ∧
  (∀ (k0_h10 : k0_cond10 v194_r0 = 1#1), ∀ a, (k0_off47 arg21_r0) a + S1x1024x1024.size a ≤ S2x1024x1024.size a) ∧
  (∀ (k0_h10 : k0_cond10 v194_r0 = 1#1), ∀ a, (k0_off48 arg21_r0) a + S1x256x1024.size a ≤ S2x1024x1024.size a) ∧
  (∀ (k0_h10 : k0_cond10 v194_r0 = 1#1), ∀ (hinb : ∀ a, (k0_off48 arg21_r0) a + S1x256x1024.size a ≤ S2x1024x1024.size a), (Rect.unit (s := S2x1024x1024) (k0_off48 arg21_r0) S1x256x1024.size hinb).PackedRows (EltTy.packing .bf16)) ∧
  (∀ (k0_h10 : k0_cond10 v194_r0 = 1#1), ∀ a, (k0_off49 arg21_r0) a + S1x256x1024.size a ≤ S2x1024x1024.size a) ∧
  (∀ (k0_h10 : k0_cond10 v194_r0 = 1#1), ∀ (hinb : ∀ a, (k0_off49 arg21_r0) a + S1x256x1024.size a ≤ S2x1024x1024.size a), (Rect.unit (s := S2x1024x1024) (k0_off49 arg21_r0) S1x256x1024.size hinb).PackedRows (EltTy.packing .bf16)) ∧
  (∀ (k0_h10 : k0_cond10 v194_r0 = 1#1), ∀ a, (k0_off50 arg21_r0) a + S1x256x1024.size a ≤ S2x1024x1024.size a) ∧
  (∀ (k0_h10 : k0_cond10 v194_r0 = 1#1), ∀ (hinb : ∀ a, (k0_off50 arg21_r0) a + S1x256x1024.size a ≤ S2x1024x1024.size a), (Rect.unit (s := S2x1024x1024) (k0_off50 arg21_r0) S1x256x1024.size hinb).PackedRows (EltTy.packing .bf16))
theorem k0_off46_inb : ∀ (arg20_r0 : BitVec 32) (arg21_r0 : BitVec 32) (v194_r0 : BitVec 32) (k0_hw14 : k0_chk14 arg20_r0 arg21_r0 v194_r0), ∀ (k0_h10 : k0_cond10 v194_r0 = 1#1), ∀ a, (k0_off46 arg20_r0) a + S1x1024x1024.size a ≤ S3x1024x1024.size a := fun arg20_r0 arg21_r0 v194_r0 k0_hw14 k0_h10 => k0_hw14.1 k0_h10
theorem k0_off47_inb : ∀ (arg20_r0 : BitVec 32) (arg21_r0 : BitVec 32) (v194_r0 : BitVec 32) (k0_hw14 : k0_chk14 arg20_r0 arg21_r0 v194_r0), ∀ (k0_h10 : k0_cond10 v194_r0 = 1#1), ∀ a, (k0_off47 arg21_r0) a + S1x1024x1024.size a ≤ S2x1024x1024.size a := fun arg20_r0 arg21_r0 v194_r0 k0_hw14 k0_h10 => k0_hw14.2.1 k0_h10
theorem k0_off48_inb : ∀ (arg20_r0 : BitVec 32) (arg21_r0 : BitVec 32) (v194_r0 : BitVec 32) (k0_hw14 : k0_chk14 arg20_r0 arg21_r0 v194_r0), ∀ (k0_h10 : k0_cond10 v194_r0 = 1#1), ∀ a, (k0_off48 arg21_r0) a + S1x256x1024.size a ≤ S2x1024x1024.size a := fun arg20_r0 arg21_r0 v194_r0 k0_hw14 k0_h10 => k0_hw14.2.2.1 k0_h10
theorem k0_off48_packedbf16 : ∀ (arg20_r0 : BitVec 32) (arg21_r0 : BitVec 32) (v194_r0 : BitVec 32) (k0_hw14 : k0_chk14 arg20_r0 arg21_r0 v194_r0), ∀ (k0_h10 : k0_cond10 v194_r0 = 1#1), (Rect.unit (s := S2x1024x1024) (k0_off48 arg21_r0) S1x256x1024.size (k0_off48_inb arg20_r0 arg21_r0 v194_r0 k0_hw14 k0_h10)).PackedRows (EltTy.packing .bf16) := fun arg20_r0 arg21_r0 v194_r0 k0_hw14 k0_h10 => k0_hw14.2.2.2.1 k0_h10 (k0_off48_inb arg20_r0 arg21_r0 v194_r0 k0_hw14 k0_h10)
theorem k0_off49_inb : ∀ (arg20_r0 : BitVec 32) (arg21_r0 : BitVec 32) (v194_r0 : BitVec 32) (k0_hw14 : k0_chk14 arg20_r0 arg21_r0 v194_r0), ∀ (k0_h10 : k0_cond10 v194_r0 = 1#1), ∀ a, (k0_off49 arg21_r0) a + S1x256x1024.size a ≤ S2x1024x1024.size a := fun arg20_r0 arg21_r0 v194_r0 k0_hw14 k0_h10 => k0_hw14.2.2.2.2.1 k0_h10
theorem k0_off49_packedbf16 : ∀ (arg20_r0 : BitVec 32) (arg21_r0 : BitVec 32) (v194_r0 : BitVec 32) (k0_hw14 : k0_chk14 arg20_r0 arg21_r0 v194_r0), ∀ (k0_h10 : k0_cond10 v194_r0 = 1#1), (Rect.unit (s := S2x1024x1024) (k0_off49 arg21_r0) S1x256x1024.size (k0_off49_inb arg20_r0 arg21_r0 v194_r0 k0_hw14 k0_h10)).PackedRows (EltTy.packing .bf16) := fun arg20_r0 arg21_r0 v194_r0 k0_hw14 k0_h10 => k0_hw14.2.2.2.2.2.1 k0_h10 (k0_off49_inb arg20_r0 arg21_r0 v194_r0 k0_hw14 k0_h10)
theorem k0_off50_inb : ∀ (arg20_r0 : BitVec 32) (arg21_r0 : BitVec 32) (v194_r0 : BitVec 32) (k0_hw14 : k0_chk14 arg20_r0 arg21_r0 v194_r0), ∀ (k0_h10 : k0_cond10 v194_r0 = 1#1), ∀ a, (k0_off50 arg21_r0) a + S1x256x1024.size a ≤ S2x1024x1024.size a := fun arg20_r0 arg21_r0 v194_r0 k0_hw14 k0_h10 => k0_hw14.2.2.2.2.2.2.1 k0_h10
theorem k0_off50_packedbf16 : ∀ (arg20_r0 : BitVec 32) (arg21_r0 : BitVec 32) (v194_r0 : BitVec 32) (k0_hw14 : k0_chk14 arg20_r0 arg21_r0 v194_r0), ∀ (k0_h10 : k0_cond10 v194_r0 = 1#1), (Rect.unit (s := S2x1024x1024) (k0_off50 arg21_r0) S1x256x1024.size (k0_off50_inb arg20_r0 arg21_r0 v194_r0 k0_hw14 k0_h10)).PackedRows (EltTy.packing .bf16) := fun arg20_r0 arg21_r0 v194_r0 k0_hw14 k0_h10 => k0_hw14.2.2.2.2.2.2.2 k0_h10 (k0_off50_inb arg20_r0 arg21_r0 v194_r0 k0_hw14 k0_h10)

def k0_off51 (v154_r0 : BitVec 32) : Fin 1 → Nat :=
  let v198_r0 : Index := Scalar.indexCast v154_r0
  ![v198_r0.toNat]

def k0_chk7 (v154_r0 : BitVec 32) : Prop :=
  (∀ a, (k0_off13 v154_r0) a + S1.size a ≤ S96.size a) ∧
  (∀ a, (k0_off16 v154_r0) a + S1.size a ≤ S96.size a) ∧
  (∀ a, (k0_off36 v154_r0) a + S1.size a ≤ S96.size a) ∧
  (∀ a, (k0_off40 v154_r0) a + S1.size a ≤ S96.size a) ∧
  (∀ a, (k0_off45 v154_r0) a + S1.size a ≤ S96.size a) ∧
  (∀ a, (k0_off51 v154_r0) a + S1.size a ≤ S96.size a)
theorem k0_off13_inb : ∀ (v154_r0 : BitVec 32) (k0_hw7 : k0_chk7 v154_r0), ∀ a, (k0_off13 v154_r0) a + S1.size a ≤ S96.size a := fun v154_r0 k0_hw7 => k0_hw7.1
theorem k0_off16_inb : ∀ (v154_r0 : BitVec 32) (k0_hw7 : k0_chk7 v154_r0), ∀ a, (k0_off16 v154_r0) a + S1.size a ≤ S96.size a := fun v154_r0 k0_hw7 => k0_hw7.2.1
theorem k0_off36_inb : ∀ (v154_r0 : BitVec 32) (k0_hw7 : k0_chk7 v154_r0), ∀ a, (k0_off36 v154_r0) a + S1.size a ≤ S96.size a := fun v154_r0 k0_hw7 => k0_hw7.2.2.1
theorem k0_off40_inb : ∀ (v154_r0 : BitVec 32) (k0_hw7 : k0_chk7 v154_r0), ∀ a, (k0_off40 v154_r0) a + S1.size a ≤ S96.size a := fun v154_r0 k0_hw7 => k0_hw7.2.2.2.1
theorem k0_off45_inb : ∀ (v154_r0 : BitVec 32) (k0_hw7 : k0_chk7 v154_r0), ∀ a, (k0_off45 v154_r0) a + S1.size a ≤ S96.size a := fun v154_r0 k0_hw7 => k0_hw7.2.2.2.2.1
theorem k0_off51_inb : ∀ (v154_r0 : BitVec 32) (k0_hw7 : k0_chk7 v154_r0), ∀ a, (k0_off51 v154_r0) a + S1.size a ≤ S96.size a := fun v154_r0 k0_hw7 => k0_hw7.2.2.2.2.2

def k0_off52 (arg20_r0 : BitVec 32) : Fin 3 → Nat :=
  let c3_i32_123_r0 : BitVec 32 := 3#32
  let v152_r0 : BitVec 32 := Scalar.remui arg20_r0 c3_i32_123_r0
  let c0_i32_163_r0 : BitVec 32 := 0#32
  let c0_i32_164_r0 : BitVec 32 := 0#32
  ![v152_r0.toNat, 0, 0]
def k0_cond11 (v199_r0 : BitVec 32) : BitVec 1 :=
  let c4_i32_r0 : BitVec 32 := 4#32
  let v200_r0 : BitVec 1 := Scalar.cmpi .eq v199_r0 c4_i32_r0
  let v201_r0 : BitVec 32 := Scalar.extui v200_r0
  let c0_i32_146_r0 : BitVec 32 := 0#32
  let v202_r0 : BitVec 1 := Scalar.cmpi .ne v201_r0 c0_i32_146_r0
  v202_r0

def k0_off53 (arg21_r0 : BitVec 32) : Fin 3 → Nat :=
  let c2_i32_124_r0 : BitVec 32 := 2#32
  let v153_r0 : BitVec 32 := Scalar.remui arg21_r0 c2_i32_124_r0
  let c0_i32_226_r0 : BitVec 32 := 0#32
  let c0_i32_227_r0 : BitVec 32 := 0#32
  ![v153_r0.toNat, 0, 0]
def k0_off54 (arg21_r0 : BitVec 32) : Fin 3 → Nat :=
  let c2_i32_124_r0 : BitVec 32 := 2#32
  let v153_r0 : BitVec 32 := Scalar.remui arg21_r0 c2_i32_124_r0
  let c0_i32_226_r0 : BitVec 32 := 0#32
  let c0_i32_227_r0 : BitVec 32 := 0#32
  ![v153_r0.toNat, 0, 0]
def k0_off55 (arg21_r0 : BitVec 32) : Fin 3 → Nat :=
  let c2_i32_124_r0 : BitVec 32 := 2#32
  let v153_r0 : BitVec 32 := Scalar.remui arg21_r0 c2_i32_124_r0
  let c0_i32_253_r0 : BitVec 32 := 0#32
  ![v153_r0.toNat, 256, 0]
def k0_off56 (arg21_r0 : BitVec 32) : Fin 3 → Nat :=
  let c2_i32_124_r0 : BitVec 32 := 2#32
  let v153_r0 : BitVec 32 := Scalar.remui arg21_r0 c2_i32_124_r0
  let c0_i32_260_r0 : BitVec 32 := 0#32
  ![v153_r0.toNat, 512, 0]
def k0_off57 (arg21_r0 : BitVec 32) : Fin 3 → Nat :=
  let c2_i32_124_r0 : BitVec 32 := 2#32
  let v153_r0 : BitVec 32 := Scalar.remui arg21_r0 c2_i32_124_r0
  let c0_i32_264_r0 : BitVec 32 := 0#32
  ![v153_r0.toNat, 768, 0]

def k0_chk15 (arg20_r0 : BitVec 32) (arg21_r0 : BitVec 32) (v199_r0 : BitVec 32) : Prop :=
  (∀ (k0_h11 : k0_cond11 v199_r0 = 1#1), ∀ a, (k0_off52 arg20_r0) a + S1x1024x1024.size a ≤ S3x1024x1024.size a) ∧
  (∀ (k0_h11 : k0_cond11 v199_r0 = 1#1), ∀ a, (k0_off53 arg21_r0) a + S1x1024x1024.size a ≤ S2x1024x1024.size a) ∧
  (∀ (k0_h11 : k0_cond11 v199_r0 = 1#1), ∀ a, (k0_off54 arg21_r0) a + S1x256x1024.size a ≤ S2x1024x1024.size a) ∧
  (∀ (k0_h11 : k0_cond11 v199_r0 = 1#1), ∀ (hinb : ∀ a, (k0_off54 arg21_r0) a + S1x256x1024.size a ≤ S2x1024x1024.size a), (Rect.unit (s := S2x1024x1024) (k0_off54 arg21_r0) S1x256x1024.size hinb).PackedRows (EltTy.packing .bf16)) ∧
  (∀ (k0_h11 : k0_cond11 v199_r0 = 1#1), ∀ a, (k0_off55 arg21_r0) a + S1x256x1024.size a ≤ S2x1024x1024.size a) ∧
  (∀ (k0_h11 : k0_cond11 v199_r0 = 1#1), ∀ (hinb : ∀ a, (k0_off55 arg21_r0) a + S1x256x1024.size a ≤ S2x1024x1024.size a), (Rect.unit (s := S2x1024x1024) (k0_off55 arg21_r0) S1x256x1024.size hinb).PackedRows (EltTy.packing .bf16)) ∧
  (∀ (k0_h11 : k0_cond11 v199_r0 = 1#1), ∀ a, (k0_off56 arg21_r0) a + S1x256x1024.size a ≤ S2x1024x1024.size a) ∧
  (∀ (k0_h11 : k0_cond11 v199_r0 = 1#1), ∀ (hinb : ∀ a, (k0_off56 arg21_r0) a + S1x256x1024.size a ≤ S2x1024x1024.size a), (Rect.unit (s := S2x1024x1024) (k0_off56 arg21_r0) S1x256x1024.size hinb).PackedRows (EltTy.packing .bf16)) ∧
  (∀ (k0_h11 : k0_cond11 v199_r0 = 1#1), ∀ a, (k0_off57 arg21_r0) a + S1x256x1024.size a ≤ S2x1024x1024.size a) ∧
  (∀ (k0_h11 : k0_cond11 v199_r0 = 1#1), ∀ (hinb : ∀ a, (k0_off57 arg21_r0) a + S1x256x1024.size a ≤ S2x1024x1024.size a), (Rect.unit (s := S2x1024x1024) (k0_off57 arg21_r0) S1x256x1024.size hinb).PackedRows (EltTy.packing .bf16))
theorem k0_off52_inb : ∀ (arg20_r0 : BitVec 32) (arg21_r0 : BitVec 32) (v199_r0 : BitVec 32) (k0_hw15 : k0_chk15 arg20_r0 arg21_r0 v199_r0), ∀ (k0_h11 : k0_cond11 v199_r0 = 1#1), ∀ a, (k0_off52 arg20_r0) a + S1x1024x1024.size a ≤ S3x1024x1024.size a := fun arg20_r0 arg21_r0 v199_r0 k0_hw15 k0_h11 => k0_hw15.1 k0_h11
theorem k0_off53_inb : ∀ (arg20_r0 : BitVec 32) (arg21_r0 : BitVec 32) (v199_r0 : BitVec 32) (k0_hw15 : k0_chk15 arg20_r0 arg21_r0 v199_r0), ∀ (k0_h11 : k0_cond11 v199_r0 = 1#1), ∀ a, (k0_off53 arg21_r0) a + S1x1024x1024.size a ≤ S2x1024x1024.size a := fun arg20_r0 arg21_r0 v199_r0 k0_hw15 k0_h11 => k0_hw15.2.1 k0_h11
theorem k0_off54_inb : ∀ (arg20_r0 : BitVec 32) (arg21_r0 : BitVec 32) (v199_r0 : BitVec 32) (k0_hw15 : k0_chk15 arg20_r0 arg21_r0 v199_r0), ∀ (k0_h11 : k0_cond11 v199_r0 = 1#1), ∀ a, (k0_off54 arg21_r0) a + S1x256x1024.size a ≤ S2x1024x1024.size a := fun arg20_r0 arg21_r0 v199_r0 k0_hw15 k0_h11 => k0_hw15.2.2.1 k0_h11
theorem k0_off54_packedbf16 : ∀ (arg20_r0 : BitVec 32) (arg21_r0 : BitVec 32) (v199_r0 : BitVec 32) (k0_hw15 : k0_chk15 arg20_r0 arg21_r0 v199_r0), ∀ (k0_h11 : k0_cond11 v199_r0 = 1#1), (Rect.unit (s := S2x1024x1024) (k0_off54 arg21_r0) S1x256x1024.size (k0_off54_inb arg20_r0 arg21_r0 v199_r0 k0_hw15 k0_h11)).PackedRows (EltTy.packing .bf16) := fun arg20_r0 arg21_r0 v199_r0 k0_hw15 k0_h11 => k0_hw15.2.2.2.1 k0_h11 (k0_off54_inb arg20_r0 arg21_r0 v199_r0 k0_hw15 k0_h11)
theorem k0_off55_inb : ∀ (arg20_r0 : BitVec 32) (arg21_r0 : BitVec 32) (v199_r0 : BitVec 32) (k0_hw15 : k0_chk15 arg20_r0 arg21_r0 v199_r0), ∀ (k0_h11 : k0_cond11 v199_r0 = 1#1), ∀ a, (k0_off55 arg21_r0) a + S1x256x1024.size a ≤ S2x1024x1024.size a := fun arg20_r0 arg21_r0 v199_r0 k0_hw15 k0_h11 => k0_hw15.2.2.2.2.1 k0_h11
theorem k0_off55_packedbf16 : ∀ (arg20_r0 : BitVec 32) (arg21_r0 : BitVec 32) (v199_r0 : BitVec 32) (k0_hw15 : k0_chk15 arg20_r0 arg21_r0 v199_r0), ∀ (k0_h11 : k0_cond11 v199_r0 = 1#1), (Rect.unit (s := S2x1024x1024) (k0_off55 arg21_r0) S1x256x1024.size (k0_off55_inb arg20_r0 arg21_r0 v199_r0 k0_hw15 k0_h11)).PackedRows (EltTy.packing .bf16) := fun arg20_r0 arg21_r0 v199_r0 k0_hw15 k0_h11 => k0_hw15.2.2.2.2.2.1 k0_h11 (k0_off55_inb arg20_r0 arg21_r0 v199_r0 k0_hw15 k0_h11)
theorem k0_off56_inb : ∀ (arg20_r0 : BitVec 32) (arg21_r0 : BitVec 32) (v199_r0 : BitVec 32) (k0_hw15 : k0_chk15 arg20_r0 arg21_r0 v199_r0), ∀ (k0_h11 : k0_cond11 v199_r0 = 1#1), ∀ a, (k0_off56 arg21_r0) a + S1x256x1024.size a ≤ S2x1024x1024.size a := fun arg20_r0 arg21_r0 v199_r0 k0_hw15 k0_h11 => k0_hw15.2.2.2.2.2.2.1 k0_h11
theorem k0_off56_packedbf16 : ∀ (arg20_r0 : BitVec 32) (arg21_r0 : BitVec 32) (v199_r0 : BitVec 32) (k0_hw15 : k0_chk15 arg20_r0 arg21_r0 v199_r0), ∀ (k0_h11 : k0_cond11 v199_r0 = 1#1), (Rect.unit (s := S2x1024x1024) (k0_off56 arg21_r0) S1x256x1024.size (k0_off56_inb arg20_r0 arg21_r0 v199_r0 k0_hw15 k0_h11)).PackedRows (EltTy.packing .bf16) := fun arg20_r0 arg21_r0 v199_r0 k0_hw15 k0_h11 => k0_hw15.2.2.2.2.2.2.2.1 k0_h11 (k0_off56_inb arg20_r0 arg21_r0 v199_r0 k0_hw15 k0_h11)
theorem k0_off57_inb : ∀ (arg20_r0 : BitVec 32) (arg21_r0 : BitVec 32) (v199_r0 : BitVec 32) (k0_hw15 : k0_chk15 arg20_r0 arg21_r0 v199_r0), ∀ (k0_h11 : k0_cond11 v199_r0 = 1#1), ∀ a, (k0_off57 arg21_r0) a + S1x256x1024.size a ≤ S2x1024x1024.size a := fun arg20_r0 arg21_r0 v199_r0 k0_hw15 k0_h11 => k0_hw15.2.2.2.2.2.2.2.2.1 k0_h11
theorem k0_off57_packedbf16 : ∀ (arg20_r0 : BitVec 32) (arg21_r0 : BitVec 32) (v199_r0 : BitVec 32) (k0_hw15 : k0_chk15 arg20_r0 arg21_r0 v199_r0), ∀ (k0_h11 : k0_cond11 v199_r0 = 1#1), (Rect.unit (s := S2x1024x1024) (k0_off57 arg21_r0) S1x256x1024.size (k0_off57_inb arg20_r0 arg21_r0 v199_r0 k0_hw15 k0_h11)).PackedRows (EltTy.packing .bf16) := fun arg20_r0 arg21_r0 v199_r0 k0_hw15 k0_h11 => k0_hw15.2.2.2.2.2.2.2.2.2 k0_h11 (k0_off57_inb arg20_r0 arg21_r0 v199_r0 k0_hw15 k0_h11)

def k0_off58 (arg21_r0 : BitVec 32) : Fin 1 → Nat :=
  let c2_i32_163_r0 : BitVec 32 := 2#32
  let v237_r0 : BitVec 32 := Scalar.remui arg21_r0 c2_i32_163_r0
  ![v237_r0.toNat]
def k0_cond13 (k0_t1 : Fin k0_t1_loop.trips) (arg23_r0 : BitVec 32) (v121_r0 : BitVec 32) (v124_r0 : BitVec 32) : BitVec 1 :=
  let c0_i32_77_r0 : BitVec 32 := 0#32
  let v84_r0 : BitVec 32 := Scalar.addi arg23_r0 c0_i32_77_r0
  let c1_i32_108_r0 : BitVec 32 := 1#32
  let v122_r0 : BitVec 32 := Scalar.subi v121_r0 c1_i32_108_r0
  let v123_r0 : BitVec 32 := Scalar.minsi v84_r0 v122_r0
  let true_84_r0 : BitVec 1 := 1#1
  let c1_i32_83_r0 : BitVec 32 := 1#32
  let v90_r0 : BitVec 32 := Scalar.addi arg23_r0 c1_i32_83_r0
  let v91_r0 : BitVec 32 := Scalar.select true_84_r0 v90_r0 arg23_r0
  let c96_i32_85_r0 : BitVec 32 := 96#32
  let v92_r0 : BitVec 1 := Scalar.cmpi .eq v91_r0 c96_i32_85_r0
  let c0_i32_86_r0 : BitVec 32 := 0#32
  let v93_r0 : BitVec 32 := Scalar.select v92_r0 c0_i32_86_r0 v91_r0
  let c0_i32_87_r0 : BitVec 32 := 0#32
  let v94_r0 : BitVec 32 := Scalar.addi v93_r0 c0_i32_87_r0
  let c1_i32_110_r0 : BitVec 32 := 1#32
  let v125_r0 : BitVec 32 := Scalar.subi v124_r0 c1_i32_110_r0
  let v126_r0 : BitVec 32 := Scalar.minsi v94_r0 v125_r0
  let v208_r0 : BitVec 1 := Scalar.cmpi .ne v123_r0 v126_r0
  let c0_i32_40_r0 : BitVec 32 := 0#32
  let c1_i32_42_r0 : BitVec 32 := 1#32
  let arg18_r0 : BitVec 32 := Scf.iv c0_i32_40_r0 c1_i32_42_r0 k0_t1
  let c95_i32_76_r0 : BitVec 32 := 95#32
  let v83_r0 : BitVec 1 := Scalar.cmpi .eq arg18_r0 c95_i32_76_r0
  let v209_r0 : BitVec 1 := Scalar.ori v208_r0 v83_r0
  let v210_r0 : BitVec 32 := Scalar.extui v209_r0
  let c0_i32_148_r0 : BitVec 32 := 0#32
  let v211_r0 : BitVec 1 := Scalar.cmpi .ne v210_r0 c0_i32_148_r0
  v211_r0

def k0_off59 (arg23_r0 : BitVec 32) (v238_r0 : BitVec 32) : Fin 2 → Nat :=
  let c1024_i32_166_r0 : BitVec 32 := 1024#32
  let c0_i32_77_r0 : BitVec 32 := 0#32
  let v84_r0 : BitVec 32 := Scalar.addi arg23_r0 c0_i32_77_r0
  let c1_i32_165_r0 : BitVec 32 := 1#32
  let v239_r0 : BitVec 32 := Scalar.subi v238_r0 c1_i32_165_r0
  let v240_r0 : BitVec 32 := Scalar.minsi v84_r0 v239_r0
  let v241_r0 : BitVec 32 := Scalar.muli c1024_i32_166_r0 v240_r0
  let c0_i32_167_r0 : BitVec 32 := 0#32
  ![v241_r0.toNat, 0]

def k0_off60 (arg21_r0 : BitVec 32) : Fin 3 → Nat :=
  let c2_i32_163_r0 : BitVec 32 := 2#32
  let v237_r0 : BitVec 32 := Scalar.remui arg21_r0 c2_i32_163_r0
  let c0_i32_168_r0 : BitVec 32 := 0#32
  let c0_i32_169_r0 : BitVec 32 := 0#32
  ![v237_r0.toNat, 0, 0]

def k0_chk16 (k0_t1 : Fin k0_t1_loop.trips) (arg21_r0 : BitVec 32) (arg23_r0 : BitVec 32) (v121_r0 : BitVec 32) (v124_r0 : BitVec 32) : Prop :=
  (∀ (k0_h13 : k0_cond13 k0_t1 arg23_r0 v121_r0 v124_r0 = 1#1), ∀ a, (k0_off58 arg21_r0) a + S1.size a ≤ S2.size a) ∧
  (∀ (k0_h13 : k0_cond13 k0_t1 arg23_r0 v121_r0 v124_r0 = 1#1), ∀ a, (k0_off60 arg21_r0) a + S1x1024x1024.size a ≤ S2x1024x1024.size a) ∧
  (∀ (k0_h13 : k0_cond13 k0_t1 arg23_r0 v121_r0 v124_r0 = 1#1), ∀ (hinb : ∀ a, (k0_off60 arg21_r0) a + S1x1024x1024.size a ≤ S2x1024x1024.size a), (Rect.unit (s := S2x1024x1024) (k0_off60 arg21_r0) S1x1024x1024.size hinb).WholeWords (EltTy.packing .bf16))
theorem k0_off58_inb : ∀ (k0_t1 : Fin k0_t1_loop.trips) (arg21_r0 : BitVec 32) (arg23_r0 : BitVec 32) (v121_r0 : BitVec 32) (v124_r0 : BitVec 32) (k0_hw16 : k0_chk16 k0_t1 arg21_r0 arg23_r0 v121_r0 v124_r0), ∀ (k0_h13 : k0_cond13 k0_t1 arg23_r0 v121_r0 v124_r0 = 1#1), ∀ a, (k0_off58 arg21_r0) a + S1.size a ≤ S2.size a := fun k0_t1 arg21_r0 arg23_r0 v121_r0 v124_r0 k0_hw16 k0_h13 => k0_hw16.1 k0_h13
theorem k0_off60_inb : ∀ (k0_t1 : Fin k0_t1_loop.trips) (arg21_r0 : BitVec 32) (arg23_r0 : BitVec 32) (v121_r0 : BitVec 32) (v124_r0 : BitVec 32) (k0_hw16 : k0_chk16 k0_t1 arg21_r0 arg23_r0 v121_r0 v124_r0), ∀ (k0_h13 : k0_cond13 k0_t1 arg23_r0 v121_r0 v124_r0 = 1#1), ∀ a, (k0_off60 arg21_r0) a + S1x1024x1024.size a ≤ S2x1024x1024.size a := fun k0_t1 arg21_r0 arg23_r0 v121_r0 v124_r0 k0_hw16 k0_h13 => k0_hw16.2.1 k0_h13
theorem k0_off60_wordsbf16 : ∀ (k0_t1 : Fin k0_t1_loop.trips) (arg21_r0 : BitVec 32) (arg23_r0 : BitVec 32) (v121_r0 : BitVec 32) (v124_r0 : BitVec 32) (k0_hw16 : k0_chk16 k0_t1 arg21_r0 arg23_r0 v121_r0 v124_r0), ∀ (k0_h13 : k0_cond13 k0_t1 arg23_r0 v121_r0 v124_r0 = 1#1), (Rect.unit (s := S2x1024x1024) (k0_off60 arg21_r0) S1x1024x1024.size (k0_off60_inb k0_t1 arg21_r0 arg23_r0 v121_r0 v124_r0 k0_hw16 k0_h13)).WholeWords (EltTy.packing .bf16) := fun k0_t1 arg21_r0 arg23_r0 v121_r0 v124_r0 k0_hw16 k0_h13 => k0_hw16.2.2 k0_h13 (k0_off60_inb k0_t1 arg21_r0 arg23_r0 v121_r0 v124_r0 k0_hw16 k0_h13)

def k0_chk17 (k0_t1 : Fin k0_t1_loop.trips) (arg23_r0 : BitVec 32) (v121_r0 : BitVec 32) (v124_r0 : BitVec 32) (v238_r0 : BitVec 32) : Prop :=
  (∀ (k0_h13 : k0_cond13 k0_t1 arg23_r0 v121_r0 v124_r0 = 1#1), ∀ a, (k0_off59 arg23_r0 v238_r0) a + S1024x1024.size a ≤ S98304x1024.size a) ∧
  (∀ (k0_h13 : k0_cond13 k0_t1 arg23_r0 v121_r0 v124_r0 = 1#1), ∀ (hinb : ∀ a, (k0_off59 arg23_r0 v238_r0) a + S1024x1024.size a ≤ S98304x1024.size a), (Rect.unit (s := S98304x1024) (k0_off59 arg23_r0 v238_r0) S1024x1024.size hinb).WholeWords (EltTy.packing .bf16))
theorem k0_off59_inb : ∀ (k0_t1 : Fin k0_t1_loop.trips) (arg23_r0 : BitVec 32) (v121_r0 : BitVec 32) (v124_r0 : BitVec 32) (v238_r0 : BitVec 32) (k0_hw17 : k0_chk17 k0_t1 arg23_r0 v121_r0 v124_r0 v238_r0), ∀ (k0_h13 : k0_cond13 k0_t1 arg23_r0 v121_r0 v124_r0 = 1#1), ∀ a, (k0_off59 arg23_r0 v238_r0) a + S1024x1024.size a ≤ S98304x1024.size a := fun k0_t1 arg23_r0 v121_r0 v124_r0 v238_r0 k0_hw17 k0_h13 => k0_hw17.1 k0_h13
theorem k0_off59_wordsbf16 : ∀ (k0_t1 : Fin k0_t1_loop.trips) (arg23_r0 : BitVec 32) (v121_r0 : BitVec 32) (v124_r0 : BitVec 32) (v238_r0 : BitVec 32) (k0_hw17 : k0_chk17 k0_t1 arg23_r0 v121_r0 v124_r0 v238_r0), ∀ (k0_h13 : k0_cond13 k0_t1 arg23_r0 v121_r0 v124_r0 = 1#1), (Rect.unit (s := S98304x1024) (k0_off59 arg23_r0 v238_r0) S1024x1024.size (k0_off59_inb k0_t1 arg23_r0 v121_r0 v124_r0 v238_r0 k0_hw17 k0_h13)).WholeWords (EltTy.packing .bf16) := fun k0_t1 arg23_r0 v121_r0 v124_r0 v238_r0 k0_hw17 k0_h13 => k0_hw17.2 k0_h13 (k0_off59_inb k0_t1 arg23_r0 v121_r0 v124_r0 v238_r0 k0_hw17 k0_h13)

def k0_off61 (arg22_r0 : BitVec 32) : Fin 1 → Nat :=
  let c2_i32_163_r0 : BitVec 32 := 2#32
  let v237_r0 : BitVec 32 := Scalar.remui arg22_r0 c2_i32_163_r0
  ![v237_r0.toNat]
def k0_cond15 (k0_t1 : Fin k0_t1_loop.trips) (arg23_r0 : BitVec 32) (v121_r0 : BitVec 32) (v143_r0 : BitVec 32) : BitVec 1 :=
  let c0_i32_77_r0 : BitVec 32 := 0#32
  let v84_r0 : BitVec 32 := Scalar.addi arg23_r0 c0_i32_77_r0
  let c1_i32_108_r0 : BitVec 32 := 1#32
  let v122_r0 : BitVec 32 := Scalar.subi v121_r0 c1_i32_108_r0
  let v123_r0 : BitVec 32 := Scalar.minsi v84_r0 v122_r0
  let true_79_r0 : BitVec 1 := 1#1
  let c1_i32_78_r0 : BitVec 32 := 1#32
  let v85_r0 : BitVec 32 := Scalar.subi arg23_r0 c1_i32_78_r0
  let v86_r0 : BitVec 32 := Scalar.select true_79_r0 v85_r0 arg23_r0
  let c_m1_i32_80_r0 : BitVec 32 := 4294967295#32
  let v87_r0 : BitVec 1 := Scalar.cmpi .eq v86_r0 c_m1_i32_80_r0
  let c95_i32_81_r0 : BitVec 32 := 95#32
  let v88_r0 : BitVec 32 := Scalar.select v87_r0 c95_i32_81_r0 v86_r0
  let c0_i32_82_r0 : BitVec 32 := 0#32
  let v89_r0 : BitVec 32 := Scalar.addi v88_r0 c0_i32_82_r0
  let c1_i32_120_r0 : BitVec 32 := 1#32
  let v144_r0 : BitVec 32 := Scalar.subi v143_r0 c1_i32_120_r0
  let v145_r0 : BitVec 32 := Scalar.minsi v89_r0 v144_r0
  let v221_r0 : BitVec 1 := Scalar.cmpi .ne v123_r0 v145_r0
  let c0_i32_40_r0 : BitVec 32 := 0#32
  let c1_i32_42_r0 : BitVec 32 := 1#32
  let arg18_r0 : BitVec 32 := Scf.iv c0_i32_40_r0 c1_i32_42_r0 k0_t1
  let c0_i32_75_r0 : BitVec 32 := 0#32
  let v82_r0 : BitVec 1 := Scalar.cmpi .eq arg18_r0 c0_i32_75_r0
  let true_154_r0 : BitVec 1 := 1#1
  let v222_r0 : BitVec 1 := Scalar.xori v82_r0 true_154_r0
  let v223_r0 : BitVec 1 := Scalar.andi v221_r0 v222_r0
  let v224_r0 : BitVec 32 := Scalar.extui v223_r0
  let c0_i32_155_r0 : BitVec 32 := 0#32
  let v225_r0 : BitVec 1 := Scalar.cmpi .ne v224_r0 c0_i32_155_r0
  v225_r0

def k0_off62 (arg23_r0 : BitVec 32) (v238_r0 : BitVec 32) : Fin 2 → Nat :=
  let c1024_i32_166_r0 : BitVec 32 := 1024#32
  let true_79_r0 : BitVec 1 := 1#1
  let c1_i32_78_r0 : BitVec 32 := 1#32
  let v85_r0 : BitVec 32 := Scalar.subi arg23_r0 c1_i32_78_r0
  let v86_r0 : BitVec 32 := Scalar.select true_79_r0 v85_r0 arg23_r0
  let c_m1_i32_80_r0 : BitVec 32 := 4294967295#32
  let v87_r0 : BitVec 1 := Scalar.cmpi .eq v86_r0 c_m1_i32_80_r0
  let c95_i32_81_r0 : BitVec 32 := 95#32
  let v88_r0 : BitVec 32 := Scalar.select v87_r0 c95_i32_81_r0 v86_r0
  let c0_i32_82_r0 : BitVec 32 := 0#32
  let v89_r0 : BitVec 32 := Scalar.addi v88_r0 c0_i32_82_r0
  let c1_i32_165_r0 : BitVec 32 := 1#32
  let v239_r0 : BitVec 32 := Scalar.subi v238_r0 c1_i32_165_r0
  let v240_r0 : BitVec 32 := Scalar.minsi v89_r0 v239_r0
  let v241_r0 : BitVec 32 := Scalar.muli c1024_i32_166_r0 v240_r0
  let c0_i32_167_r0 : BitVec 32 := 0#32
  ![v241_r0.toNat, 0]

def k0_off63 (arg22_r0 : BitVec 32) : Fin 3 → Nat :=
  let c2_i32_163_r0 : BitVec 32 := 2#32
  let v237_r0 : BitVec 32 := Scalar.remui arg22_r0 c2_i32_163_r0
  let c0_i32_168_r0 : BitVec 32 := 0#32
  let c0_i32_169_r0 : BitVec 32 := 0#32
  ![v237_r0.toNat, 0, 0]

def k0_chk18 (k0_t1 : Fin k0_t1_loop.trips) (arg22_r0 : BitVec 32) (arg23_r0 : BitVec 32) (v121_r0 : BitVec 32) (v143_r0 : BitVec 32) : Prop :=
  (∀ (k0_h15 : k0_cond15 k0_t1 arg23_r0 v121_r0 v143_r0 = 1#1), ∀ a, (k0_off61 arg22_r0) a + S1.size a ≤ S2.size a) ∧
  (∀ (k0_h15 : k0_cond15 k0_t1 arg23_r0 v121_r0 v143_r0 = 1#1), ∀ a, (k0_off63 arg22_r0) a + S1x1024x1024.size a ≤ S2x1024x1024.size a) ∧
  (∀ (k0_h15 : k0_cond15 k0_t1 arg23_r0 v121_r0 v143_r0 = 1#1), ∀ (hinb : ∀ a, (k0_off63 arg22_r0) a + S1x1024x1024.size a ≤ S2x1024x1024.size a), (Rect.unit (s := S2x1024x1024) (k0_off63 arg22_r0) S1x1024x1024.size hinb).WholeWords (EltTy.packing .bf16))
theorem k0_off61_inb : ∀ (k0_t1 : Fin k0_t1_loop.trips) (arg22_r0 : BitVec 32) (arg23_r0 : BitVec 32) (v121_r0 : BitVec 32) (v143_r0 : BitVec 32) (k0_hw18 : k0_chk18 k0_t1 arg22_r0 arg23_r0 v121_r0 v143_r0), ∀ (k0_h15 : k0_cond15 k0_t1 arg23_r0 v121_r0 v143_r0 = 1#1), ∀ a, (k0_off61 arg22_r0) a + S1.size a ≤ S2.size a := fun k0_t1 arg22_r0 arg23_r0 v121_r0 v143_r0 k0_hw18 k0_h15 => k0_hw18.1 k0_h15
theorem k0_off63_inb : ∀ (k0_t1 : Fin k0_t1_loop.trips) (arg22_r0 : BitVec 32) (arg23_r0 : BitVec 32) (v121_r0 : BitVec 32) (v143_r0 : BitVec 32) (k0_hw18 : k0_chk18 k0_t1 arg22_r0 arg23_r0 v121_r0 v143_r0), ∀ (k0_h15 : k0_cond15 k0_t1 arg23_r0 v121_r0 v143_r0 = 1#1), ∀ a, (k0_off63 arg22_r0) a + S1x1024x1024.size a ≤ S2x1024x1024.size a := fun k0_t1 arg22_r0 arg23_r0 v121_r0 v143_r0 k0_hw18 k0_h15 => k0_hw18.2.1 k0_h15
theorem k0_off63_wordsbf16 : ∀ (k0_t1 : Fin k0_t1_loop.trips) (arg22_r0 : BitVec 32) (arg23_r0 : BitVec 32) (v121_r0 : BitVec 32) (v143_r0 : BitVec 32) (k0_hw18 : k0_chk18 k0_t1 arg22_r0 arg23_r0 v121_r0 v143_r0), ∀ (k0_h15 : k0_cond15 k0_t1 arg23_r0 v121_r0 v143_r0 = 1#1), (Rect.unit (s := S2x1024x1024) (k0_off63 arg22_r0) S1x1024x1024.size (k0_off63_inb k0_t1 arg22_r0 arg23_r0 v121_r0 v143_r0 k0_hw18 k0_h15)).WholeWords (EltTy.packing .bf16) := fun k0_t1 arg22_r0 arg23_r0 v121_r0 v143_r0 k0_hw18 k0_h15 => k0_hw18.2.2 k0_h15 (k0_off63_inb k0_t1 arg22_r0 arg23_r0 v121_r0 v143_r0 k0_hw18 k0_h15)

def k0_chk19 (k0_t1 : Fin k0_t1_loop.trips) (arg23_r0 : BitVec 32) (v121_r0 : BitVec 32) (v143_r0 : BitVec 32) (v238_r0 : BitVec 32) : Prop :=
  (∀ (k0_h15 : k0_cond15 k0_t1 arg23_r0 v121_r0 v143_r0 = 1#1), ∀ a, (k0_off62 arg23_r0 v238_r0) a + S1024x1024.size a ≤ S98304x1024.size a) ∧
  (∀ (k0_h15 : k0_cond15 k0_t1 arg23_r0 v121_r0 v143_r0 = 1#1), ∀ (hinb : ∀ a, (k0_off62 arg23_r0 v238_r0) a + S1024x1024.size a ≤ S98304x1024.size a), (Rect.unit (s := S98304x1024) (k0_off62 arg23_r0 v238_r0) S1024x1024.size hinb).WholeWords (EltTy.packing .bf16))
theorem k0_off62_inb : ∀ (k0_t1 : Fin k0_t1_loop.trips) (arg23_r0 : BitVec 32) (v121_r0 : BitVec 32) (v143_r0 : BitVec 32) (v238_r0 : BitVec 32) (k0_hw19 : k0_chk19 k0_t1 arg23_r0 v121_r0 v143_r0 v238_r0), ∀ (k0_h15 : k0_cond15 k0_t1 arg23_r0 v121_r0 v143_r0 = 1#1), ∀ a, (k0_off62 arg23_r0 v238_r0) a + S1024x1024.size a ≤ S98304x1024.size a := fun k0_t1 arg23_r0 v121_r0 v143_r0 v238_r0 k0_hw19 k0_h15 => k0_hw19.1 k0_h15
theorem k0_off62_wordsbf16 : ∀ (k0_t1 : Fin k0_t1_loop.trips) (arg23_r0 : BitVec 32) (v121_r0 : BitVec 32) (v143_r0 : BitVec 32) (v238_r0 : BitVec 32) (k0_hw19 : k0_chk19 k0_t1 arg23_r0 v121_r0 v143_r0 v238_r0), ∀ (k0_h15 : k0_cond15 k0_t1 arg23_r0 v121_r0 v143_r0 = 1#1), (Rect.unit (s := S98304x1024) (k0_off62 arg23_r0 v238_r0) S1024x1024.size (k0_off62_inb k0_t1 arg23_r0 v121_r0 v143_r0 v238_r0 k0_hw19 k0_h15)).WholeWords (EltTy.packing .bf16) := fun k0_t1 arg23_r0 v121_r0 v143_r0 v238_r0 k0_hw19 k0_h15 => k0_hw19.2 k0_h15 (k0_off62_inb k0_t1 arg23_r0 v121_r0 v143_r0 v238_r0 k0_hw19 k0_h15)

def k0_off64 (v46_3_r0 : BitVec 32) : Fin 1 → Nat :=
  let c2_i32_r0 : BitVec 32 := 2#32
  let v72_r0 : BitVec 32 := Scalar.remui v46_3_r0 c2_i32_r0
  ![v72_r0.toNat]

def k0_off65 (v46_4_r0 : BitVec 32) (v73_r0 : BitVec 32) : Fin 2 → Nat :=
  let c1024_i32_71_r0 : BitVec 32 := 1024#32
  let true_45_r0 : BitVec 1 := 1#1
  let c1_i32_44_r0 : BitVec 32 := 1#32
  let v47_r0 : BitVec 32 := Scalar.subi v46_4_r0 c1_i32_44_r0
  let v48_r0 : BitVec 32 := Scalar.select true_45_r0 v47_r0 v46_4_r0
  let c_m1_i32_46_r0 : BitVec 32 := 4294967295#32
  let v49_r0 : BitVec 1 := Scalar.cmpi .eq v48_r0 c_m1_i32_46_r0
  let c95_i32_47_r0 : BitVec 32 := 95#32
  let v50_r0 : BitVec 32 := Scalar.select v49_r0 c95_i32_47_r0 v48_r0
  let c0_i32_48_r0 : BitVec 32 := 0#32
  let v51_r0 : BitVec 32 := Scalar.addi v50_r0 c0_i32_48_r0
  let c1_i32_70_r0 : BitVec 32 := 1#32
  let v74_r0 : BitVec 32 := Scalar.subi v73_r0 c1_i32_70_r0
  let v75_r0 : BitVec 32 := Scalar.minsi v51_r0 v74_r0
  let v76_r0 : BitVec 32 := Scalar.muli c1024_i32_71_r0 v75_r0
  let c0_i32_72_r0 : BitVec 32 := 0#32
  ![v76_r0.toNat, 0]

def k0_off66 (v46_3_r0 : BitVec 32) : Fin 3 → Nat :=
  let c2_i32_r0 : BitVec 32 := 2#32
  let v72_r0 : BitVec 32 := Scalar.remui v46_3_r0 c2_i32_r0
  let c0_i32_73_r0 : BitVec 32 := 0#32
  let c0_i32_74_r0 : BitVec 32 := 0#32
  ![v72_r0.toNat, 0, 0]

def k0_chk20 (v46_3_r0 : BitVec 32) : Prop :=
  (∀ a, (k0_off64 v46_3_r0) a + S1.size a ≤ S2.size a) ∧
  (∀ a, (k0_off66 v46_3_r0) a + S1x1024x1024.size a ≤ S2x1024x1024.size a) ∧
  (∀ (hinb : ∀ a, (k0_off66 v46_3_r0) a + S1x1024x1024.size a ≤ S2x1024x1024.size a), (Rect.unit (s := S2x1024x1024) (k0_off66 v46_3_r0) S1x1024x1024.size hinb).WholeWords (EltTy.packing .bf16))
theorem k0_off64_inb : ∀ (v46_3_r0 : BitVec 32) (k0_hw20 : k0_chk20 v46_3_r0), ∀ a, (k0_off64 v46_3_r0) a + S1.size a ≤ S2.size a := fun v46_3_r0 k0_hw20 => k0_hw20.1
theorem k0_off66_inb : ∀ (v46_3_r0 : BitVec 32) (k0_hw20 : k0_chk20 v46_3_r0), ∀ a, (k0_off66 v46_3_r0) a + S1x1024x1024.size a ≤ S2x1024x1024.size a := fun v46_3_r0 k0_hw20 => k0_hw20.2.1
theorem k0_off66_wordsbf16 : ∀ (v46_3_r0 : BitVec 32) (k0_hw20 : k0_chk20 v46_3_r0), (Rect.unit (s := S2x1024x1024) (k0_off66 v46_3_r0) S1x1024x1024.size (k0_off66_inb v46_3_r0 k0_hw20)).WholeWords (EltTy.packing .bf16) := fun v46_3_r0 k0_hw20 => k0_hw20.2.2 (k0_off66_inb v46_3_r0 k0_hw20)

def k0_chk21 (v46_4_r0 : BitVec 32) (v73_r0 : BitVec 32) : Prop :=
  (∀ a, (k0_off65 v46_4_r0 v73_r0) a + S1024x1024.size a ≤ S98304x1024.size a) ∧
  (∀ (hinb : ∀ a, (k0_off65 v46_4_r0 v73_r0) a + S1024x1024.size a ≤ S98304x1024.size a), (Rect.unit (s := S98304x1024) (k0_off65 v46_4_r0 v73_r0) S1024x1024.size hinb).WholeWords (EltTy.packing .bf16))
theorem k0_off65_inb : ∀ (v46_4_r0 : BitVec 32) (v73_r0 : BitVec 32) (k0_hw21 : k0_chk21 v46_4_r0 v73_r0), ∀ a, (k0_off65 v46_4_r0 v73_r0) a + S1024x1024.size a ≤ S98304x1024.size a := fun v46_4_r0 v73_r0 k0_hw21 => k0_hw21.1
theorem k0_off65_wordsbf16 : ∀ (v46_4_r0 : BitVec 32) (v73_r0 : BitVec 32) (k0_hw21 : k0_chk21 v46_4_r0 v73_r0), (Rect.unit (s := S98304x1024) (k0_off65 v46_4_r0 v73_r0) S1024x1024.size (k0_off65_inb v46_4_r0 v73_r0 k0_hw21)).WholeWords (EltTy.packing .bf16) := fun v46_4_r0 v73_r0 k0_hw21 => k0_hw21.2 (k0_off65_inb v46_4_r0 v73_r0 k0_hw21)

abbrev stage0_0 : Fin 1 → Memref sig .tc .smem S96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S96 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S96 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S96 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S96 : Shape := ⟨1, ![96]⟩
abbrev S1 : Shape := ⟨1, ![1]⟩
abbrev S98304x1024 : Shape := ⟨2, ![98304, 1024]⟩
abbrev S32x1024x256 : Shape := ⟨3, ![32, 1024, 256]⟩
abbrev S32x256x1024 : Shape := ⟨3, ![32, 256, 1024]⟩
abbrev S96x1024 : Shape := ⟨2, ![96, 1024]⟩
abbrev S98304 : Shape := ⟨1, ![98304]⟩
abbrev S98304x32x256 : Shape := ⟨3, ![98304, 32, 256]⟩
abbrev S_ : Shape := ⟨0, ![]⟩
abbrev S32x98304x1024 : Shape := ⟨3, ![32, 98304, 1024]⟩
abbrev S32 : Shape := ⟨1, ![32]⟩
abbrev S32x1 : Shape := ⟨2, ![32, 1]⟩
abbrev S1x98304 : Shape := ⟨2, ![1, 98304]⟩
abbrev S32x98304 : Shape := ⟨2, ![32, 98304]⟩
abbrev S32x98304x1 : Shape := ⟨3, ![32, 98304, 1]⟩

abbrev nBuf : Space → Nat
  | .hbm => 40
  | .vmem => 0
  | .smem => 0
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S96, .i32⟩
  | .hbm, ⟨3, _⟩ => ⟨S96, .i32⟩
  | .hbm, ⟨4, _⟩ => ⟨S96, .i32⟩
  | .hbm, ⟨5, _⟩ => ⟨S98304x1024, .bf16⟩
  | .hbm, ⟨6, _⟩ => ⟨S32x1024x256, .f32⟩
  | .hbm, ⟨7, _⟩ => ⟨S32x1024x256, .f32⟩
  | .hbm, ⟨8, _⟩ => ⟨S32x256x1024, .f32⟩
  | .hbm, ⟨9, _⟩ => ⟨S96x1024, .i32⟩
  | .hbm, ⟨10, _⟩ => ⟨S98304, .i32⟩
  | .hbm, ⟨11, _⟩ => ⟨S98304x1024, .f32⟩
  | .hbm, ⟨12, _⟩ => ⟨S98304x32x256, .f32⟩
  | .hbm, ⟨13, _⟩ => ⟨S98304x32x256, .f32⟩
  | .hbm, ⟨14, _⟩ => ⟨S98304x32x256, .f32⟩
  | .hbm, ⟨15, _⟩ => ⟨S_, .f32⟩
  | .hbm, ⟨16, _⟩ => ⟨S98304x32x256, .f32⟩
  | .hbm, ⟨17, _⟩ => ⟨S98304x32x256, .f32⟩
  | .hbm, ⟨18, _⟩ => ⟨S_, .f32⟩
  | .hbm, ⟨19, _⟩ => ⟨S98304x32x256, .f32⟩
  | .hbm, ⟨20, _⟩ => ⟨S98304x32x256, .f32⟩
  | .hbm, ⟨21, _⟩ => ⟨S98304x32x256, .f32⟩
  | .hbm, ⟨22, _⟩ => ⟨S98304x32x256, .f32⟩
  | .hbm, ⟨23, _⟩ => ⟨S98304x32x256, .f32⟩
  | .hbm, ⟨24, _⟩ => ⟨S32x98304x1024, .f32⟩
  | .hbm, ⟨25, _⟩ => ⟨S32, .i32⟩
  | .hbm, ⟨26, _⟩ => ⟨S32x1, .i32⟩
  | .hbm, ⟨27, _⟩ => ⟨S1x98304, .i32⟩
  | .hbm, ⟨28, _⟩ => ⟨S32x98304, .i32⟩
  | .hbm, ⟨29, _⟩ => ⟨S32x98304, .i32⟩
  | .hbm, ⟨30, _⟩ => ⟨S32x98304, .i1⟩
  | .hbm, ⟨31, _⟩ => ⟨S32x98304x1, .i1⟩
  | .hbm, ⟨32, _⟩ => ⟨S_, .f32⟩
  | .hbm, ⟨33, _⟩ => ⟨S_, .f32⟩
  | .hbm, ⟨34, _⟩ => ⟨S32x98304x1024, .i1⟩
  | .hbm, ⟨35, _⟩ => ⟨S32x98304x1024, .f32⟩
  | .hbm, ⟨36, _⟩ => ⟨S32x98304x1024, .f32⟩
  | .hbm, ⟨37, _⟩ => ⟨S_, .f32⟩
  | .hbm, ⟨38, _⟩ => ⟨S98304x1024, .f32⟩
  | .hbm, ⟨39, _⟩ => ⟨S98304x1024, .bf16⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel2.lean ====
abbrev S32768x1024 : Shape := ⟨2, ![32768, 1024]⟩
abbrev S65536x512 : Shape := ⟨2, ![65536, 512]⟩
abbrev S32768x128 : Shape := ⟨2, ![32768, 128]⟩
abbrev S16x2048x256 : Shape := ⟨3, ![16, 2048, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S1x1024 : Shape := ⟨2, ![1, 1024]⟩
abbrev S1024x512 : Shape := ⟨2, ![1024, 512]⟩
abbrev S1024x128 : Shape := ⟨2, ![1024, 128]⟩
abbrev S1024x256 : Shape := ⟨2, ![1024, 256]⟩
abbrev S256x512 : Shape := ⟨2, ![256, 512]⟩
abbrev S256x128 : Shape := ⟨2, ![256, 128]⟩
abbrev S256x1 : Shape := ⟨2, ![256, 1]⟩
abbrev S256 : Shape := ⟨1, ![256]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S65536x512, .i32⟩
  | .hbm, ⟨2, _⟩ => ⟨S32768x128, .f32⟩
  | .hbm, ⟨3, _⟩ => ⟨S16x2048x256, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256x1024, .f32⟩
  | .hbm, ⟨8, _⟩ => ⟨S1024, .f32⟩
  | .hbm, ⟨9, _⟩ => ⟨S32768x256, .f32⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S256x1024, .bf16⟩
  | .hbm, ⟨14, _⟩ => ⟨S1x1024, .f32⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S1024x128, .f32⟩
  | .local _ .vmem, ⟨7, _⟩ => ⟨S1024x128, .f32⟩
  | .local _ .vmem, ⟨8, _⟩ => ⟨S1024x256, .f32⟩
  | .local _ .vmem, ⟨9, _⟩ => ⟨S1024x256, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S256x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S65536x512 : Shape := ⟨2, ![65536, 512]⟩
abbrev S32768x128 : Shape := ⟨2, ![32768, 128]⟩
abbrev S16x2048x256 : Shape := ⟨3, ![16, 2048, 256]⟩
abbrev S1024 : Shape := ⟨1, ![1024]⟩
abbrev S1024x1024 : Shape := ⟨2, ![1024, 1024]⟩
abbrev S256x1024 : Shape := ⟨2, ![256, 1024]⟩
abbrev S65536x512x2 : Shape := ⟨3, ![65536, 512, 2]⟩
abbrev S65536x2x512 : Shape := ⟨3, ![65536, 2, 512]⟩
abbrev S65536x1024 : Shape := ⟨2, ![65536, 1024]⟩
abbrev S32768x1 : Shape := ⟨2, ![32768, 1]⟩
abbrev S_ : Shape := ⟨0, ![]⟩
abbrev S32768 : Shape := ⟨1, ![32768]⟩
abbrev S1x1024 : Shape := ⟨2, ![1, 1024]⟩
abbrev S32768x256 : Shape := ⟨2, ![32768, 256]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S65536x512, .i32⟩
  | .hbm, ⟨2, _⟩ => ⟨S32768x128, .f32⟩
  | .hbm, ⟨3, _⟩ => ⟨S16x2048x256, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256x1024, .f32⟩
  | .hbm, ⟨8, _⟩ => ⟨S1024, .f32⟩
  | .hbm, ⟨9, _⟩ => ⟨S65536x512x2, .bf16⟩
  | .hbm, ⟨10, _⟩ => ⟨S65536x2x512, .bf16⟩
  | .hbm, ⟨11, _⟩ => ⟨S65536x1024, .bf16⟩
  | .hbm, ⟨12, _⟩ => ⟨S65536x1024, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S32768x256, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S1024 : Shape := ⟨1, ![1024]⟩
abbrev S1024x4096 : Shape := ⟨2, ![1024, 4096]⟩
abbrev S4096 : Shape := ⟨1, ![4096]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x4096 : Shape := ⟨2, ![1, 4096]⟩
abbrev S1x1024 : Shape := ⟨2, ![1, 1024]⟩
abbrev S1x512 : Shape := ⟨2, ![1, 512]⟩
abbrev S512x2048 : Shape := ⟨2, ![512, 2048]⟩
abbrev S1024x256 : Shape := ⟨2, ![1024, 256]⟩
abbrev S32768x1024 : Shape := ⟨2, ![32768, 1024]⟩
abbrev S32768x512 : Shape := ⟨2, ![32768, 512]⟩
abbrev S32768x128 : Shape := ⟨2, ![32768, 128]⟩
abbrev S8x32768 : Shape := ⟨2, ![8, 32768]⟩
abbrev S1x512x1024 : Shape := ⟨3, ![1, 512, 1024]⟩
abbrev S1x512x512 : Shape := ⟨3, ![1, 512, 512]⟩
abbrev S1024x512 : Shape := ⟨2, ![1024, 512]⟩
abbrev S1024x2048 : Shape := ⟨2, ![1024, 2048]⟩
abbrev S1x2048 : Shape := ⟨2, ![1, 2048]⟩
abbrev S512x512 : Shape := ⟨2, ![512, 512]⟩
abbrev S512x128 : Shape := ⟨2, ![512, 128]⟩
abbrev S8x512 : Shape := ⟨2, ![8, 512]⟩
abbrev S512x1 : Shape := ⟨2, ![512, 1]⟩
abbrev S512x256 : Shape := ⟨2, ![512, 256]⟩
abbrev S128x512 : Shape := ⟨2, ![128, 512]⟩

abbrev nBuf : Space → Nat
  | .hbm => 45
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S3x512, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S36, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x4096, .bf16⟩
  | .hbm, ⟨30, _⟩ => ⟨S1x4096, .f32⟩
  | .hbm, ⟨31, _⟩ => ⟨S1x1024, .f32⟩
  | .hbm, ⟨32, _⟩ => ⟨S1x512, .f32⟩
  | .hbm, ⟨33, _⟩ => ⟨S512x1024, .bf16⟩
  | .hbm, ⟨34, _⟩ => ⟨S512x1024, .bf16⟩
  | .hbm, ⟨35, _⟩ => ⟨S512x1024, .bf16⟩
  | .hbm, ⟨36, _⟩ => ⟨S512x2048, .bf16⟩
  | .hbm, ⟨37, _⟩ => ⟨S1024x1024, .bf16⟩
  | .hbm, ⟨38, _⟩ => ⟨S1x1024, .f32⟩
  | .hbm, ⟨39, _⟩ => ⟨S1024x256, .bf16⟩
  | .hbm, ⟨40, _⟩ => ⟨S32768x1024, .f32⟩
  | .hbm, ⟨41, _⟩ => ⟨S32768x512, .i32⟩
  | .hbm, ⟨42, _⟩ => ⟨S32768x128, .f32⟩
  | .hbm, ⟨43, _⟩ => ⟨S8x32768, .f32⟩
  | .hbm, ⟨44, _⟩ => ⟨S1x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x2048, .f32⟩
  | .local _ .vmem, ⟨12, _⟩ => ⟨S1x1024, .f32⟩
  | .local _ .vmem, ⟨13, _⟩ => ⟨S3x512, .f32⟩
  | .local _ .vmem, ⟨14, _⟩ => ⟨S1x512, .f32⟩
  | .local _ .vmem, ⟨15, _⟩ => ⟨S512x1024, .bf16⟩
  | .local _ .vmem, ⟨16, _⟩ => ⟨S512x2048, .bf16⟩
  | .local _ .vmem, ⟨17, _⟩ => ⟨S1024x1024, .bf16⟩
  | .local _ .vmem, ⟨18, _⟩ => ⟨S1x1024, .f32⟩
  | .local _ .vmem, ⟨19, _⟩ => ⟨S1024x256, .bf16⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | .local _ .vmem, ⟨23, _⟩ => ⟨S512x512, .i32⟩
  | .local _ .vmem, ⟨24, _⟩ => ⟨S512x512, .i32⟩
  | .local _ .vmem, ⟨25, _⟩ => ⟨S512x128, .f32⟩
  | .local _ .vmem, ⟨26, _⟩ => ⟨S512x128, .f32⟩
  | .local _ .vmem, ⟨27, _⟩ => ⟨S8x512, .f32⟩
  | .local _ .vmem, ⟨28, _⟩ => ⟨S8x512, .f32⟩
  | .local _ .vmem, ⟨29, _⟩ => ⟨S1x128, .f32⟩
  | .local _ .vmem, ⟨30, _⟩ => ⟨S8x512, .f32⟩
  | .local _ .vmem, ⟨31, _⟩ => ⟨S1x128, .f32⟩
  | .local _ .vmem, ⟨32, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_v20_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29

abbrev nD : Nat := 1
abbrev τ : Topo := Topo.v7x

variable {F : FTy → Type} [BitOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Kernel3Ideal.lean ====
abbrev S16x2048x1024 : Shape := ⟨3, ![16, 2048, 1024]⟩
abbrev S16x2048x512 : Shape := ⟨3, ![16, 2048, 512]⟩
abbrev S1024 : Shape := ⟨1, ![1024]⟩
abbrev S1024x4096 : Shape := ⟨2, ![1024, 4096]⟩
abbrev S4096 : Shape := ⟨1, ![4096]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x4096 : Shape := ⟨2, ![1, 4096]⟩
abbrev S1x1024 : Shape := ⟨2, ![1, 1024]⟩
abbrev S1x512 : Shape := ⟨2, ![1, 512]⟩
abbrev S512x2048 : Shape := ⟨2, ![512, 2048]⟩
abbrev S1024x256 : Shape := ⟨2, ![1024, 256]⟩
abbrev S32768x1024 : Shape := ⟨2, ![32768, 1024]⟩
abbrev S32768x2x512 : Shape := ⟨3, ![32768, 2, 512]⟩
abbrev S32768x128 : Shape := ⟨2, ![32768, 128]⟩
abbrev S8x32768 : Shape := ⟨2, ![8, 32768]⟩
abbrev S32768x1x512 : Shape := ⟨3, ![32768, 1, 512]⟩
abbrev S32768x512 : Shape := ⟨2, ![32768, 512]⟩
abbrev S1x512x1024 : Shape := ⟨3, ![1, 512, 1024]⟩
abbrev S1x512x512 : Shape := ⟨3, ![1, 512, 512]⟩
abbrev S1024x512 : Shape := ⟨2, ![1024, 512]⟩
abbrev S1024x2048 : Shape := ⟨2, ![1024, 2048]⟩
abbrev S1x2048 : Shape := ⟨2, ![1, 2048]⟩
abbrev S512x512 : Shape := ⟨2, ![512, 512]⟩
abbrev S512x2x512 : Shape := ⟨3, ![512, 2, 512]⟩
abbrev S512x1x512 : Shape := ⟨3, ![512, 1, 512]⟩
abbrev S512x128 : Shape := ⟨2, ![512, 128]⟩
abbrev S8x512 : Shape := ⟨2, ![8, 512]⟩
abbrev S512x1 : Shape := ⟨2, ![512, 1]⟩
abbrev S512x256 : Shape := ⟨2, ![512, 256]⟩
abbrev S128x512 : Shape := ⟨2, ![128, 512]⟩

abbrev nBuf : Space → Nat
  | .hbm => 45
  | .vmem => 33
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S3x512, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S36, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x4096, .bf16⟩
  | .hbm, ⟨30, _⟩ => ⟨S1x4096, .f32⟩
  | .hbm, ⟨31, _⟩ => ⟨S1x1024, .f32⟩
  | .hbm, ⟨32, _⟩ => ⟨S1x512, .f32⟩
  | .hbm, ⟨33, _⟩ => ⟨S512x1024, .bf16⟩
  | .hbm, ⟨34, _⟩ => ⟨S512x1024, .bf16⟩
  | .hbm, ⟨35, _⟩ => ⟨S512x1024, .bf16⟩
  | .hbm, ⟨36, _⟩ => ⟨S512x2048, .bf16⟩
  | .hbm, ⟨37, _⟩ => ⟨S1024x1024, .bf16⟩
  | .hbm, ⟨38, _⟩ => ⟨S1x1024, .f32⟩
  | .hbm, ⟨39, _⟩ => ⟨S1024x256, .bf16⟩
  | .hbm, ⟨40, _⟩ => ⟨S32768x1024, .f32⟩
  | .hbm, ⟨41, _⟩ => ⟨S32768x2x512, .bf16⟩
  | .hbm, ⟨42, _⟩ => ⟨S32768x128, .f32⟩
  | .hbm, ⟨43, _⟩ => ⟨S8x32768, .f32⟩
  | .hbm, ⟨44, _⟩ => ⟨S1x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x2048, .f32⟩
  | .local _ .vmem, ⟨12, _⟩ => ⟨S1x1024, .f32⟩
  | .local _ .vmem, ⟨13, _⟩ => ⟨S3x512, .f32⟩
  | .local _ .vmem, ⟨14, _⟩ => ⟨S1x512, .f32⟩
  | .local _ .vmem, ⟨15, _⟩ => ⟨S512x1024, .bf16⟩
  | .local _ .vmem, ⟨16, _⟩ => ⟨S512x2048, .bf16⟩
  | .local _ .vmem, ⟨17, _⟩ => ⟨S1024x1024, .bf16⟩
  | .local _ .vmem, ⟨18, _⟩ => ⟨S1x1024, .f32⟩
  | .local _ .vmem, ⟨19, _⟩ => ⟨S1024x256, .bf16⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | .local _ .vmem, ⟨23, _⟩ => ⟨S512x2x512, .bf16⟩
  | .local _ .vmem, ⟨24, _⟩ => ⟨S512x2x512, .bf16⟩
  | .local _ .vmem, ⟨25, _⟩ => ⟨S512x128, .f32⟩
  | .local _ .vmem, ⟨26, _⟩ => ⟨S512x128, .f32⟩
  | .local _ .vmem, ⟨27, _⟩ => ⟨S8x512, .f32⟩
  | .local _ .vmem, ⟨28, _⟩ => ⟨S8x512, .f32⟩
  | .local _ .vmem, ⟨29, _⟩ => ⟨S1x128, .f32⟩
  | .local _ .vmem, ⟨30, _⟩ => ⟨S8x512, .f32⟩
  | .local _ .vmem, ⟨31, _⟩ => ⟨S1x128, .f32⟩
  | .local _ .vmem, ⟨32, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_v20_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x2x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference3Ideal.lean ====
abbrev S16x2048x1024 : Shape := ⟨3, ![16, 2048, 1024]⟩
abbrev S16x2048x512 : Shape := ⟨3, ![16, 2048, 512]⟩
abbrev S1024 : Shape := ⟨1, ![1024]⟩
abbrev S1024x4096 : Shape := ⟨2, ![1024, 4096]⟩
abbrev S4096 : Shape := ⟨1, ![4096]⟩
abbrev S3x512 : Shape := ⟨2, ![3, 512]⟩
abbrev S512 : Shape := ⟨1, ![512]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S1x1x4096 : Shape := ⟨3, ![1, 1, 4096]⟩
abbrev S16x2050x512 : Shape := ⟨3, ![16, 2050, 512]⟩
abbrev S1x512 : Shape := ⟨2, ![1, 512]⟩
abbrev S1x1x512 : Shape := ⟨3, ![1, 1, 512]⟩
abbrev S32768x1024 : Shape := ⟨2, ![32768, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S1024, .f32⟩
  | .hbm, ⟨3, _⟩ => ⟨S1024x4096, .f32⟩
  | .hbm, ⟨4, _⟩ => ⟨S4096, .f32⟩
  | .hbm, ⟨5, _⟩ => ⟨S3x512, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x4096, .f32⟩
  | .hbm, ⟨33, _⟩ => ⟨S1x1x4096, .f32⟩
  | .hbm, ⟨34, _⟩ => ⟨S16x2048x4096, .f32⟩
  | .hbm, ⟨35, _⟩ => ⟨S16x2048x4096, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048x1024, .f32⟩
  | .hbm, ⟨56, _⟩ => ⟨S16x2048x1024, .f32⟩
  | .hbm, ⟨57, _⟩ => ⟨S16x2048x512, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x512, .f32⟩
  | .hbm, ⟨70, _⟩ => ⟨S_, .i32⟩
  | .hbm, ⟨71, _⟩ => ⟨S_, .f32⟩
  | .hbm, ⟨72, _⟩ => ⟨S16x2050x512, .f32⟩
  | .hbm, ⟨73, _⟩ => ⟨S1x512, .f32⟩
  | .hbm, ⟨74, _⟩ => ⟨S512, .f32⟩
  | .hbm, ⟨75, _⟩ => ⟨S16x2048x512, .f32⟩
  | .hbm, ⟨76, _⟩ => ⟨S1x1x512, .f32⟩
  | .hbm, ⟨77, _⟩ => ⟨S16x2048x512, .f32⟩
  | .hbm, ⟨78, _⟩ => ⟨S16x2048x512, .f32⟩
  | .hbm, ⟨79, _⟩ => ⟨S_, .f32⟩
  | .hbm, ⟨80, _⟩ => ⟨S16x2048x512, .f32⟩
  | .hbm, ⟨81, _⟩ => ⟨S16x2048x512, .f32⟩
  | .hbm, ⟨82, _⟩ => ⟨S1x512, .f32⟩
  | .hbm, ⟨83, _⟩ => ⟨S512, .f32⟩
  | .hbm, ⟨84, _⟩ => ⟨S16x2048x512, .f32⟩
  | .hbm, ⟨85, _⟩ => ⟨S1x1x512, .f32⟩
  | .hbm, ⟨86, _⟩ => ⟨S16x2048x512, .f32⟩
  | .hbm, ⟨87, _⟩ => ⟨S16x2048x512, .f32⟩
  | .hbm, ⟨88, _⟩ => ⟨S16x2048x512, .f32⟩
  | .hbm, ⟨89, _⟩ => ⟨S1x512, .f32⟩
  | .hbm, ⟨90, _⟩ => ⟨S512, .f32⟩
  | .hbm, ⟨91, _⟩ => ⟨S16x2048x512, .f32⟩
  | .hbm, ⟨92, _⟩ => ⟨S1x1x512, .f32⟩
  | .hbm, ⟨93, _⟩ => ⟨S16x2048x512, .f32⟩
  | .hbm, ⟨94, _⟩ => ⟨S16x2048x512, .f32⟩
  | .hbm, ⟨95, _⟩ => ⟨S16x2048x512, .f32⟩
  | .hbm, ⟨96, _⟩ => ⟨S1x1x512, .f32⟩
  | .hbm, ⟨97, _⟩ => ⟨S16x2048x512, .f32⟩
  | .hbm, ⟨98, _⟩ => ⟨S16x2048x512, .f32⟩
  | .hbm, ⟨99, _⟩ => ⟨S16x2048x512, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | .hbm, ⟨104, _⟩ => ⟨S16x2048x1024, .f32⟩
  | .hbm, ⟨105, _⟩ => ⟨S16x2048x1024, .f32⟩
  | .hbm, ⟨106, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.PairWhole
public import Idealize.ShloMosaic.Lib.Ring

@[expose] public section

set_option maxRecDepth 100000

/-! # The words of the kernel's counters: the offsets each one gives -/

namespace Cert.Proof.Moe

open Cert.KernelIdeal
open Idealize.ShloMosaic

/-- The 32-bit word of a natural number. -/
abbrev W (k : ℕ) : BitVec 32 := BitVec.ofNat 32 k

theorem W_toNat {k : ℕ} (h : k < 100) : (W k).toNat = k := by
  simp only [W, BitVec.toNat_ofNat]; omega

theorem W_inj {a b : ℕ} (ha : a < 100) (hb : b < 100) : W a = W b ↔ a = b :=
  ⟨fun h => by rw [← W_toNat ha, ← W_toNat hb, h], fun h => h ▸ rfl⟩

theorem off7_eq_all : ∀ k : Fin 97, k0_off7 (W k.val) = ![k.val % 3] := by decide +kernel
theorem off7_eq {k : ℕ} (h : k < 97) : k0_off7 (W k) = ![k % 3] := off7_eq_all ⟨k, h⟩

theorem off10_eq_all : ∀ k : Fin 97, k0_off10 (W k.val) = ![k.val % 3] := by decide +kernel
theorem off10_eq {k : ℕ} (h : k < 97) : k0_off10 (W k) = ![k % 3] := off10_eq_all ⟨k, h⟩

theorem off8_eq_all : ∀ k : Fin 97, k0_off8 (W k.val) = ![k.val % 3, 0, 0] := by decide +kernel
theorem off8_eq {k : ℕ} (h : k < 97) : k0_off8 (W k) = ![k % 3, 0, 0] := off8_eq_all ⟨k, h⟩

theorem off11_eq_all : ∀ k : Fin 97, k0_off11 (W k.val) = ![k.val % 3, 0, 0] := by decide +kernel
theorem off11_eq {k : ℕ} (h : k < 97) : k0_off11 (W k) = ![k % 3, 0, 0] := off11_eq_all ⟨k, h⟩

theorem off37_eq_all : ∀ k : Fin 97, k0_off37 (W k.val) = ![k.val % 3, 0, 0] := by decide +kernel
theorem off37_eq {k : ℕ} (h : k < 97) : k0_off37 (W k) = ![k % 3, 0, 0] := off37_eq_all ⟨k, h⟩

theorem off41_eq_all : ∀ k : Fin 97, k0_off41 (W k.val) = ![k.val % 3, 0, 0] := by decide +kernel
theorem off41_eq {k : ℕ} (h : k < 97) : k0_off41 (W k) = ![k % 3, 0, 0] := off41_eq_all ⟨k, h⟩

theorem off46_eq_all : ∀ k : Fin 97, k0_off46 (W k.val) = ![k.val % 3, 0, 0] := by decide +kernel
theorem off46_eq {k : ℕ} (h : k < 97) : k0_off46 (W k) = ![k % 3, 0, 0] := off46_eq_all ⟨k, h⟩

theorem off52_eq_all : ∀ k : Fin 97, k0_off52 (W k.val) = ![k.val % 3, 0, 0] := by decide +kernel
theorem off52_eq {k : ℕ} (h : k < 97) : k0_off52 (W k) = ![k % 3, 0, 0] := off52_eq_all ⟨k, h⟩

theorem off38_eq_all : ∀ k : Fin 97, k0_off38 (W k.val) = ![k.val % 2, 0, 0] := by decide +kernel
theorem off38_eq {k : ℕ} (h : k < 97) : k0_off38 (W k) = ![k % 2, 0, 0] := off38_eq_all ⟨k, h⟩

theorem off39_eq_all : ∀ k : Fin 97, k0_off39 (W k.val) = ![k.val % 2, 0, 0] := by decide +kernel
theorem off39_eq {k : ℕ} (h : k < 97) : k0_off39 (W k) = ![k % 2, 0, 0] := off39_eq_all ⟨k, h⟩

theorem off42_eq_all : ∀ k : Fin 97, k0_off42 (W k.val) = ![k.val % 2, 0, 0] := by decide +kernel
theorem off42_eq {k : ℕ} (h : k < 97) : k0_off42 (W k) = ![k % 2, 0, 0] := off42_eq_all ⟨k, h⟩

theorem off43_eq_all : ∀ k : Fin 97, k0_off43 (W k.val) = ![k.val % 2, 0, 0] := by decide +kernel
theorem off43_eq {k : ℕ} (h : k < 97) : k0_off43 (W k) = ![k % 2, 0, 0] := off43_eq_all ⟨k, h⟩

theorem off47_eq_all : ∀ k : Fin 97, k0_off47 (W k.val) = ![k.val % 2, 0, 0] := by decide +kernel
theorem off47_eq {k : ℕ} (h : k < 97) : k0_off47 (W k) = ![k % 2, 0, 0] := off47_eq_all ⟨k, h⟩

theorem off48_eq_all : ∀ k : Fin 97, k0_off48 (W k.val) = ![k.val % 2, 0, 0] := by decide +kernel
theorem off48_eq {k : ℕ} (h : k < 97) : k0_off48 (W k) = ![k % 2, 0, 0] := off48_eq_all ⟨k, h⟩

theorem off53_eq_all : ∀ k : Fin 97, k0_off53 (W k.val) = ![k.val % 2, 0, 0] := by decide +kernel
theorem off53_eq {k : ℕ} (h : k < 97) : k0_off53 (W k) = ![k % 2, 0, 0] := off53_eq_all ⟨k, h⟩

theorem off54_eq_all : ∀ k : Fin 97, k0_off54 (W k.val) = ![k.val % 2, 0, 0] := by decide +kernel
theorem off54_eq {k : ℕ} (h : k < 97) : k0_off54 (W k) = ![k % 2, 0, 0] := off54_eq_all ⟨k, h⟩

theorem off60_eq_all : ∀ k : Fin 97, k0_off60 (W k.val) = ![k.val % 2, 0, 0] := by decide +kernel
theorem off60_eq {k : ℕ} (h : k < 97) : k0_off60 (W k) = ![k % 2, 0, 0] := off60_eq_all ⟨k, h⟩

theorem off63_eq_all : ∀ k : Fin 97, k0_off63 (W k.val) = ![k.val % 2, 0, 0] := by decide +kernel
theorem off63_eq {k : ℕ} (h : k < 97) : k0_off63 (W k) = ![k % 2, 0, 0] := off63_eq_all ⟨k, h⟩

theorem off66_eq_all : ∀ k : Fin 97, k0_off66 (W k.val) = ![k.val % 2, 0, 0] := by decide +kernel
theorem off66_eq {k : ℕ} (h : k < 97) : k0_off66 (W k) = ![k % 2, 0, 0] := off66_eq_all ⟨k, h⟩

theorem off44_eq_all : ∀ k : Fin 97, k0_off44 (W k.val) = ![k.val % 2, 256, 0] := by decide +kernel
theorem off44_eq {k : ℕ} (h : k < 97) : k0_off44 (W k) = ![k % 2, 256, 0] := off44_eq_all ⟨k, h⟩

theorem off49_eq_all : ∀ k : Fin 97, k0_off49 (W k.val) = ![k.val % 2, 256, 0] := by decide +kernel
theorem off49_eq {k : ℕ} (h : k < 97) : k0_off49 (W k) = ![k % 2, 256, 0] := off49_eq_all ⟨k, h⟩

theorem off55_eq_all : ∀ k : Fin 97, k0_off55 (W k.val) = ![k.val % 2, 256, 0] := by decide +kernel
theorem off55_eq {k : ℕ} (h : k < 97) : k0_off55 (W k) = ![k % 2, 256, 0] := off55_eq_all ⟨k, h⟩

theorem off50_eq_all : ∀ k : Fin 97, k0_off50 (W k.val) = ![k.val % 2, 512, 0] := by decide +kernel
theorem off50_eq {k : ℕ} (h : k < 97) : k0_off50 (W k) = ![k % 2, 512, 0] := off50_eq_all ⟨k, h⟩

theorem off56_eq_all : ∀ k : Fin 97, k0_off56 (W k.val) = ![k.val % 2, 512, 0] := by decide +kernel
theorem off56_eq {k : ℕ} (h : k < 97) : k0_off56 (W k) = ![k % 2, 512, 0] := off56_eq_all ⟨k, h⟩

theorem off57_eq_all : ∀ k : Fin 97, k0_off57 (W k.val) = ![k.val % 2, 768, 0] := by decide +kernel
theorem off57_eq {k : ℕ} (h : k < 97) : k0_off57 (W k) = ![k % 2, 768, 0] := off57_eq_all ⟨k, h⟩

theorem off58_eq_all : ∀ k : Fin 97, k0_off58 (W k.val) = ![k.val % 2] := by decide +kernel
theorem off58_eq {k : ℕ} (h : k < 97) : k0_off58 (W k) = ![k % 2] := off58_eq_all ⟨k, h⟩

theorem off61_eq_all : ∀ k : Fin 97, k0_off61 (W k.val) = ![k.val % 2] := by decide +kernel
theorem off61_eq {k : ℕ} (h : k < 97) : k0_off61 (W k) = ![k % 2] := off61_eq_all ⟨k, h⟩

theorem off64_eq_all : ∀ k : Fin 97, k0_off64 (W k.val) = ![k.val % 2] := by decide +kernel
theorem off64_eq {k : ℕ} (h : k < 97) : k0_off64 (W k) = ![k % 2] := off64_eq_all ⟨k, h⟩

theorem off13_eq_all : ∀ k : Fin 96, k0_off13 (W k.val) = ![k.val] := by decide +kernel
theorem off13_eq {k : ℕ} (h : k < 96) : k0_off13 (W k) = ![k] := off13_eq_all ⟨k, h⟩

theorem off26_eq_all : ∀ k : Fin 96, k0_off26 (W k.val) = ![k.val] := by decide +kernel
theorem off26_eq {k : ℕ} (h : k < 96) : k0_off26 (W k) = ![k] := off26_eq_all ⟨k, h⟩

theorem off27_eq_all : ∀ k : Fin 96, k0_off27 (W k.val) = ![k.val] := by decide +kernel
theorem off27_eq {k : ℕ} (h : k < 96) : k0_off27 (W k) = ![k] := off27_eq_all ⟨k, h⟩

theorem off36_eq_all : ∀ k : Fin 96, k0_off36 (W k.val) = ![k.val] := by decide +kernel
theorem off36_eq {k : ℕ} (h : k < 96) : k0_off36 (W k) = ![k] := off36_eq_all ⟨k, h⟩

theorem off40_eq_all : ∀ k : Fin 96, k0_off40 (W k.val) = ![k.val] := by decide +kernel
theorem off40_eq {k : ℕ} (h : k < 96) : k0_off40 (W k) = ![k] := off40_eq_all ⟨k, h⟩

theorem off45_eq_all : ∀ k : Fin 96, k0_off45 (W k.val) = ![k.val] := by decide +kernel
theorem off45_eq {k : ℕ} (h : k < 96) : k0_off45 (W k) = ![k] := off45_eq_all ⟨k, h⟩

theorem off51_eq_all : ∀ k : Fin 96, k0_off51 (W k.val) = ![k.val] := by decide +kernel
theorem off51_eq {k : ℕ} (h : k < 96) : k0_off51 (W k) = ![k] := off51_eq_all ⟨k, h⟩

theorem off16_eq_all : ∀ k : Fin 96, k0_off16 (W k.val) = ![k.val - 1] := by decide +kernel
theorem off16_eq {k : ℕ} (h : k < 96) : k0_off16 (W k) = ![k - 1] := off16_eq_all ⟨k, h⟩

theorem off14_eq_all : ∀ k : Fin 32, k0_off14 (W k.val) = ![k.val, 0, 0] := by decide +kernel
theorem off14_eq {k : ℕ} (h : k < 32) : k0_off14 (W k) = ![k, 0, 0] := off14_eq_all ⟨k, h⟩

theorem off15_eq_all : ∀ k : Fin 32, k0_off15 (W k.val) = ![k.val, 0, 0] := by decide +kernel
theorem off15_eq {k : ℕ} (h : k < 32) : k0_off15 (W k) = ![k, 0, 0] := off15_eq_all ⟨k, h⟩

theorem off19_eq_all : ∀ k : Fin 32, k0_off19 (W k.val) = ![k.val, 0, 0] := by decide +kernel
theorem off19_eq {k : ℕ} (h : k < 32) : k0_off19 (W k) = ![k, 0, 0] := off19_eq_all ⟨k, h⟩

theorem off23_eq_all : ∀ k : Fin 32, k0_off23 (W k.val) = ![k.val, 0, 0] := by decide +kernel
theorem off23_eq {k : ℕ} (h : k < 32) : k0_off23 (W k) = ![k, 0, 0] := off23_eq_all ⟨k, h⟩

theorem off30_eq_all : ∀ k : Fin 32, k0_off30 (W k.val) = ![k.val, 0, 0] := by decide +kernel
theorem off30_eq {k : ℕ} (h : k < 32) : k0_off30 (W k) = ![k, 0, 0] := off30_eq_all ⟨k, h⟩

theorem off35_eq_all : ∀ k : Fin 32, k0_off35 (W k.val) = ![k.val, 0, 0] := by decide +kernel
theorem off35_eq {k : ℕ} (h : k < 32) : k0_off35 (W k) = ![k, 0, 0] := off35_eq_all ⟨k, h⟩

theorem off17_eq_all : ∀ k : Fin 96, k0_off17 (W k.val) = ![k.val % 2, 0] := by decide +kernel
theorem off17_eq {k : ℕ} (h : k < 96) : k0_off17 (W k) = ![k % 2, 0] := off17_eq_all ⟨k, h⟩

theorem off20_eq_all : ∀ k : Fin 96, k0_off20 (W k.val) = ![k.val % 2, 1] := by decide +kernel
theorem off20_eq {k : ℕ} (h : k < 96) : k0_off20 (W k) = ![k % 2, 1] := off20_eq_all ⟨k, h⟩

theorem off21_eq_all : ∀ k : Fin 96, k0_off21 (W k.val) = ![k.val % 2, 2] := by decide +kernel
theorem off21_eq {k : ℕ} (h : k < 96) : k0_off21 (W k) = ![k % 2, 2] := off21_eq_all ⟨k, h⟩

theorem off18_eq_all : ∀ k : Fin 96, k0_off18 (W k.val) = ![k.val % 2, 0, 0] := by decide +kernel
theorem off18_eq {k : ℕ} (h : k < 96) : k0_off18 (W k) = ![k % 2, 0, 0] := off18_eq_all ⟨k, h⟩

theorem off22_eq_all : ∀ k : Fin 96, k0_off22 (W k.val) = ![k.val % 2, 0, 0] := by decide +kernel
theorem off22_eq {k : ℕ} (h : k < 96) : k0_off22 (W k) = ![k % 2, 0, 0] := off22_eq_all ⟨k, h⟩

theorem off24_eq_all : ∀ k : Fin 96, k0_off24 (W k.val) = ![k.val % 2, 0, 0] := by decide +kernel
theorem off24_eq {k : ℕ} (h : k < 96) : k0_off24 (W k) = ![k % 2, 0, 0] := off24_eq_all ⟨k, h⟩

theorem off25_eq_all : ∀ k : Fin 96, k0_off25 (W k.val) = ![k.val % 2, 0, 0] := by decide +kernel
theorem off25_eq {k : ℕ} (h : k < 96) : k0_off25 (W k) = ![k % 2, 0, 0] := off25_eq_all ⟨k, h⟩

theorem off28_eq_all : ∀ k : Fin 96, k0_off28 (W k.val) = ![(k.val + 1) % 2, 0] := by decide +kernel
theorem off28_eq {k : ℕ} (h : k < 96) : k0_off28 (W k) = ![(k + 1) % 2, 0] := off28_eq_all ⟨k, h⟩

theorem off31_eq_all : ∀ k : Fin 96, k0_off31 (W k.val) = ![(k.val + 1) % 2, 1] := by decide +kernel
theorem off31_eq {k : ℕ} (h : k < 96) : k0_off31 (W k) = ![(k + 1) % 2, 1] := off31_eq_all ⟨k, h⟩

theorem off33_eq_all : ∀ k : Fin 96, k0_off33 (W k.val) = ![(k.val + 1) % 2, 2] := by decide +kernel
theorem off33_eq {k : ℕ} (h : k < 96) : k0_off33 (W k) = ![(k + 1) % 2, 2] := off33_eq_all ⟨k, h⟩

theorem off29_eq_all : ∀ k : Fin 96, k0_off29 (W k.val) = ![(k.val + 1) % 2, 0, 0] := by decide +kernel
theorem off29_eq {k : ℕ} (h : k < 96) : k0_off29 (W k) = ![(k + 1) % 2, 0, 0] := off29_eq_all ⟨k, h⟩

theorem off32_eq_all : ∀ k : Fin 96, k0_off32 (W k.val) = ![(k.val + 1) % 2, 0, 0] := by decide +kernel
theorem off32_eq {k : ℕ} (h : k < 96) : k0_off32 (W k) = ![(k + 1) % 2, 0, 0] := off32_eq_all ⟨k, h⟩

theorem off34_eq_all : ∀ k : Fin 96, k0_off34 (W k.val) = ![(k.val + 1) % 2, 0, 0] := by decide +kernel
theorem off34_eq {k : ℕ} (h : k < 96) : k0_off34 (W k) = ![(k + 1) % 2, 0, 0] := off34_eq_all ⟨k, h⟩

theorem chk1_all : ∀ n : Fin 96, k0_chk1 (W (n.val + 1)) := by decide +kernel
theorem off3_all : ∀ n : Fin 96, k0_off3 (W (n.val + 1)) = ![0, 0] := by decide +kernel
theorem cond1_all : ∀ n : Fin 96, k0_cond1 (W (n.val + 1)) (W (n.val + 1)) = 1#1 ↔ 2 ≤ n.val + 1 := by decide +kernel
theorem chk2_all : ∀ n : Fin 96, k0_chk2 (W (n.val + 1)) (W (n.val + 1)) (W (n.val + 1)) := by decide +kernel
theorem off6_all : ∀ n : Fin 96, 2 ≤ n.val + 1 → k0_off6 (W (n.val + 1)) = ![1024, 0] := by decide +kernel
theorem chk20_all : ∀ n : Fin 96, k0_chk20 (W n.val) := by decide +kernel
theorem chk21_all : ∀ n : Fin 96, k0_chk21 (W 0) (W (n.val + 1)) := by decide +kernel
theorem off65_all : ∀ n : Fin 96, k0_off65 (W 0) (W (n.val + 1)) = ![1024 * n.val, 0] := by decide +kernel
theorem chk7_all : ∀ k : Fin 96, k0_chk7 (W k.val) := by decide +kernel
theorem cond5_all : ∀ k : Fin 96, k0_cond5 (W k.val) = 1#1 ↔ k.val = 0 := by decide +kernel

theorem pred_lt {n : ℕ} (h1 : 1 ≤ n) (h2 : n ≤ 96) : n - 1 < 96 := by omega

theorem chk1_n {n : ℕ} (h1 : 1 ≤ n) (h2 : n ≤ 96) : k0_chk1 (W n) := by
  obtain ⟨m, rfl⟩ : ∃ m, n = m + 1 := ⟨n - 1, by omega⟩
  exact chk1_all ⟨m, by omega⟩
theorem off3_n {n : ℕ} (h1 : 1 ≤ n) (h2 : n ≤ 96) : k0_off3 (W n) = ![0, 0] := by
  obtain ⟨m, rfl⟩ : ∃ m, n = m + 1 := ⟨n - 1, by omega⟩
  exact off3_all ⟨m, by omega⟩
theorem cond1_n {n : ℕ} (h1 : 1 ≤ n) (h2 : n ≤ 96) : k0_cond1 (W n) (W n) = 1#1 ↔ 2 ≤ n := by
  obtain ⟨m, rfl⟩ : ∃ m, n = m + 1 := ⟨n - 1, by omega⟩
  exact cond1_all ⟨m, by omega⟩
theorem chk2_n {n : ℕ} (h1 : 1 ≤ n) (h2 : n ≤ 96) : k0_chk2 (W n) (W n) (W n) := by
  obtain ⟨m, rfl⟩ : ∃ m, n = m + 1 := ⟨n - 1, by omega⟩
  exact chk2_all ⟨m, by omega⟩
theorem off6_n {n : ℕ} (h1 : 1 ≤ n) (h2 : n ≤ 96) : 2 ≤ n → k0_off6 (W n) = ![1024, 0] := by
  obtain ⟨m, rfl⟩ : ∃ m, n = m + 1 := ⟨n - 1, by omega⟩
  exact off6_all ⟨m, by omega⟩
theorem chk20_n {n : ℕ} (h1 : 1 ≤ n) (h2 : n ≤ 96) : k0_chk20 (W (n - 1)) := by
  obtain ⟨m, rfl⟩ : ∃ m, n = m + 1 := ⟨n - 1, by omega⟩
  exact chk20_all ⟨m, by omega⟩
theorem chk21_n {n : ℕ} (h1 : 1 ≤ n) (h2 : n ≤ 96) : k0_chk21 (W 0) (W n) := by
  obtain ⟨m, rfl⟩ : ∃ m, n = m + 1 := ⟨n - 1, by omega⟩
  exact chk21_all ⟨m, by omega⟩
theorem off65_n {n : ℕ} (h1 : 1 ≤ n) (h2 : n ≤ 96) : k0_off65 (W 0) (W n) = ![1024 * (n - 1), 0] := by
  obtain ⟨m, rfl⟩ : ∃ m, n = m + 1 := ⟨n - 1, by omega⟩
  exact off65_all ⟨m, by omega⟩

/-- A condition widened to a word and compared with zero is the condition. -/
theorem extui_ne_zero : ∀ x : BitVec 1, Scalar.cmpi .ne (Scalar.extui x : BitVec 32) 0#32 = x := by decide

theorem ofBool_iff : ∀ b : Bool, BitVec.ofBool b = 1#1 ↔ b = true := by decide

theorem cmpi_eq_iff (a b : BitVec 32) : Scalar.cmpi .eq a b = 1#1 ↔ a = b := by
  simp [Scalar.cmpi, IntOp.cmpi, ofBool_iff]

theorem cmpi_ne_iff (a b : BitVec 32) : Scalar.cmpi .ne a b = 1#1 ↔ a ≠ b := by
  simp [Scalar.cmpi, IntOp.cmpi, ofBool_iff]

theorem ori_iff : ∀ x y : BitVec 1, Scalar.ori x y = 1#1 ↔ x = 1#1 ∨ y = 1#1 := by decide

theorem cond6_iff {k e e' : ℕ} (hk : k < 96) (he : e < 32) (he' : e' < 32) :
    k0_cond6 (W k) (W e) (W e') = 1#1 ↔ k = 0 ∨ e ≠ e' := by
  unfold k0_cond6
  dsimp only
  rw [extui_ne_zero, ori_iff, cmpi_eq_iff, cmpi_ne_iff, Ne, W_inj (b := 0) (by omega) (by omega),
    W_inj (b := e') (by omega) (by omega)]

theorem cond7_iff (v : BitVec 32) : k0_cond7 v = 1#1 ↔ 0 ≤ v.toInt := by
  unfold k0_cond7
  dsimp only
  rw [extui_ne_zero]
  simp [Scalar.cmpi, IntOp.cmpi, ofBool_iff, BitVec.sle]

theorem cond8_iff (v : BitVec 32) : k0_cond8 v = 1#1 ↔ v = 1#32 := by
  unfold k0_cond8
  dsimp only
  rw [extui_ne_zero, cmpi_eq_iff]
theorem cond9_iff (v : BitVec 32) : k0_cond9 v = 1#1 ↔ v = 2#32 := by
  unfold k0_cond9
  dsimp only
  rw [extui_ne_zero, cmpi_eq_iff]
theorem cond10_iff (v : BitVec 32) : k0_cond10 v = 1#1 ↔ v = 3#32 := by
  unfold k0_cond10
  dsimp only
  rw [extui_ne_zero, cmpi_eq_iff]
theorem cond11_iff (v : BitVec 32) : k0_cond11 v = 1#1 ↔ v = 4#32 := by
  unfold k0_cond11
  dsimp only
  rw [extui_ne_zero, cmpi_eq_iff]

end Cert.Proof.Moe
-- ==== Proof.WordsIn.lean ====
module

public import proofs.«01_k».proof.Proof.Words

@[expose] public section

set_option maxRecDepth 100000

namespace Cert.Proof.Moe

open Cert.KernelIdeal
open Idealize.ShloMosaic

theorem cond2_iff_all : ∀ (i : Fin k0_t1_loop.trips) (n : Fin 96), k0_cond2 i (W i.val) (W (n.val + 1)) (W (n.val + 1)) = 1#1 ↔ i.val + 2 < (n.val + 1) := by decide +kernel
theorem cond2_iff (i : Fin k0_t1_loop.trips) {n : ℕ} (h1 : 1 ≤ n) (h2 : n ≤ 96) : k0_cond2 i (W i.val) (W n) (W n) = 1#1 ↔ i.val + 2 < n := by
  obtain ⟨m, rfl⟩ : ∃ m, n = m + 1 := ⟨n - 1, by omega⟩
  exact cond2_iff_all i ⟨m, by omega⟩

theorem chk3_ok_all : ∀ (i : Fin k0_t1_loop.trips) (n : Fin 96), k0_chk3 i (W (min (i.val + 2) (n.val + 1))) (W i.val) (W (n.val + 1)) (W (n.val + 1)) := by decide +kernel
theorem chk3_ok (i : Fin k0_t1_loop.trips) {n : ℕ} (h1 : 1 ≤ n) (h2 : n ≤ 96) : k0_chk3 i (W (min (i.val + 2) n)) (W i.val) (W n) (W n) := by
  obtain ⟨m, rfl⟩ : ∃ m, n = m + 1 := ⟨n - 1, by omega⟩
  exact chk3_ok_all i ⟨m, by omega⟩

theorem chk4_ok_all : ∀ (i : Fin k0_t1_loop.trips) (n : Fin 96), k0_chk4 i (W i.val) (W (n.val + 1)) (W (n.val + 1)) (W (n.val + 1)) := by decide +kernel
theorem chk4_ok (i : Fin k0_t1_loop.trips) {n : ℕ} (h1 : 1 ≤ n) (h2 : n ≤ 96) : k0_chk4 i (W i.val) (W n) (W n) (W n) := by
  obtain ⟨m, rfl⟩ : ∃ m, n = m + 1 := ⟨n - 1, by omega⟩
  exact chk4_ok_all i ⟨m, by omega⟩

theorem off9_eq_all : ∀ (i : Fin k0_t1_loop.trips) (n : Fin 96), i.val + 2 < (n.val + 1) → k0_off9 (W i.val) (W (n.val + 1)) = ![1024 * (i.val + 2), 0] := by decide +kernel
theorem off9_eq (i : Fin k0_t1_loop.trips) {n : ℕ} (h1 : 1 ≤ n) (h2 : n ≤ 96) : i.val + 2 < n → k0_off9 (W i.val) (W n) = ![1024 * (i.val + 2), 0] := by
  obtain ⟨m, rfl⟩ : ∃ m, n = m + 1 := ⟨n - 1, by omega⟩
  exact off9_eq_all i ⟨m, by omega⟩

theorem cond3_iff_all : ∀ (i : Fin k0_t1_loop.trips) (n : Fin 96), k0_cond3 i (W i.val) (W (n.val + 1)) (W (n.val + 1)) = 1#1 ↔ i.val < (n.val + 1) := by decide +kernel
theorem cond3_iff (i : Fin k0_t1_loop.trips) {n : ℕ} (h1 : 1 ≤ n) (h2 : n ≤ 96) : k0_cond3 i (W i.val) (W n) (W n) = 1#1 ↔ i.val < n := by
  obtain ⟨m, rfl⟩ : ∃ m, n = m + 1 := ⟨n - 1, by omega⟩
  exact cond3_iff_all i ⟨m, by omega⟩

theorem chk5_ok_all : ∀ (i : Fin k0_t1_loop.trips) (n : Fin 96), k0_chk5 i (W (min i.val ((n.val + 1) - 1))) (W i.val) (W (n.val + 1)) (W (n.val + 1)) := by decide +kernel
theorem chk5_ok (i : Fin k0_t1_loop.trips) {n : ℕ} (h1 : 1 ≤ n) (h2 : n ≤ 96) : k0_chk5 i (W (min i.val (n - 1))) (W i.val) (W n) (W n) := by
  obtain ⟨m, rfl⟩ : ∃ m, n = m + 1 := ⟨n - 1, by omega⟩
  exact chk5_ok_all i ⟨m, by omega⟩

end Cert.Proof.Moe
-- ==== Proof.WordsIn2.lean ====
module

public import proofs.«01_k».proof.Proof.Words

@[expose] public section

set_option maxRecDepth 100000

namespace Cert.Proof.Moe

open Cert.KernelIdeal
open Idealize.ShloMosaic

theorem chk6_ok_all : ∀ (i : Fin k0_t1_loop.trips) (n : Fin 96), k0_chk6 i (W i.val) (W (n.val + 1)) (W (n.val + 1)) (W (n.val + 1)) := by decide +kernel
theorem chk6_ok (i : Fin k0_t1_loop.trips) {n : ℕ} (h1 : 1 ≤ n) (h2 : n ≤ 96) : k0_chk6 i (W i.val) (W n) (W n) (W n) := by
  obtain ⟨m, rfl⟩ : ∃ m, n = m + 1 := ⟨n - 1, by omega⟩
  exact chk6_ok_all i ⟨m, by omega⟩

theorem off12_eq_all : ∀ (i : Fin k0_t1_loop.trips) (n : Fin 96), i.val < (n.val + 1) → k0_off12 (W i.val) (W (n.val + 1)) = ![1024 * i.val, 0] := by decide +kernel
theorem off12_eq (i : Fin k0_t1_loop.trips) {n : ℕ} (h1 : 1 ≤ n) (h2 : n ≤ 96) : i.val < n → k0_off12 (W i.val) (W n) = ![1024 * i.val, 0] := by
  obtain ⟨m, rfl⟩ : ∃ m, n = m + 1 := ⟨n - 1, by omega⟩
  exact off12_eq_all i ⟨m, by omega⟩

end Cert.Proof.Moe
-- ==== Proof.WordsOut.lean ====
module

public import proofs.«01_k».proof.Proof.Words

@[expose] public section

set_option maxRecDepth 100000

namespace Cert.Proof.Moe

open Cert.KernelIdeal
open Idealize.ShloMosaic

theorem cond13_iff_all : ∀ (i : Fin k0_t1_loop.trips) (n : Fin 96), k0_cond13 i (W i.val) (W (n.val + 1)) (W (n.val + 1)) = 1#1 ↔ i.val + 1 < (n.val + 1) ∨ i.val = 95 := by decide +kernel
theorem cond13_iff (i : Fin k0_t1_loop.trips) {n : ℕ} (h1 : 1 ≤ n) (h2 : n ≤ 96) : k0_cond13 i (W i.val) (W n) (W n) = 1#1 ↔ i.val + 1 < n ∨ i.val = 95 := by
  obtain ⟨m, rfl⟩ : ∃ m, n = m + 1 := ⟨n - 1, by omega⟩
  exact cond13_iff_all i ⟨m, by omega⟩

theorem chk16_ok_all : ∀ (i : Fin k0_t1_loop.trips) (n : Fin 96), k0_chk16 i (W (min i.val ((n.val + 1) - 1))) (W i.val) (W (n.val + 1)) (W (n.val + 1)) := by decide +kernel
theorem chk16_ok (i : Fin k0_t1_loop.trips) {n : ℕ} (h1 : 1 ≤ n) (h2 : n ≤ 96) : k0_chk16 i (W (min i.val (n - 1))) (W i.val) (W n) (W n) := by
  obtain ⟨m, rfl⟩ : ∃ m, n = m + 1 := ⟨n - 1, by omega⟩
  exact chk16_ok_all i ⟨m, by omega⟩

theorem chk17_ok_all : ∀ (i : Fin k0_t1_loop.trips) (n : Fin 96), k0_chk17 i (W i.val) (W (n.val + 1)) (W (n.val + 1)) (W (n.val + 1)) := by decide +kernel
theorem chk17_ok (i : Fin k0_t1_loop.trips) {n : ℕ} (h1 : 1 ≤ n) (h2 : n ≤ 96) : k0_chk17 i (W i.val) (W n) (W n) (W n) := by
  obtain ⟨m, rfl⟩ : ∃ m, n = m + 1 := ⟨n - 1, by omega⟩
  exact chk17_ok_all i ⟨m, by omega⟩

theorem off59_eq_all : ∀ (i : Fin k0_t1_loop.trips) (n : Fin 96), k0_off59 (W i.val) (W (n.val + 1)) = ![1024 * min i.val ((n.val + 1) - 1), 0] := by decide +kernel
theorem off59_eq (i : Fin k0_t1_loop.trips) {n : ℕ} (h1 : 1 ≤ n) (h2 : n ≤ 96) : k0_off59 (W i.val) (W n) = ![1024 * min i.val (n - 1), 0] := by
  obtain ⟨m, rfl⟩ : ∃ m, n = m + 1 := ⟨n - 1, by omega⟩
  exact off59_eq_all i ⟨m, by omega⟩

end Cert.Proof.Moe
-- ==== Proof.WordsOut2.lean ====
module

public import proofs.«01_k».proof.Proof.Words

@[expose] public section

set_option maxRecDepth 100000

namespace Cert.Proof.Moe

open Cert.KernelIdeal
open Idealize.ShloMosaic

theorem cond15_iff_all : ∀ (i : Fin k0_t1_loop.trips) (n : Fin 96), k0_cond15 i (W i.val) (W (n.val + 1)) (W (n.val + 1)) = 1#1 ↔ 1 ≤ i.val ∧ i.val < (n.val + 1) := by decide +kernel
theorem cond15_iff (i : Fin k0_t1_loop.trips) {n : ℕ} (h1 : 1 ≤ n) (h2 : n ≤ 96) : k0_cond15 i (W i.val) (W n) (W n) = 1#1 ↔ 1 ≤ i.val ∧ i.val < n := by
  obtain ⟨m, rfl⟩ : ∃ m, n = m + 1 := ⟨n - 1, by omega⟩
  exact cond15_iff_all i ⟨m, by omega⟩

theorem chk18_ok_all : ∀ (i : Fin k0_t1_loop.trips) (n : Fin 96), k0_chk18 i (W (min i.val (n.val + 1) - 1)) (W i.val) (W (n.val + 1)) (W (n.val + 1)) := by decide +kernel
theorem chk18_ok (i : Fin k0_t1_loop.trips) {n : ℕ} (h1 : 1 ≤ n) (h2 : n ≤ 96) : k0_chk18 i (W (min i.val n - 1)) (W i.val) (W n) (W n) := by
  obtain ⟨m, rfl⟩ : ∃ m, n = m + 1 := ⟨n - 1, by omega⟩
  exact chk18_ok_all i ⟨m, by omega⟩

theorem chk19_ok_all : ∀ (i : Fin k0_t1_loop.trips) (n : Fin 96), k0_chk19 i (W i.val) (W (n.val + 1)) (W (n.val + 1)) (W (n.val + 1)) := by decide +kernel
theorem chk19_ok (i : Fin k0_t1_loop.trips) {n : ℕ} (h1 : 1 ≤ n) (h2 : n ≤ 96) : k0_chk19 i (W i.val) (W n) (W n) (W n) := by
  obtain ⟨m, rfl⟩ : ∃ m, n = m + 1 := ⟨n - 1, by omega⟩
  exact chk19_ok_all i ⟨m, by omega⟩

theorem off62_eq_all : ∀ (i : Fin k0_t1_loop.trips) (n : Fin 96), 1 ≤ i.val → i.val < (n.val + 1) → k0_off62 (W i.val) (W (n.val + 1)) = ![1024 * (i.val - 1), 0] := by decide +kernel
theorem off62_eq (i : Fin k0_t1_loop.trips) {n : ℕ} (h1 : 1 ≤ n) (h2 : n ≤ 96) : 1 ≤ i.val → i.val < n → k0_off62 (W i.val) (W n) = ![1024 * (i.val - 1), 0] := by
  obtain ⟨m, rfl⟩ : ∃ m, n = m + 1 := ⟨n - 1, by omega⟩
  exact off62_eq_all i ⟨m, by omega⟩

end Cert.Proof.Moe
-- ==== Proof.Names.lean ====
module

public import proofs.«01_k».proof.Defs
public import proofs.«01_k».proof.Proof.WordsIn
public import proofs.«01_k».proof.Proof.WordsIn2
public import proofs.«01_k».proof.Proof.WordsOut
public import proofs.«01_k».proof.Proof.WordsOut2
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

/-! # Canonical names of the kernel's windows and cells

The row blocks of the tokens and of the result, the slots of the two rings and of the three weight buffers, the
experts' matrices and the DMA cells, each by its number, with the equations that bring the kernel's own slices, at
offsets computed from its counters, to these names. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI

/-! ## The buffers -/

abbrev xsM : Memref sig .tc .hbm S98304x1024 .bf16 := Memref.whole main_arg5
abbrev egM : Memref sig .tc .hbm S32x1024x256 .f32 := Memref.whole main_arg6
abbrev euM : Memref sig .tc .hbm S32x1024x256 .f32 := Memref.whole main_arg7
abbrev edM : Memref sig .tc .hbm S32x256x1024 .f32 := Memref.whole main_arg8
abbrev resM : Memref sig .tc .hbm S98304x1024 .bf16 := Memref.whole main_v0
abbrev gScr : Memref sig .tc .vmem S1024x256 .bf16 := Memref.whole cc0_scratch0
abbrev uScr : Memref sig .tc .vmem S1024x256 .bf16 := Memref.whole cc0_scratch1
abbrev dScr : Memref sig .tc .vmem S256x1024 .bf16 := Memref.whole cc0_scratch2
abbrev gBuf : Memref sig .tc .vmem S2x1024x256 .f32 := Memref.whole cc0_scratch3
abbrev uBuf : Memref sig .tc .vmem S2x1024x256 .f32 := Memref.whole cc0_scratch4
abbrev dBuf : Memref sig .tc .vmem S2x256x1024 .f32 := Memref.whole cc0_scratch5
abbrev stepM : Memref sig .tc .smem S1 .i32 := Memref.whole cc0_scratch7
abbrev inM : Memref sig .tc .vmem S3x1024x1024 .bf16 := Memref.whole cc0_scoped0
abbrev outM : Memref sig .tc .vmem S2x1024x1024 .bf16 := Memref.whole cc0_scoped2

/-! ## Windows and cells -/

abbrev xblkOff (b : Fin 96) : Fin 2 → Nat := ![1024 * b.val, 0]
theorem xblkOff_inb (b : Fin 96) : ∀ a, xblkOff b a + S1024x1024.size a ≤ S98304x1024.size a := by
  have := b.isLt; intro a; fin_cases a
  · show 1024 * b.val + 1024 ≤ 98304; omega
  · show 0 + 1024 ≤ 1024; omega
/-- Block `b` of the tokens: 1024 rows. -/
def xblk (b : Fin 96) : Memref sig .tc .hbm S1024x1024 .bf16 :=
  xsM.slice (Rect.unit (s := S98304x1024) (xblkOff b) S1024x1024.size (xblkOff_inb b)) (fun _ => rfl)
theorem xblk_congr {off : Fin 2 → Nat} {b : Fin 96} (e : off = xblkOff b) (hh hs) :
    xsM.slice (Rect.unit (s := S98304x1024) off S1024x1024.size hh) hs = xblk b :=
  Memref.slice_unit_congr _ e _ _ _ (fun _ => rfl)
instance (b : Fin 96) : ClosedOff (xblkOff b) := ⟨xblkOff b, rfl⟩

abbrev oblkOff (b : Fin 96) : Fin 2 → Nat := ![1024 * b.val, 0]
theorem oblkOff_inb (b : Fin 96) : ∀ a, oblkOff b a + S1024x1024.size a ≤ S98304x1024.size a := by
  have := b.isLt; intro a; fin_cases a
  · show 1024 * b.val + 1024 ≤ 98304; omega
  · show 0 + 1024 ≤ 1024; omega
/-- Block `b` of the result: 1024 rows. -/
def oblk (b : Fin 96) : Memref sig .tc .hbm S1024x1024 .bf16 :=
  resM.slice (Rect.unit (s := S98304x1024) (oblkOff b) S1024x1024.size (oblkOff_inb b)) (fun _ => rfl)
theorem oblk_congr {off : Fin 2 → Nat} {b : Fin 96} (e : off = oblkOff b) (hh hs) :
    resM.slice (Rect.unit (s := S98304x1024) off S1024x1024.size hh) hs = oblk b :=
  Memref.slice_unit_congr _ e _ _ _ (fun _ => rfl)
instance (b : Fin 96) : ClosedOff (oblkOff b) := ⟨oblkOff b, rfl⟩

abbrev islotOff (b : Fin 3) : Fin 3 → Nat := ![b.val, 0, 0]
theorem islotOff_inb (b : Fin 3) : ∀ a, islotOff b a + S1x1024x1024.size a ≤ S3x1024x1024.size a := by
  have := b.isLt; intro a; fin_cases a
  · show b.val + 1 ≤ 3; omega
  · show 0 + 1024 ≤ 1024; omega
  · show 0 + 1024 ≤ 1024; omega
/-- Slot `b` of the ring of token blocks. -/
def islot (b : Fin 3) : Memref sig .tc .vmem S1024x1024 .bf16 :=
  (inM.slice (Rect.unit (s := S3x1024x1024) (islotOff b) S1x1024x1024.size (islotOff_inb b)) (fun _ => rfl)).squeeze S1024x1024 squeezes_S1x1024x1024_S1024x1024
theorem islot_congr {off : Fin 3 → Nat} {b : Fin 3} (e : off = islotOff b) (hh hs) :
    (inM.slice (Rect.unit (s := S3x1024x1024) off S1x1024x1024.size hh) hs).squeeze S1024x1024 squeezes_S1x1024x1024_S1024x1024 = islot b :=
  congrArg (fun M : Memref sig .tc .vmem S1x1024x1024 .bf16 => M.squeeze S1024x1024 squeezes_S1x1024x1024_S1024x1024) (Memref.slice_unit_congr _ e _ _ _ _)
instance (b : Fin 3) : ClosedOff (islotOff b) := ⟨islotOff b, rfl⟩

abbrev oslotOff (b : Fin 2) : Fin 3 → Nat := ![b.val, 0, 0]
theorem oslotOff_inb (b : Fin 2) : ∀ a, oslotOff b a + S1x1024x1024.size a ≤ S2x1024x1024.size a := by
  have := b.isLt; intro a; fin_cases a
  · show b.val + 1 ≤ 2; omega
  · show 0 + 1024 ≤ 1024; omega
  · show 0 + 1024 ≤ 1024; omega
/-- Slot `b` of the ring of result blocks. -/
def oslot (b : Fin 2) : Memref sig .tc .vmem S1024x1024 .bf16 :=
  (outM.slice (Rect.unit (s := S2x1024x1024) (oslotOff b) S1x1024x1024.size (oslotOff_inb b)) (fun _ => rfl)).squeeze S1024x1024 squeezes_S1x1024x1024_S1024x1024
theorem oslot_congr {off : Fin 3 → Nat} {b : Fin 2} (e : off = oslotOff b) (hh hs) :
    (outM.slice (Rect.unit (s := S2x1024x1024) off S1x1024x1024.size hh) hs).squeeze S1024x1024 squeezes_S1x1024x1024_S1024x1024 = oslot b :=
  congrArg (fun M : Memref sig .tc .vmem S1x1024x1024 .bf16 => M.squeeze S1024x1024 squeezes_S1x1024x1024_S1024x1024) (Memref.slice_unit_congr _ e _ _ _ _)
instance (b : Fin 2) : ClosedOff (oslotOff b) := ⟨oslotOff b, rfl⟩

abbrev egEOff (b : Fin 32) : Fin 3 → Nat := ![b.val, 0, 0]
theorem egEOff_inb (b : Fin 32) : ∀ a, egEOff b a + S1x1024x256.size a ≤ S32x1024x256.size a := by
  have := b.isLt; intro a; fin_cases a
  · show b.val + 1 ≤ 32; omega
  · show 0 + 1024 ≤ 1024; omega
  · show 0 + 256 ≤ 256; omega
/-- Expert `b`'s gate matrix. -/
def egE (b : Fin 32) : Memref sig .tc .hbm S1024x256 .f32 :=
  (egM.slice (Rect.unit (s := S32x1024x256) (egEOff b) S1x1024x256.size (egEOff_inb b)) (fun _ => rfl)).squeeze S1024x256 squeezes_S1x1024x256_S1024x256
theorem egE_congr {off : Fin 3 → Nat} {b : Fin 32} (e : off = egEOff b) (hh hs) :
    (egM.slice (Rect.unit (s := S32x1024x256) off S1x1024x256.size hh) hs).squeeze S1024x256 squeezes_S1x1024x256_S1024x256 = egE b :=
  congrArg (fun M : Memref sig .tc .hbm S1x1024x256 .f32 => M.squeeze S1024x256 squeezes_S1x1024x256_S1024x256) (Memref.slice_unit_congr _ e _ _ _ _)
instance (b : Fin 32) : ClosedOff (egEOff b) := ⟨egEOff b, rfl⟩

abbrev euEOff (b : Fin 32) : Fin 3 → Nat := ![b.val, 0, 0]
theorem euEOff_inb (b : Fin 32) : ∀ a, euEOff b a + S1x1024x256.size a ≤ S32x1024x256.size a := by
  have := b.isLt; intro a; fin_cases a
  · show b.val + 1 ≤ 32; omega
  · show 0 + 1024 ≤ 1024; omega
  · show 0 + 256 ≤ 256; omega
/-- Expert `b`'s up matrix. -/
def euE (b : Fin 32) : Memref sig .tc .hbm S1024x256 .f32 :=
  (euM.slice (Rect.unit (s := S32x1024x256) (euEOff b) S1x1024x256.size (euEOff_inb b)) (fun _ => rfl)).squeeze S1024x256 squeezes_S1x1024x256_S1024x256
theorem euE_congr {off : Fin 3 → Nat} {b : Fin 32} (e : off = euEOff b) (hh hs) :
    (euM.slice (Rect.unit (s := S32x1024x256) off S1x1024x256.size hh) hs).squeeze S1024x256 squeezes_S1x1024x256_S1024x256 = euE b :=
  congrArg (fun M : Memref sig .tc .hbm S1x1024x256 .f32 => M.squeeze S1024x256 squeezes_S1x1024x256_S1024x256) (Memref.slice_unit_congr _ e _ _ _ _)
instance (b : Fin 32) : ClosedOff (euEOff b) := ⟨euEOff b, rfl⟩

abbrev edEOff (b : Fin 32) : Fin 3 → Nat := ![b.val, 0, 0]
theorem edEOff_inb (b : Fin 32) : ∀ a, edEOff b a + S1x256x1024.size a ≤ S32x256x1024.size a := by
  have := b.isLt; intro a; fin_cases a
  · show b.val + 1 ≤ 32; omega
  · show 0 + 256 ≤ 256; omega
  · show 0 + 1024 ≤ 1024; omega
/-- Expert `b`'s down matrix. -/
def edE (b : Fin 32) : Memref sig .tc .hbm S256x1024 .f32 :=
  (edM.slice (Rect.unit (s := S32x256x1024) (edEOff b) S1x256x1024.size (edEOff_inb b)) (fun _ => rfl)).squeeze S256x1024 squeezes_S1x256x1024_S256x1024
theorem edE_congr {off : Fin 3 → Nat} {b : Fin 32} (e : off = edEOff b) (hh hs) :
    (edM.slice (Rect.unit (s := S32x256x1024) off S1x256x1024.size hh) hs).squeeze S256x1024 squeezes_S1x256x1024_S256x1024 = edE b :=
  congrArg (fun M : Memref sig .tc .hbm S1x256x1024 .f32 => M.squeeze S256x1024 squeezes_S1x256x1024_S256x1024) (Memref.slice_unit_congr _ e _ _ _ _)
instance (b : Fin 32) : ClosedOff (edEOff b) := ⟨edEOff b, rfl⟩

abbrev gslotOff (b : Fin 2) : Fin 3 → Nat := ![b.val, 0, 0]
theorem gslotOff_inb (b : Fin 2) : ∀ a, gslotOff b a + S1x1024x256.size a ≤ S2x1024x256.size a := by
  have := b.isLt; intro a; fin_cases a
  · show b.val + 1 ≤ 2; omega
  · show 0 + 1024 ≤ 1024; omega
  · show 0 + 256 ≤ 256; omega
/-- Slot `b` of the gate buffer. -/
def gslot (b : Fin 2) : Memref sig .tc .vmem S1024x256 .f32 :=
  (gBuf.slice (Rect.unit (s := S2x1024x256) (gslotOff b) S1x1024x256.size (gslotOff_inb b)) (fun _ => rfl)).squeeze S1024x256 squeezes_S1x1024x256_S1024x256
theorem gslot_congr {off : Fin 3 → Nat} {b : Fin 2} (e : off = gslotOff b) (hh hs) :
    (gBuf.slice (Rect.unit (s := S2x1024x256) off S1x1024x256.size hh) hs).squeeze S1024x256 squeezes_S1x1024x256_S1024x256 = gslot b :=
  congrArg (fun M : Memref sig .tc .vmem S1x1024x256 .f32 => M.squeeze S1024x256 squeezes_S1x1024x256_S1024x256) (Memref.slice_unit_congr _ e _ _ _ _)
instance (b : Fin 2) : ClosedOff (gslotOff b) := ⟨gslotOff b, rfl⟩

abbrev uslotOff (b : Fin 2) : Fin 3 → Nat := ![b.val, 0, 0]
theorem uslotOff_inb (b : Fin 2) : ∀ a, uslotOff b a + S1x1024x256.size a ≤ S2x1024x256.size a := by
  have := b.isLt; intro a; fin_cases a
  · show b.val + 1 ≤ 2; omega
  · show 0 + 1024 ≤ 1024; omega
  · show 0 + 256 ≤ 256; omega
/-- Slot `b` of the up buffer. -/
def uslot (b : Fin 2) : Memref sig .tc .vmem S1024x256 .f32 :=
  (uBuf.slice (Rect.unit (s := S2x1024x256) (uslotOff b) S1x1024x256.size (uslotOff_inb b)) (fun _ => rfl)).squeeze S1024x256 squeezes_S1x1024x256_S1024x256
theorem uslot_congr {off : Fin 3 → Nat} {b : Fin 2} (e : off = uslotOff b) (hh hs) :
    (uBuf.slice (Rect.unit (s := S2x1024x256) off S1x1024x256.size hh) hs).squeeze S1024x256 squeezes_S1x1024x256_S1024x256 = uslot b :=
  congrArg (fun M : Memref sig .tc .vmem S1x1024x256 .f32 => M.squeeze S1024x256 squeezes_S1x1024x256_S1024x256) (Memref.slice_unit_congr _ e _ _ _ _)
instance (b : Fin 2) : ClosedOff (uslotOff b) := ⟨uslotOff b, rfl⟩

abbrev dslotOff (b : Fin 2) : Fin 3 → Nat := ![b.val, 0, 0]
theorem dslotOff_inb (b : Fin 2) : ∀ a, dslotOff b a + S1x256x1024.size a ≤ S2x256x1024.size a := by
  have := b.isLt; intro a; fin_cases a
  · show b.val + 1 ≤ 2; omega
  · show 0 + 256 ≤ 256; omega
  · show 0 + 1024 ≤ 1024; omega
/-- Slot `b` of the down buffer. -/
def dslot (b : Fin 2) : Memref sig .tc .vmem S256x1024 .f32 :=
  (dBuf.slice (Rect.unit (s := S2x256x1024) (dslotOff b) S1x256x1024.size (dslotOff_inb b)) (fun _ => rfl)).squeeze S256x1024 squeezes_S1x256x1024_S256x1024
theorem dslot_congr {off : Fin 3 → Nat} {b : Fin 2} (e : off = dslotOff b) (hh hs) :
    (dBuf.slice (Rect.unit (s := S2x256x1024) off S1x256x1024.size hh) hs).squeeze S256x1024 squeezes_S1x256x1024_S256x1024 = dslot b :=
  congrArg (fun M : Memref sig .tc .vmem S1x256x1024 .f32 => M.squeeze S256x1024 squeezes_S1x256x1024_S256x1024) (Memref.slice_unit_congr _ e _ _ _ _)
instance (b : Fin 2) : ClosedOff (dslotOff b) := ⟨dslotOff b, rfl⟩

abbrev isemOff (b : Fin 3) : Fin 1 → Nat := ![b.val]
theorem isemOff_inb (b : Fin 3) : ∀ a, isemOff b a + S1.size a ≤ S3.size a := by
  have := b.isLt; intro a; fin_cases a
  · show b.val + 1 ≤ 3; omega
/-- The cell of slot `b` of the ring of token blocks. -/
def isem (b : Fin 3) : DmaSems sig S_ :=
  (cc0_scoped1.slice (Rect.unit (s := S3) (isemOff b) S1.size (isemOff_inb b))).squeeze S_ squeezes_S1_S_
theorem isem_congr {off : Fin 1 → Nat} {b : Fin 3} (e : off = isemOff b) (hh) :
    (cc0_scoped1.slice (Rect.unit (s := S3) off S1.size hh)).squeeze S_ squeezes_S1_S_ = isem b :=
  congrArg (fun A : DmaSems sig S1 => A.squeeze S_ squeezes_S1_S_) (SemArray.slice_unit_congr _ e _ _)

abbrev osemOff (b : Fin 2) : Fin 1 → Nat := ![b.val]
theorem osemOff_inb (b : Fin 2) : ∀ a, osemOff b a + S1.size a ≤ S2.size a := by
  have := b.isLt; intro a; fin_cases a
  · show b.val + 1 ≤ 2; omega
/-- The cell of slot `b` of the ring of result blocks. -/
def osem (b : Fin 2) : DmaSems sig S_ :=
  (cc0_scoped3.slice (Rect.unit (s := S2) (osemOff b) S1.size (osemOff_inb b))).squeeze S_ squeezes_S1_S_
theorem osem_congr {off : Fin 1 → Nat} {b : Fin 2} (e : off = osemOff b) (hh) :
    (cc0_scoped3.slice (Rect.unit (s := S2) off S1.size hh)).squeeze S_ squeezes_S1_S_ = osem b :=
  congrArg (fun A : DmaSems sig S1 => A.squeeze S_ squeezes_S1_S_) (SemArray.slice_unit_congr _ e _ _)

abbrev gsemOff (b : Fin 2) : Fin 2 → Nat := ![b.val, 0]
theorem gsemOff_inb (b : Fin 2) : ∀ a, gsemOff b a + S1x1.size a ≤ S2x3.size a := by
  have := b.isLt; intro a; fin_cases a
  · show b.val + 1 ≤ 2; omega
  · show 0 + 1 ≤ 3; omega
/-- The cell of slot `b` of the gate buffer. -/
def gsem (b : Fin 2) : DmaSems sig S_ :=
  (cc0_scratch6.slice (Rect.unit (s := S2x3) (gsemOff b) S1x1.size (gsemOff_inb b))).squeeze S_ squeezes_S1x1_S_
theorem gsem_congr {off : Fin 2 → Nat} {b : Fin 2} (e : off = gsemOff b) (hh) :
    (cc0_scratch6.slice (Rect.unit (s := S2x3) off S1x1.size hh)).squeeze S_ squeezes_S1x1_S_ = gsem b :=
  congrArg (fun A : DmaSems sig S1x1 => A.squeeze S_ squeezes_S1x1_S_) (SemArray.slice_unit_congr _ e _ _)

abbrev usemOff (b : Fin 2) : Fin 2 → Nat := ![b.val, 1]
theorem usemOff_inb (b : Fin 2) : ∀ a, usemOff b a + S1x1.size a ≤ S2x3.size a := by
  have := b.isLt; intro a; fin_cases a
  · show b.val + 1 ≤ 2; omega
  · show 1 + 1 ≤ 3; omega
/-- The cell of slot `b` of the up buffer. -/
def usem (b : Fin 2) : DmaSems sig S_ :=
  (cc0_scratch6.slice (Rect.unit (s := S2x3) (usemOff b) S1x1.size (usemOff_inb b))).squeeze S_ squeezes_S1x1_S_
theorem usem_congr {off : Fin 2 → Nat} {b : Fin 2} (e : off = usemOff b) (hh) :
    (cc0_scratch6.slice (Rect.unit (s := S2x3) off S1x1.size hh)).squeeze S_ squeezes_S1x1_S_ = usem b :=
  congrArg (fun A : DmaSems sig S1x1 => A.squeeze S_ squeezes_S1x1_S_) (SemArray.slice_unit_congr _ e _ _)

abbrev dsemOff (b : Fin 2) : Fin 2 → Nat := ![b.val, 2]
theorem dsemOff_inb (b : Fin 2) : ∀ a, dsemOff b a + S1x1.size a ≤ S2x3.size a := by
  have := b.isLt; intro a; fin_cases a
  · show b.val + 1 ≤ 2; omega
  · show 2 + 1 ≤ 3; omega
/-- The cell of slot `b` of the down buffer. -/
def dsem (b : Fin 2) : DmaSems sig S_ :=
  (cc0_scratch6.slice (Rect.unit (s := S2x3) (dsemOff b) S1x1.size (dsemOff_inb b))).squeeze S_ squeezes_S1x1_S_
theorem dsem_congr {off : Fin 2 → Nat} {b : Fin 2} (e : off = dsemOff b) (hh) :
    (cc0_scratch6.slice (Rect.unit (s := S2x3) off S1x1.size hh)).squeeze S_ squeezes_S1x1_S_ = dsem b :=
  congrArg (fun A : DmaSems sig S1x1 => A.squeeze S_ squeezes_S1x1_S_) (SemArray.slice_unit_congr _ e _ _)

/-! ## The kernel's slices are these -/

theorem sl3_val (k : ℕ) : (Ring.sl 3 k).val = k % 3 := Ring.sl_val 3 k
theorem sl2_val (k : ℕ) : (Ring.sl 2 k).val = k % 2 := Ring.sl_val 2 k

@[sl_canon] theorem isem_off7 (k : ℕ) (hk : k < 97) (hh) :
    (cc0_scoped1.slice (Rect.unit (s := S3) (k0_off7 (W k)) S1.size hh)).squeeze S_ squeezes_S1_S_ = isem (Ring.sl 3 k) :=
  isem_congr (by rw [off7_eq hk, isemOff, sl3_val]) _
@[sl_canon] theorem isem_off10 (k : ℕ) (hk : k < 97) (hh) :
    (cc0_scoped1.slice (Rect.unit (s := S3) (k0_off10 (W k)) S1.size hh)).squeeze S_ squeezes_S1_S_ = isem (Ring.sl 3 k) :=
  isem_congr (by rw [off10_eq hk, isemOff, sl3_val]) _
@[sl_canon] theorem islot_off8 (k : ℕ) (hk : k < 97) (hh hs) :
    (inM.slice (Rect.unit (s := S3x1024x1024) (k0_off8 (W k)) S1x1024x1024.size hh) hs).squeeze S1024x1024 squeezes_S1x1024x1024_S1024x1024 = islot (Ring.sl 3 k) :=
  islot_congr (by rw [off8_eq hk, islotOff, sl3_val]) _ _
@[sl_canon] theorem islot_off11 (k : ℕ) (hk : k < 97) (hh hs) :
    (inM.slice (Rect.unit (s := S3x1024x1024) (k0_off11 (W k)) S1x1024x1024.size hh) hs).squeeze S1024x1024 squeezes_S1x1024x1024_S1024x1024 = islot (Ring.sl 3 k) :=
  islot_congr (by rw [off11_eq hk, islotOff, sl3_val]) _ _
@[sl_canon] theorem islot_off37 (k : ℕ) (hk : k < 97) (hh hs) :
    (inM.slice (Rect.unit (s := S3x1024x1024) (k0_off37 (W k)) S1x1024x1024.size hh) hs).squeeze S1024x1024 squeezes_S1x1024x1024_S1024x1024 = islot (Ring.sl 3 k) :=
  islot_congr (by rw [off37_eq hk, islotOff, sl3_val]) _ _
@[sl_canon] theorem islot_off41 (k : ℕ) (hk : k < 97) (hh hs) :
    (inM.slice (Rect.unit (s := S3x1024x1024) (k0_off41 (W k)) S1x1024x1024.size hh) hs).squeeze S1024x1024 squeezes_S1x1024x1024_S1024x1024 = islot (Ring.sl 3 k) :=
  islot_congr (by rw [off41_eq hk, islotOff, sl3_val]) _ _
@[sl_canon] theorem islot_off46 (k : ℕ) (hk : k < 97) (hh hs) :
    (inM.slice (Rect.unit (s := S3x1024x1024) (k0_off46 (W k)) S1x1024x1024.size hh) hs).squeeze S1024x1024 squeezes_S1x1024x1024_S1024x1024 = islot (Ring.sl 3 k) :=
  islot_congr (by rw [off46_eq hk, islotOff, sl3_val]) _ _
@[sl_canon] theorem islot_off52 (k : ℕ) (hk : k < 97) (hh hs) :
    (inM.slice (Rect.unit (s := S3x1024x1024) (k0_off52 (W k)) S1x1024x1024.size hh) hs).squeeze S1024x1024 squeezes_S1x1024x1024_S1024x1024 = islot (Ring.sl 3 k) :=
  islot_congr (by rw [off52_eq hk, islotOff, sl3_val]) _ _
@[sl_canon] theorem osem_off58 (k : ℕ) (hk : k < 97) (hh) :
    (cc0_scoped3.slice (Rect.unit (s := S2) (k0_off58 (W k)) S1.size hh)).squeeze S_ squeezes_S1_S_ = osem (Ring.sl 2 k) :=
  osem_congr (by rw [off58_eq hk, osemOff, sl2_val]) _
@[sl_canon] theorem osem_off61 (k : ℕ) (hk : k < 97) (hh) :
    (cc0_scoped3.slice (Rect.unit (s := S2) (k0_off61 (W k)) S1.size hh)).squeeze S_ squeezes_S1_S_ = osem (Ring.sl 2 k) :=
  osem_congr (by rw [off61_eq hk, osemOff, sl2_val]) _
@[sl_canon] theorem osem_off64 (k : ℕ) (hk : k < 97) (hh) :
    (cc0_scoped3.slice (Rect.unit (s := S2) (k0_off64 (W k)) S1.size hh)).squeeze S_ squeezes_S1_S_ = osem (Ring.sl 2 k) :=
  osem_congr (by rw [off64_eq hk, osemOff, sl2_val]) _
@[sl_canon] theorem oslot_off38 (k : ℕ) (hk : k < 97) (hh hs) :
    (outM.slice (Rect.unit (s := S2x1024x1024) (k0_off38 (W k)) S1x1024x1024.size hh) hs).squeeze S1024x1024 squeezes_S1x1024x1024_S1024x1024 = oslot (Ring.sl 2 k) :=
  oslot_congr (by rw [off38_eq hk, oslotOff, sl2_val]) _ _
@[sl_canon] theorem oslot_off42 (k : ℕ) (hk : k < 97) (hh hs) :
    (outM.slice (Rect.unit (s := S2x1024x1024) (k0_off42 (W k)) S1x1024x1024.size hh) hs).squeeze S1024x1024 squeezes_S1x1024x1024_S1024x1024 = oslot (Ring.sl 2 k) :=
  oslot_congr (by rw [off42_eq hk, oslotOff, sl2_val]) _ _
@[sl_canon] theorem oslot_off47 (k : ℕ) (hk : k < 97) (hh hs) :
    (outM.slice (Rect.unit (s := S2x1024x1024) (k0_off47 (W k)) S1x1024x1024.size hh) hs).squeeze S1024x1024 squeezes_S1x1024x1024_S1024x1024 = oslot (Ring.sl 2 k) :=
  oslot_congr (by rw [off47_eq hk, oslotOff, sl2_val]) _ _
@[sl_canon] theorem oslot_off53 (k : ℕ) (hk : k < 97) (hh hs) :
    (outM.slice (Rect.unit (s := S2x1024x1024) (k0_off53 (W k)) S1x1024x1024.size hh) hs).squeeze S1024x1024 squeezes_S1x1024x1024_S1024x1024 = oslot (Ring.sl 2 k) :=
  oslot_congr (by rw [off53_eq hk, oslotOff, sl2_val]) _ _
@[sl_canon] theorem oslot_off60 (k : ℕ) (hk : k < 97) (hh hs) :
    (outM.slice (Rect.unit (s := S2x1024x1024) (k0_off60 (W k)) S1x1024x1024.size hh) hs).squeeze S1024x1024 squeezes_S1x1024x1024_S1024x1024 = oslot (Ring.sl 2 k) :=
  oslot_congr (by rw [off60_eq hk, oslotOff, sl2_val]) _ _
@[sl_canon] theorem oslot_off63 (k : ℕ) (hk : k < 97) (hh hs) :
    (outM.slice (Rect.unit (s := S2x1024x1024) (k0_off63 (W k)) S1x1024x1024.size hh) hs).squeeze S1024x1024 squeezes_S1x1024x1024_S1024x1024 = oslot (Ring.sl 2 k) :=
  oslot_congr (by rw [off63_eq hk, oslotOff, sl2_val]) _ _
@[sl_canon] theorem oslot_off66 (k : ℕ) (hk : k < 97) (hh hs) :
    (outM.slice (Rect.unit (s := S2x1024x1024) (k0_off66 (W k)) S1x1024x1024.size hh) hs).squeeze S1024x1024 squeezes_S1x1024x1024_S1024x1024 = oslot (Ring.sl 2 k) :=
  oslot_congr (by rw [off66_eq hk, oslotOff, sl2_val]) _ _

@[sl_canon] theorem isem_off1  (hh) :
    (cc0_scoped1.slice (Rect.unit (s := S3) (k0_off1) S1.size hh)).squeeze S_ squeezes_S1_S_ = isem 0 :=
  isem_congr (by decide) _
@[sl_canon] theorem islot_off2  (hh hs) :
    (inM.slice (Rect.unit (s := S3x1024x1024) (k0_off2) S1x1024x1024.size hh) hs).squeeze S1024x1024 squeezes_S1x1024x1024_S1024x1024 = islot 0 :=
  islot_congr (by decide) _ _
@[sl_canon] theorem isem_off4  (hh) :
    (cc0_scoped1.slice (Rect.unit (s := S3) (k0_off4) S1.size hh)).squeeze S_ squeezes_S1_S_ = isem 1 :=
  isem_congr (by decide) _
@[sl_canon] theorem islot_off5  (hh hs) :
    (inM.slice (Rect.unit (s := S3x1024x1024) (k0_off5) S1x1024x1024.size hh) hs).squeeze S1024x1024 squeezes_S1x1024x1024_S1024x1024 = islot 1 :=
  islot_congr (by decide) _ _
@[sl_canon] theorem egE_off14 (k : Fin 32) (hh hs) :
    (egM.slice (Rect.unit (s := S32x1024x256) (k0_off14 (W k.val)) S1x1024x256.size hh) hs).squeeze S1024x256 squeezes_S1x1024x256_S1024x256 = egE k :=
  egE_congr (off14_eq k.isLt) _ _
@[sl_canon] theorem euE_off14 (k : Fin 32) (hh hs) :
    (euM.slice (Rect.unit (s := S32x1024x256) (k0_off14 (W k.val)) S1x1024x256.size hh) hs).squeeze S1024x256 squeezes_S1x1024x256_S1024x256 = euE k :=
  euE_congr (off14_eq k.isLt) _ _
@[sl_canon] theorem edE_off15 (k : Fin 32) (hh hs) :
    (edM.slice (Rect.unit (s := S32x256x1024) (k0_off15 (W k.val)) S1x256x1024.size hh) hs).squeeze S256x1024 squeezes_S1x256x1024_S256x1024 = edE k :=
  edE_congr (off15_eq k.isLt) _ _
@[sl_canon] theorem egE_off19 (k : Fin 32) (hh hs) :
    (egM.slice (Rect.unit (s := S32x1024x256) (k0_off19 (W k.val)) S1x1024x256.size hh) hs).squeeze S1024x256 squeezes_S1x1024x256_S1024x256 = egE k :=
  egE_congr (off19_eq k.isLt) _ _
@[sl_canon] theorem euE_off19 (k : Fin 32) (hh hs) :
    (euM.slice (Rect.unit (s := S32x1024x256) (k0_off19 (W k.val)) S1x1024x256.size hh) hs).squeeze S1024x256 squeezes_S1x1024x256_S1024x256 = euE k :=
  euE_congr (off19_eq k.isLt) _ _
@[sl_canon] theorem edE_off23 (k : Fin 32) (hh hs) :
    (edM.slice (Rect.unit (s := S32x256x1024) (k0_off23 (W k.val)) S1x256x1024.size hh) hs).squeeze S256x1024 squeezes_S1x256x1024_S256x1024 = edE k :=
  edE_congr (off23_eq k.isLt) _ _
@[sl_canon] theorem egE_off30 (k : Fin 32) (hh hs) :
    (egM.slice (Rect.unit (s := S32x1024x256) (k0_off30 (W k.val)) S1x1024x256.size hh) hs).squeeze S1024x256 squeezes_S1x1024x256_S1024x256 = egE k :=
  egE_congr (off30_eq k.isLt) _ _
@[sl_canon] theorem euE_off30 (k : Fin 32) (hh hs) :
    (euM.slice (Rect.unit (s := S32x1024x256) (k0_off30 (W k.val)) S1x1024x256.size hh) hs).squeeze S1024x256 squeezes_S1x1024x256_S1024x256 = euE k :=
  euE_congr (off30_eq k.isLt) _ _
@[sl_canon] theorem edE_off35 (k : Fin 32) (hh hs) :
    (edM.slice (Rect.unit (s := S32x256x1024) (k0_off35 (W k.val)) S1x256x1024.size hh) hs).squeeze S256x1024 squeezes_S1x256x1024_S256x1024 = edE k :=
  edE_congr (off35_eq k.isLt) _ _
@[sl_canon] theorem gsem_off17 (k : Fin 96) (hh) :
    (cc0_scratch6.slice (Rect.unit (s := S2x3) (k0_off17 (W k.val)) S1x1.size hh)).squeeze S_ squeezes_S1x1_S_ = gsem (Ring.sl 2 k.val) :=
  gsem_congr (by rw [off17_eq k.isLt, gsemOff, sl2_val]) _
@[sl_canon] theorem usem_off20 (k : Fin 96) (hh) :
    (cc0_scratch6.slice (Rect.unit (s := S2x3) (k0_off20 (W k.val)) S1x1.size hh)).squeeze S_ squeezes_S1x1_S_ = usem (Ring.sl 2 k.val) :=
  usem_congr (by rw [off20_eq k.isLt, usemOff, sl2_val]) _
@[sl_canon] theorem dsem_off21 (k : Fin 96) (hh) :
    (cc0_scratch6.slice (Rect.unit (s := S2x3) (k0_off21 (W k.val)) S1x1.size hh)).squeeze S_ squeezes_S1x1_S_ = dsem (Ring.sl 2 k.val) :=
  dsem_congr (by rw [off21_eq k.isLt, dsemOff, sl2_val]) _
@[sl_canon] theorem gslot_off18 (k : Fin 96) (hh hs) :
    (gBuf.slice (Rect.unit (s := S2x1024x256) (k0_off18 (W k.val)) S1x1024x256.size hh) hs).squeeze S1024x256 squeezes_S1x1024x256_S1024x256 = gslot (Ring.sl 2 k.val) :=
  gslot_congr (by rw [off18_eq k.isLt, gslotOff, sl2_val]) _ _
@[sl_canon] theorem uslot_off18 (k : Fin 96) (hh hs) :
    (uBuf.slice (Rect.unit (s := S2x1024x256) (k0_off18 (W k.val)) S1x1024x256.size hh) hs).squeeze S1024x256 squeezes_S1x1024x256_S1024x256 = uslot (Ring.sl 2 k.val) :=
  uslot_congr (by rw [off18_eq k.isLt, uslotOff, sl2_val]) _ _
@[sl_canon] theorem dslot_off22 (k : Fin 96) (hh hs) :
    (dBuf.slice (Rect.unit (s := S2x256x1024) (k0_off22 (W k.val)) S1x256x1024.size hh) hs).squeeze S256x1024 squeezes_S1x256x1024_S256x1024 = dslot (Ring.sl 2 k.val) :=
  dslot_congr (by rw [off22_eq k.isLt, dslotOff, sl2_val]) _ _
@[sl_canon] theorem gsem_off28 (k : Fin 96) (hh) :
    (cc0_scratch6.slice (Rect.unit (s := S2x3) (k0_off28 (W k.val)) S1x1.size hh)).squeeze S_ squeezes_S1x1_S_ = gsem (Ring.sl 2 (k.val + 1)) :=
  gsem_congr (by rw [off28_eq k.isLt, gsemOff, sl2_val]) _
@[sl_canon] theorem usem_off31 (k : Fin 96) (hh) :
    (cc0_scratch6.slice (Rect.unit (s := S2x3) (k0_off31 (W k.val)) S1x1.size hh)).squeeze S_ squeezes_S1x1_S_ = usem (Ring.sl 2 (k.val + 1)) :=
  usem_congr (by rw [off31_eq k.isLt, usemOff, sl2_val]) _
@[sl_canon] theorem dsem_off33 (k : Fin 96) (hh) :
    (cc0_scratch6.slice (Rect.unit (s := S2x3) (k0_off33 (W k.val)) S1x1.size hh)).squeeze S_ squeezes_S1x1_S_ = dsem (Ring.sl 2 (k.val + 1)) :=
  dsem_congr (by rw [off33_eq k.isLt, dsemOff, sl2_val]) _
@[sl_canon] theorem gslot_off29 (k : Fin 96) (hh hs) :
    (gBuf.slice (Rect.unit (s := S2x1024x256) (k0_off29 (W k.val)) S1x1024x256.size hh) hs).squeeze S1024x256 squeezes_S1x1024x256_S1024x256 = gslot (Ring.sl 2 (k.val + 1)) :=
  gslot_congr (by rw [off29_eq k.isLt, gslotOff, sl2_val]) _ _
@[sl_canon] theorem uslot_off32 (k : Fin 96) (hh hs) :
    (uBuf.slice (Rect.unit (s := S2x1024x256) (k0_off32 (W k.val)) S1x1024x256.size hh) hs).squeeze S1024x256 squeezes_S1x1024x256_S1024x256 = uslot (Ring.sl 2 (k.val + 1)) :=
  uslot_congr (by rw [off32_eq k.isLt, uslotOff, sl2_val]) _ _
@[sl_canon] theorem dslot_off34 (k : Fin 96) (hh hs) :
    (dBuf.slice (Rect.unit (s := S2x256x1024) (k0_off34 (W k.val)) S1x256x1024.size hh) hs).squeeze S256x1024 squeezes_S1x256x1024_S256x1024 = dslot (Ring.sl 2 (k.val + 1)) :=
  dslot_congr (by rw [off34_eq k.isLt, dslotOff, sl2_val]) _ _
@[sl_canon] theorem gsem_lit0  (hh) :
    (cc0_scratch6.slice (Rect.unit (s := S2x3) (![0, 0]) S1x1.size hh)).squeeze S_ squeezes_S1x1_S_ = gsem 0 :=
  gsem_congr (by decide) _
@[sl_canon] theorem usem_lit0  (hh) :
    (cc0_scratch6.slice (Rect.unit (s := S2x3) (![0, 1]) S1x1.size hh)).squeeze S_ squeezes_S1x1_S_ = usem 0 :=
  usem_congr (by decide) _
@[sl_canon] theorem dsem_lit0  (hh) :
    (cc0_scratch6.slice (Rect.unit (s := S2x3) (![0, 2]) S1x1.size hh)).squeeze S_ squeezes_S1x1_S_ = dsem 0 :=
  dsem_congr (by decide) _
@[sl_canon] theorem gslot_lit0  (hh hs) :
    (gBuf.slice (Rect.unit (s := S2x1024x256) (![0, 0, 0]) S1x1024x256.size hh) hs).squeeze S1024x256 squeezes_S1x1024x256_S1024x256 = gslot 0 :=
  gslot_congr (by decide) _ _
@[sl_canon] theorem uslot_lit0  (hh hs) :
    (uBuf.slice (Rect.unit (s := S2x1024x256) (![0, 0, 0]) S1x1024x256.size hh) hs).squeeze S1024x256 squeezes_S1x1024x256_S1024x256 = uslot 0 :=
  uslot_congr (by decide) _ _
@[sl_canon] theorem dslot_lit0  (hh hs) :
    (dBuf.slice (Rect.unit (s := S2x256x1024) (![0, 0, 0]) S1x256x1024.size hh) hs).squeeze S256x1024 squeezes_S1x256x1024_S256x1024 = dslot 0 :=
  dslot_congr (by decide) _ _

theorem bk_val {j : ℕ} (h : j < 96) : (Ring.bk 96 j).val = j := Ring.bk_val h
theorem trip_lt (i : Fin k0_t1_loop.trips) : i.val < 96 := i.isLt

@[sl_canon] theorem xblk_off3 {n : ℕ} (h1 : 1 ≤ n) (h2 : n ≤ 96) (hh hs) :
    xsM.slice (Rect.unit (s := S98304x1024) (k0_off3 (W n)) S1024x1024.size hh) hs = xblk (Ring.bk 96 0) :=
  xblk_congr (off3_n h1 h2) _ _
@[sl_canon] theorem xblk_off6 {n : ℕ} (h1 : 1 ≤ n) (h2 : n ≤ 96) (h : 2 ≤ n) (hh hs) :
    xsM.slice (Rect.unit (s := S98304x1024) (k0_off6 (W n)) S1024x1024.size hh) hs = xblk (Ring.bk 96 1) :=
  xblk_congr (off6_n h1 h2 h) _ _
@[sl_canon] theorem xblk_off9 (i : Fin k0_t1_loop.trips) {n : ℕ} (h1 : 1 ≤ n) (h2 : n ≤ 96) (h : i.val + 2 < n) (hh hs) :
    xsM.slice (Rect.unit (s := S98304x1024) (k0_off9 (W i.val) (W n)) S1024x1024.size hh) hs = xblk (Ring.bk 96 (i.val + 2)) :=
  xblk_congr (by rw [off9_eq i h1 h2 h, xblkOff, bk_val (by omega)]) _ _
@[sl_canon] theorem xblk_off12 (i : Fin k0_t1_loop.trips) {n : ℕ} (h1 : 1 ≤ n) (h2 : n ≤ 96) (h : i.val < n) (hh hs) :
    xsM.slice (Rect.unit (s := S98304x1024) (k0_off12 (W i.val) (W n)) S1024x1024.size hh) hs = xblk (Ring.bk 96 i.val) :=
  xblk_congr (by rw [off12_eq i h1 h2 h, xblkOff, bk_val (trip_lt i)]) _ _
@[sl_canon] theorem oblk_off59 (i : Fin k0_t1_loop.trips) {n : ℕ} (h1 : 1 ≤ n) (h2 : n ≤ 96) (hh hs) :
    resM.slice (Rect.unit (s := S98304x1024) (k0_off59 (W i.val) (W n)) S1024x1024.size hh) hs = oblk (Ring.bk 96 (min i.val (n - 1))) :=
  oblk_congr (by rw [off59_eq i h1 h2, oblkOff, bk_val (by omega)]) _ _
@[sl_canon] theorem oblk_off62 (i : Fin k0_t1_loop.trips) {n : ℕ} (h1 : 1 ≤ n) (h2 : n ≤ 96) (h : 1 ≤ i.val) (h' : i.val < n) (hh hs) :
    resM.slice (Rect.unit (s := S98304x1024) (k0_off62 (W i.val) (W n)) S1024x1024.size hh) hs = oblk (Ring.bk 96 (i.val - 1)) :=
  oblk_congr (by rw [off62_eq i h1 h2 h h', oblkOff, bk_val (by omega)]) _ _
@[sl_canon] theorem oblk_off65 {n : ℕ} (h1 : 1 ≤ n) (h2 : n ≤ 96) (hh hs) :
    resM.slice (Rect.unit (s := S98304x1024) (k0_off65 (W 0) (W n)) S1024x1024.size hh) hs = oblk (Ring.bk 96 (n - 1)) :=
  oblk_congr (by rw [off65_n h1 h2, oblkOff, bk_val (by omega)]) _ _

instance (k : Fin 96) : ClosedOff (k0_off24 (W k.val)) := ⟨gslotOff (Ring.sl 2 k.val), by rw [off24_eq k.isLt, gslotOff, sl2_val]⟩
instance (k : Fin 96) : ClosedOff (k0_off25 (W k.val)) := ⟨dslotOff (Ring.sl 2 k.val), by rw [off25_eq k.isLt, dslotOff, sl2_val]⟩

end Cert.Proof.Moe

end
-- ==== Proof.Vals.lean ====
module

public import proofs.«01_k».proof.Proof.Names
public import proofs.«01_k».proof.Proof.Gen.KernelIdeal.Skeleton
public import Idealize.ShloMosaic.Lib.ValueIdxCore
public import Idealize.ShloMosaic.Lib.ValueLayout
public import Idealize.ShloMosaic.Lib.WritesUnit
public import Idealize.ShloMosaic.Lib.VecWindow

@[expose] public section

/-! # The values a tile's compute makes

A row group of a tile is 256 of its 1024 rows. Its result is one term in the group's two column halves, the two row
halves of the gate and of the up matrix, and the down matrix; every store of the compute has that term as its payload,
and a store of one group leaves the other groups of the slot as they were. -/

noncomputable section

namespace Cert.Proof.Moe

open Cert.KernelIdeal Cert.KernelIdeal.Gen
open Idealize.ShloMosaic
open Idealize.ShloMosaic.ValueIdx (ix2 ix3 eq_ix2)
open Idealize.ShloMosaic.TcCoe Idealize.ShloMosaic.Tactic

variable {F : FTy → Type} [FloatOps F]

/-- Row `i` of group `r` among a tile's rows. -/
abbrev rowG (r : Fin 4) (i : Fin 256) : Fin 1024 := ⟨256 * r.val + i.val, by have := r.isLt; have := i.isLt; omega⟩
/-- Place `k` of half `h` among 1024. -/
abbrev halfG (h : Fin 2) (k : Fin 512) : Fin 1024 := ⟨512 * h.val + k.val, by have := h.isLt; have := k.isLt; omega⟩

/-- Column half `h` of row group `r` of a tile. -/
def xPart {α : Type} (x : S1024x1024.Idx → α) (r : Fin 4) (h : Fin 2) : S256x512.Idx → α := fun y => x (ix2 (rowG r (y 0)) (halfG h (y 1)))
/-- Row half `h` of a matrix. -/
def wPart {α : Type} (w : S1024x256.Idx → α) (h : Fin 2) : S512x256.Idx → α := fun y => w (ix2 (halfG h (y 0)) (y 1))

/-- A projection by halves: the two half products, added. -/
def projVal (x0 x1 : FVec F S256x512 .bf16) (w0 w1 : FVec F S512x256 .bf16) : FVec F S256x256 .f32 :=
  addf (matmul dot_S256x512_S512x256_S256x256_1_0_0_1_n_n none x0 w0 (constant S256x256 .f32 0x00000000#32))
    (matmul dot_S256x512_S512x256_S256x256_1_0_0_1_n_n none x1 w1 (constant S256x256 .f32 0x00000000#32))

/-- The rows of one group: the gated product of the two projections, brought back by the down matrix. -/
def subVal (x0 x1 : FVec F S256x512 .bf16) (g0 g1 u0 u1 : FVec F S512x256 .bf16) (d : FVec F S256x1024 .bf16) : FVec F S256x1024 .bf16 :=
  truncf .bf16 (matmul dot_S256x256_S256x1024_S256x1024_1_0_0_1_n_n none
    (truncf .bf16 (mulf (mulf (projVal x0 x1 g0 g1) (logistic (projVal x0 x1 g0 g1))) (projVal x0 x1 u0 u1)) bitsLt_bf16_f32) d
    (constant S256x1024 .f32 0x00000000#32)) bitsLt_bf16_f32

/-- The rows of group `r` of a tile `x` by the expert of matrices `g`, `u`, `d`. -/
def groupVal (x : FVec F S1024x1024 .bf16) (g u : FVec F S1024x256 .bf16) (d : FVec F S256x1024 .bf16) (r : Fin 4) : FVec F S256x1024 .bf16 :=
  subVal (xPart x r 0) (xPart x r 1) (wPart g 0) (wPart g 1) (wPart u 0) (wPart u 1) d

/-- A buffer a transfer landed in, over the whole window, reads as what was sent. -/
theorem read_landed {κ : Kind} {sp : Space} {s : Shape} {e : EltTy} (v : View sig κ sp s e) (f : v.ty.Contents (Elt F)) (w : s.Idx → Elt F e) :
    v.read (Elt F) (v.writes (Elt F) f [⟨Rect.whole s, w⟩]) = w := by
  funext y
  have h := View.read_writes_cons_emb v f (Rect.whole s) w [] y
  rwa [Rect.emb_whole_apply] at h

/-- The working gate matrix after the store of a landed one, narrowed. -/
theorem scr_gate (b : Fin 2) (f0 : gScr.view.ty.Contents (Elt F)) (f : (gslot b).view.ty.Contents (Elt F)) (w : FVec F S1024x256 .f32) {off : Fin 3 → ℕ} (e : off = gslotOff b)
    (inb : ∀ a, off a + S1x1024x256.size a ≤ S2x1024x256.size a) (inb0 : ∀ a, (![0, 0] : Fin 2 → ℕ) a + S1024x256.size a ≤ S1024x256.size a) :
    gScr.view.read (Elt F) (gScr.view.writes (Elt F) f0 [⟨Rect.unit (s := S1024x256) ![0, 0] S1024x256.size inb0,
      k0_pay1 (gBuf.view.readAt (Elt F) (Rect.unit (s := S2x1024x256) off S1x1024x256.size inb).toLoadRect ((gslot b).view.writes (Elt F) f [⟨Rect.whole S1024x256, w⟩]))⟩])
      = truncf .bf16 w bitsLt_bf16_f32 := by
  subst e
  refine (View.read_writes_full gScr.view f0 inb0 _ []).trans ((shapeCast_self _ _).trans ?_)
  exact congrArg (fun x => truncf .bf16 x bitsLt_bf16_f32) (read_landed (gslot b).view f w)

/-- The same of the up matrix. -/
theorem scr_up (b : Fin 2) (f0 : uScr.view.ty.Contents (Elt F)) (f : (uslot b).view.ty.Contents (Elt F)) (w : FVec F S1024x256 .f32) {off : Fin 3 → ℕ} (e : off = uslotOff b)
    (inb : ∀ a, off a + S1x1024x256.size a ≤ S2x1024x256.size a) (inb0 : ∀ a, (![0, 0] : Fin 2 → ℕ) a + S1024x256.size a ≤ S1024x256.size a) :
    uScr.view.read (Elt F) (uScr.view.writes (Elt F) f0 [⟨Rect.unit (s := S1024x256) ![0, 0] S1024x256.size inb0,
      k0_pay2 (uBuf.view.readAt (Elt F) (Rect.unit (s := S2x1024x256) off S1x1024x256.size inb).toLoadRect ((uslot b).view.writes (Elt F) f [⟨Rect.whole S1024x256, w⟩]))⟩])
      = truncf .bf16 w bitsLt_bf16_f32 := by
  subst e
  refine (View.read_writes_full uScr.view f0 inb0 _ []).trans ((shapeCast_self _ _).trans ?_)
  exact congrArg (fun x => truncf .bf16 x bitsLt_bf16_f32) (read_landed (uslot b).view f w)

/-- The same of the down matrix. -/
theorem scr_down (b : Fin 2) (f0 : dScr.view.ty.Contents (Elt F)) (f : (dslot b).view.ty.Contents (Elt F)) (w : FVec F S256x1024 .f32) {off : Fin 3 → ℕ} (e : off = dslotOff b)
    (inb : ∀ a, off a + S1x256x1024.size a ≤ S2x256x1024.size a) (inb0 : ∀ a, (![0, 0] : Fin 2 → ℕ) a + S256x1024.size a ≤ S256x1024.size a) :
    dScr.view.read (Elt F) (dScr.view.writes (Elt F) f0 [⟨Rect.unit (s := S256x1024) ![0, 0] S256x1024.size inb0,
      k0_pay28 (dBuf.view.readAt (Elt F) (Rect.unit (s := S2x256x1024) off S1x256x1024.size inb).toLoadRect ((dslot b).view.writes (Elt F) f [⟨Rect.whole S256x1024, w⟩]))⟩])
      = truncf .bf16 w bitsLt_bf16_f32 := by
  subst e
  refine (View.read_writes_full dScr.view f0 inb0 _ []).trans ((shapeCast_self _ _).trans ?_)
  exact congrArg (fun x => truncf .bf16 x bitsLt_bf16_f32) (read_landed (dslot b).view f w)

/-- A load of a group's column half. -/
theorem read_xPart {κ : Kind} {sp : Space} (v : View sig κ sp S1024x1024 .bf16) (f : v.ty.Contents (Elt F)) (r : Fin 4) (h : Fin 2) {off : Fin 2 → ℕ}
    (e : off = ![256 * r.val, 512 * h.val]) (inb : ∀ a, off a + S256x512.size a ≤ S1024x1024.size a) :
    v.readAt (Elt F) (Rect.unit (s := S1024x1024) off S256x512.size inb).toLoadRect f = xPart (v.read (Elt F) f) r h := by
  subst e
  funext y
  rw [View.readAt_apply]
  refine congrArg (v.read (Elt F) f) (funext fun a => Fin.ext ?_)
  match a with
  | ⟨0, _⟩ => show 256 * r.val + 1 * (y 0).val = 256 * r.val + (y 0).val; omega
  | ⟨1, _⟩ => show 512 * h.val + 1 * (y 1).val = 512 * h.val + (y 1).val; omega

/-- A load of a matrix's row half. -/
theorem read_wPart {κ : Kind} {sp : Space} (v : View sig κ sp S1024x256 .bf16) (f : v.ty.Contents (Elt F)) (h : Fin 2) {off : Fin 2 → ℕ}
    (e : off = ![512 * h.val, 0]) (inb : ∀ a, off a + S512x256.size a ≤ S1024x256.size a) :
    v.readAt (Elt F) (Rect.unit (s := S1024x256) off S512x256.size inb).toLoadRect f = wPart (v.read (Elt F) f) h := by
  subst e
  funext y
  rw [View.readAt_apply]
  refine congrArg (v.read (Elt F) f) (funext fun a => Fin.ext ?_)
  match a with
  | ⟨0, _⟩ => show 512 * h.val + 1 * (y 0).val = 512 * h.val + (y 0).val; omega
  | ⟨1, _⟩ => show 0 + 1 * (y 1).val = (y 1).val; omega

/-- A load of the whole down matrix. -/
theorem read_down (v : View sig .tc .vmem S256x1024 .bf16) (f : v.ty.Contents (Elt F)) (inb : ∀ a, (![0, 0] : Fin 2 → ℕ) a + S256x1024.size a ≤ S256x1024.size a) :
    v.readAt (Elt F) (Rect.unit (s := S256x1024) ![0, 0] S256x1024.size inb).toLoadRect f = v.read (Elt F) f := by
  funext y
  rw [View.readAt_apply]
  refine congrArg (v.read (Elt F) f) (funext fun a => Fin.ext ?_)
  match a with
  | ⟨0, _⟩ => show 0 + 1 * (y 0).val = (y 0).val; omega
  | ⟨1, _⟩ => show 0 + 1 * (y 1).val = (y 1).val; omega

/-- The payload of a group's store, from the loads it is made of. -/
theorem pay_group {κ κ₁ κ₂ : Kind} {sp sp₁ sp₂ : Space} (v : View sig κ sp S1024x1024 .bf16) (f : v.ty.Contents (Elt F))
    (vg : View sig κ₁ sp₁ S1024x256 .bf16) (fg : vg.ty.Contents (Elt F)) (vu : View sig κ₂ sp₂ S1024x256 .bf16) (fu : vu.ty.Contents (Elt F))
    (vd : View sig .tc .vmem S256x1024 .bf16) (fd : vd.ty.Contents (Elt F)) (r : Fin 4) {o0 o1 : Fin 2 → ℕ}
    (e0 : o0 = ![256 * r.val, 512 * (0 : Fin 2).val]) (e1 : o1 = ![256 * r.val, 512 * (1 : Fin 2).val])
    (i0 : ∀ a, o0 a + S256x512.size a ≤ S1024x1024.size a) (i1 : ∀ a, o1 a + S256x512.size a ≤ S1024x1024.size a)
    (j0 : ∀ a, (![0, 0] : Fin 2 → ℕ) a + S512x256.size a ≤ S1024x256.size a) (j1 : ∀ a, (![512, 0] : Fin 2 → ℕ) a + S512x256.size a ≤ S1024x256.size a)
    (jd : ∀ a, (![0, 0] : Fin 2 → ℕ) a + S256x1024.size a ≤ S256x1024.size a) :
    subVal (v.readAt (Elt F) (Rect.unit (s := S1024x1024) o0 S256x512.size i0).toLoadRect f)
      (v.readAt (Elt F) (Rect.unit (s := S1024x1024) o1 S256x512.size i1).toLoadRect f)
      (vg.readAt (Elt F) (Rect.unit (s := S1024x256) ![0, 0] S512x256.size j0).toLoadRect fg)
      (vg.readAt (Elt F) (Rect.unit (s := S1024x256) ![512, 0] S512x256.size j1).toLoadRect fg)
      (vu.readAt (Elt F) (Rect.unit (s := S1024x256) ![0, 0] S512x256.size j0).toLoadRect fu)
      (vu.readAt (Elt F) (Rect.unit (s := S1024x256) ![512, 0] S512x256.size j1).toLoadRect fu)
      (vd.readAt (Elt F) (Rect.unit (s := S256x1024) ![0, 0] S256x1024.size jd).toLoadRect fd)
      = groupVal (v.read (Elt F) f) (vg.read (Elt F) fg) (vu.read (Elt F) fu) (vd.read (Elt F) fd) r := by
  rw [read_xPart v f r 0 e0, read_xPart v f r 1 e1, read_wPart vg fg 0 (by decide), read_wPart vg fg 1 (by decide),
    read_wPart vu fu 0 (by decide), read_wPart vu fu 1 (by decide), read_down]
  rfl

/-- A slot of the result ring read at a row and a column. -/
theorem oslot_read (b : Fin 2) (f : outM.view.ty.Contents (Elt F)) (x y : Fin 1024) :
    (oslot b).view.read (Elt F) f (ix2 x y) = outM.view.read (Elt F) f (ix3 b x y) := by
  refine (ValueIdx.shapeCast_1ab_ab_apply (a := 1024) (b := 1024) (outM.view.readAt (Elt F) (Rect.unit (s := S2x1024x1024) (oslotOff b) S1x1024x1024.size (oslotOff_inb b)).toLoadRect f)
    (squeezes_S1x1024x1024_S1024x1024.numel_eq) x y).trans ?_
  refine congrArg (outM.view.read (Elt F) f) (funext fun a => Fin.ext ?_)
  match a with
  | ⟨0, _⟩ => show b.val + 1 * 0 = b.val; omega
  | ⟨1, _⟩ => show 0 + 1 * x.val = x.val; omega
  | ⟨2, _⟩ => show 0 + 1 * y.val = y.val; omega

/-- What a store of group `r` leaves in the slot: the group's rows are the payload's, the other groups' are as before. -/
theorem oslot_store (b : Fin 2) (f : outM.view.ty.Contents (Elt F)) (r r' : Fin 4) (V : FVec F S256x1024 .bf16) {off : Fin 3 → ℕ}
    (e : off = ![b.val, 256 * r.val, 0]) (inb : ∀ a, off a + S1x256x1024.size a ≤ S2x1024x1024.size a) (i : Fin 256) (j : Fin 1024) :
    (oslot b).view.read (Elt F) (View.write (Elt F) (outM.access (Rect.unit (s := S2x1024x1024) off S1x256x1024.size inb)) f
        (shapeCast S1x256x1024 V shapeCasts_S256x1024_S1x256x1024) Finset.univ) (ix2 (rowG r' i) j)
      = if r' = r then V (ix2 i j) else (oslot b).view.read (Elt F) f (ix2 (rowG r' i) j) := by
  rw [oslot_read, oslot_read]
  by_cases h : r' = r
  · subst h
    rw [if_pos rfl]
    refine (View.read_writes_cons_unit_of_mem outM.view f inb (shapeCast S1x256x1024 V shapeCasts_S256x1024_S1x256x1024) [] (ix3 b (rowG r' i) j) (ix3 0 i j) e ?_).trans
      (ValueIdx.shapeCast_ab_1ab_apply (a := 256) (b := 1024) V shapeCasts_S256x1024_S1x256x1024 0 i j)
    intro a
    match a with
    | ⟨0, _⟩ => show b.val = b.val + 0; omega
    | ⟨1, _⟩ => show 256 * r'.val + i.val = 256 * r'.val + i.val; rfl
    | ⟨2, _⟩ => show j.val = 0 + j.val; omega
  · rw [if_neg h]
    refine View.read_writes_cons_unit_of_not_mem outM.view f inb (shapeCast S1x256x1024 V shapeCasts_S256x1024_S1x256x1024) [] (ix3 b (rowG r' i) j) e 1 ?_
    have h' : r'.val ≠ r.val := fun h0 => h (Fin.ext h0)
    have := i.isLt
    show 256 * r'.val + i.val < 256 * r.val ∨ 256 * r.val + 256 ≤ 256 * r'.val + i.val
    omega

/-! ## Every store of the compute has that term as its payload: store `k` of a tile of `n` groups is `pay_n_k` -/

theorem pay_1_0 (x0 x1 : FVec F S256x512 .bf16) (g0 g1 u0 u1 : FVec F S512x256 .bf16) (d : FVec F S256x1024 .bf16) :
    k0_pay29 x0 x1 g0 g1 u0 u1 d = shapeCast S1x256x1024 (subVal x0 x1 g0 g1 u0 u1 d) shapeCasts_S256x1024_S1x256x1024 := rfl
theorem pay_2_0 (x0 x1 : FVec F S256x512 .bf16) (g0 g1 u0 u1 : FVec F S512x256 .bf16) (d : FVec F S256x1024 .bf16) :
    k0_pay30 (k0_pay3 x0 x1 g0 g1) (k0_pay4 x0 x1 u0 u1) d = shapeCast S1x256x1024 (subVal x0 x1 g0 g1 u0 u1 d) shapeCasts_S256x1024_S1x256x1024 := rfl
theorem pay_2_1 (x0 x1 : FVec F S256x512 .bf16) (g0 g1 u0 u1 : FVec F S512x256 .bf16) (d : FVec F S256x1024 .bf16) :
    k0_pay31 x0 x1 (k0_pay5 x0 g0) (k0_pay6 x1 g1) u0 u1 d = shapeCast S1x256x1024 (subVal x0 x1 g0 g1 u0 u1 d) shapeCasts_S256x1024_S1x256x1024 := rfl
theorem pay_3_0 (x0 x1 : FVec F S256x512 .bf16) (g0 g1 u0 u1 : FVec F S512x256 .bf16) (d : FVec F S256x1024 .bf16) :
    k0_pay32 (k0_pay11 (k0_pay7 x0 x1 g0 g1) (k0_pay8 x0 x1 u0 u1) d) = shapeCast S1x256x1024 (subVal x0 x1 g0 g1 u0 u1 d) shapeCasts_S256x1024_S1x256x1024 := rfl
theorem pay_3_1 (x0 x1 : FVec F S256x512 .bf16) (g0 g1 u0 u1 : FVec F S512x256 .bf16) (d : FVec F S256x1024 .bf16) :
    k0_pay33 (k0_pay14 x0 x1 (k0_pay9 x0 g0) (k0_pay10 x1 g1) u0 u1) d = shapeCast S1x256x1024 (subVal x0 x1 g0 g1 u0 u1 d) shapeCasts_S256x1024_S1x256x1024 := rfl
theorem pay_3_2 (x0 x1 : FVec F S256x512 .bf16) (g0 g1 u0 u1 : FVec F S512x256 .bf16) (d : FVec F S256x1024 .bf16) :
    k0_pay34 (k0_pay12 x0 x1 g0 g1) (k0_pay13 x0 x1 u0 u1) d = shapeCast S1x256x1024 (subVal x0 x1 g0 g1 u0 u1 d) shapeCasts_S256x1024_S1x256x1024 := rfl
theorem pay_4_0 (x0 x1 : FVec F S256x512 .bf16) (g0 g1 u0 u1 : FVec F S512x256 .bf16) (d : FVec F S256x1024 .bf16) :
    k0_pay24 (k0_pay19 (k0_pay15 x0 x1 g0 g1) (k0_pay16 x0 x1 u0 u1) d) = shapeCast S1x256x1024 (subVal x0 x1 g0 g1 u0 u1 d) shapeCasts_S256x1024_S1x256x1024 := rfl
theorem pay_4_1 (x0 x1 : FVec F S256x512 .bf16) (g0 g1 u0 u1 : FVec F S512x256 .bf16) (d : FVec F S256x1024 .bf16) :
    k0_pay35 (k0_pay23 (k0_pay22 x0 x1 (k0_pay17 x0 g0) (k0_pay18 x1 g1) u0 u1) d) = shapeCast S1x256x1024 (subVal x0 x1 g0 g1 u0 u1 d) shapeCasts_S256x1024_S1x256x1024 := rfl
theorem pay_4_2 (x0 x1 : FVec F S256x512 .bf16) (g0 g1 u0 u1 : FVec F S512x256 .bf16) (d : FVec F S256x1024 .bf16) :
    k0_pay36 (k0_pay27 (k0_pay20 x0 x1 g0 g1) (k0_pay21 x0 x1 u0 u1)) d (constant S256x1024 .f32 0x00000000#32) = shapeCast S1x256x1024 (subVal x0 x1 g0 g1 u0 u1 d) shapeCasts_S256x1024_S1x256x1024 := rfl
theorem pay_4_3 (x0 x1 : FVec F S256x512 .bf16) (g0 g1 u0 u1 : FVec F S512x256 .bf16) (d : FVec F S256x1024 .bf16) :
    k0_pay37 (k0_pay25 x0 x1 g0 g1) (k0_pay26 x0 x1 u0 u1) d = shapeCast S1x256x1024 (subVal x0 x1 g0 g1 u0 u1 d) shapeCasts_S256x1024_S1x256x1024 := rfl

/-- The first `n` groups of the slot hold `V`'s rows. -/
def Rows (b : Fin 2) (V : Fin 4 → FVec F S256x1024 .bf16) (n : ℕ) (f : outM.view.ty.Contents (Elt F)) : Prop :=
  ∀ r : Fin 4, r.val < n → ∀ (i : Fin 256) (j : Fin 1024), (oslot b).view.read (Elt F) f (ix2 (rowG r i) j) = V r (ix2 i j)

theorem rows_zero (b : Fin 2) (V : Fin 4 → FVec F S256x1024 .bf16) (f : outM.view.ty.Contents (Elt F)) : Rows b V 0 f :=
  fun r h => absurd h (Nat.not_lt_zero _)

/-- One store more. -/
theorem rows_store (b : Fin 2) (V : Fin 4 → FVec F S256x1024 .bf16) {f : outM.view.ty.Contents (Elt F)} (r : Fin 4) (h : Rows b V r.val f)
    {P : FVec F S1x256x1024 .bf16} (hP : P = shapeCast S1x256x1024 (V r) shapeCasts_S256x1024_S1x256x1024) {off : Fin 3 → ℕ}
    (e : off = ![b.val, 256 * r.val, 0]) (inb : ∀ a, off a + S1x256x1024.size a ≤ S2x1024x1024.size a) :
    Rows b V (r.val + 1) (View.write (Elt F) (outM.access (Rect.unit (s := S2x1024x1024) off S1x256x1024.size inb)) f P Finset.univ) := by
  subst hP
  intro r' hr' i j
  rw [oslot_store b f r r' (V r) e inb i j]
  by_cases h' : r' = r
  · rw [if_pos h', h']
  · rw [if_neg h']
    exact h r' (by have : r'.val ≠ r.val := fun h0 => h' (Fin.ext h0)
                   omega) i j

end Cert.Proof.Moe

end
-- ==== Proof.State.lean ====
module

public import proofs.«01_k».proof.Proof.Vals

@[expose] public section

set_option maxRecDepth 65536

/-! # The kernel's resources between trips -/
noncomputable section

namespace Cert.Proof.Moe

open Cert.KernelIdeal Cert.KernelIdeal.Gen
open Idealize.ShloMosaic
open Idealize.ShloMosaic.ValueIdx (ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
abbrev 𝒱₀ : Variants := Variants.none

local notation "𝕄" => MT nD τ sig Unit (Elt F) ℕ (UU nD τ) ℕ

abbrev EP : Emb (UR sig nD τ) 𝕄 := embL

/-- The plan: how many tiles hold rows, and for every tile its expert, the next expert to fetch (negative for none),
    the number of experts met before it, and how many of its four row groups hold rows. -/
structure Plan where
  n : ℕ
  te : Fin 96 → Fin 32
  nx : Fin 96 → BitVec 32
  seg : Fin 96 → Fin 96
  ns : Fin 96 → BitVec 32

/-- Tile `i` of the plan by its number. -/
abbrev tl (i : ℕ) : Fin 96 := Ring.bk 96 i

/-- What a plan satisfies: at least one tile holds rows; from a tile to the next the expert, the fetch and the count
    stay, or the expert fetched is the next tile's and the count goes up by one; the first tile's count is zero and
    the last tile fetches none; a tile has at most four row groups,
    and one past the last tile that holds rows has none. -/
structure Plan.Ok (p : Plan) : Prop where
  n_pos : 1 ≤ p.n
  n_le : p.n ≤ 96
  seg0 : (p.seg 0).val = 0
  last : (p.nx 95).toInt < 0
  nx_lt : ∀ i, 0 ≤ (p.nx i).toInt → ∃ e : Fin 32, p.nx i = W e.val
  stay : ∀ i, i + 1 < 96 → p.te (tl (i + 1)) = p.te (tl i) → p.nx (tl (i + 1)) = p.nx (tl i) ∧ p.seg (tl (i + 1)) = p.seg (tl i)
  step : ∀ i, i + 1 < 96 → p.te (tl (i + 1)) ≠ p.te (tl i) →
    p.nx (tl i) = W (p.te (tl (i + 1))).val ∧ (p.seg (tl (i + 1))).val = (p.seg (tl i)).val + 1
  few : ∀ i : Fin 96, (p.ns i).toInt ≤ 4
  idle : ∀ i : Fin 96, p.n ≤ i.val → (p.ns i).toInt ≤ 0

section Defs

variable (c : Dev nD) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))

/-! ## What the buffers are to hold -/

/-- A slot's contents read as the token block `b`. -/
def InGood (XS : Buf (Elt F) (xsM.view.loc (c : Thread nD τ))) (s : Fin 3) (b : Fin 96) (f : Buf (Elt F) ((islot s).view.loc (c : Thread nD τ))) : Prop :=
  (islot s).view.read (Elt F) f = (xblk b).view.read (Elt F) XS
/-- The three working matrices are expert `e`'s, in the narrow type. -/
def ScrGood (EG : Buf (Elt F) (egM.view.loc (c : Thread nD τ))) (EU : Buf (Elt F) (euM.view.loc (c : Thread nD τ)))
  (ED : Buf (Elt F) (edM.view.loc (c : Thread nD τ))) (e : Fin 32) (fg : Buf (Elt F) (gScr.view.loc (c : Thread nD τ))) (fu : Buf (Elt F) (uScr.view.loc (c : Thread nD τ)))
    (fd : Buf (Elt F) (dScr.view.loc (c : Thread nD τ))) : Prop :=
  gScr.view.read (Elt F) fg = truncf .bf16 ((egE e).view.read (Elt F) EG) bitsLt_bf16_f32
    ∧ uScr.view.read (Elt F) fu = truncf .bf16 ((euE e).view.read (Elt F) EU) bitsLt_bf16_f32
    ∧ dScr.view.read (Elt F) fd = truncf .bf16 ((edE e).view.read (Elt F) ED) bitsLt_bf16_f32
/-- The rows of group `r` of tile `b`, by the tile's expert. -/
def rowsOf (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ))) (b : Fin 96) (r : Fin 4) : FVec F S256x1024 .bf16 :=
  groupVal ((xblk b).view.read (Elt F) XS) (truncf .bf16 ((egE (p.te b)).view.read (Elt F) EG) bitsLt_bf16_f32)
    (truncf .bf16 ((euE (p.te b)).view.read (Elt F) EU) bitsLt_bf16_f32) (truncf .bf16 ((edE (p.te b)).view.read (Elt F) ED) bitsLt_bf16_f32) r
/-- A slot of the result ring holds the rows of block `b`'s groups that hold rows. -/
def OutGood (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ))) (s : Fin 2) (b : Fin 96) (f : Buf (Elt F) ((oslot s).view.loc (c : Thread nD τ))) : Prop :=
  ∀ r : Fin 4, (r.val : ℤ) < (p.ns b).toInt → ∀ (i : Fin 256) (j : Fin 1024),
    (oslot s).view.read (Elt F) f (ix2 (rowG r i) j) = rowsOf c p XS EG EU ED b r (ix2 i j)
/-- The result array holds the rows of the blocks before `b`. -/
def ResGood (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ))) (b : ℕ) (f : Buf (Elt F) (resM.view.loc (c : Thread nD τ))) : Prop :=
  ∀ k : Fin 96, k.val < b → ∀ r : Fin 4, (r.val : ℤ) < (p.ns k).toInt → ∀ (i : Fin 256) (j : Fin 1024),
    (oblk k).view.read (Elt F) f (ix2 (rowG r i) j) = rowsOf c p XS EG EU ED k r (ix2 i j)

/-! ## The ring of token blocks -/

abbrev icell (s : Fin 3) : sProp 𝕄 := semVal ((c : Thread nD τ), SemLoc.dma (isem s).sem) 0
abbrev islotP (s : Fin 3) (f : Buf (Elt F) ((islot s).view.loc (c : Thread nD τ))) : sProp 𝕄 :=
  (islot s).view.loc (c : Thread nD τ) ↦[(islot s).view.set]{fullShare} f
/-- Slot `s`'s own share of the whole token array. -/
abbrev xsP (s : Fin 3) : sProp 𝕄 := xsM.view.loc (c : Thread nD τ) ↦[xsM.view.set]{Ring.shares3 fullShare s} XS
abbrev xsRest (s : Fin 3) (b : Fin 96) : sProp 𝕄 :=
  xsM.view.loc (c : Thread nD τ) ↦[xsM.view.set \ (xblk b).view.set]{Ring.shares3 fullShare s} XS
abbrev xblkP (s : Fin 3) (b : Fin 96) : sProp 𝕄 :=
  (xblk b).view.loc (c : Thread nD τ) ↦[(xblk b).view.set]{Ring.shares3 fullShare s} XS
/-- What block `b`'s transfer leaves in slot `s` over `f`. -/
abbrev ilanded (s : Fin 3) (b : Fin 96) (f : Buf (Elt F) ((islot s).view.loc (c : Thread nD τ))) :
    Buf (Elt F) ((islot s).view.loc (c : Thread nD τ)) :=
  (islot s).view.writes (Elt F) f [⟨Rect.whole S1024x1024, ReadAs.same.apply ((xblk b).view.read (Elt F) XS)⟩]
/-- Slot `s` free: its share of the tokens, the slot at anything, its cell at zero. -/
def inFree (s : Fin 3) : sProp 𝕄 := iprop(xsP c XS s ∗ (∃ f, islotP c s f) ∗ icell c s)
/-- Slot `s` holding block `b`. -/
def inHeld (s : Fin 3) (b : Fin 96) : sProp 𝕄 := iprop(xsP c XS s ∗ (∃ f, ⌜InGood c XS s b f⌝ ∗ islotP c s f) ∗ icell c s)
/-- Block `b` on its way into slot `s`. -/
def inFly (s : Fin 3) (b : Fin 96) : sProp 𝕄 :=
  iprop(xsRest c XS s b ∗ ∃ f, Transfers.Flight countersEmb (c : Thread nD τ) (SemLoc.dma (isem s).sem) () 65536
    iprop(islotP c s (ilanded c XS s b f) ∗ xblkP c XS s b))
/-- The slot of block `b` before its trip: on its way when there is such a block, else free. -/
def inRole (n b : ℕ) : sProp 𝕄 := if b < n then inFly c XS (Ring.sl 3 b) (tl b) else inFree c XS (Ring.sl 3 b)
/-- The slot of block `b` in its trip. -/
def inNow (n b : ℕ) : sProp 𝕄 := if b < n then inHeld c XS (Ring.sl 3 b) (tl b) else inFree c XS (Ring.sl 3 b)

theorem inHeld_free (s : Fin 3) (b : Fin 96) : inHeld c XS s b ⊢ inFree c XS s := by
  unfold inHeld inFree
  iintro ⟨Hx, ⟨%f, -, Hf⟩, Hc⟩
  isplitl [Hx]; · iexact Hx
  isplitl [Hf]; · iexists f; iexact Hf
  iexact Hc

/-- A slot a block landed in reads as the block. -/
theorem ilanded_good (s : Fin 3) (b : Fin 96) (f : Buf (Elt F) ((islot s).view.loc (c : Thread nD τ))) : InGood c XS s b (ilanded c XS s b f) :=
  read_landed (islot s).view f _

/-- A block landed: its elements of the token array rejoin the slot's share, and the slot holds the block. -/
theorem inHeld_of (s : Fin 3) (b : Fin 96) (f : Buf (Elt F) ((islot s).view.loc (c : Thread nD τ))) :
    iprop(xsRest c XS s b ∗ islotP c s (ilanded c XS s b f) ∗ xblkP c XS s b ∗ icell c s) ⊢ inHeld c XS s b := by
  unfold inHeld
  iintro ⟨Hr, Hd, Hs, Hc⟩
  isplitl [Hr Hs]
  · iapply (pointsTo_split_subset (q := Ring.shares3 fullShare s) (f := XS) (show (xblk b).view.set ⊆ xsM.view.set from by intro x _; simp; exact Finset.mem_univ _)).2
    isplitl [Hs]; · iexact Hs
    iexact Hr
  isplitl [Hd]
  · iexists (ilanded c XS s b f); isplitr; · ipureintro; exact ilanded_good c XS s b f
    iexact Hd
  iexact Hc

theorem inNow_free (n b : ℕ) : inNow c XS n b ⊢ inFree c XS (Ring.sl 3 b) := by
  unfold inNow; split
  · exact inHeld_free c XS _ _
  · exact .rfl

end Defs

end Cert.Proof.Moe

end
-- ==== Proof.ExpState.lean ====
module

public import proofs.«01_k».proof.Proof.State

@[expose] public section

set_option maxRecDepth 65536

/-! # The experts' matrices between trips

At most one transfer of each of the three arrays is on its way at a time, into the slots of the next expert, while the
working matrices hold the current one. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Defs

variable (c : Dev nD)
variable (EG : Buf (Elt F) (egM.view.loc (c : Thread nD τ))) (EU : Buf (Elt F) (euM.view.loc (c : Thread nD τ)))
  (ED : Buf (Elt F) (edM.view.loc (c : Thread nD τ)))

abbrev gcell (s : Fin 2) : sProp 𝕄 := semVal ((c : Thread nD τ), SemLoc.dma (gsem s).sem) 0
abbrev gslotP (s : Fin 2) (f : Buf (Elt F) ((gslot s).view.loc (c : Thread nD τ))) : sProp 𝕄 :=
  (gslot s).view.loc (c : Thread nD τ) ↦[(gslot s).view.set]{fullShare} f
/-- The whole array of gate matrices. -/
abbrev egP : sProp 𝕄 := egM.view.loc (c : Thread nD τ) ↦[egM.view.set]{fullShare} EG
abbrev egset (e : Fin 32) : Finset (egM.view.loc (c : Thread nD τ)).2.ty.shape.Idx := (egE e).view.set
/-- All of it but expert `e`'s. -/
abbrev egRest (e : Fin 32) : sProp 𝕄 := egM.view.loc (c : Thread nD τ) ↦[egM.view.set \ (egE e).view.set]{fullShare} EG
abbrev egEP (e : Fin 32) : sProp 𝕄 := (egE e).view.loc (c : Thread nD τ) ↦[(egE e).view.set]{fullShare} EG
/-- What the transfer of expert `e`'s gate matrix leaves in slot `s` over `f`. -/
abbrev glanded (s : Fin 2) (e : Fin 32) (f : Buf (Elt F) ((gslot s).view.loc (c : Thread nD τ))) :
    Buf (Elt F) ((gslot s).view.loc (c : Thread nD τ)) :=
  (gslot s).view.writes (Elt F) f [⟨Rect.whole S1024x256, ReadAs.same.apply ((egE e).view.read (Elt F) EG)⟩]
/-- Expert `e`'s gate matrix on its way into slot `s`. -/
def gFly (s : Fin 2) (e : Fin 32) : sProp 𝕄 :=
  iprop(egRest c EG e ∗ ∃ f, Transfers.Flight countersEmb (c : Thread nD τ) (SemLoc.dma (gsem s).sem) () 32768
    iprop(gslotP c s (glanded c EG s e f) ∗ egEP c EG e))
/-- Slot `s` free. -/
def gFree (s : Fin 2) : sProp 𝕄 := iprop((∃ f, gslotP (F := F) c s f) ∗ gcell (F := F) c s)

theorem egP_split (e : Fin 32) : egP c EG ⊢ iprop(egEP c EG e ∗ egRest c EG e) :=
  (pointsTo_split_subset (q := fullShare) (f := EG) (show (egE e).view.set ⊆ egM.view.set from by intro x _; simp; exact Finset.mem_univ _)).1

theorem egP_of (e : Fin 32) : iprop(egRest c EG e ∗ egEP c EG e) ⊢ egP c EG := by
  iintro ⟨Hr, Hs⟩
  iapply (pointsTo_split_subset (q := fullShare) (f := EG) (show (egE e).view.set ⊆ egM.view.set from by intro x _; simp; exact Finset.mem_univ _)).2
  isplitl [Hs]; · iexact Hs
  iexact Hr

abbrev ucell (s : Fin 2) : sProp 𝕄 := semVal ((c : Thread nD τ), SemLoc.dma (usem s).sem) 0
abbrev uslotP (s : Fin 2) (f : Buf (Elt F) ((uslot s).view.loc (c : Thread nD τ))) : sProp 𝕄 :=
  (uslot s).view.loc (c : Thread nD τ) ↦[(uslot s).view.set]{fullShare} f
/-- The whole array of up matrices. -/
abbrev euP : sProp 𝕄 := euM.view.loc (c : Thread nD τ) ↦[euM.view.set]{fullShare} EU
abbrev euset (e : Fin 32) : Finset (euM.view.loc (c : Thread nD τ)).2.ty.shape.Idx := (euE e).view.set
/-- All of it but expert `e`'s. -/
abbrev euRest (e : Fin 32) : sProp 𝕄 := euM.view.loc (c : Thread nD τ) ↦[euM.view.set \ (euE e).view.set]{fullShare} EU
abbrev euEP (e : Fin 32) : sProp 𝕄 := (euE e).view.loc (c : Thread nD τ) ↦[(euE e).view.set]{fullShare} EU
/-- What the transfer of expert `e`'s up matrix leaves in slot `s` over `f`. -/
abbrev ulanded (s : Fin 2) (e : Fin 32) (f : Buf (Elt F) ((uslot s).view.loc (c : Thread nD τ))) :
    Buf (Elt F) ((uslot s).view.loc (c : Thread nD τ)) :=
  (uslot s).view.writes (Elt F) f [⟨Rect.whole S1024x256, ReadAs.same.apply ((euE e).view.read (Elt F) EU)⟩]
/-- Expert `e`'s up matrix on its way into slot `s`. -/
def uFly (s : Fin 2) (e : Fin 32) : sProp 𝕄 :=
  iprop(euRest c EU e ∗ ∃ f, Transfers.Flight countersEmb (c : Thread nD τ) (SemLoc.dma (usem s).sem) () 32768
    iprop(uslotP c s (ulanded c EU s e f) ∗ euEP c EU e))
/-- Slot `s` free. -/
def uFree (s : Fin 2) : sProp 𝕄 := iprop((∃ f, uslotP (F := F) c s f) ∗ ucell (F := F) c s)

theorem euP_split (e : Fin 32) : euP c EU ⊢ iprop(euEP c EU e ∗ euRest c EU e) :=
  (pointsTo_split_subset (q := fullShare) (f := EU) (show (euE e).view.set ⊆ euM.view.set from by intro x _; simp; exact Finset.mem_univ _)).1

theorem euP_of (e : Fin 32) : iprop(euRest c EU e ∗ euEP c EU e) ⊢ euP c EU := by
  iintro ⟨Hr, Hs⟩
  iapply (pointsTo_split_subset (q := fullShare) (f := EU) (show (euE e).view.set ⊆ euM.view.set from by intro x _; simp; exact Finset.mem_univ _)).2
  isplitl [Hs]; · iexact Hs
  iexact Hr

abbrev dcell (s : Fin 2) : sProp 𝕄 := semVal ((c : Thread nD τ), SemLoc.dma (dsem s).sem) 0
abbrev dslotP (s : Fin 2) (f : Buf (Elt F) ((dslot s).view.loc (c : Thread nD τ))) : sProp 𝕄 :=
  (dslot s).view.loc (c : Thread nD τ) ↦[(dslot s).view.set]{fullShare} f
/-- The whole array of down matrices. -/
abbrev edP : sProp 𝕄 := edM.view.loc (c : Thread nD τ) ↦[edM.view.set]{fullShare} ED
abbrev edset (e : Fin 32) : Finset (edM.view.loc (c : Thread nD τ)).2.ty.shape.Idx := (edE e).view.set
/-- All of it but expert `e`'s. -/
abbrev edRest (e : Fin 32) : sProp 𝕄 := edM.view.loc (c : Thread nD τ) ↦[edM.view.set \ (edE e).view.set]{fullShare} ED
abbrev edEP (e : Fin 32) : sProp 𝕄 := (edE e).view.loc (c : Thread nD τ) ↦[(edE e).view.set]{fullShare} ED
/-- What the transfer of expert `e`'s down matrix leaves in slot `s` over `f`. -/
abbrev dlanded (s : Fin 2) (e : Fin 32) (f : Buf (Elt F) ((dslot s).view.loc (c : Thread nD τ))) :
    Buf (Elt F) ((dslot s).view.loc (c : Thread nD τ)) :=
  (dslot s).view.writes (Elt F) f [⟨Rect.whole S256x1024, ReadAs.same.apply ((edE e).view.read (Elt F) ED)⟩]
/-- Expert `e`'s down matrix on its way into slot `s`. -/
def dFly (s : Fin 2) (e : Fin 32) : sProp 𝕄 :=
  iprop(edRest c ED e ∗ ∃ f, Transfers.Flight countersEmb (c : Thread nD τ) (SemLoc.dma (dsem s).sem) () 32768
    iprop(dslotP c s (dlanded c ED s e f) ∗ edEP c ED e))
/-- Slot `s` free. -/
def dFree (s : Fin 2) : sProp 𝕄 := iprop((∃ f, dslotP (F := F) c s f) ∗ dcell (F := F) c s)

theorem edP_split (e : Fin 32) : edP c ED ⊢ iprop(edEP c ED e ∗ edRest c ED e) :=
  (pointsTo_split_subset (q := fullShare) (f := ED) (show (edE e).view.set ⊆ edM.view.set from by intro x _; simp; exact Finset.mem_univ _)).1

theorem edP_of (e : Fin 32) : iprop(edRest c ED e ∗ edEP c ED e) ⊢ edP c ED := by
  iintro ⟨Hr, Hs⟩
  iapply (pointsTo_split_subset (q := fullShare) (f := ED) (show (edE e).view.set ⊆ edM.view.set from by intro x _; simp; exact Finset.mem_univ _)).2
  isplitl [Hs]; · iexact Hs
  iexact Hr

abbrev gScrP (f : Buf (Elt F) (gScr.view.loc (c : Thread nD τ))) : sProp 𝕄 := gScr.view.loc (c : Thread nD τ) ↦[gScr.view.set]{fullShare} f
abbrev uScrP (f : Buf (Elt F) (uScr.view.loc (c : Thread nD τ))) : sProp 𝕄 := uScr.view.loc (c : Thread nD τ) ↦[uScr.view.set]{fullShare} f
abbrev dScrP (f : Buf (Elt F) (dScr.view.loc (c : Thread nD τ))) : sProp 𝕄 := dScr.view.loc (c : Thread nD τ) ↦[dScr.view.set]{fullShare} f
/-- The working matrices at anything. -/
def scrAny : sProp 𝕄 := iprop((∃ f : Buf (Elt F) (gScr.view.loc (c : Thread nD τ)), gScrP c f) ∗
  (∃ f : Buf (Elt F) (uScr.view.loc (c : Thread nD τ)), uScrP c f) ∗
  (∃ f : Buf (Elt F) (dScr.view.loc (c : Thread nD τ)), dScrP c f))
/-- The working matrices, expert `e`'s. -/
def scrP (e : Fin 32) : sProp 𝕄 := iprop(∃ fg : Buf (Elt F) (gScr.view.loc (c : Thread nD τ)), ∃ fu : Buf (Elt F) (uScr.view.loc (c : Thread nD τ)), ∃ fd : Buf (Elt F) (dScr.view.loc (c : Thread nD τ)), ⌜ScrGood c EG EU ED e fg fu fd⌝ ∗
  gScrP c fg ∗
  uScrP c fu ∗
  dScrP c fd)

/-- The three slots numbered `s` free. -/
def wFree (s : Fin 2) : sProp 𝕄 := iprop(gFree (F := F) c s ∗ uFree (F := F) c s ∗ dFree (F := F) c s)
/-- The three arrays whole. -/
def wHome : sProp 𝕄 := iprop(egP c EG ∗ euP c EU ∗ edP c ED)
/-- Expert `e`'s matrices on their way into the slots numbered `s`. -/
def wFly (s : Fin 2) (e : Fin 32) : sProp 𝕄 := iprop(gFly c EG s e ∗ uFly c EU s e ∗ dFly c ED s e)
/-- The slots of the next expert: on their way when there is one, else free. -/
def wNext (s : Fin 2) (v : BitVec 32) : sProp 𝕄 :=
  if 0 ≤ v.toInt then iprop(∃ e : Fin 32, ⌜v = W e.val⌝ ∗ wFly c EG EU ED s e) else iprop(wFree (F := F) c s ∗ wHome c EG EU ED)
/-- The weights before trip `i`. -/
def wSt (p : Plan) (i : ℕ) : sProp 𝕄 :=
  if i = 0 then iprop(scrAny (F := F) c ∗ wFree (F := F) c (Ring.sl 2 0) ∗ wFree (F := F) c (Ring.sl 2 1) ∗ wHome c EG EU ED)
  else iprop(scrP c EG EU ED (p.te (tl (i - 1))) ∗ wFree (F := F) c (Ring.sl 2 (p.seg (tl (i - 1))).val) ∗
    wNext c EG EU ED (Ring.sl 2 ((p.seg (tl (i - 1))).val + 1)) (p.nx (tl (i - 1))))
/-- A tile whose expert is on its way. -/
def wLoad (p : Plan) (i : ℕ) : sProp 𝕄 :=
  iprop(scrAny (F := F) c ∗ wFly c EG EU ED (Ring.sl 2 (p.seg (tl i)).val) (p.te (tl i)) ∗ wFree (F := F) c (Ring.sl 2 ((p.seg (tl i)).val + 1)))
/-- The weights in trip `i`, before its expert is taken up. -/
def wMid (p : Plan) (i : ℕ) : sProp 𝕄 :=
  if i = 0 ∨ p.te (tl i) ≠ p.te (tl (i - 1)) then wLoad c EG EU ED p i else wSt c EG EU ED p (i + 1)

theorem scrP_any (e : Fin 32) : scrP c EG EU ED e ⊢ scrAny (F := F) c := by
  unfold scrP scrAny
  iintro ⟨%fg, %fu, %fd, -, Hg, Hu, Hd⟩
  isplitl [Hg]; · iexists fg; iexact Hg
  isplitl [Hu]; · iexists fu; iexact Hu
  iexists fd; iexact Hd

theorem W_toInt : ∀ e : Fin 32, 0 ≤ (W e.val).toInt := by decide

theorem wSt_mid {p : Plan} (hp : p.Ok) {i : ℕ} (h1 : 1 ≤ i) (h2 : i < 96) : wSt c EG EU ED p i ⊢ wMid c EG EU ED p i := by
  obtain ⟨j, rfl⟩ : ∃ j, i = j + 1 := ⟨i - 1, by omega⟩
  by_cases he : p.te (tl (j + 1)) = p.te (tl j)
  · obtain ⟨hx, hs⟩ := hp.stay j h2 he
    unfold wMid
    rw [if_neg (fun h => h.elim (by omega) fun h => h he)]
    unfold wSt
    rw [if_neg (by omega), if_neg (by omega)]
    simp only [Nat.add_sub_cancel, he, hx, hs]
    exact .rfl
  · obtain ⟨hx, hs⟩ := hp.step j h2 he
    unfold wMid
    rw [if_pos (Or.inr (show p.te (tl (j + 1)) ≠ p.te (tl (j + 1 - 1)) from he))]
    unfold wSt wLoad wNext
    rw [if_neg (by omega)]
    simp only [Nat.add_sub_cancel, hx, hs]
    rw [if_pos (W_toInt _)]
    iintro ⟨Hc, Hf, ⟨%e, %hw, Hy⟩⟩
    obtain rfl : p.te (tl (j + 1)) = e := Fin.ext ((W_inj (by omega) (by omega)).1 hw)
    isplitl [Hc]; · iapply (scrP_any c EG EU ED _); iexact Hc
    isplitl [Hy]; · iexact Hy
    rw [show (p.seg (tl j)).val + 1 + 1 = (p.seg (tl j)).val + 2 from rfl, Ring.sl_add 2 _]
    iexact Hf

/-! ## The plan's tables in scalar memory -/

abbrev tabP (a : Memref sig .tc .smem S96 .i32) (g : Buf (Elt F) (a.view.loc (c : Thread nD τ))) : sProp 𝕄 :=
  a.view.loc (c : Thread nD τ) ↦[a.view.set]{fullShare} g
/-- A table's buffer holds the words `t`. -/
def TabOk (a : Memref sig .tc .smem S96 .i32) (t : Fin 96 → BitVec 32) (g : Buf (Elt F) (a.view.loc (c : Thread nD τ))) : Prop :=
  ∀ k : Fin 96, ∀ inb, a.view.readAt (Elt F) (Rect.unit (s := S96) ![k.val] S1.size inb).toLoadRect g = fun _ => t k
theorem TabOk.at {a : Memref sig .tc .smem S96 .i32} {t : Fin 96 → BitVec 32} {g : Buf (Elt F) (a.view.loc (c : Thread nD τ))}
    (h : TabOk c a t g) (k : Fin 96) {off : Fin 1 → ℕ} (e : off = ![k.val]) (inb) :
    a.view.readAt (Elt F) (Rect.unit (s := S96) off S1.size inb).toLoadRect g = fun _ => t k := by
  subst e; exact h k inb
/-- The step counter's word is `i`. -/
def stepP (i : ℕ) : sProp 𝕄 := iprop(∃ f : Buf (Elt F) (stepM.view.loc (c : Thread nD τ)),
  ⌜∀ inb, stepM.view.readAt (Elt F) (Rect.unit (s := S1) ![0] S1.size inb).toLoadRect f = fun _ => W i⌝ ∗
    stepM.view.loc (c : Thread nD τ) ↦[stepM.view.set]{fullShare} f)

end Defs

end Cert.Proof.Moe

end
-- ==== Proof.Cuts.lean ====
module

public import proofs.«01_k».proof.Proof.Names
public import Idealize.ShloMosaic.Lib.Tactic.Stretches

@[expose] public section

set_option maxRecDepth 65536
set_option maxHeartbeats 4000000

/-! # One trip cut into stretches -/

noncomputable section

namespace Cert.Proof.Moe

open Cert.KernelIdeal Cert.KernelIdeal.Gen
open Idealize.ShloMosaic
open Idealize.ShloMosaic.TcCoe Idealize.ShloMosaic.Tactic

/- One trip: the next token block's start and this one's wait (after the counters), the step word and the first
experts, the weights with the products and the result's start, and the earlier result's wait. -/
cut_chain trip := k0_t1_body at 2, 3, 4, 5

/- The weights, the products, the result's start. -/
cut_chain work := k0_part11_skel at 2, 14

end Cert.Proof.Moe

end
-- ==== Proof.WordsWork.lean ====
module

public import proofs.«01_k».proof.Proof.Words

@[expose] public section

set_option maxRecDepth 65536

/-! # The checks of a trip's work

Every offset the middle of a trip computes, from a tile number, an expert, a count of experts or a ring position, stays
inside its buffer. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off14_in_all : ∀ k : Fin 32, ∀ a, (k0_off14 (W k.val)) a + S1x1024x256.size a ≤ S32x1024x256.size a := by decide +kernel
theorem off15_in_all : ∀ k : Fin 32, ∀ a, (k0_off15 (W k.val)) a + S1x256x1024.size a ≤ S32x256x1024.size a := by decide +kernel
theorem chk8_ok {k : ℕ} (hk : k < 96) {e : ℕ} (he : e < 32) : k0_chk8 (W k) (W e) :=
  ⟨fun _ => off14_in_all ⟨e, he⟩, fun _ => off15_in_all ⟨e, he⟩⟩

theorem off17_in_all : ∀ k : Fin 96, ∀ a, (k0_off17 (W k.val)) a + S1x1.size a ≤ S2x3.size a := by decide +kernel
theorem off18_in_all : ∀ k : Fin 96, ∀ a, (k0_off18 (W k.val)) a + S1x1024x256.size a ≤ S2x1024x256.size a := by decide +kernel
theorem off19_in_all : ∀ k : Fin 32, ∀ a, (k0_off19 (W k.val)) a + S1x1024x256.size a ≤ S32x1024x256.size a := by decide +kernel
theorem off20_in_all : ∀ k : Fin 96, ∀ a, (k0_off20 (W k.val)) a + S1x1.size a ≤ S2x3.size a := by decide +kernel
theorem off21_in_all : ∀ k : Fin 96, ∀ a, (k0_off21 (W k.val)) a + S1x1.size a ≤ S2x3.size a := by decide +kernel
theorem off22_in_all : ∀ k : Fin 96, ∀ a, (k0_off22 (W k.val)) a + S1x256x1024.size a ≤ S2x256x1024.size a := by decide +kernel
theorem off23_in_all : ∀ k : Fin 32, ∀ a, (k0_off23 (W k.val)) a + S1x256x1024.size a ≤ S32x256x1024.size a := by decide +kernel
theorem off24_in_all : ∀ k : Fin 96, ∀ a, (k0_off24 (W k.val)) a + S1x1024x256.size a ≤ S2x1024x256.size a := by decide +kernel
theorem off25_in_all : ∀ k : Fin 96, ∀ a, (k0_off25 (W k.val)) a + S1x256x1024.size a ≤ S2x256x1024.size a := by decide +kernel
theorem off26_in_all : ∀ k : Fin 96, ∀ a, (k0_off26 (W k.val)) a + S1.size a ≤ S96.size a := by decide +kernel
theorem chk9_ok {k : ℕ} (hk : k < 96) {e : ℕ} (he : e < 32) {s : ℕ} (hs : s < 96) (v178 : BitVec 32) : k0_chk9 (W k) (W e) (W s) v178 :=
  ⟨fun _ => off17_in_all ⟨s, hs⟩, fun _ => off18_in_all ⟨s, hs⟩, fun _ => off19_in_all ⟨e, he⟩, fun _ => off20_in_all ⟨s, hs⟩, fun _ => off21_in_all ⟨s, hs⟩, fun _ => off22_in_all ⟨s, hs⟩, fun _ => off23_in_all ⟨e, he⟩, fun _ => off24_in_all ⟨s, hs⟩, fun _ => off25_in_all ⟨s, hs⟩, fun _ => off26_in_all ⟨k, hk⟩⟩

theorem off27_in_all : ∀ k : Fin 96, ∀ a, (k0_off27 (W k.val)) a + S1.size a ≤ S96.size a := by decide +kernel
theorem off28_in_all : ∀ k : Fin 96, ∀ a, (k0_off28 (W k.val)) a + S1x1.size a ≤ S2x3.size a := by decide +kernel
theorem off29_in_all : ∀ k : Fin 96, ∀ a, (k0_off29 (W k.val)) a + S1x1024x256.size a ≤ S2x1024x256.size a := by decide +kernel
theorem off31_in_all : ∀ k : Fin 96, ∀ a, (k0_off31 (W k.val)) a + S1x1.size a ≤ S2x3.size a := by decide +kernel
theorem off32_in_all : ∀ k : Fin 96, ∀ a, (k0_off32 (W k.val)) a + S1x1024x256.size a ≤ S2x1024x256.size a := by decide +kernel
theorem off33_in_all : ∀ k : Fin 96, ∀ a, (k0_off33 (W k.val)) a + S1x1.size a ≤ S2x3.size a := by decide +kernel
theorem off34_in_all : ∀ k : Fin 96, ∀ a, (k0_off34 (W k.val)) a + S1x256x1024.size a ≤ S2x256x1024.size a := by decide +kernel
theorem chk10_ok {k : ℕ} (hk : k < 96) {e : ℕ} (he : e < 32) {s : ℕ} (hs : s < 96) (v178 : BitVec 32) (v277 : BitVec 32) : k0_chk10 (W k) (W e) (W s) v178 v277 :=
  ⟨fun _ _ => off27_in_all ⟨k, hk⟩, fun _ _ => off28_in_all ⟨s, hs⟩, fun _ _ => off29_in_all ⟨s, hs⟩, fun _ _ => off31_in_all ⟨s, hs⟩, fun _ _ => off32_in_all ⟨s, hs⟩, fun _ _ => off33_in_all ⟨s, hs⟩, fun _ _ => off34_in_all ⟨s, hs⟩⟩

theorem off30_in_all : ∀ k : Fin 32, ∀ a, (k0_off30 (W k.val)) a + S1x1024x256.size a ≤ S32x1024x256.size a := by decide +kernel
theorem off35_in_all : ∀ k : Fin 32, ∀ a, (k0_off35 (W k.val)) a + S1x256x1024.size a ≤ S32x256x1024.size a := by decide +kernel
theorem chk11_ok {k : ℕ} (hk : k < 96) {e : ℕ} (he : e < 32) (v178 : BitVec 32) (v277 : BitVec 32) {e2 : ℕ} (he2 : e2 < 32) : k0_chk11 (W k) (W e) v178 v277 (W e2) :=
  ⟨fun _ _ => off30_in_all ⟨e2, he2⟩, fun _ _ => off35_in_all ⟨e2, he2⟩⟩

theorem off37_in_all : ∀ k : Fin 97, ∀ a, (k0_off37 (W k.val)) a + S1x1024x1024.size a ≤ S3x1024x1024.size a := by decide +kernel
theorem off38_in_all : ∀ k : Fin 97, ∀ a, (k0_off38 (W k.val)) a + S1x1024x1024.size a ≤ S2x1024x1024.size a := by decide +kernel
theorem off39_in_all : ∀ k : Fin 97, ∀ a, (k0_off39 (W k.val)) a + S1x256x1024.size a ≤ S2x1024x1024.size a := by decide +kernel
theorem off39_packed_all : ∀ k : Fin 97, ∀ (hinb : ∀ a, (k0_off39 (W k.val)) a + S1x256x1024.size a ≤ S2x1024x1024.size a), (Rect.unit (s := S2x1024x1024) (k0_off39 (W k.val)) S1x256x1024.size hinb).PackedRows (EltTy.packing .bf16) := by decide +kernel
theorem chk12_ok {a : ℕ} (ha : a < 97) {b : ℕ} (hb : b < 97) (v184 : BitVec 32) : k0_chk12 (W a) (W b) v184 :=
  ⟨fun _ => off37_in_all ⟨a, ha⟩, fun _ => off38_in_all ⟨b, hb⟩, fun _ => off39_in_all ⟨b, hb⟩, fun _ => off39_packed_all ⟨b, hb⟩⟩

theorem off41_in_all : ∀ k : Fin 97, ∀ a, (k0_off41 (W k.val)) a + S1x1024x1024.size a ≤ S3x1024x1024.size a := by decide +kernel
theorem off42_in_all : ∀ k : Fin 97, ∀ a, (k0_off42 (W k.val)) a + S1x1024x1024.size a ≤ S2x1024x1024.size a := by decide +kernel
theorem off43_in_all : ∀ k : Fin 97, ∀ a, (k0_off43 (W k.val)) a + S1x256x1024.size a ≤ S2x1024x1024.size a := by decide +kernel
theorem off43_packed_all : ∀ k : Fin 97, ∀ (hinb : ∀ a, (k0_off43 (W k.val)) a + S1x256x1024.size a ≤ S2x1024x1024.size a), (Rect.unit (s := S2x1024x1024) (k0_off43 (W k.val)) S1x256x1024.size hinb).PackedRows (EltTy.packing .bf16) := by decide +kernel
theorem off44_in_all : ∀ k : Fin 97, ∀ a, (k0_off44 (W k.val)) a + S1x256x1024.size a ≤ S2x1024x1024.size a := by decide +kernel
theorem off44_packed_all : ∀ k : Fin 97, ∀ (hinb : ∀ a, (k0_off44 (W k.val)) a + S1x256x1024.size a ≤ S2x1024x1024.size a), (Rect.unit (s := S2x1024x1024) (k0_off44 (W k.val)) S1x256x1024.size hinb).PackedRows (EltTy.packing .bf16) := by decide +kernel
theorem chk13_ok {a : ℕ} (ha : a < 97) {b : ℕ} (hb : b < 97) (v189 : BitVec 32) : k0_chk13 (W a) (W b) v189 :=
  ⟨fun _ => off41_in_all ⟨a, ha⟩, fun _ => off42_in_all ⟨b, hb⟩, fun _ => off43_in_all ⟨b, hb⟩, fun _ => off43_packed_all ⟨b, hb⟩, fun _ => off44_in_all ⟨b, hb⟩, fun _ => off44_packed_all ⟨b, hb⟩⟩

theorem off46_in_all : ∀ k : Fin 97, ∀ a, (k0_off46 (W k.val)) a + S1x1024x1024.size a ≤ S3x1024x1024.size a := by decide +kernel
theorem off47_in_all : ∀ k : Fin 97, ∀ a, (k0_off47 (W k.val)) a + S1x1024x1024.size a ≤ S2x1024x1024.size a := by decide +kernel
theorem off48_in_all : ∀ k : Fin 97, ∀ a, (k0_off48 (W k.val)) a + S1x256x1024.size a ≤ S2x1024x1024.size a := by decide +kernel
theorem off48_packed_all : ∀ k : Fin 97, ∀ (hinb : ∀ a, (k0_off48 (W k.val)) a + S1x256x1024.size a ≤ S2x1024x1024.size a), (Rect.unit (s := S2x1024x1024) (k0_off48 (W k.val)) S1x256x1024.size hinb).PackedRows (EltTy.packing .bf16) := by decide +kernel
theorem off49_in_all : ∀ k : Fin 97, ∀ a, (k0_off49 (W k.val)) a + S1x256x1024.size a ≤ S2x1024x1024.size a := by decide +kernel
theorem off49_packed_all : ∀ k : Fin 97, ∀ (hinb : ∀ a, (k0_off49 (W k.val)) a + S1x256x1024.size a ≤ S2x1024x1024.size a), (Rect.unit (s := S2x1024x1024) (k0_off49 (W k.val)) S1x256x1024.size hinb).PackedRows (EltTy.packing .bf16) := by decide +kernel
theorem off50_in_all : ∀ k : Fin 97, ∀ a, (k0_off50 (W k.val)) a + S1x256x1024.size a ≤ S2x1024x1024.size a := by decide +kernel
theorem off50_packed_all : ∀ k : Fin 97, ∀ (hinb : ∀ a, (k0_off50 (W k.val)) a + S1x256x1024.size a ≤ S2x1024x1024.size a), (Rect.unit (s := S2x1024x1024) (k0_off50 (W k.val)) S1x256x1024.size hinb).PackedRows (EltTy.packing .bf16) := by decide +kernel
theorem chk14_ok {a : ℕ} (ha : a < 97) {b : ℕ} (hb : b < 97) (v194 : BitVec 32) : k0_chk14 (W a) (W b) v194 :=
  ⟨fun _ => off46_in_all ⟨a, ha⟩, fun _ => off47_in_all ⟨b, hb⟩, fun _ => off48_in_all ⟨b, hb⟩, fun _ => off48_packed_all ⟨b, hb⟩, fun _ => off49_in_all ⟨b, hb⟩, fun _ => off49_packed_all ⟨b, hb⟩, fun _ => off50_in_all ⟨b, hb⟩, fun _ => off50_packed_all ⟨b, hb⟩⟩

theorem off52_in_all : ∀ k : Fin 97, ∀ a, (k0_off52 (W k.val)) a + S1x1024x1024.size a ≤ S3x1024x1024.size a := by decide +kernel
theorem off53_in_all : ∀ k : Fin 97, ∀ a, (k0_off53 (W k.val)) a + S1x1024x1024.size a ≤ S2x1024x1024.size a := by decide +kernel
theorem off54_in_all : ∀ k : Fin 97, ∀ a, (k0_off54 (W k.val)) a + S1x256x1024.size a ≤ S2x1024x1024.size a := by decide +kernel
theorem off54_packed_all : ∀ k : Fin 97, ∀ (hinb : ∀ a, (k0_off54 (W k.val)) a + S1x256x1024.size a ≤ S2x1024x1024.size a), (Rect.unit (s := S2x1024x1024) (k0_off54 (W k.val)) S1x256x1024.size hinb).PackedRows (EltTy.packing .bf16) := by decide +kernel
theorem off55_in_all : ∀ k : Fin 97, ∀ a, (k0_off55 (W k.val)) a + S1x256x1024.size a ≤ S2x1024x1024.size a := by decide +kernel
theorem off55_packed_all : ∀ k : Fin 97, ∀ (hinb : ∀ a, (k0_off55 (W k.val)) a + S1x256x1024.size a ≤ S2x1024x1024.size a), (Rect.unit (s := S2x1024x1024) (k0_off55 (W k.val)) S1x256x1024.size hinb).PackedRows (EltTy.packing .bf16) := by decide +kernel
theorem off56_in_all : ∀ k : Fin 97, ∀ a, (k0_off56 (W k.val)) a + S1x256x1024.size a ≤ S2x1024x1024.size a := by decide +kernel
theorem off56_packed_all : ∀ k : Fin 97, ∀ (hinb : ∀ a, (k0_off56 (W k.val)) a + S1x256x1024.size a ≤ S2x1024x1024.size a), (Rect.unit (s := S2x1024x1024) (k0_off56 (W k.val)) S1x256x1024.size hinb).PackedRows (EltTy.packing .bf16) := by decide +kernel
theorem off57_in_all : ∀ k : Fin 97, ∀ a, (k0_off57 (W k.val)) a + S1x256x1024.size a ≤ S2x1024x1024.size a := by decide +kernel
theorem off57_packed_all : ∀ k : Fin 97, ∀ (hinb : ∀ a, (k0_off57 (W k.val)) a + S1x256x1024.size a ≤ S2x1024x1024.size a), (Rect.unit (s := S2x1024x1024) (k0_off57 (W k.val)) S1x256x1024.size hinb).PackedRows (EltTy.packing .bf16) := by decide +kernel
theorem chk15_ok {a : ℕ} (ha : a < 97) {b : ℕ} (hb : b < 97) (v199 : BitVec 32) : k0_chk15 (W a) (W b) v199 :=
  ⟨fun _ => off52_in_all ⟨a, ha⟩, fun _ => off53_in_all ⟨b, hb⟩, fun _ => off54_in_all ⟨b, hb⟩, fun _ => off54_packed_all ⟨b, hb⟩, fun _ => off55_in_all ⟨b, hb⟩, fun _ => off55_packed_all ⟨b, hb⟩, fun _ => off56_in_all ⟨b, hb⟩, fun _ => off56_packed_all ⟨b, hb⟩, fun _ => off57_in_all ⟨b, hb⟩, fun _ => off57_packed_all ⟨b, hb⟩⟩

end Cert.Proof.Moe

end
-- ==== Proof.TripExp.lean ====
module

public import proofs.«01_k».proof.Proof.ExpState
public import proofs.«01_k».proof.Proof.Cuts
public import proofs.«01_k».proof.Proof.WordsWork
public import Idealize.ShloMosaic.Lib.VecWindow

@[expose] public section

set_option maxRecDepth 65536

/-! # The third stretch of a trip

The step counter, the tile's table entries, and the first expert. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

variable (c : Dev nD) (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)

abbrev teW (p : Plan) : Fin 96 → BitVec 32 := fun k => W (p.te k).val
abbrev sgW (p : Plan) : Fin 96 → BitVec 32 := fun k => W (p.seg k).val

theorem tl_val {i : ℕ} (h : i < 96) : (tl i).val = i := bk_val h

theorem W_succ_all : ∀ k : Fin 96, Scalar.addi (W k.val) 1#32 = W (k.val + 1) := by decide +kernel
theorem W_succ {i : ℕ} (h : i < 96) : Scalar.addi (W i) 1#32 = W (i + 1) := W_succ_all ⟨i, h⟩

theorem wSt_first (p : Plan) {i : ℕ} (h0 : i = 0) : wSt c EG EU ED p i ⊢ iprop(scrAny (F := F) c ∗ ((∃ f, gslotP (F := F) c 0 f) ∗ gcell (F := F) c 0) ∗
    ((∃ f, uslotP (F := F) c 0 f) ∗ ucell (F := F) c 0) ∗ ((∃ f, dslotP (F := F) c 0 f) ∗ dcell (F := F) c 0) ∗ wFree (F := F) c 1 ∗ egP c EG ∗ euP c EU ∗ edP c ED) := by
  unfold wSt
  rw [if_pos h0, show Ring.sl 2 0 = (0 : Fin 2) from rfl, show Ring.sl 2 1 = (1 : Fin 2) from rfl]
  rw [show wFree (F := F) c 0 = iprop(gFree (F := F) c 0 ∗ uFree (F := F) c 0 ∗ dFree (F := F) c 0) from rfl]
  unfold gFree uFree dFree wHome
  iintro ⟨Hsc, ⟨Hg, Hu, Hd⟩, Hfr, Heg, Heu, Hed⟩
  isplitl [Hsc]; · iexact Hsc
  isplitl [Hg]; · iexact Hg
  isplitl [Hu]; · iexact Hu
  isplitl [Hd]; · iexact Hd
  isplitl [Hfr]; · iexact Hfr
  isplitl [Heg]; · iexact Heg
  isplitl [Heu]; · iexact Heu
  iexact Hed

/-- A transfer of one matrix on its way. -/
abbrev gFlight (s : Fin 2) (e : Fin 32) (f : Buf (Elt F) ((gslot s).view.loc (c : Thread nD τ))) : sProp 𝕄 := Transfers.Flight countersEmb (c : Thread nD τ) (SemLoc.dma (gsem s).sem) () 32768
    iprop(gslotP c s (glanded c EG s e f) ∗ egEP c EG e)
abbrev uFlight (s : Fin 2) (e : Fin 32) (f : Buf (Elt F) ((uslot s).view.loc (c : Thread nD τ))) : sProp 𝕄 := Transfers.Flight countersEmb (c : Thread nD τ) (SemLoc.dma (usem s).sem) () 32768
    iprop(uslotP c s (ulanded c EU s e f) ∗ euEP c EU e)
abbrev dFlight (s : Fin 2) (e : Fin 32) (f : Buf (Elt F) ((dslot s).view.loc (c : Thread nD τ))) : sProp 𝕄 := Transfers.Flight countersEmb (c : Thread nD τ) (SemLoc.dma (dsem s).sem) () 32768
    iprop(dslotP c s (dlanded c ED s e f) ∗ edEP c ED e)

theorem wFly_of (s : Fin 2) (e : Fin 32) (fg fu fd) : iprop(gFlight c EG s e fg ∗ egRest c EG e ∗ uFlight c EU s e fu ∗ euRest c EU e ∗
    dFlight c ED s e fd ∗ edRest c ED e) ⊢ wFly c EG EU ED s e := by
  unfold wFly gFly uFly dFly
  iintro ⟨Hg, Heg, Hu, Heu, Hd, Hed⟩
  isplitl [Hg Heg]
  · isplitl [Heg]; · iexact Heg
    iexists fg; iexact Hg
  isplitl [Hu Heu]
  · isplitl [Heu]; · iexact Heu
    iexists fu; iexact Hu
  isplitl [Hed]; · iexact Hed
  iexists fd; iexact Hd

theorem wMid_first {p : Plan} (hp : p.Ok) {i : ℕ} (h0 : i = 0) (fg fu fd) : iprop(scrAny (F := F) c ∗
    gFlight c EG 0 (p.te (tl i)) fg ∗ egRest c EG (p.te (tl i)) ∗ uFlight c EU 0 (p.te (tl i)) fu ∗ euRest c EU (p.te (tl i)) ∗
    dFlight c ED 0 (p.te (tl i)) fd ∗ edRest c ED (p.te (tl i)) ∗ wFree (F := F) c 1) ⊢ wMid c EG EU ED p i := by
  unfold wMid
  rw [if_pos (Or.inl h0)]
  unfold wLoad
  rw [show (p.seg (tl i)).val = 0 from by rw [h0]; exact hp.seg0]
  iintro ⟨Hsc, Hg, Heg, Hu, Heu, Hd, Hed, Hfr⟩
  isplitl [Hsc]; · iexact Hsc
  isplitl [Hg Heg Hu Heu Hd Hed]
  · iapply (wFly_of c EG EU ED 0 (p.te (tl i)) fg fu fd)
    isplitl [Hg]; · iexact Hg
    isplitl [Heg]; · iexact Heg
    isplitl [Hu]; · iexact Hu
    isplitl [Heu]; · iexact Heu
    isplitl [Hd]; · iexact Hd
    iexact Hed
  iexact Hfr

/-- The third stretch of a trip: the step counter and the tile's table entries are read; before the first tile its expert
    is asked for. -/
theorem trip3_spec {p : Plan} (hp : p.Ok) {i : ℕ} (hi : i < 96)
    (gTe : Buf (Elt F) (aTe.view.loc (c : Thread nD τ))) (hgTe : TabOk c aTe (teW p) gTe)
    (gSg : Buf (Elt F) (aSg.view.loc (c : Thread nD τ))) (hgSg : TabOk c aSg (sgW p) gSg)
    (a20 a21 a18 : BitVec 32) (v147 : BitVec 1)
    {R : Type} (κ : trip3.K (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 a20 a21 a18 v147 (R := R)) (Q : R → sProp 𝕄) :
    iprop(tabP c aTe gTe ∗ tabP c aSg gSg ∗ stepP (F := F) c i ∗ wSt c EG EU ED p i ∗
      (∀ v170 h7 h9, tabP c aTe gTe ∗ tabP c aSg gSg ∗ stepP (F := F) c (i + 1) ∗ wMid c EG EU ED p i -∗
        wp frame (wpE (defs₀ (F := F)) 𝒱₀ (c : Thread nD τ) none) Set.univ (κ (W i) h7 (W (p.te (tl i)).val) (W (p.seg (tl i)).val) v170 (W (p.te (tl (i - 1))).val) h9) Q))
    ⊢ wp frame (wpE (defs₀ (F := F)) 𝒱₀ (c : Thread nD τ) none) Set.univ (trip3 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 a20 a21 a18 v147 κ) Q := by
  have h1 : ∀ inb, aTe.view.readAt (Elt F) (Rect.unit (s := S96) (k0_off13 (W i)) S1.size inb).toLoadRect gTe = fun _ => W (p.te (tl i)).val :=
    fun inb => hgTe.at c (tl i) (by rw [off13_eq hi, tl_val hi]) inb
  have h2 : ∀ inb, aSg.view.readAt (Elt F) (Rect.unit (s := S96) (k0_off13 (W i)) S1.size inb).toLoadRect gSg = fun _ => W (p.seg (tl i)).val :=
    fun inb => hgSg.at c (tl i) (by rw [off13_eq hi, tl_val hi]) inb
  have h3 : ∀ inb, aTe.view.readAt (Elt F) (Rect.unit (s := S96) (k0_off16 (W i)) S1.size inb).toLoadRect gTe = fun _ => W (p.te (tl (i - 1))).val :=
    fun inb => hgTe.at c (tl (i - 1)) (by rw [off16_eq hi, tl_val (by omega)]) inb
  have hk7 : k0_chk7 (W i) := chk7_all ⟨i, hi⟩
  have hk8 : k0_chk8 (W i) (W (p.te (tl i)).val) := chk8_ok hi (p.te (tl i)).isLt
  have hk9 : k0_chk9 (W i) (W (p.te (tl i)).val) (W (p.seg (tl i)).val) (W (p.te (tl (i - 1))).val) :=
    chk9_ok hi (p.te (tl i)).isLt (p.seg (tl i)).isLt _
  unfold stepP
  by_cases h0 : i = 0
  · have hC5 : k0_cond5 (W i) = 1#1 := (cond5_all ⟨i, hi⟩).2 h0
    iintro ⟨HT, HS, ⟨%f, %hf, Hst⟩, Hw, Hk⟩
    ihave Hw := (wSt_first c EG EU ED p h0) $$ Hw
    icases Hw with ⟨Hsc, ⟨⟨%fg, Hg⟩, Hgc⟩, ⟨⟨%fu, Hu⟩, Huc⟩, ⟨⟨%fd, Hd⟩, Hdc⟩, Hfr, Heg, Heu, Hed⟩
    ihave Heg := (egP_split c EG (p.te (tl i))) $$ Heg
    icases Heg with ⟨Hxg, Heg⟩
    ihave Heu := (euP_split c EU (p.te (tl i))) $$ Heu
    icases Heu with ⟨Hxu, Heu⟩
    ihave Hed := (edP_split c ED (p.te (tl i))) $$ Hed
    icases Hed with ⟨Hxd, Hed⟩
    unfold trip3
    sl_exec
    iapply Hk $$ [HT HS Hst Hsc Hgc Huc Hdc Hfr Heg Heu Hed]
    isplitl [HT]; · iexact HT
    isplitl [HS]; · iexact HS
    isplitl [Hst]
    · iexists _
      isplitr
      rotate_left
      · iexact Hst
      ipureintro
      intro inb
      rw [View.readAt_writes_full]
      exact funext fun _ => W_succ hi
    iapply (wMid_first c EG EU ED hp h0 fg fu fd)
    isplitl [Hsc]; · iexact Hsc
    isplitl [Hgc]; · iexact Hgc
    isplitl [Heg]; · iexact Heg
    isplitl [Huc]; · iexact Huc
    isplitl [Heu]; · iexact Heu
    isplitl [Hdc]; · iexact Hdc
    isplitl [Hed]; · iexact Hed
    iexact Hfr
  · have hC5 : ¬ k0_cond5 (W i) = 1#1 := fun h => h0 ((cond5_all ⟨i, hi⟩).1 h)
    iintro ⟨HT, HS, ⟨%f, %hf, Hst⟩, Hw, Hk⟩
    unfold trip3
    sl_exec
    iapply Hk $$ [HT HS Hst Hw]
    isplitl [HT]; · iexact HT
    isplitl [HS]; · iexact HS
    isplitl [Hst]
    · iexists _
      isplitr
      rotate_left
      · iexact Hst
      ipureintro
      intro inb
      rw [View.readAt_writes_full]
      exact funext fun _ => W_succ hi
    iapply (wSt_mid c EG EU ED hp (by omega) hi) $$ Hw

end T

end Cert.Proof.Moe

end
-- ==== Proof.TripWork1.lean ====
module

public import proofs.«01_k».proof.Proof.TripExp

@[expose] public section

set_option maxRecDepth 65536

/-! # The fourth stretch of a trip

The working matrices for a new expert, and the next expert's transfers. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

variable (c : Dev nD) (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)

/-- The fourth stretch of a trip: a tile with a new expert waits for its matrices, brings them to the working ones, and
    asks for the next expert's. -/
theorem work1_spec {p : Plan} (hp : p.Ok) {i : ℕ} (hi : i < 96)
    (gNx : Buf (Elt F) (aNx.view.loc (c : Thread nD τ))) (hgNx : TabOk c aNx p.nx gNx) (v170 : BitVec 32)
    (h9 : k0_chk9 (W i) (W (p.te (tl i)).val) (W (p.seg (tl i)).val) (W (p.te (tl (i - 1))).val))
    {R : Type} (κ : Prog (TpuEff nD τ sig (Elt F) Λ₀ .tc) R) (Q : R → sProp 𝕄) :
    iprop(tabP c aNx gNx ∗ (∃ W, owes (c : Thread nD τ) 0 W) ∗ wMid c EG EU ED p i ∗
      (tabP c aNx gNx ∗ (∃ W, owes (c : Thread nD τ) 0 W) ∗ wSt c EG EU ED p (i + 1) -∗ wp frame (wpE (defs₀ (F := F)) 𝒱₀ (c : Thread nD τ) none) Set.univ κ Q))
    ⊢ wp frame (wpE (defs₀ (F := F)) 𝒱₀ (c : Thread nD τ) none) Set.univ (work1 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W i) (W (p.te (tl i)).val) (W (p.seg (tl i)).val) v170 (W (p.te (tl (i - 1))).val) h9 κ) Q := by
  have h1 : ∀ inb, aNx.view.readAt (Elt F) (Rect.unit (s := S96) (k0_off26 (W i)) S1.size inb).toLoadRect gNx = fun _ => p.nx (tl i) :=
    fun inb => hgNx.at c (tl i) (by rw [off26_eq hi, tl_val hi]) inb
  have h2 : ∀ inb, aNx.view.readAt (Elt F) (Rect.unit (s := S96) (k0_off27 (W i)) S1.size inb).toLoadRect gNx = fun _ => p.nx (tl i) :=
    fun inb => hgNx.at c (tl i) (by rw [off27_eq hi, tl_val hi]) inb
  have hk10 : k0_chk10 (W i) (W (p.te (tl i)).val) (W (p.seg (tl i)).val) (W (p.te (tl (i - 1))).val) (p.nx (tl i)) :=
    chk10_ok hi (p.te (tl i)).isLt (p.seg (tl i)).isLt _ _
  have hcd := cond6_iff hi (p.te (tl i)).isLt (p.te (tl (i - 1))).isLt
  have hso24 : k0_off24 (W (p.seg (tl i)).val) = gslotOff (Ring.sl 2 (p.seg (tl i)).val) := by rw [off24_eq (p.seg (tl i)).isLt, gslotOff, sl2_val]
  have hso25 : k0_off25 (W (p.seg (tl i)).val) = dslotOff (Ring.sl 2 (p.seg (tl i)).val) := by rw [off25_eq (p.seg (tl i)).isLt, dslotOff, sl2_val]
  unfold wMid
  by_cases h6 : i = 0 ∨ p.te (tl i) ≠ p.te (tl (i - 1))
  · have hC6 : k0_cond6 (W i) (W (p.te (tl i)).val) (W (p.te (tl (i - 1))).val) = 1#1 :=
      hcd.2 (h6.imp id fun h h' => h (Fin.ext h'))
    rw [if_pos h6]
    unfold wLoad wSt
    rw [if_neg (Nat.succ_ne_zero i), Nat.add_sub_cancel]
    unfold wNext
    by_cases h7 : 0 ≤ (p.nx (tl i)).toInt
    · have hC7 : k0_cond7 (p.nx (tl i)) = 1#1 := (cond7_iff _).2 h7
      rw [if_pos h7]
      obtain ⟨e, he⟩ := hp.nx_lt (tl i) h7
      rw [he] at h1 h2 hk10 hC7 ⊢
      have hk11 : k0_chk11 (W i) (W (p.te (tl i)).val) (W (p.te (tl (i - 1))).val) (W e.val) (W e.val) :=
        chk11_ok hi (p.te (tl i)).isLt _ _ e.isLt
      unfold scrAny scrP wFly wFree gFly uFly dFly gFree uFree dFree
      iintro ⟨HX, ⟨%W0, HW⟩, ⟨⟨⟨%f0, Hsg⟩, ⟨%f1, Hsu⟩, ⟨%f2, Hsd⟩⟩, ⟨⟨Heg, ⟨%fg, Hg⟩⟩, ⟨Heu, ⟨%fu, Hu⟩⟩, ⟨Hed, ⟨%fd, Hd⟩⟩⟩, ⟨⟨⟨%f3, Hng⟩, Hcg⟩, ⟨⟨%f4, Hnu⟩, Hcu⟩, ⟨⟨%f5, Hnd⟩, Hcd⟩⟩⟩, Hk⟩
      unfold work1
      sl_exec
      ihave Heg := (egP_of c EG (p.te (tl i))) $$ [Heg Hg_src]
      · isplitl [Heg]; · iexact Heg
        iexact Hg_src
      ihave Heu := (euP_of c EU (p.te (tl i))) $$ [Heu Hu_src]
      · isplitl [Heu]; · iexact Heu
        iexact Hu_src
      ihave Hed := (edP_of c ED (p.te (tl i))) $$ [Hed Hd_src]
      · isplitl [Hed]; · iexact Hed
        iexact Hd_src
      ihave Heg := (egP_split c EG e) $$ Heg
      icases Heg with ⟨Hxg, Heg⟩
      ihave Heu := (euP_split c EU e) $$ Heu
      icases Heu with ⟨Hxu, Heu⟩
      ihave Hed := (edP_split c ED e) $$ Hed
      icases Hed with ⟨Hxd, Hed⟩
      sl_exec
      iapply Hk $$ [HX HW Hsg Hsu Hsd Hg_dst Hg Hu_dst Hu Hd_dst Hd Hcg Hcu Hcd Heg Heu Hed]
      isplitl [HX]; · iexact HX
      isplitl [HW]; · iexists _; iexact HW
      isplitl [Hsg Hsu Hsd]
      · iexists _, _, _
        isplitr
        rotate_left
        · isplitl [Hsg]; · iexact Hsg
          isplitl [Hsu]; · iexact Hsu
          iexact Hsd
        ipureintro
        exact ⟨scr_gate _ f0 _ _ hso24 _ _, scr_up _ f1 _ _ hso24 _ _, scr_down _ f2 _ _ hso25 _ _⟩
      isplitl [Hg_dst Hg Hu_dst Hu Hd_dst Hd]
      · isplitl [Hg_dst Hg]
        · isplitl [Hg_dst]; · iexists _; iexact Hg_dst
          iexact Hg
        isplitl [Hu_dst Hu]
        · isplitl [Hu_dst]; · iexists _; iexact Hu_dst
          iexact Hu
        isplitl [Hd_dst]; · iexists _; iexact Hd_dst
        iexact Hd

      iexists e
      isplitr
      · ipureintro; rfl
      isplitl [Hcg Heg]
      · isplitl [Heg]; · iexact Heg
        iexists f3; iexact Hcg
      isplitl [Hcu Heu]
      · isplitl [Heu]; · iexact Heu
        iexists f4; iexact Hcu
      isplitl [Hed]; · iexact Hed
      iexists f5; iexact Hcd
    · have hC7 : ¬ k0_cond7 (p.nx (tl i)) = 1#1 := fun h => h7 ((cond7_iff _).1 h)
      rw [if_neg h7]
      unfold scrAny scrP wFly wFree wHome gFly uFly dFly gFree uFree dFree
      iintro ⟨HX, ⟨%W0, HW⟩, ⟨⟨⟨%f0, Hsg⟩, ⟨%f1, Hsu⟩, ⟨%f2, Hsd⟩⟩, ⟨⟨Heg, ⟨%fg, Hg⟩⟩, ⟨Heu, ⟨%fu, Hu⟩⟩, ⟨Hed, ⟨%fd, Hd⟩⟩⟩, ⟨⟨⟨%f3, Hng⟩, Hcg⟩, ⟨⟨%f4, Hnu⟩, Hcu⟩, ⟨⟨%f5, Hnd⟩, Hcd⟩⟩⟩, Hk⟩
      unfold work1
      sl_exec
      ihave Heg := (egP_of c EG (p.te (tl i))) $$ [Heg Hg_src]
      · isplitl [Heg]; · iexact Heg
        iexact Hg_src
      ihave Heu := (euP_of c EU (p.te (tl i))) $$ [Heu Hu_src]
      · isplitl [Heu]; · iexact Heu
        iexact Hu_src
      ihave Hed := (edP_of c ED (p.te (tl i))) $$ [Hed Hd_src]
      · isplitl [Hed]; · iexact Hed
        iexact Hd_src
      iapply Hk $$ [HX HW Hsg Hsu Hsd Hg_dst Hg Hu_dst Hu Hd_dst Hd Hng Hcg Hnu Hcu Hnd Hcd Heg Heu Hed]
      isplitl [HX]; · iexact HX
      isplitl [HW]; · iexists _; iexact HW
      isplitl [Hsg Hsu Hsd]
      · iexists _, _, _
        isplitr
        rotate_left
        · isplitl [Hsg]; · iexact Hsg
          isplitl [Hsu]; · iexact Hsu
          iexact Hsd
        ipureintro
        exact ⟨scr_gate _ f0 _ _ hso24 _ _, scr_up _ f1 _ _ hso24 _ _, scr_down _ f2 _ _ hso25 _ _⟩
      isplitl [Hg_dst Hg Hu_dst Hu Hd_dst Hd]
      · isplitl [Hg_dst Hg]
        · isplitl [Hg_dst]; · iexists _; iexact Hg_dst
          iexact Hg
        isplitl [Hu_dst Hu]
        · isplitl [Hu_dst]; · iexists _; iexact Hu_dst
          iexact Hu
        isplitl [Hd_dst]; · iexists _; iexact Hd_dst
        iexact Hd

      isplitl [Hng Hcg Hnu Hcu Hnd Hcd]
      · isplitl [Hng Hcg]
        · isplitl [Hng]; · iexists f3; iexact Hng
          iexact Hcg
        isplitl [Hnu Hcu]
        · isplitl [Hnu]; · iexists f4; iexact Hnu
          iexact Hcu
        isplitl [Hnd]; · iexists f5; iexact Hnd
        iexact Hcd
      isplitl [Heg]; · iexact Heg
      isplitl [Heu]; · iexact Heu
      iexact Hed
  · have hC6 : ¬ k0_cond6 (W i) (W (p.te (tl i)).val) (W (p.te (tl (i - 1))).val) = 1#1 :=
      fun h => h6 ((hcd.1 h).imp id fun h h' => h (congrArg Fin.val h'))
    rw [if_neg h6]
    iintro ⟨HX, HW, Hw, Hk⟩
    unfold work1
    sl_exec
    iapply Hk $$ [HX HW Hw]
    isplitl [HX]; · iexact HX
    isplitl [HW]; · iexact HW
    iexact Hw

end T

end Cert.Proof.Moe

end
-- ==== Proof.OutState.lean ====
module

public import proofs.«01_k».proof.Proof.State
public import Idealize.ShloMosaic.Lib.ViewIndex

@[expose] public section

set_option maxRecDepth 65536

/-! # The ring of result blocks -/
noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Out

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))

/-- Block `b`'s elements of the result array. -/
abbrev oset (b : Fin 96) : Finset resM.view.ty.Idx := (oblk b).view.set
abbrev ocell (s : Fin 2) : sProp 𝕄 := semVal ((c : Thread nD τ), SemLoc.dma (osem s).sem) 0
abbrev oslotP (s : Fin 2) (f : Buf (Elt F) ((oslot s).view.loc (c : Thread nD τ))) : sProp 𝕄 :=
  (oslot s).view.loc (c : Thread nD τ) ↦[(oslot s).view.set]{fullShare} f
abbrev oblkP (b : Fin 96) (f : Buf (Elt F) (resM.view.loc (c : Thread nD τ))) : sProp 𝕄 :=
  resM.view.loc (c : Thread nD τ) ↦[(oblk b).view.set]{fullShare} f
abbrev resP (S : Finset resM.view.ty.Idx) (f : Buf (Elt F) (resM.view.loc (c : Thread nD τ))) : sProp 𝕄 :=
  resM.view.loc (c : Thread nD τ) ↦[S]{fullShare} f
/-- A slot of the result ring free: the slot at anything, its cell at zero. -/
def oFree (s : Fin 2) : sProp 𝕄 := iprop((∃ f, oslotP c s f) ∗ ocell c s)
/-- The slot of block `b` holds it, computed. -/
def oDone (b : ℕ) : sProp 𝕄 := iprop((∃ f, ⌜OutGood c p XS EG EU ED (Ring.sl 2 b) (tl b) f⌝ ∗ oslotP c (Ring.sl 2 b) f) ∗ ocell c (Ring.sl 2 b))
/-- What block `b`'s transfer leaves in the result array over `g`. -/
abbrev olanded (s : Fin 2) (b : Fin 96) (g : Buf (Elt F) (resM.view.loc (c : Thread nD τ))) (f : Buf (Elt F) ((oslot s).view.loc (c : Thread nD τ))) :
    Buf (Elt F) (resM.view.loc (c : Thread nD τ)) :=
  (oblk b).view.writes (Elt F) g [⟨Rect.whole S1024x1024, ReadAs.same.apply ((oslot s).view.read (Elt F) f)⟩]
/-- Block `b` on its way out of its slot. -/
def oFly (b : ℕ) : sProp 𝕄 :=
  iprop(∃ g f, ⌜OutGood c p XS EG EU ED (Ring.sl 2 b) (tl b) f⌝ ∗ Transfers.Flight countersEmb (c : Thread nD τ) (SemLoc.dma (osem (Ring.sl 2 b)).sem) () 65536
    iprop(oblkP c (tl b) (olanded c (Ring.sl 2 b) (tl b) g f) ∗ oslotP c (Ring.sl 2 b) f))
/-- The result array, its blocks before `b` in place. -/
def resAll (b : ℕ) : sProp 𝕄 := iprop(∃ g, ⌜ResGood c p XS EG EU ED b g⌝ ∗ resP c resM.view.set g)
/-- The result array but for block `b`. -/
def resHole (b : ℕ) : sProp 𝕄 := iprop(∃ g, ⌜ResGood c p XS EG EU ED b g⌝ ∗ resP c (resM.view.set \ oset (tl b)) g)
/-- The result array but for blocks `b` and `b + 1`. -/
def resHole2 (b : ℕ) : sProp 𝕄 :=
  iprop(∃ g, ⌜ResGood c p XS EG EU ED b g⌝ ∗ resP c ((resM.view.set \ oset (tl b)) \ oset (tl (b + 1))) g)

/-- The result ring before trip `i`. -/
def outSt (i : ℕ) : sProp 𝕄 :=
  if i = 0 then iprop(oFree c (Ring.sl 2 0) ∗ oFree c (Ring.sl 2 1) ∗ resAll c p XS EG EU ED 0)
  else if i < p.n ∨ i = 96 then iprop(oFly c p XS EG EU ED (min i p.n - 1) ∗ oFree c (Ring.sl 2 (min i p.n)) ∗ resHole c p XS EG EU ED (min i p.n - 1))
  else iprop(oDone c p XS EG EU ED (p.n - 1) ∗ oFree c (Ring.sl 2 p.n) ∗ resAll c p XS EG EU ED (p.n - 1))
/-- The result ring in trip `i`, its block computed. -/
def outMid (i : ℕ) : sProp 𝕄 :=
  if i = 0 then iprop(oDone c p XS EG EU ED 0 ∗ oFree c (Ring.sl 2 1) ∗ resAll c p XS EG EU ED 0)
  else if i < p.n then iprop(oFly c p XS EG EU ED (i - 1) ∗ oDone c p XS EG EU ED i ∗ resHole c p XS EG EU ED (i - 1))
  else iprop(oDone c p XS EG EU ED (p.n - 1) ∗ oFree c (Ring.sl 2 p.n) ∗ resAll c p XS EG EU ED (p.n - 1))
/-- The result ring in trip `i`, its block sent off. -/
def outSent (i : ℕ) : sProp 𝕄 :=
  if i = 0 then (if 1 < p.n then iprop(oFly c p XS EG EU ED 0 ∗ oFree c (Ring.sl 2 1) ∗ resHole c p XS EG EU ED 0)
    else iprop(oDone c p XS EG EU ED 0 ∗ oFree c (Ring.sl 2 1) ∗ resAll c p XS EG EU ED 0))
  else if i < p.n then iprop(oFly c p XS EG EU ED (i - 1) ∗
    (if i + 1 < p.n ∨ i = 95 then iprop(oFly c p XS EG EU ED i ∗ resHole2 c p XS EG EU ED (i - 1)) else iprop(oDone c p XS EG EU ED i ∗ resHole c p XS EG EU ED (i - 1))))
  else if i = 95 then iprop(oFly c p XS EG EU ED (p.n - 1) ∗ oFree c (Ring.sl 2 p.n) ∗ resHole c p XS EG EU ED (p.n - 1))
  else iprop(oDone c p XS EG EU ED (p.n - 1) ∗ oFree c (Ring.sl 2 p.n) ∗ resAll c p XS EG EU ED (p.n - 1))

theorem oblk_disjoint {a b : ℕ} (ha : a < 96) (hb : b < 96) (h : a ≠ b) :
    Disjoint (oset (tl a)) (oset (tl b)) :=
  View.disjoint_slice (v := resM.view) (Rect.unit_disjoint 0 (by
    show 1024 * (tl a).val + 1024 ≤ 1024 * (tl b).val ∨ 1024 * (tl b).val + 1024 ≤ 1024 * (tl a).val
    rw [bk_val ha, bk_val hb]; omega))

theorem oblk_subset (b : ℕ) : oset (tl b) ⊆ resM.view.set := by
  intro x _; simp

/-- With block `b` landed, the result array holds the rows of one block more. -/
theorem res_step {b : ℕ} (hb : b < 96) (s : Fin 2) (gb g1 : Buf (Elt F) (resM.view.loc (c : Thread nD τ)))
    (fo : Buf (Elt F) ((oslot s).view.loc (c : Thread nD τ))) (hfo : OutGood c p XS EG EU ED s (tl b) fo)
    (hg1 : ResGood c p XS EG EU ED b g1) :
    ResGood c p XS EG EU ED (b + 1) ((oset (tl b)).piecewise (olanded c s (tl b) gb fo) g1) := by
  intro k hk r hr i j
  by_cases e : k.val = b
  · have e' : k = tl b := Fin.ext (e.trans (bk_val hb).symm)
    subst e'
    have hc : (oblk (tl b)).view.read (Elt F) ((oset (tl b)).piecewise (olanded c s (tl b) gb fo) g1)
        = (oblk (tl b)).view.read (Elt F) (olanded c s (tl b) gb fo) :=
      View.read_congr (v := (oblk (tl b)).view) (fun x hx => Finset.piecewise_eq_of_mem _ _ _ hx)
    refine (congrFun hc _).trans ?_
    exact (congrFun (read_landed (oblk (tl b)).view gb _) _).trans (hfo r hr i j)
  · have hd : Disjoint (oset k) (oset (tl b)) := by
      have := oblk_disjoint k.isLt hb e
      rwa [show tl k.val = k from Fin.ext (bk_val k.isLt)] at this
    have hc : (oblk k).view.read (Elt F) ((oset (tl b)).piecewise (olanded c s (tl b) gb fo) g1)
        = (oblk k).view.read (Elt F) g1 :=
      View.read_congr (v := (oblk k).view) (fun x hx => Finset.piecewise_eq_of_notMem _ _ _ (Finset.disjoint_left.1 hd hx))
    exact (congrFun hc _).trans (hg1 k (by omega) r hr i j)

end Out

end Cert.Proof.Moe

end
-- ==== Proof.TripWork2.lean ====
module

public import proofs.«01_k».proof.Proof.TripExp
public import proofs.«01_k».proof.Proof.OutState

@[expose] public section

set_option maxRecDepth 65536

/-! # The compute of a tile

By the number of its row groups, from the slot holding its rows and its expert's matrices to the slot of its result. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

instance (k : Fin 96) : ClosedOff (k0_off39 (W k.val)) := ⟨![(Ring.sl 2 k.val).val, 0, 0], by rw [off39_eq (by omega), sl2_val]⟩
instance (k : Fin 96) : ClosedOff (k0_off43 (W k.val)) := ⟨![(Ring.sl 2 k.val).val, 0, 0], by rw [off43_eq (by omega), sl2_val]⟩
instance (k : Fin 96) : ClosedOff (k0_off48 (W k.val)) := ⟨![(Ring.sl 2 k.val).val, 0, 0], by rw [off48_eq (by omega), sl2_val]⟩
instance (k : Fin 96) : ClosedOff (k0_off54 (W k.val)) := ⟨![(Ring.sl 2 k.val).val, 0, 0], by rw [off54_eq (by omega), sl2_val]⟩
instance (k : Fin 96) : ClosedOff (k0_off44 (W k.val)) := ⟨![(Ring.sl 2 k.val).val, 256, 0], by rw [off44_eq (by omega), sl2_val]⟩
instance (k : Fin 96) : ClosedOff (k0_off49 (W k.val)) := ⟨![(Ring.sl 2 k.val).val, 256, 0], by rw [off49_eq (by omega), sl2_val]⟩
instance (k : Fin 96) : ClosedOff (k0_off55 (W k.val)) := ⟨![(Ring.sl 2 k.val).val, 256, 0], by rw [off55_eq (by omega), sl2_val]⟩
instance (k : Fin 96) : ClosedOff (k0_off50 (W k.val)) := ⟨![(Ring.sl 2 k.val).val, 512, 0], by rw [off50_eq (by omega), sl2_val]⟩
instance (k : Fin 96) : ClosedOff (k0_off56 (W k.val)) := ⟨![(Ring.sl 2 k.val).val, 512, 0], by rw [off56_eq (by omega), sl2_val]⟩
instance (k : Fin 96) : ClosedOff (k0_off57 (W k.val)) := ⟨![(Ring.sl 2 k.val).val, 768, 0], by rw [off57_eq (by omega), sl2_val]⟩

section T

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)

/-- What the compute of a tile works on: the slot holding its rows, its expert's matrices, a slot for its result. -/
abbrev compIn (b : Fin 96) : sProp 𝕄 := iprop((∃ f, ⌜InGood c XS (Ring.sl 3 b.val) b f⌝ ∗ islotP c (Ring.sl 3 b.val) f) ∗ scrP c EG EU ED (p.te b) ∗ (∃ f, oslotP (F := F) c (Ring.sl 2 b.val) f))
/-- What it leaves. -/
abbrev compOut (b : Fin 96) : sProp 𝕄 := iprop((∃ f, ⌜InGood c XS (Ring.sl 3 b.val) b f⌝ ∗ islotP c (Ring.sl 3 b.val) f) ∗ scrP c EG EU ED (p.te b) ∗ (∃ f, ⌜OutGood c p XS EG EU ED (Ring.sl 2 b.val) b f⌝ ∗ oslotP c (Ring.sl 2 b.val) f))

/-- A slot whose groups were all stored holds the tile's rows. -/
theorem out_of_rows (b : Fin 96) {s : Fin 3} {s' : Fin 2} {f : Buf (Elt F) ((islot s).view.loc (c : Thread nD τ))} {fg : Buf (Elt F) (gScr.view.loc (c : Thread nD τ))}
    {fu : Buf (Elt F) (uScr.view.loc (c : Thread nD τ))} {fd : Buf (Elt F) (dScr.view.loc (c : Thread nD τ))} {fo : Buf (Elt F) ((oslot s').view.loc (c : Thread nD τ))}
    (hf : InGood c XS s b f) (hs : ScrGood c EG EU ED (p.te b) fg fu fd) {n : ℕ} (hn : (p.ns b).toInt = n)
    (h : Rows s' (groupVal ((islot s).view.read (Elt F) f) (gScr.view.read (Elt F) fg) (uScr.view.read (Elt F) fu) (dScr.view.read (Elt F) fd)) n fo) :
    OutGood c p XS EG EU ED s' b fo := by
  intro r hr i j
  rw [hn] at hr
  refine (h r (by omega) i j).trans ?_
  unfold rowsOf
  rw [show (islot s).view.read (Elt F) f = _ from hf, hs.1, hs.2.1, hs.2.2]

/-- A tile of one row group. -/
theorem work2_1 (b : Fin 96) (gNs : Buf (Elt F) (aNs.view.loc (c : Thread nD τ))) (hgNs : TabOk c aNs p.ns gNs) (hv : p.ns b = 1#32)
    (h7 : k0_chk7 (W b.val)) {R : Type} (κ : Prog (TpuEff nD τ sig (Elt F) Λ₀ .tc) R) (Q : R → sProp 𝕄) :
    iprop(tabP c aNs gNs ∗ compIn c p XS EG EU ED b ∗ (tabP c aNs gNs ∗ compOut c p XS EG EU ED b -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W b.val) (W b.val) (W b.val) h7 κ) Q := by
  have h36 : ∀ inb, aNs.view.readAt (Elt F) (Rect.unit (s := S96) (k0_off36 (W b.val)) S1.size inb).toLoadRect gNs = fun _ => p.ns b :=
    fun inb => hgNs.at c b (off36_eq b.isLt) inb
  have hk12 : k0_chk12 (W b.val) (W b.val) (p.ns b) := chk12_ok (by omega) (by omega) _
  have h40 : ∀ inb, aNs.view.readAt (Elt F) (Rect.unit (s := S96) (k0_off40 (W b.val)) S1.size inb).toLoadRect gNs = fun _ => p.ns b :=
    fun inb => hgNs.at c b (off40_eq b.isLt) inb
  have hk13 : k0_chk13 (W b.val) (W b.val) (p.ns b) := chk13_ok (by omega) (by omega) _
  have h45 : ∀ inb, aNs.view.readAt (Elt F) (Rect.unit (s := S96) (k0_off45 (W b.val)) S1.size inb).toLoadRect gNs = fun _ => p.ns b :=
    fun inb => hgNs.at c b (off45_eq b.isLt) inb
  have hk14 : k0_chk14 (W b.val) (W b.val) (p.ns b) := chk14_ok (by omega) (by omega) _
  have h51 : ∀ inb, aNs.view.readAt (Elt F) (Rect.unit (s := S96) (k0_off51 (W b.val)) S1.size inb).toLoadRect gNs = fun _ => p.ns b :=
    fun inb => hgNs.at c b (off51_eq b.isLt) inb
  have hk15 : k0_chk15 (W b.val) (W b.val) (p.ns b) := chk15_ok (by omega) (by omega) _
  have hc8 : k0_cond8 (p.ns b) = 1#1 := (cond8_iff _).2 hv
  have hc9 : ¬ k0_cond9 (p.ns b) = 1#1 := fun h => absurd (hv.symm.trans ((cond9_iff _).1 h)) (by decide)
  have hc10 : ¬ k0_cond10 (p.ns b) = 1#1 := fun h => absurd (hv.symm.trans ((cond10_iff _).1 h)) (by decide)
  have hc11 : ¬ k0_cond11 (p.ns b) = 1#1 := fun h => absurd (hv.symm.trans ((cond11_iff _).1 h)) (by decide)
  unfold compIn compOut scrP
  iintro ⟨HN, ⟨⟨%f, %hf, Hi⟩, ⟨%fg, %fu, %fd, %hs, Hsg, Hsu, Hsd⟩, ⟨%fo, Ho⟩⟩, Hk⟩
  unfold work2
  sl_exec
  iapply Hk $$ [HN Hi Hsg Hsu Hsd Ho]
  isplitl [HN]; · iexact HN
  isplitl [Hi]
  · iexists f
    isplitr
    · ipureintro; exact hf
    iexact Hi
  isplitl [Hsg Hsu Hsd]
  · iexists fg, fu, fd
    isplitr
    · ipureintro; exact hs
    isplitl [Hsg]; · iexact Hsg
    isplitl [Hsu]; · iexact Hsu
    iexact Hsd
  iexists _
  isplitr
  rotate_left
  · iexact Ho
  ipureintro
  have h97 : b.val < 97 := by have := b.isLt; omega
  refine out_of_rows c p XS EG EU ED b hf hs (n := 1) (by rw [hv]; decide) ?_
  refine rows_store _ _ 0 ?_ ((pay_1_0 _ _ _ _ _ _ _).trans (congrArg (fun z => shapeCast S1x256x1024 z shapeCasts_S256x1024_S1x256x1024) (pay_group (islot (Ring.sl 3 b.val)).view f gScr.view fg uScr.view fu dScr.view fd 0 rfl rfl _ _ _ _ _)))
    (by rw [off39_eq h97, sl2_val]; rfl) _
  exact rows_zero _ _ _

/-- A tile of two row groups. -/
theorem work2_2 (b : Fin 96) (gNs : Buf (Elt F) (aNs.view.loc (c : Thread nD τ))) (hgNs : TabOk c aNs p.ns gNs) (hv : p.ns b = 2#32)
    (h7 : k0_chk7 (W b.val)) {R : Type} (κ : Prog (TpuEff nD τ sig (Elt F) Λ₀ .tc) R) (Q : R → sProp 𝕄) :
    iprop(tabP c aNs gNs ∗ compIn c p XS EG EU ED b ∗ (tabP c aNs gNs ∗ compOut c p XS EG EU ED b -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W b.val) (W b.val) (W b.val) h7 κ) Q := by
  have h36 : ∀ inb, aNs.view.readAt (Elt F) (Rect.unit (s := S96) (k0_off36 (W b.val)) S1.size inb).toLoadRect gNs = fun _ => p.ns b :=
    fun inb => hgNs.at c b (off36_eq b.isLt) inb
  have hk12 : k0_chk12 (W b.val) (W b.val) (p.ns b) := chk12_ok (by omega) (by omega) _
  have h40 : ∀ inb, aNs.view.readAt (Elt F) (Rect.unit (s := S96) (k0_off40 (W b.val)) S1.size inb).toLoadRect gNs = fun _ => p.ns b :=
    fun inb => hgNs.at c b (off40_eq b.isLt) inb
  have hk13 : k0_chk13 (W b.val) (W b.val) (p.ns b) := chk13_ok (by omega) (by omega) _
  have h45 : ∀ inb, aNs.view.readAt (Elt F) (Rect.unit (s := S96) (k0_off45 (W b.val)) S1.size inb).toLoadRect gNs = fun _ => p.ns b :=
    fun inb => hgNs.at c b (off45_eq b.isLt) inb
  have hk14 : k0_chk14 (W b.val) (W b.val) (p.ns b) := chk14_ok (by omega) (by omega) _
  have h51 : ∀ inb, aNs.view.readAt (Elt F) (Rect.unit (s := S96) (k0_off51 (W b.val)) S1.size inb).toLoadRect gNs = fun _ => p.ns b :=
    fun inb => hgNs.at c b (off51_eq b.isLt) inb
  have hk15 : k0_chk15 (W b.val) (W b.val) (p.ns b) := chk15_ok (by omega) (by omega) _
  have hc8 : ¬ k0_cond8 (p.ns b) = 1#1 := fun h => absurd (hv.symm.trans ((cond8_iff _).1 h)) (by decide)
  have hc9 : k0_cond9 (p.ns b) = 1#1 := (cond9_iff _).2 hv
  have hc10 : ¬ k0_cond10 (p.ns b) = 1#1 := fun h => absurd (hv.symm.trans ((cond10_iff _).1 h)) (by decide)
  have hc11 : ¬ k0_cond11 (p.ns b) = 1#1 := fun h => absurd (hv.symm.trans ((cond11_iff _).1 h)) (by decide)
  unfold compIn compOut scrP
  iintro ⟨HN, ⟨⟨%f, %hf, Hi⟩, ⟨%fg, %fu, %fd, %hs, Hsg, Hsu, Hsd⟩, ⟨%fo, Ho⟩⟩, Hk⟩
  unfold work2
  sl_exec
  iapply Hk $$ [HN Hi Hsg Hsu Hsd Ho]
  isplitl [HN]; · iexact HN
  isplitl [Hi]
  · iexists f
    isplitr
    · ipureintro; exact hf
    iexact Hi
  isplitl [Hsg Hsu Hsd]
  · iexists fg, fu, fd
    isplitr
    · ipureintro; exact hs
    isplitl [Hsg]; · iexact Hsg
    isplitl [Hsu]; · iexact Hsu
    iexact Hsd
  iexists _
  isplitr
  rotate_left
  · iexact Ho
  ipureintro
  have h97 : b.val < 97 := by have := b.isLt; omega
  refine out_of_rows c p XS EG EU ED b hf hs (n := 2) (by rw [hv]; decide) ?_
  refine rows_store _ _ 1 ?_ ((pay_2_1 _ _ _ _ _ _ _).trans (congrArg (fun z => shapeCast S1x256x1024 z shapeCasts_S256x1024_S1x256x1024) (pay_group (islot (Ring.sl 3 b.val)).view f gScr.view fg uScr.view fu dScr.view fd 1 rfl rfl _ _ _ _ _)))
    (by rw [off44_eq h97, sl2_val]; rfl) _
  refine rows_store _ _ 0 ?_ ((pay_2_0 _ _ _ _ _ _ _).trans (congrArg (fun z => shapeCast S1x256x1024 z shapeCasts_S256x1024_S1x256x1024) (pay_group (islot (Ring.sl 3 b.val)).view f gScr.view fg uScr.view fu dScr.view fd 0 rfl rfl _ _ _ _ _)))
    (by rw [off43_eq h97, sl2_val]; rfl) _
  exact rows_zero _ _ _

/-- A tile of three row groups. -/
theorem work2_3 (b : Fin 96) (gNs : Buf (Elt F) (aNs.view.loc (c : Thread nD τ))) (hgNs : TabOk c aNs p.ns gNs) (hv : p.ns b = 3#32)
    (h7 : k0_chk7 (W b.val)) {R : Type} (κ : Prog (TpuEff nD τ sig (Elt F) Λ₀ .tc) R) (Q : R → sProp 𝕄) :
    iprop(tabP c aNs gNs ∗ compIn c p XS EG EU ED b ∗ (tabP c aNs gNs ∗ compOut c p XS EG EU ED b -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W b.val) (W b.val) (W b.val) h7 κ) Q := by
  have h36 : ∀ inb, aNs.view.readAt (Elt F) (Rect.unit (s := S96) (k0_off36 (W b.val)) S1.size inb).toLoadRect gNs = fun _ => p.ns b :=
    fun inb => hgNs.at c b (off36_eq b.isLt) inb
  have hk12 : k0_chk12 (W b.val) (W b.val) (p.ns b) := chk12_ok (by omega) (by omega) _
  have h40 : ∀ inb, aNs.view.readAt (Elt F) (Rect.unit (s := S96) (k0_off40 (W b.val)) S1.size inb).toLoadRect gNs = fun _ => p.ns b :=
    fun inb => hgNs.at c b (off40_eq b.isLt) inb
  have hk13 : k0_chk13 (W b.val) (W b.val) (p.ns b) := chk13_ok (by omega) (by omega) _
  have h45 : ∀ inb, aNs.view.readAt (Elt F) (Rect.unit (s := S96) (k0_off45 (W b.val)) S1.size inb).toLoadRect gNs = fun _ => p.ns b :=
    fun inb => hgNs.at c b (off45_eq b.isLt) inb
  have hk14 : k0_chk14 (W b.val) (W b.val) (p.ns b) := chk14_ok (by omega) (by omega) _
  have h51 : ∀ inb, aNs.view.readAt (Elt F) (Rect.unit (s := S96) (k0_off51 (W b.val)) S1.size inb).toLoadRect gNs = fun _ => p.ns b :=
    fun inb => hgNs.at c b (off51_eq b.isLt) inb
  have hk15 : k0_chk15 (W b.val) (W b.val) (p.ns b) := chk15_ok (by omega) (by omega) _
  have hc8 : ¬ k0_cond8 (p.ns b) = 1#1 := fun h => absurd (hv.symm.trans ((cond8_iff _).1 h)) (by decide)
  have hc9 : ¬ k0_cond9 (p.ns b) = 1#1 := fun h => absurd (hv.symm.trans ((cond9_iff _).1 h)) (by decide)
  have hc10 : k0_cond10 (p.ns b) = 1#1 := (cond10_iff _).2 hv
  have hc11 : ¬ k0_cond11 (p.ns b) = 1#1 := fun h => absurd (hv.symm.trans ((cond11_iff _).1 h)) (by decide)
  unfold compIn compOut scrP
  iintro ⟨HN, ⟨⟨%f, %hf, Hi⟩, ⟨%fg, %fu, %fd, %hs, Hsg, Hsu, Hsd⟩, ⟨%fo, Ho⟩⟩, Hk⟩
  unfold work2
  sl_exec
  iapply Hk $$ [HN Hi Hsg Hsu Hsd Ho]
  isplitl [HN]; · iexact HN
  isplitl [Hi]
  · iexists f
    isplitr
    · ipureintro; exact hf
    iexact Hi
  isplitl [Hsg Hsu Hsd]
  · iexists fg, fu, fd
    isplitr
    · ipureintro; exact hs
    isplitl [Hsg]; · iexact Hsg
    isplitl [Hsu]; · iexact Hsu
    iexact Hsd
  iexists _
  isplitr
  rotate_left
  · iexact Ho
  ipureintro
  have h97 : b.val < 97 := by have := b.isLt; omega
  refine out_of_rows c p XS EG EU ED b hf hs (n := 3) (by rw [hv]; decide) ?_
  refine rows_store _ _ 2 ?_ ((pay_3_2 _ _ _ _ _ _ _).trans (congrArg (fun z => shapeCast S1x256x1024 z shapeCasts_S256x1024_S1x256x1024) (pay_group (islot (Ring.sl 3 b.val)).view f gScr.view fg uScr.view fu dScr.view fd 2 rfl rfl _ _ _ _ _)))
    (by rw [off50_eq h97, sl2_val]; rfl) _
  refine rows_store _ _ 1 ?_ ((pay_3_1 _ _ _ _ _ _ _).trans (congrArg (fun z => shapeCast S1x256x1024 z shapeCasts_S256x1024_S1x256x1024) (pay_group (islot (Ring.sl 3 b.val)).view f gScr.view fg uScr.view fu dScr.view fd 1 rfl rfl _ _ _ _ _)))
    (by rw [off49_eq h97, sl2_val]; rfl) _
  refine rows_store _ _ 0 ?_ ((pay_3_0 _ _ _ _ _ _ _).trans (congrArg (fun z => shapeCast S1x256x1024 z shapeCasts_S256x1024_S1x256x1024) (pay_group (islot (Ring.sl 3 b.val)).view f gScr.view fg uScr.view fu dScr.view fd 0 rfl rfl _ _ _ _ _)))
    (by rw [off48_eq h97, sl2_val]; rfl) _
  exact rows_zero _ _ _

/-- A tile of four row groups. -/
theorem work2_4 (b : Fin 96) (gNs : Buf (Elt F) (aNs.view.loc (c : Thread nD τ))) (hgNs : TabOk c aNs p.ns gNs) (hv : p.ns b = 4#32)
    (h7 : k0_chk7 (W b.val)) {R : Type} (κ : Prog (TpuEff nD τ sig (Elt F) Λ₀ .tc) R) (Q : R → sProp 𝕄) :
    iprop(tabP c aNs gNs ∗ compIn c p XS EG EU ED b ∗ (tabP c aNs gNs ∗ compOut c p XS EG EU ED b -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W b.val) (W b.val) (W b.val) h7 κ) Q := by
  have h36 : ∀ inb, aNs.view.readAt (Elt F) (Rect.unit (s := S96) (k0_off36 (W b.val)) S1.size inb).toLoadRect gNs = fun _ => p.ns b :=
    fun inb => hgNs.at c b (off36_eq b.isLt) inb
  have hk12 : k0_chk12 (W b.val) (W b.val) (p.ns b) := chk12_ok (by omega) (by omega) _
  have h40 : ∀ inb, aNs.view.readAt (Elt F) (Rect.unit (s := S96) (k0_off40 (W b.val)) S1.size inb).toLoadRect gNs = fun _ => p.ns b :=
    fun inb => hgNs.at c b (off40_eq b.isLt) inb
  have hk13 : k0_chk13 (W b.val) (W b.val) (p.ns b) := chk13_ok (by omega) (by omega) _
  have h45 : ∀ inb, aNs.view.readAt (Elt F) (Rect.unit (s := S96) (k0_off45 (W b.val)) S1.size inb).toLoadRect gNs = fun _ => p.ns b :=
    fun inb => hgNs.at c b (off45_eq b.isLt) inb
  have hk14 : k0_chk14 (W b.val) (W b.val) (p.ns b) := chk14_ok (by omega) (by omega) _
  have h51 : ∀ inb, aNs.view.readAt (Elt F) (Rect.unit (s := S96) (k0_off51 (W b.val)) S1.size inb).toLoadRect gNs = fun _ => p.ns b :=
    fun inb => hgNs.at c b (off51_eq b.isLt) inb
  have hk15 : k0_chk15 (W b.val) (W b.val) (p.ns b) := chk15_ok (by omega) (by omega) _
  have hc8 : ¬ k0_cond8 (p.ns b) = 1#1 := fun h => absurd (hv.symm.trans ((cond8_iff _).1 h)) (by decide)
  have hc9 : ¬ k0_cond9 (p.ns b) = 1#1 := fun h => absurd (hv.symm.trans ((cond9_iff _).1 h)) (by decide)
  have hc10 : ¬ k0_cond10 (p.ns b) = 1#1 := fun h => absurd (hv.symm.trans ((cond10_iff _).1 h)) (by decide)
  have hc11 : k0_cond11 (p.ns b) = 1#1 := (cond11_iff _).2 hv
  unfold compIn compOut scrP
  iintro ⟨HN, ⟨⟨%f, %hf, Hi⟩, ⟨%fg, %fu, %fd, %hs, Hsg, Hsu, Hsd⟩, ⟨%fo, Ho⟩⟩, Hk⟩
  unfold work2
  sl_exec
  iapply Hk $$ [HN Hi Hsg Hsu Hsd Ho]
  isplitl [HN]; · iexact HN
  isplitl [Hi]
  · iexists f
    isplitr
    · ipureintro; exact hf
    iexact Hi
  isplitl [Hsg Hsu Hsd]
  · iexists fg, fu, fd
    isplitr
    · ipureintro; exact hs
    isplitl [Hsg]; · iexact Hsg
    isplitl [Hsu]; · iexact Hsu
    iexact Hsd
  iexists _
  isplitr
  rotate_left
  · iexact Ho
  ipureintro
  have h97 : b.val < 97 := by have := b.isLt; omega
  refine out_of_rows c p XS EG EU ED b hf hs (n := 4) (by rw [hv]; decide) ?_
  refine rows_store _ _ 3 ?_ ((pay_4_3 _ _ _ _ _ _ _).trans (congrArg (fun z => shapeCast S1x256x1024 z shapeCasts_S256x1024_S1x256x1024) (pay_group (islot (Ring.sl 3 b.val)).view f gScr.view fg uScr.view fu dScr.view fd 3 rfl rfl _ _ _ _ _)))
    (by rw [off57_eq h97, sl2_val]; rfl) _
  refine rows_store _ _ 2 ?_ ((pay_4_2 _ _ _ _ _ _ _).trans (congrArg (fun z => shapeCast S1x256x1024 z shapeCasts_S256x1024_S1x256x1024) (pay_group (islot (Ring.sl 3 b.val)).view f gScr.view fg uScr.view fu dScr.view fd 2 rfl rfl _ _ _ _ _)))
    (by rw [off56_eq h97, sl2_val]; rfl) _
  refine rows_store _ _ 1 ?_ ((pay_4_1 _ _ _ _ _ _ _).trans (congrArg (fun z => shapeCast S1x256x1024 z shapeCasts_S256x1024_S1x256x1024) (pay_group (islot (Ring.sl 3 b.val)).view f gScr.view fg uScr.view fu dScr.view fd 1 rfl rfl _ _ _ _ _)))
    (by rw [off55_eq h97, sl2_val]; rfl) _
  refine rows_store _ _ 0 ?_ ((pay_4_0 _ _ _ _ _ _ _).trans (congrArg (fun z => shapeCast S1x256x1024 z shapeCasts_S256x1024_S1x256x1024) (pay_group (islot (Ring.sl 3 b.val)).view f gScr.view fg uScr.view fu dScr.view fd 0 rfl rfl _ _ _ _ _)))
    (by rw [off54_eq h97, sl2_val]; rfl) _
  exact rows_zero _ _ _

/-- A tile of no row group. -/
theorem work2_0 (b : Fin 96) (hfew : (p.ns b).toInt ≤ 4) (gNs : Buf (Elt F) (aNs.view.loc (c : Thread nD τ))) (hgNs : TabOk c aNs p.ns gNs) (hv : p.ns b ≠ 1#32 ∧ p.ns b ≠ 2#32 ∧ p.ns b ≠ 3#32 ∧ p.ns b ≠ 4#32)
    (h7 : k0_chk7 (W b.val)) {R : Type} (κ : Prog (TpuEff nD τ sig (Elt F) Λ₀ .tc) R) (Q : R → sProp 𝕄) :
    iprop(tabP c aNs gNs ∗ compIn c p XS EG EU ED b ∗ (tabP c aNs gNs ∗ compOut c p XS EG EU ED b -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W b.val) (W b.val) (W b.val) h7 κ) Q := by
  have h36 : ∀ inb, aNs.view.readAt (Elt F) (Rect.unit (s := S96) (k0_off36 (W b.val)) S1.size inb).toLoadRect gNs = fun _ => p.ns b :=
    fun inb => hgNs.at c b (off36_eq b.isLt) inb
  have hk12 : k0_chk12 (W b.val) (W b.val) (p.ns b) := chk12_ok (by omega) (by omega) _
  have h40 : ∀ inb, aNs.view.readAt (Elt F) (Rect.unit (s := S96) (k0_off40 (W b.val)) S1.size inb).toLoadRect gNs = fun _ => p.ns b :=
    fun inb => hgNs.at c b (off40_eq b.isLt) inb
  have hk13 : k0_chk13 (W b.val) (W b.val) (p.ns b) := chk13_ok (by omega) (by omega) _
  have h45 : ∀ inb, aNs.view.readAt (Elt F) (Rect.unit (s := S96) (k0_off45 (W b.val)) S1.size inb).toLoadRect gNs = fun _ => p.ns b :=
    fun inb => hgNs.at c b (off45_eq b.isLt) inb
  have hk14 : k0_chk14 (W b.val) (W b.val) (p.ns b) := chk14_ok (by omega) (by omega) _
  have h51 : ∀ inb, aNs.view.readAt (Elt F) (Rect.unit (s := S96) (k0_off51 (W b.val)) S1.size inb).toLoadRect gNs = fun _ => p.ns b :=
    fun inb => hgNs.at c b (off51_eq b.isLt) inb
  have hk15 : k0_chk15 (W b.val) (W b.val) (p.ns b) := chk15_ok (by omega) (by omega) _
  have hc8 : ¬ k0_cond8 (p.ns b) = 1#1 := fun h => hv.1 ((cond8_iff _).1 h)
  have hc9 : ¬ k0_cond9 (p.ns b) = 1#1 := fun h => hv.2.1 ((cond9_iff _).1 h)
  have hc10 : ¬ k0_cond10 (p.ns b) = 1#1 := fun h => hv.2.2.1 ((cond10_iff _).1 h)
  have hc11 : ¬ k0_cond11 (p.ns b) = 1#1 := fun h => hv.2.2.2 ((cond11_iff _).1 h)
  unfold compIn compOut scrP
  iintro ⟨HN, ⟨⟨%f, %hf, Hi⟩, ⟨%fg, %fu, %fd, %hs, Hsg, Hsu, Hsd⟩, ⟨%fo, Ho⟩⟩, Hk⟩
  unfold work2
  sl_exec
  iapply Hk $$ [HN Hi Hsg Hsu Hsd Ho]
  isplitl [HN]; · iexact HN
  isplitl [Hi]
  · iexists f
    isplitr
    · ipureintro; exact hf
    iexact Hi
  isplitl [Hsg Hsu Hsd]
  · iexists fg, fu, fd
    isplitr
    · ipureintro; exact hs
    isplitl [Hsg]; · iexact Hsg
    isplitl [Hsu]; · iexact Hsu
    iexact Hsd
  iexists _
  isplitr
  rotate_left
  · iexact Ho
  ipureintro
  intro r hr
  exfalso
  have h1 : 1 ≤ (p.ns b).toInt := by omega
  have hm : ∀ k : ℕ, (p.ns b).toInt = (k : ℤ) → k < 5 → p.ns b = BitVec.ofNat 32 k := fun k e hk =>
    BitVec.eq_of_toInt_eq (by rw [e]; interval_cases k <;> rfl)
  rcases (show (p.ns b).toInt = 1 ∨ (p.ns b).toInt = 2 ∨ (p.ns b).toInt = 3 ∨ (p.ns b).toInt = 4 by omega) with e | e | e | e
  · exact hv.1 (hm 1 e (by omega))
  · exact hv.2.1 (hm 2 e (by omega))
  · exact hv.2.2.1 (hm 3 e (by omega))
  · exact hv.2.2.2 (hm 4 e (by omega))

/-- The compute of a tile. -/
theorem work2_spec (b : Fin 96) (hfew : (p.ns b).toInt ≤ 4) (gNs : Buf (Elt F) (aNs.view.loc (c : Thread nD τ))) (hgNs : TabOk c aNs p.ns gNs)
    (h7 : k0_chk7 (W b.val)) {R : Type} (κ : Prog (TpuEff nD τ sig (Elt F) Λ₀ .tc) R) (Q : R → sProp 𝕄) :
    iprop(tabP c aNs gNs ∗ compIn c p XS EG EU ED b ∗ (tabP c aNs gNs ∗ compOut c p XS EG EU ED b -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W b.val) (W b.val) (W b.val) h7 κ) Q := by
  by_cases h1 : p.ns b = 1#32
  · exact work2_1 c p XS EG EU ED aTe hTe aNt hNt aNx hNx aSg hSg aNs hNs b gNs hgNs h1 h7 κ Q
  by_cases h2 : p.ns b = 2#32
  · exact work2_2 c p XS EG EU ED aTe hTe aNt hNt aNx hNx aSg hSg aNs hNs b gNs hgNs h2 h7 κ Q
  by_cases h3 : p.ns b = 3#32
  · exact work2_3 c p XS EG EU ED aTe hTe aNt hNt aNx hNx aSg hSg aNs hNs b gNs hgNs h3 h7 κ Q
  by_cases h4 : p.ns b = 4#32
  · exact work2_4 c p XS EG EU ED aTe hTe aNt hNt aNx hNx aSg hSg aNs hNs b gNs hgNs h4 h7 κ Q
  exact work2_0 c p XS EG EU ED aTe hTe aNt hNt aNx hNx aSg hSg aNs hNs b hfew gNs hgNs ⟨h1, h2, h3, h4⟩ h7 κ Q

/-- A tile past the last one that holds rows: nothing is computed. -/
theorem work2_idle (i a b : ℕ) (hi : i < 96) (ha : a < 97) (hb : b < 97) (gNs : Buf (Elt F) (aNs.view.loc (c : Thread nD τ))) (hgNs : TabOk c aNs p.ns gNs)
    (hv : (p.ns (tl i)).toInt ≤ 0)
    (h7 : k0_chk7 (W i)) {R : Type} (κ : Prog (TpuEff nD τ sig (Elt F) Λ₀ .tc) R) (Q : R → sProp 𝕄) :
    iprop(tabP c aNs gNs ∗ (tabP c aNs gNs -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W a) (W b) (W i) h7 κ) Q := by
  have h36 : ∀ inb, aNs.view.readAt (Elt F) (Rect.unit (s := S96) (k0_off36 (W i)) S1.size inb).toLoadRect gNs = fun _ => p.ns (tl i) :=
    fun inb => hgNs.at c (tl i) (by rw [off36_eq hi, tl_val hi]) inb
  have hk12 : k0_chk12 (W a) (W b) (p.ns (tl i)) := chk12_ok ha hb _
  have h40 : ∀ inb, aNs.view.readAt (Elt F) (Rect.unit (s := S96) (k0_off40 (W i)) S1.size inb).toLoadRect gNs = fun _ => p.ns (tl i) :=
    fun inb => hgNs.at c (tl i) (by rw [off40_eq hi, tl_val hi]) inb
  have hk13 : k0_chk13 (W a) (W b) (p.ns (tl i)) := chk13_ok ha hb _
  have h45 : ∀ inb, aNs.view.readAt (Elt F) (Rect.unit (s := S96) (k0_off45 (W i)) S1.size inb).toLoadRect gNs = fun _ => p.ns (tl i) :=
    fun inb => hgNs.at c (tl i) (by rw [off45_eq hi, tl_val hi]) inb
  have hk14 : k0_chk14 (W a) (W b) (p.ns (tl i)) := chk14_ok ha hb _
  have h51 : ∀ inb, aNs.view.readAt (Elt F) (Rect.unit (s := S96) (k0_off51 (W i)) S1.size inb).toLoadRect gNs = fun _ => p.ns (tl i) :=
    fun inb => hgNs.at c (tl i) (by rw [off51_eq hi, tl_val hi]) inb
  have hk15 : k0_chk15 (W a) (W b) (p.ns (tl i)) := chk15_ok ha hb _
  have hc8 : ¬ k0_cond8 (p.ns (tl i)) = 1#1 := fun h => by rw [(cond8_iff _).1 h] at hv; exact absurd hv (by decide)
  have hc9 : ¬ k0_cond9 (p.ns (tl i)) = 1#1 := fun h => by rw [(cond9_iff _).1 h] at hv; exact absurd hv (by decide)
  have hc10 : ¬ k0_cond10 (p.ns (tl i)) = 1#1 := fun h => by rw [(cond10_iff _).1 h] at hv; exact absurd hv (by decide)
  have hc11 : ¬ k0_cond11 (p.ns (tl i)) = 1#1 := fun h => by rw [(cond11_iff _).1 h] at hv; exact absurd hv (by decide)
  iintro ⟨HN, Hk⟩
  unfold work2
  sl_exec
  iapply Hk $$ HN

end T

end Cert.Proof.Moe

end
-- ==== Proof.WordsCarry.lean ====
module

public import proofs.«01_k».proof.Proof.Words

@[expose] public section

set_option maxRecDepth 100000

/-! # The pipeline's counters from a trip to the next -/
namespace Cert.Proof.Moe

open Cert.KernelIdeal
open Idealize.ShloMosaic

/-! The words a trip computes from its number `i` and the count `n` of tiles in use. -/
def x18 (i : Fin k0_t1_loop.trips) : BitVec 32 := Scf.iv 0#32 1#32 i
def x82 (i : Fin k0_t1_loop.trips) : BitVec 1 := Scalar.cmpi .eq (x18 i) 0#32
def x83 (i : Fin k0_t1_loop.trips) : BitVec 1 := Scalar.cmpi .eq (x18 i) 95#32
def x84 (i : Fin k0_t1_loop.trips) : BitVec 32 := Scalar.addi (W i.val) 0#32
def x86 (i : Fin k0_t1_loop.trips) : BitVec 32 := Scalar.select 1#1 (Scalar.subi (W i.val) 1#32) (W i.val)
def x89 (i : Fin k0_t1_loop.trips) : BitVec 32 := Scalar.addi (Scalar.select (Scalar.cmpi .eq (x86 i) 4294967295#32) 95#32 (x86 i)) 0#32
def x91 (i : Fin k0_t1_loop.trips) : BitVec 32 := Scalar.select 1#1 (Scalar.addi (W i.val) 1#32) (W i.val)
def x93 (i : Fin k0_t1_loop.trips) : BitVec 32 := Scalar.select (Scalar.cmpi .eq (x91 i) 96#32) 0#32 (x91 i)
def x94 (i : Fin k0_t1_loop.trips) : BitVec 32 := Scalar.addi (x93 i) 0#32
def x96 (i : Fin k0_t1_loop.trips) : BitVec 32 := Scalar.select 1#1 (Scalar.addi (x93 i) 1#32) (x93 i)
def x99 (i : Fin k0_t1_loop.trips) : BitVec 32 := Scalar.addi (Scalar.select (Scalar.cmpi .eq (x96 i) 96#32) 0#32 (x96 i)) 0#32
def x107 (i : Fin k0_t1_loop.trips) (n : ℕ) : BitVec 32 := Scalar.minsi (x94 i) (Scalar.subi (W n) 1#32)
def x110 (i : Fin k0_t1_loop.trips) (n : ℕ) : BitVec 32 := Scalar.minsi (x99 i) (Scalar.subi (W n) 1#32)
def x111 (i : Fin k0_t1_loop.trips) (n : ℕ) : BitVec 1 := Scalar.cmpi .ne (x107 i n) (x110 i n)
def x123 (i : Fin k0_t1_loop.trips) (n : ℕ) : BitVec 32 := Scalar.minsi (x84 i) (Scalar.subi (W n) 1#32)
def x136 (i : Fin k0_t1_loop.trips) (n : ℕ) : BitVec 32 := Scalar.minsi (x89 i) (Scalar.subi (W n) 1#32)
def x147 (i : Fin k0_t1_loop.trips) (n : ℕ) : BitVec 1 := Scalar.ori (Scalar.cmpi .ne (x123 i n) (x136 i n)) (x82 i)

/-! The five counters before trip `k`. -/
def c19 (n k : ℕ) : BitVec 32 := W (min (k + 2) n)
def c20 (n k : ℕ) : BitVec 32 := W (if k = 96 then n else min k (n - 1))
def c22 (n k : ℕ) : BitVec 32 := W (min k n - 1)
def c23 (k : ℕ) : BitVec 32 := W (if k = 96 then 0 else k)

theorem car19_all : ∀ (i : Fin k0_t1_loop.trips) (n : Fin 96), Scalar.select (Scalar.andi (Scalar.andi (x111 i (n.val + 1)) (Scalar.xori (Scalar.cmpi .sge (x18 i) 94#32) 1#1)) 1#1) (Scalar.addi (W (min (i.val + 2) (n.val + 1))) 1#32) (W (min (i.val + 2) (n.val + 1))) = c19 (n.val + 1) (i.val + 1) := by decide +kernel
theorem car19 (i : Fin k0_t1_loop.trips) {n : ℕ} (h1 : 1 ≤ n) (h2 : n ≤ 96) : Scalar.select (Scalar.andi (Scalar.andi (x111 i n) (Scalar.xori (Scalar.cmpi .sge (x18 i) 94#32) 1#1)) 1#1) (Scalar.addi (W (min (i.val + 2) n)) 1#32) (W (min (i.val + 2) n)) = c19 n (i.val + 1) := by
  obtain ⟨m, rfl⟩ : ∃ m, n = m + 1 := ⟨n - 1, by omega⟩
  exact car19_all i ⟨m, by omega⟩

theorem car20_all : ∀ (i : Fin k0_t1_loop.trips) (n : Fin 96), Scalar.select (Scalar.ori (Scalar.cmpi .ne (x123 i (n.val + 1)) (x107 i (n.val + 1))) (x83 i)) (Scalar.addi (W (min i.val ((n.val + 1) - 1))) 1#32) (W (min i.val ((n.val + 1) - 1))) = c20 (n.val + 1) (i.val + 1) := by decide +kernel
theorem car20 (i : Fin k0_t1_loop.trips) {n : ℕ} (h1 : 1 ≤ n) (h2 : n ≤ 96) : Scalar.select (Scalar.ori (Scalar.cmpi .ne (x123 i n) (x107 i n)) (x83 i)) (Scalar.addi (W (min i.val (n - 1))) 1#32) (W (min i.val (n - 1))) = c20 n (i.val + 1) := by
  obtain ⟨m, rfl⟩ : ∃ m, n = m + 1 := ⟨n - 1, by omega⟩
  exact car20_all i ⟨m, by omega⟩

theorem car21_all : ∀ (i : Fin k0_t1_loop.trips) (n : Fin 96), Scalar.select (Scalar.andi (Scalar.ori (Scalar.cmpi .ne (x123 i (n.val + 1)) (x107 i (n.val + 1))) (x83 i)) 1#1) (Scalar.addi (W (min i.val ((n.val + 1) - 1))) 1#32) (W (min i.val ((n.val + 1) - 1))) = c20 (n.val + 1) (i.val + 1) := by decide +kernel
theorem car21 (i : Fin k0_t1_loop.trips) {n : ℕ} (h1 : 1 ≤ n) (h2 : n ≤ 96) : Scalar.select (Scalar.andi (Scalar.ori (Scalar.cmpi .ne (x123 i n) (x107 i n)) (x83 i)) 1#1) (Scalar.addi (W (min i.val (n - 1))) 1#32) (W (min i.val (n - 1))) = c20 n (i.val + 1) := by
  obtain ⟨m, rfl⟩ : ∃ m, n = m + 1 := ⟨n - 1, by omega⟩
  exact car21_all i ⟨m, by omega⟩

theorem car22_all : ∀ (i : Fin k0_t1_loop.trips) (n : Fin 96), Scalar.select (Scalar.andi (Scalar.andi (Scalar.cmpi .ne (x123 i (n.val + 1)) (x136 i (n.val + 1))) (Scalar.xori (x82 i) 1#1)) 1#1) (Scalar.addi (W (min i.val (n.val + 1) - 1)) 1#32) (W (min i.val (n.val + 1) - 1)) = c22 (n.val + 1) (i.val + 1) := by decide +kernel
theorem car22 (i : Fin k0_t1_loop.trips) {n : ℕ} (h1 : 1 ≤ n) (h2 : n ≤ 96) : Scalar.select (Scalar.andi (Scalar.andi (Scalar.cmpi .ne (x123 i n) (x136 i n)) (Scalar.xori (x82 i) 1#1)) 1#1) (Scalar.addi (W (min i.val n - 1)) 1#32) (W (min i.val n - 1)) = c22 n (i.val + 1) := by
  obtain ⟨m, rfl⟩ : ∃ m, n = m + 1 := ⟨n - 1, by omega⟩
  exact car22_all i ⟨m, by omega⟩

theorem car23 : ∀ (i : Fin k0_t1_loop.trips), Scalar.select (Scalar.cmpi .eq (x91 i) 96#32) 0#32 (x91 i) = c23 (i.val + 1) := by decide +kernel

end Cert.Proof.Moe
-- ==== Proof.TripIn.lean ====
module

public import proofs.«01_k».proof.Proof.State
public import proofs.«01_k».proof.Proof.Cuts
public import proofs.«01_k».proof.Proof.WordsCarry

@[expose] public section

set_option maxRecDepth 65536

/-! # One trip: the ring of token blocks -/
noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section In

variable (c : Dev nD) (XS : Buf (Elt F) (xsM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)

abbrev ntP (g : Buf (Elt F) (aNt.view.loc (c : Thread nD τ))) : sProp 𝕄 := aNt.view.loc (c : Thread nD τ) ↦[aNt.view.set]{fullShare} g
/-- The tile count's buffer holds the word `n`. -/
def NtOk (n : ℕ) (g : Buf (Elt F) (aNt.view.loc (c : Thread nD τ))) : Prop :=
  ∀ inb, aNt.view.readAt (Elt F) (Rect.unit (s := S1) ![0] S1.size inb).toLoadRect g = fun _ => W n

theorem trip1_spec (i : Fin k0_t1_loop.trips) {n : ℕ} (h1 : 1 ≤ n) (h2 : n ≤ 96)
    (g : Buf (Elt F) (aNt.view.loc (c : Thread nD τ))) (hg : NtOk c aNt n g)
    {R : Type} (κ : trip1.K (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 i (W (min (i.val + 2) n)) (W i.val) (R := R)) (Q : R → sProp 𝕄) :
    iprop(ntP c aNt g ∗ (∀ h3, ntP c aNt g -∗ wp frame (wpE (defs₀ (F := F)) 𝒱₀ (c : Thread nD τ) none) Set.univ (κ (x18 i) (x82 i) (x83 i) (x84 i) (x89 i) (x94 i) (x99 i) (W n) (x107 i n) (W n) h3 (x111 i n) 94#32) Q))
    ⊢ wp frame (wpE (defs₀ (F := F)) 𝒱₀ (c : Thread nD τ) none) Set.univ (trip1 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 i (W (min (i.val + 2) n)) (W i.val) κ) Q := by
  have hck := chk3_ok i h1 h2
  unfold NtOk at hg
  iintro ⟨Hn, Hk⟩
  unfold trip1
  sl_exec
  iapply Hk $$ Hn

/-- The second stretch of a trip: the block two ahead is asked for, and the trip's own block awaited. -/
theorem trip2_spec (i : Fin k0_t1_loop.trips) {n : ℕ} (h1 : 1 ≤ n) (h2 : n ≤ 96)
    (g : Buf (Elt F) (aNt.view.loc (c : Thread nD τ))) (hg : NtOk c aNt n g) (a b : ℕ) (ha : a = min (i.val + 2) n) (hb : b = min i.val (n - 1))
    (h3 : k0_chk3 i (W a) (W i.val) (W n) (W n))
    {R : Type} (κ : trip2.K (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 i (W a) (W b) (W b) (W (min i.val n - 1)) (W i.val) (x18 i) (x82 i) (x84 i) (x89 i) (x94 i) (x99 i) (W n) (W n) h3 (x111 i n) 94#32 (R := R))
    (Q : R → sProp 𝕄) :
    iprop(ntP c aNt g ∗ (∃ W, owes (c : Thread nD τ) 0 W) ∗ inRole c XS n i.val ∗ inFree c XS (Ring.sl 3 (i.val + 2)) ∗
      (∀ h16 h18, ntP c aNt g ∗ (∃ W, owes (c : Thread nD τ) 0 W) ∗ inNow c XS n i.val ∗ inRole c XS n (i.val + 2) -∗
        wp frame (wpE (defs₀ (F := F)) 𝒱₀ (c : Thread nD τ) none) Set.univ (κ (Scalar.select (Scalar.andi (Scalar.andi (x111 i n) (Scalar.xori (Scalar.cmpi .sge (x18 i) 94#32) 1#1)) 1#1) (Scalar.addi (W a) 1#32) (W a))
          (W n) (x123 i n) (W n) h16 (x107 i n) (x123 i n) (x136 i n) (W n) h18 (x136 i n) (x147 i n)) Q))
    ⊢ wp frame (wpE (defs₀ (F := F)) 𝒱₀ (c : Thread nD τ) none) Set.univ (trip2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 i (W a) (W b) (W b) (W (min i.val n - 1)) (W i.val) (x18 i) (x82 i) (x84 i) (x89 i) (x94 i) (x99 i) (W n) (W n) h3 (x111 i n) 94#32 κ) Q := by
  have hi := trip_lt i
  have hk4 := chk4_ok i h1 h2
  have hk5 : k0_chk5 i (W b) (W i.val) (W n) (W n) := by rw [hb]; exact chk5_ok i h1 h2
  have hk6 := chk6_ok i h1 h2
  have hk16 : k0_chk16 i (W b) (W i.val) (W n) (W n) := by rw [hb]; exact chk16_ok i h1 h2
  have hk18 := chk18_ok i h1 h2
  unfold NtOk at hg
  by_cases hn2 : i.val + 2 < n
  · have hC2 : k0_cond2 i (W i.val) (W n) (W n) = 1#1 := (cond2_iff i h1 h2).2 hn2
    have hC3 : k0_cond3 i (W i.val) (W n) (W n) = 1#1 := (cond3_iff i h1 h2).2 (by omega)
    obtain rfl : a = i.val + 2 := by omega
    obtain rfl : b = i.val := by omega
    unfold inRole inNow
    rw [if_pos (show i.val < n by omega), if_pos hn2, if_pos (show i.val < n by omega)]
    rw [inFree, inFly]
    iintro ⟨Hn, ⟨%W0, HW⟩, ⟨Hr, ⟨%f0, Hfl⟩⟩, ⟨Hx, ⟨%f1, Hs⟩, Hc⟩, Hk⟩
    unfold trip2
    sl_exec
    iapply Hk $$ [Hn HW Hr Hfl_dst Hfl_src Hfl Hx Hc]
    isplitl [Hn]; · iexact Hn
    isplitl [HW]; · iexists _; iexact HW
    isplitl [Hr Hfl_dst Hfl_src Hfl]
    · iapply (inHeld_of c XS (Ring.sl 3 i.val) (tl i.val) f0)
      isplitl [Hr]; · iexact Hr
      isplitl [Hfl_dst]; · iexact Hfl_dst
      isplitl [Hfl_src]; · iexact Hfl_src
      iexact Hfl
    unfold inFly
    isplitl [Hx]; · iexact Hx
    iexists f1
    iexact Hc
  · have hC2 : ¬ k0_cond2 i (W i.val) (W n) (W n) = 1#1 := fun h => hn2 ((cond2_iff i h1 h2).1 h)
    by_cases hn : i.val < n
    · have hC3 : k0_cond3 i (W i.val) (W n) (W n) = 1#1 := (cond3_iff i h1 h2).2 hn
      obtain rfl : b = i.val := by omega
      unfold inRole inNow
      rw [if_pos hn, if_neg hn2, if_pos hn]
      rw [inFly]
      iintro ⟨Hn, ⟨%W0, HW⟩, ⟨Hr, ⟨%f0, Hfl⟩⟩, Hfr, Hk⟩
      unfold trip2
      sl_exec
      iapply Hk $$ [Hn HW Hr Hfl_dst Hfl_src Hfl Hfr]
      isplitl [Hn]; · iexact Hn
      isplitl [HW]; · iexists _; iexact HW
      isplitl [Hr Hfl_dst Hfl_src Hfl]
      · iapply (inHeld_of c XS (Ring.sl 3 i.val) (tl i.val) f0)
        isplitl [Hr]; · iexact Hr
        isplitl [Hfl_dst]; · iexact Hfl_dst
        isplitl [Hfl_src]; · iexact Hfl_src
        iexact Hfl
      iexact Hfr
    · have hC3 : ¬ k0_cond3 i (W i.val) (W n) (W n) = 1#1 := fun h => hn ((cond3_iff i h1 h2).1 h)
      unfold inRole inNow
      rw [if_neg hn, if_neg hn2, if_neg hn]
      iintro ⟨Hn, HW, Hro, Hfr, Hk⟩
      unfold trip2
      sl_exec
      iapply Hk $$ [Hn HW Hro Hfr]
      isplitl [Hn]; · iexact Hn
      isplitl [HW]; · iexact HW
      isplitl [Hro]; · iexact Hro
      iexact Hfr

end In

end Cert.Proof.Moe

end
-- ==== Proof.TripOut.lean ====
module

public import proofs.«01_k».proof.Proof.OutState
public import proofs.«01_k».proof.Proof.TripIn

@[expose] public section

set_option maxRecDepth 65536

/-! # One trip: the ring of result blocks -/
noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section OutTrip

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)

abbrev WK3 (i : Fin k0_t1_loop.trips) (n b : ℕ) (v1 : BitVec 1) (v2 v3 : BitVec 32) (h16 : k0_chk16 i (W b) (W i.val) (W n) (W n))
    {R : Type} (κ : Prog (TpuEff nD τ sig (Elt F) Λ₀ .tc) R) : Prog (TpuEff nD τ sig (Elt F) Λ₀ .tc) R :=
  work3 (F := F) aNt resM (Memref.isWhole_whole _) outM (Memref.isWhole_whole _) cc0_scoped3 i (W b) (W i.val) v1 v2 (W n) (W n) h16 v3 κ

theorem work3_send (i : Fin k0_t1_loop.trips) (hp : p.Ok) (hC : i.val + 1 < p.n ∨ i.val = 95)
    (g : Buf (Elt F) (aNt.view.loc (c : Thread nD τ))) (hg : NtOk c aNt p.n g) (v1 : BitVec 1) (v2 : BitVec 32) (v3 : BitVec 32)
    (h16 : k0_chk16 i (W (min i.val (p.n - 1))) (W i.val) (W p.n) (W p.n)) (S : Finset resM.view.ty.Idx) (hS : oset (tl (min i.val (p.n - 1))) ⊆ S)
    (g1 : Buf (Elt F) (resM.view.loc (c : Thread nD τ)))
    {R : Type} (κ : Prog (TpuEff nD τ sig (Elt F) Λ₀ .tc) R)
    (Q : R → sProp 𝕄) :
    iprop(ntP c aNt g ∗ oDone c p XS EG EU ED (min i.val (p.n - 1)) ∗ resP c S g1 ∗
      (ntP c aNt g ∗ oFly c p XS EG EU ED (min i.val (p.n - 1)) ∗ resP c (S \ oset (tl (min i.val (p.n - 1)))) g1 -∗ wp frame (wpE (defs₀ (F := F)) 𝒱₀ (c : Thread nD τ) none) Set.univ κ Q))
    ⊢ wp frame (wpE (defs₀ (F := F)) 𝒱₀ (c : Thread nD τ) none) Set.univ (WK3 aNt i p.n _ v1 v2 v3 h16 κ) Q := by
  have hi := trip_lt i
  have h1 := hp.n_pos
  have h2 := hp.n_le
  have hk17 := chk17_ok i h1 h2
  unfold NtOk at hg
  have hC13 : k0_cond13 i (W i.val) (W p.n) (W p.n) = 1#1 := (cond13_iff i h1 h2).2 hC
  unfold oDone oFly
  iintro ⟨Hn, ⟨⟨%fo, %hfo, Ho⟩, Hc⟩, Hr, Hk⟩
  ihave Hr := (pointsTo_split_subset (q := fullShare) (f := g1) hS).1 $$ Hr
  icases Hr with ⟨Hb, Hr⟩
  ihave Hb := (show resP c (oset (tl (min i.val (p.n - 1)))) g1 ⊢ (oblk (tl (min i.val (p.n - 1)))).view.loc (c : Thread nD τ) ↦[(oblk (tl (min i.val (p.n - 1)))).view.set]{fullShare} g1 from .rfl) $$ Hb
  unfold WK3 work3
  sl_exec
  iapply Hk $$ [Hn Hc Hr]
  isplitl [Hn]; · iexact Hn
  isplitl [Hc]
  · iexists g1, fo
    isplitr; · ipureintro; exact hfo
    iexact Hc
  iexact Hr

/-- The last stretch of the work: the block is sent off, when the next trip's is another one. -/
theorem work3_spec (i : Fin k0_t1_loop.trips) (hp : p.Ok)
    (g : Buf (Elt F) (aNt.view.loc (c : Thread nD τ))) (hg : NtOk c aNt p.n g) (v1 : BitVec 1) (v2 : BitVec 32) (v3 : BitVec 32)
    (h16 : k0_chk16 i (W (min i.val (p.n - 1))) (W i.val) (W p.n) (W p.n))
    {R : Type} (κ : Prog (TpuEff nD τ sig (Elt F) Λ₀ .tc) R)
    (Q : R → sProp 𝕄) :
    iprop(ntP c aNt g ∗ outMid c p XS EG EU ED i.val ∗
      (ntP c aNt g ∗ outSent c p XS EG EU ED i.val -∗ wp frame (wpE (defs₀ (F := F)) 𝒱₀ (c : Thread nD τ) none) Set.univ κ Q))
    ⊢ wp frame (wpE (defs₀ (F := F)) 𝒱₀ (c : Thread nD τ) none) Set.univ (WK3 aNt i p.n _ v1 v2 v3 h16 κ) Q := by
  have hi := trip_lt i
  have h1 := hp.n_pos
  have h2 := hp.n_le
  unfold outMid outSent
  by_cases hC : i.val + 1 < p.n ∨ i.val = 95
  · by_cases h0 : i.val = 0
    · have hb : min i.val (p.n - 1) = 0 := by omega
      rw [if_pos h0, if_pos h0, if_pos (show 1 < p.n by omega)]
      unfold resAll resHole
      iintro ⟨Hn, ⟨Hd, Hfr, ⟨%g1, %hg1, Hr⟩⟩, Hk⟩
      iapply (work3_send c p XS EG EU ED aNt i hp hC g hg v1 v2 v3 h16 resM.view.set (oblk_subset _) g1 κ Q)
      rw [hb]
      isplitl [Hn]; · iexact Hn
      isplitl [Hd]; · iexact Hd
      isplitl [Hr]; · iexact Hr
      iintro ⟨Hn, Hf, Hr⟩
      iapply Hk $$ [Hn Hf Hfr Hr]
      isplitl [Hn]; · iexact Hn
      isplitl [Hf]; · iexact Hf
      isplitl [Hfr]; · iexact Hfr
      iexists g1; isplitr; · ipureintro; exact hg1
      iexact Hr
    · by_cases hn : i.val < p.n
      · have hb : min i.val (p.n - 1) = i.val := by omega
        rw [if_neg h0, if_pos hn, if_neg h0, if_pos hn, if_pos hC]
        unfold resHole resHole2
        iintro ⟨Hn, ⟨Hf0, Hd, ⟨%g1, %hg1, Hr⟩⟩, Hk⟩
        iapply (work3_send c p XS EG EU ED aNt i hp hC g hg v1 v2 v3 h16 (resM.view.set \ oset (tl (i.val - 1))) (by
          rw [hb, Finset.subset_sdiff]
          exact ⟨oblk_subset _, oblk_disjoint (by omega) (by omega) (by omega)⟩) g1 κ Q)
        rw [hb]
        isplitl [Hn]; · iexact Hn
        isplitl [Hd]; · iexact Hd
        isplitl [Hr]; · iexact Hr
        iintro ⟨Hn, Hf, Hr⟩
        iapply Hk $$ [Hn Hf0 Hf Hr]
        isplitl [Hn]; · iexact Hn
        isplitl [Hf0]; · iexact Hf0
        isplitl [Hf]; · iexact Hf
        iexists g1; isplitr; · ipureintro; exact hg1
        rw [show i.val - 1 + 1 = i.val by omega]
        iexact Hr
      · have hb : min i.val (p.n - 1) = p.n - 1 := by omega
        rw [if_neg h0, if_neg hn, if_neg h0, if_neg hn, if_pos (show i.val = 95 by omega)]
        unfold resAll resHole
        iintro ⟨Hn, ⟨Hd, Hfr, ⟨%g1, %hg1, Hr⟩⟩, Hk⟩
        iapply (work3_send c p XS EG EU ED aNt i hp hC g hg v1 v2 v3 h16 resM.view.set (oblk_subset _) g1 κ Q)
        rw [hb]
        isplitl [Hn]; · iexact Hn
        isplitl [Hd]; · iexact Hd
        isplitl [Hr]; · iexact Hr
        iintro ⟨Hn, Hf, Hr⟩
        iapply Hk $$ [Hn Hf Hfr Hr]
        isplitl [Hn]; · iexact Hn
        isplitl [Hf]; · iexact Hf
        isplitl [Hfr]; · iexact Hfr
        iexists g1; isplitr; · ipureintro; exact hg1
        iexact Hr
  · have hC13 : ¬ k0_cond13 i (W i.val) (W p.n) (W p.n) = 1#1 := fun h => hC ((cond13_iff i h1 h2).1 h)
    have e : (if i.val = 0 then iprop(oDone c p XS EG EU ED 0 ∗ oFree c (Ring.sl 2 1) ∗ resAll c p XS EG EU ED 0)
        else if i.val < p.n then iprop(oFly c p XS EG EU ED (i.val - 1) ∗ oDone c p XS EG EU ED i.val ∗ resHole c p XS EG EU ED (i.val - 1))
        else iprop(oDone c p XS EG EU ED (p.n - 1) ∗ oFree c (Ring.sl 2 p.n) ∗ resAll c p XS EG EU ED (p.n - 1))) ⊢ outSent c p XS EG EU ED i.val := by
      unfold outSent
      by_cases h0 : i.val = 0
      · rw [if_pos h0, if_pos h0, if_neg (show ¬ 1 < p.n by omega)]
      · by_cases hn : i.val < p.n
        · rw [if_neg h0, if_neg h0, if_pos hn, if_pos hn, if_neg hC]
        · rw [if_neg h0, if_neg h0, if_neg hn, if_neg hn, if_neg (show ¬ i.val = 95 by omega)]
    unfold outSent at e
    iintro ⟨Hn, H, Hk⟩
    unfold WK3 work3
    sl_exec
    iapply Hk $$ [Hn H]
    isplitl [Hn]; · iexact Hn
    iapply e $$ H

abbrev TR5 (i : Fin k0_t1_loop.trips) (n : ℕ) (v : BitVec 1) (h18 : k0_chk18 i (W (min i.val n - 1)) (W i.val) (W n) (W n))
    {R : Type} (κ : Prog (TpuEff nD τ sig (Elt F) Λ₀ .tc) R) : Prog (TpuEff nD τ sig (Elt F) Λ₀ .tc) R :=
  trip5 (F := F) aNt resM (Memref.isWhole_whole _) outM (Memref.isWhole_whole _) cc0_scoped3 i (W (min i.val n - 1)) (W i.val) (W n) (W n) h18 v κ

theorem trip5_wait (i : Fin k0_t1_loop.trips) (hp : p.Ok) (h0 : 1 ≤ i.val) (hn : i.val < p.n)
    (g : Buf (Elt F) (aNt.view.loc (c : Thread nD τ))) (hg : NtOk c aNt p.n g) (v : BitVec 1)
    (h18 : k0_chk18 i (W (min i.val p.n - 1)) (W i.val) (W p.n) (W p.n)) (S : Finset resM.view.ty.Idx) (hS : oset (tl (i.val - 1)) ⊆ S)
    (g1 : Buf (Elt F) (resM.view.loc (c : Thread nD τ))) (hg1 : ResGood c p XS EG EU ED (i.val - 1) g1)
    {R : Type} (κ : Prog (TpuEff nD τ sig (Elt F) Λ₀ .tc) R)
    (Q : R → sProp 𝕄) :
    iprop(ntP c aNt g ∗ (∃ W, owes (c : Thread nD τ) 0 W) ∗ oFly c p XS EG EU ED (i.val - 1) ∗ resP c (S \ oset (tl (i.val - 1))) g1 ∗
      (∀ g2, ⌜ResGood c p XS EG EU ED i.val g2⌝ -∗ ntP c aNt g ∗ (∃ W, owes (c : Thread nD τ) 0 W) ∗ oFree c (Ring.sl 2 (i.val - 1)) ∗ resP c S g2 -∗ wp frame (wpE (defs₀ (F := F)) 𝒱₀ (c : Thread nD τ) none) Set.univ κ Q))
    ⊢ wp frame (wpE (defs₀ (F := F)) 𝒱₀ (c : Thread nD τ) none) Set.univ (TR5 aNt i p.n v h18 κ) Q := by
  have hi := trip_lt i
  have h1 := hp.n_pos
  have h2 := hp.n_le
  have hk19 := chk19_ok i h1 h2
  unfold NtOk at hg
  have hC15 : k0_cond15 i (W i.val) (W p.n) (W p.n) = 1#1 := (cond15_iff i h1 h2).2 ⟨h0, hn⟩
  have hm : min i.val p.n - 1 = i.val - 1 := by omega
  unfold oFly
  iintro ⟨Hn, ⟨%W0, HW⟩, ⟨%gb, %fo, %hfo, Hf⟩, Hr, Hk⟩
  unfold TR5
  revert h18
  rw [hm]
  intro h18
  unfold trip5
  sl_exec
  ihave Hr := (pointsTo_join_subset (ℓ := resM.view.loc (c : Thread nD τ)) (q := fullShare) hS) $$ [Hf_dst Hr]
  · isplitl [Hf_dst]; · iexact Hf_dst
    iexact Hr
  unfold oFree
  iapply Hk $$ %_ %((by have := res_step c p XS EG EU ED (b := i.val - 1) (by omega) _ gb g1 fo hfo hg1; rwa [show i.val - 1 + 1 = i.val by omega] at this) : ResGood c p XS EG EU ED i.val ((oset (tl (i.val - 1))).piecewise (olanded c (Ring.sl 2 (i.val - 1)) (tl (i.val - 1)) gb fo) g1)) [Hn HW Hf_src Hf Hr]
  isplitl [Hn]; · iexact Hn
  isplitl [HW]; · iexists _; iexact HW
  isplitl [Hf_src Hf]
  · isplitl [Hf_src]; · iexists fo; iexact Hf_src
    iexact Hf
  iexact Hr

/-- The trip's end: the block sent in the trip before is awaited. -/
theorem trip5_spec (i : Fin k0_t1_loop.trips) (hp : p.Ok)
    (g : Buf (Elt F) (aNt.view.loc (c : Thread nD τ))) (hg : NtOk c aNt p.n g) (v : BitVec 1)
    (h18 : k0_chk18 i (W (min i.val p.n - 1)) (W i.val) (W p.n) (W p.n))
    {R : Type} (κ : Prog (TpuEff nD τ sig (Elt F) Λ₀ .tc) R)
    (Q : R → sProp 𝕄) :
    iprop(ntP c aNt g ∗ (∃ W, owes (c : Thread nD τ) 0 W) ∗ outSent c p XS EG EU ED i.val ∗
      (ntP c aNt g ∗ (∃ W, owes (c : Thread nD τ) 0 W) ∗ outSt c p XS EG EU ED (i.val + 1) -∗ wp frame (wpE (defs₀ (F := F)) 𝒱₀ (c : Thread nD τ) none) Set.univ κ Q))
    ⊢ wp frame (wpE (defs₀ (F := F)) 𝒱₀ (c : Thread nD τ) none) Set.univ (TR5 aNt i p.n v h18 κ) Q := by
  have hi := trip_lt i
  have h1 := hp.n_pos
  have h2 := hp.n_le
  by_cases hC : 1 ≤ i.val ∧ i.val < p.n
  · obtain ⟨h0, hn⟩ := hC
    unfold outSent outSt
    rw [if_neg (show ¬ i.val = 0 by omega), if_neg (show ¬ i.val + 1 = 0 by omega), if_pos hn]
    by_cases hl : i.val + 1 < p.n ∨ i.val = 95
    · rw [if_pos hl, if_pos (show i.val + 1 < p.n ∨ i.val + 1 = 96 by omega), show min (i.val + 1) p.n = i.val + 1 by omega, show i.val + 1 - 1 = i.val by omega,
        show Ring.sl 2 (i.val + 1) = Ring.sl 2 (i.val - 1) by rw [show i.val + 1 = i.val - 1 + 2 by omega, Ring.sl_add]]
      unfold resHole2 resHole
      iintro ⟨Hn, HW, ⟨Hf0, Hf1, ⟨%g1, %hg1, Hr⟩⟩, Hk⟩
      rw [show i.val - 1 + 1 = i.val by omega, sdiff_right_comm]
      iapply (trip5_wait c p XS EG EU ED aNt i hp h0 hn g hg v h18 (resM.view.set \ oset (tl i.val)) (by
        rw [Finset.subset_sdiff]; exact ⟨oblk_subset _, oblk_disjoint (by omega) (by omega) (by omega)⟩) g1 hg1 κ Q)
      isplitl [Hn]; · iexact Hn
      isplitl [HW]; · iexact HW
      isplitl [Hf0]; · iexact Hf0
      isplitl [Hr]; · iexact Hr
      iintro %g2 %hg2 ⟨Hn, HW, Hfr, Hr⟩
      iapply Hk $$ [Hn HW Hf1 Hfr Hr]
      isplitl [Hn]; · iexact Hn
      isplitl [HW]; · iexact HW
      isplitl [Hf1]; · iexact Hf1
      isplitl [Hfr]; · iexact Hfr
      iexists g2; isplitr; · ipureintro; exact hg2
      iexact Hr
    · rw [if_neg hl, if_neg (show ¬ (i.val + 1 < p.n ∨ i.val + 1 = 96) by omega), show p.n - 1 = i.val by omega,
        show Ring.sl 2 p.n = Ring.sl 2 (i.val - 1) by rw [show p.n = i.val - 1 + 2 by omega, Ring.sl_add]]
      unfold resHole resAll
      iintro ⟨Hn, HW, ⟨Hf0, Hd, ⟨%g1, %hg1, Hr⟩⟩, Hk⟩
      iapply (trip5_wait c p XS EG EU ED aNt i hp h0 hn g hg v h18 resM.view.set (oblk_subset _) g1 hg1 κ Q)
      isplitl [Hn]; · iexact Hn
      isplitl [HW]; · iexact HW
      isplitl [Hf0]; · iexact Hf0
      isplitl [Hr]; · iexact Hr
      iintro %g2 %hg2 ⟨Hn, HW, Hfr, Hr⟩
      iapply Hk $$ [Hn HW Hd Hfr Hr]
      isplitl [Hn]; · iexact Hn
      isplitl [HW]; · iexact HW
      isplitl [Hd]; · iexact Hd
      isplitl [Hfr]; · iexact Hfr
      iexists g2; isplitr; · ipureintro; exact hg2
      iexact Hr
  · have hC15 : ¬ k0_cond15 i (W i.val) (W p.n) (W p.n) = 1#1 := fun h => hC ((cond15_iff i h1 h2).1 h)
    have e : outSent c p XS EG EU ED i.val ⊢ outSt c p XS EG EU ED (i.val + 1) := by
      unfold outSent outSt
      rw [if_neg (show ¬ i.val + 1 = 0 by omega)]
      by_cases h0 : i.val = 0
      · by_cases hn : 1 < p.n
        · rw [if_pos h0, if_pos hn, if_pos (show i.val + 1 < p.n ∨ i.val + 1 = 96 by omega), show min (i.val + 1) p.n = 1 by omega]
        · rw [if_pos h0, if_neg hn, if_neg (show ¬ (i.val + 1 < p.n ∨ i.val + 1 = 96) by omega), show p.n = 1 by omega]
      · rw [if_neg h0, if_neg (show ¬ i.val < p.n by omega)]
        by_cases hl : i.val = 95
        · rw [if_pos hl, if_pos (show i.val + 1 < p.n ∨ i.val + 1 = 96 by omega), show min (i.val + 1) p.n = p.n by omega]
        · rw [if_neg hl, if_neg (show ¬ (i.val + 1 < p.n ∨ i.val + 1 = 96) by omega)]
    iintro ⟨Hn, HW, H, Hk⟩
    unfold TR5 trip5
    sl_exec
    iapply Hk $$ [Hn HW H]
    isplitl [Hn]; · iexact Hn
    isplitl [HW]; · iexact HW
    iapply e $$ H

end OutTrip

end Cert.Proof.Moe

end
-- ==== Proof.TripWork.lean ====
module

public import proofs.«01_k».proof.Proof.TripWork1
public import proofs.«01_k».proof.Proof.TripWork2
public import proofs.«01_k».proof.Proof.TripOut
public import proofs.«01_k».proof.Proof.TripIn

@[expose] public section

set_option maxRecDepth 65536

/-! # The middle of a trip

The weights, the compute, the result's start. -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))

/-- In a tile's compute the free slot of the result ring becomes the tile's. -/
theorem outMid_of {i : ℕ} (hi : i < p.n) : outSt c p XS EG EU ED i ⊢
    iprop((∃ f, oslotP (F := F) c (Ring.sl 2 i) f) ∗ ((∃ f, ⌜OutGood c p XS EG EU ED (Ring.sl 2 i) (tl i) f⌝ ∗ oslotP c (Ring.sl 2 i) f) -∗ outMid c p XS EG EU ED i)) := by
  by_cases h0 : i = 0
  · unfold outSt outMid
    rw [if_pos h0, if_pos h0, h0]
    unfold oFree oDone
    iintro ⟨⟨Hf, Hc⟩, H1, Hr⟩
    isplitl [Hf]; · iexact Hf
    iintro Hf
    isplitl [Hf Hc]
    · isplitl [Hf]; · iexact Hf
      iexact Hc
    isplitl [H1]; · iexact H1
    iexact Hr
  · unfold outSt outMid
    rw [if_neg h0, if_neg h0, if_pos (show i < p.n ∨ i = 96 from .inl hi), if_pos hi, show min i p.n = i by omega]
    unfold oFree oDone
    iintro ⟨Ho, ⟨Hf, Hc⟩, Hr⟩
    isplitl [Hf]; · iexact Hf
    iintro Hf
    isplitl [Ho]; · iexact Ho
    isplitl [Hf Hc]
    · isplitl [Hf]; · iexact Hf
      iexact Hc
    iexact Hr
/-- Past the last tile that holds rows nothing changes in the result ring. -/
theorem outMid_idle (hp : p.Ok) {i : ℕ} (h : i < 96) (hi : p.n ≤ i) : outSt c p XS EG EU ED i ⊢ outMid c p XS EG EU ED i := by
  have := hp.n_pos
  unfold outSt outMid
  rw [if_neg (show ¬ i = 0 by omega), if_neg (show ¬ i = 0 by omega), if_neg (show ¬ (i < p.n ∨ i = 96) by omega), if_neg (show ¬ i < p.n by omega)]

variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)

/-- The compute of trip `i`. -/
theorem work2_trip {p : Plan} (hp : p.Ok) {i : ℕ} (hi : i < 96) (gNs : Buf (Elt F) (aNs.view.loc (c : Thread nD τ))) (hgNs : TabOk c aNs p.ns gNs)
    (h7 : k0_chk7 (W i)) {R : Type} (κ : Prog (TpuEff nD τ sig (Elt F) Λ₀ .tc) R) (Q : R → sProp 𝕄) :
    iprop(tabP c aNs gNs ∗ inNow c XS p.n i ∗ wSt c EG EU ED p (i + 1) ∗ outSt c p XS EG EU ED i ∗
      (tabP c aNs gNs ∗ inNow c XS p.n i ∗ wSt c EG EU ED p (i + 1) ∗ outMid c p XS EG EU ED i -∗ wp frame (wpE (defs₀ (F := F)) 𝒱₀ (c : Thread nD τ) none) Set.univ κ Q))
    ⊢ wp frame (wpE (defs₀ (F := F)) 𝒱₀ (c : Thread nD τ) none) Set.univ (work2 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 (W (min i (p.n - 1))) (W (min i (p.n - 1))) (W i) h7 κ) Q := by
  by_cases hn : i < p.n
  · have e : min i (p.n - 1) = i := by omega
    rw [e]
    have key := work2_spec c p XS EG EU ED aTe hTe aNt hNt aNx hNx aSg hSg aNs hNs (tl i) (hp.few (tl i)) gNs hgNs
    have e' : (tl i).val = i := tl_val hi
    rw [e'] at key
    unfold inNow inHeld wSt
    rw [if_pos hn, if_neg (show ¬ i + 1 = 0 by omega), show i + 1 - 1 = i from rfl]
    iintro ⟨HN, ⟨Hx, Hi, Hc⟩, ⟨Hs, Hf, Hw⟩, Ho, Hk⟩
    ihave Ho := (outMid_of c p XS EG EU ED hn) $$ Ho
    icases Ho with ⟨Ho, Hback⟩
    iapply (key h7 κ Q)
    unfold compIn compOut
    rw [e']
    isplitl [HN]; · iexact HN
    isplitl [Hi Hs Ho]
    · isplitl [Hi]; · iexact Hi
      isplitl [Hs]; · iexact Hs
      iexact Ho
    iintro ⟨HN, ⟨Hi, Hs, Ho⟩⟩
    iapply Hk $$ [HN Hx Hi Hc Hs Hf Hw Ho Hback]
    isplitl [HN]; · iexact HN
    isplitl [Hx Hi Hc]
    · isplitl [Hx]; · iexact Hx
      isplitl [Hi]; · iexact Hi
      iexact Hc
    isplitl [Hs Hf Hw]
    · isplitl [Hs]; · iexact Hs
      isplitl [Hf]; · iexact Hf
      iexact Hw
    iapply Hback $$ Ho
  · iintro ⟨HN, Hi, Hw, Ho, Hk⟩
    ihave Ho := (outMid_idle c p XS EG EU ED hp hi (by omega)) $$ Ho
    iapply (work2_idle c p aTe hTe aNt hNt aNx hNx aSg hSg aNs hNs i _ _ hi (by omega) (by omega) gNs hgNs (hp.idle (tl i) (by rw [tl_val hi]; omega)) h7 κ Q)
    isplitl [HN]; · iexact HN
    iintro HN
    iapply Hk $$ [HN Hi Hw Ho]
    isplitl [HN]; · iexact HN
    isplitl [Hi]; · iexact Hi
    isplitl [Hw]; · iexact Hw
    iexact Ho

/-- The weights, the compute and the result's start in one trip. -/
theorem trip4_spec {p : Plan} (hp : p.Ok) (i : Fin k0_t1_loop.trips)
    (gNt : Buf (Elt F) (aNt.view.loc (c : Thread nD τ))) (hgNt : NtOk c aNt p.n gNt)
    (gNx : Buf (Elt F) (aNx.view.loc (c : Thread nD τ))) (hgNx : TabOk c aNx p.nx gNx)
    (gNs : Buf (Elt F) (aNs.view.loc (c : Thread nD τ))) (hgNs : TabOk c aNs p.ns gNs)
    (h16 : k0_chk16 i (W (min i.val (p.n - 1))) (W i.val) (W p.n) (W p.n)) (v82 v83 : BitVec 1) (v84 v107 v123 v126 v133 v136 v170 : BitVec 32)
    (h7 : k0_chk7 (W i.val)) (h9 : k0_chk9 (W i.val) (W (p.te (tl i.val)).val) (W (p.seg (tl i.val)).val) (W (p.te (tl (i.val - 1))).val))
    {R : Type} (κ : trip4.K (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 i (W (min i.val (p.n - 1))) (W (min i.val (p.n - 1))) (W i.val) v82 v83 v84 v107 (W p.n) v123 (W p.n) h16 v126 v133 v136 (W i.val) h7 (W (p.te (tl i.val)).val) (W (p.seg (tl i.val)).val) v170 (W (p.te (tl (i.val - 1))).val) h9 (R := R)) (Q : R → sProp 𝕄) :
    iprop(ntP c aNt gNt ∗ tabP c aNx gNx ∗ tabP c aNs gNs ∗ (∃ W, owes (c : Thread nD τ) 0 W) ∗ inNow c XS p.n i.val ∗ wMid c EG EU ED p i.val ∗ outSt c p XS EG EU ED i.val ∗
      (ntP c aNt gNt ∗ tabP c aNx gNx ∗ tabP c aNs gNs ∗ (∃ W, owes (c : Thread nD τ) 0 W) ∗ inNow c XS p.n i.val ∗ wSt c EG EU ED p (i.val + 1) ∗ outSent c p XS EG EU ED i.val -∗
        wp frame (wpE (defs₀ (F := F)) 𝒱₀ (c : Thread nD τ) none) Set.univ (κ (Scalar.select (Scalar.andi (Scalar.ori (Scalar.cmpi .ne v123 v126) v83) 1#1) (Scalar.addi (W (min i.val (p.n - 1))) 1#32) (W (min i.val (p.n - 1))))
          (Scalar.andi (Scalar.cmpi .ne v133 v136) (Scalar.xori v82 1#1))) Q))
    ⊢ wp frame (wpE (defs₀ (F := F)) 𝒱₀ (c : Thread nD τ) none) Set.univ (trip4 (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 i (W (min i.val (p.n - 1))) (W (min i.val (p.n - 1))) (W i.val) v82 v83 v84 v107 (W p.n) v123 (W p.n) h16 v126 v133 v136 (W i.val) h7 (W (p.te (tl i.val)).val) (W (p.seg (tl i.val)).val) v170 (W (p.te (tl (i.val - 1))).val) h9 κ) Q := by
  have hi : i.val < 96 := trip_lt i
  iintro ⟨Hn, HX, HN, HW, Hin, Hw, Ho, Hk⟩
  unfold trip4
  irw [wp_bind]
  irw [k0_part11_eq_skeleton, work1.eq]
  iapply (work1_spec c EG EU ED aTe hTe aNt hNt aNx hNx aSg hSg aNs hNs hp hi gNx hgNx _ _ _ _) $$ [Hn HX HN HW Hin Hw Ho Hk]
  isplitl [HX]; · iexact HX
  isplitl [HW]; · iexact HW
  isplitl [Hw]; · iexact Hw
  iintro ⟨HX, HW, Hw⟩
  irw [work2.eq]
  iapply (work2_trip c XS EG EU ED aTe hTe aNt hNt aNx hNx aSg hSg aNs hNs hp hi gNs hgNs _ _ _) $$ [Hn HX HN HW Hin Hw Ho Hk]
  isplitl [HN]; · iexact HN
  isplitl [Hin]; · iexact Hin
  isplitl [Hw]; · iexact Hw
  isplitl [Ho]; · iexact Ho
  iintro ⟨HN, Hin, Hw, Ho⟩
  irw [work3.eq]
  iapply (work3_spec c p XS EG EU ED aNt i hp gNt hgNt _ _ _ h16 _ _) $$ [Hn HX HN HW Hin Hw Ho Hk]
  isplitl [Hn]; · iexact Hn
  isplitl [Ho]; · iexact Ho
  iintro ⟨Hn, Ho⟩
  unfold work3.tail
  sl_exec
  iapply Hk $$ [Hn HX HN HW Hin Hw Ho]
  isplitl [Hn]; · iexact Hn
  isplitl [HX]; · iexact HX
  isplitl [HN]; · iexact HN
  isplitl [HW]; · iexact HW
  isplitl [Hin]; · iexact Hin
  isplitl [Hw]; · iexact Hw
  iexact Ho

end T

end Cert.Proof.Moe

end
-- ==== Proof.Trip.lean ====
module

public import proofs.«01_k».proof.Proof.TripWork
public import proofs.«01_k».proof.Proof.WordsCarry

@[expose] public section

set_option maxRecDepth 65536

/-! # One trip -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)
  (gTe : Buf (Elt F) (aTe.view.loc (c : Thread nD τ))) (gNt : Buf (Elt F) (aNt.view.loc (c : Thread nD τ)))
  (gNx : Buf (Elt F) (aNx.view.loc (c : Thread nD τ))) (gSg : Buf (Elt F) (aSg.view.loc (c : Thread nD τ)))
  (gNs : Buf (Elt F) (aNs.view.loc (c : Thread nD τ)))

/-- The five staged tables hold the plan `p`. -/
structure TabsOk : Prop where
  te : TabOk c aTe (teW p) gTe
  nt : NtOk c aNt p.n gNt
  nx : TabOk c aNx p.nx gNx
  sg : TabOk c aSg (sgW p) gSg
  ns : TabOk c aNs p.ns gNs

/-- The five staged tables, held. -/
abbrev tabs : sProp 𝕄 := iprop(tabP c aTe gTe ∗ ntP c aNt gNt ∗ tabP c aNx gNx ∗ tabP c aSg gSg ∗ tabP c aNs gNs)

/-- What is held before trip `k` beside the tables: the step word, the token ring, the weights, the result ring. -/
def tripRes (k : ℕ) : sProp 𝕄 := iprop(stepP (F := F) c k ∗ (∃ W, owes (c : Thread nD τ) 0 W) ∗
  (inRole c XS p.n k ∗ inRole c XS p.n (k + 1) ∗ inFree c XS (Ring.sl 3 (k + 2))) ∗ wSt c EG EU ED p k ∗ outSt c p XS EG EU ED k)

/-- The five counters before trip `k`. -/
abbrev carry (n k : ℕ) : BitVec 32 × BitVec 32 × BitVec 32 × BitVec 32 × BitVec 32 := (c19 n k, c20 n k, c20 n k, c22 n k, c23 k)

variable {p}

/-- ONE TRIP: everything held moves on by one tile, and so do the counters. -/
theorem trip_spec (hp : p.Ok) (ht : TabsOk c p aTe aNt aNx aSg aNs gTe gNt gNx gSg gNs) (i : Fin k0_t1_loop.trips) (v10 v22 : BitVec 32) (hw1 : k0_chk1 v22) :
    iprop(tabs c aTe aNt aNx aSg aNs gTe gNt gNx gSg gNs ∗ tripRes c p XS EG EU ED i.val)
    ⊢ wp frame (wpE (defs₀ (F := F)) 𝒱₀ (c : Thread nD τ) none) Set.univ (k0_t1_body (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 v10 v22 hw1 i (carry p.n i.val))
      (fun r => iprop(⌜r = carry p.n (i.val + 1)⌝ ∗ tabs c aTe aNt aNx aSg aNs gTe gNt gNx gSg gNs ∗ tripRes c p XS EG EU ED (i.val + 1))) := by
  have hi : i.val < 96 := trip_lt i
  have n1 := hp.n_pos
  have n2 := hp.n_le
  have e20 : c20 p.n i.val = W (min i.val (p.n - 1)) := by unfold c20; rw [if_neg (show ¬ i.val = 96 by omega)]
  have e23 : c23 i.val = W i.val := by unfold c23; rw [if_neg (show ¬ i.val = 96 by omega)]
  have e19 : c19 p.n i.val = W (min (i.val + 2) p.n) := rfl
  have e22 : c22 p.n i.val = W (min i.val p.n - 1) := rfl
  rw [show carry p.n i.val = (W (min (i.val + 2) p.n), W (min i.val (p.n - 1)), W (min i.val (p.n - 1)), W (min i.val p.n - 1), W i.val) by
    unfold carry; rw [e19, e20, e22, e23]]
  iintro ⟨⟨HT, Hn, HX, HS, HN⟩, Hr⟩
  unfold tripRes
  icases Hr with ⟨Hst, HW, ⟨H0, H1, H2⟩, Hw, Ho⟩
  irw [trip1.eq]
  iapply (trip1_spec c aTe hTe aNt hNt aNx hNx aSg hSg aNs hNs i n1 n2 gNt ht.nt _ _)
  isplitl [Hn]; · iexact Hn
  iintro %h3 Hn
  irw [trip2.eq]
  iapply (trip2_spec c XS aTe hTe aNt hNt aNx hNx aSg hSg aNs hNs i n1 n2 gNt ht.nt _ _ rfl rfl h3 _ _) $$ [HT Hn HX HS HN Hst HW H0 H1 H2 Hw Ho]
  isplitl [Hn]; · iexact Hn
  isplitl [HW]; · iexact HW
  isplitl [H0]; · iexact H0
  isplitl [H2]; · iexact H2
  iintro %h16 %h18 ⟨Hn, HW, H0, H2⟩
  irw [trip3.eq]
  iapply (trip3_spec c EG EU ED aTe hTe aNt hNt aNx hNx aSg hSg aNs hNs hp hi gTe ht.te gSg ht.sg _ _ _ _ _ _) $$ [HT Hn HX HS HN Hst HW H0 H1 H2 Hw Ho]
  isplitl [HT]; · iexact HT
  isplitl [HS]; · iexact HS
  isplitl [Hst]; · iexact Hst
  isplitl [Hw]; · iexact Hw
  iintro %v170 %h7 %h9 ⟨HT, HS, Hst, Hw⟩
  irw [trip4.eq]
  iapply (trip4_spec c XS EG EU ED aTe hTe aNt hNt aNx hNx aSg hSg aNs hNs hp i gNt ht.nt gNx ht.nx gNs ht.ns h16 _ _ _ _ _ _ _ _ _ h7 h9 _ _) $$ [HT Hn HX HS HN Hst HW H0 H1 H2 Hw Ho]
  isplitl [Hn]; · iexact Hn
  isplitl [HX]; · iexact HX
  isplitl [HN]; · iexact HN
  isplitl [HW]; · iexact HW
  isplitl [H0]; · iexact H0
  isplitl [Hw]; · iexact Hw
  isplitl [Ho]; · iexact Ho
  iintro ⟨Hn, HX, HN, HW, H0, Hw, Ho⟩
  irw [trip5.eq]
  iapply (trip5_spec c p XS EG EU ED aNt i hp gNt ht.nt _ h18 _ _) $$ [HT Hn HX HS HN Hst HW H0 H1 H2 Hw Ho]
  isplitl [Hn]; · iexact Hn
  isplitl [HW]; · iexact HW
  isplitl [Ho]; · iexact Ho
  iintro ⟨Hn, HW, Ho⟩
  ihave H0 := (inNow_free c XS p.n i.val) $$ H0
  unfold trip5.tail
  sl_exec
  sl_step
  isplitr
  · ipureintro
    exact Prod.ext (car19 i n1 n2) (Prod.ext (car20 i n1 n2) (Prod.ext (car21 i n1 n2) (Prod.ext (car22 i n1 n2) (car23 i))))
  isplitl [HT Hn HX HS HN]
  · isplitl [HT]; · iexact HT
    isplitl [Hn]; · iexact Hn
    isplitl [HX]; · iexact HX
    isplitl [HS]; · iexact HS
    iexact HN
  isplitl [Hst]; · iexact Hst
  isplitl [HW]; · iexact HW
  isplitl [H0 H1 H2]
  · isplitl [H1]; · iexact H1
    isplitl [H2]; · iexact H2
    rw [show i.val + 1 + 2 = i.val + 3 by omega, Ring.sl_add 3 _]
    iexact H0
  isplitl [Hw]; · iexact Hw
  iexact Ho

end T

end Cert.Proof.Moe

end
-- ==== Proof.Loop.lean ====
module

public import proofs.«01_k».proof.Proof.Trip

@[expose] public section

set_option maxRecDepth 65536

/-! # All the trips -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

theorem car0_all : ∀ n : Fin 96, Scalar.select (Scalar.andi 1#1 (Scalar.cmpi .ne (Scalar.minsi (Scalar.addi (Scalar.select (Scalar.cmpi .eq (Scalar.select 1#1 1#32 0#32) 96#32) 0#32 (Scalar.select 1#1 1#32 0#32)) 0#32) (Scalar.subi (W (n.val + 1)) 1#32)) (Scalar.minsi 0#32 (Scalar.subi (W (n.val + 1)) 1#32))))
    (Scalar.addi (Scalar.addi 0#32 1#32) 1#32) (Scalar.addi 0#32 1#32) = c19 (n.val + 1) 0 := by decide +kernel
/-- The token ring's counter after the first fetches. -/
theorem car0 {n : ℕ} (h1 : 1 ≤ n) (h2 : n ≤ 96) : Scalar.select (Scalar.andi 1#1 (Scalar.cmpi .ne (Scalar.minsi (Scalar.addi (Scalar.select (Scalar.cmpi .eq (Scalar.select 1#1 1#32 0#32) 96#32) 0#32 (Scalar.select 1#1 1#32 0#32)) 0#32) (Scalar.subi (W n) 1#32)) (Scalar.minsi 0#32 (Scalar.subi (W n) 1#32))))
    (Scalar.addi (Scalar.addi 0#32 1#32) 1#32) (Scalar.addi 0#32 1#32) = c19 n 0 := by
  obtain ⟨m, rfl⟩ : ∃ m, n = m + 1 := ⟨n - 1, by omega⟩
  exact car0_all ⟨m, by omega⟩

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)
  (gTe : Buf (Elt F) (aTe.view.loc (c : Thread nD τ))) (gNt : Buf (Elt F) (aNt.view.loc (c : Thread nD τ)))
  (gNx : Buf (Elt F) (aNx.view.loc (c : Thread nD τ))) (gSg : Buf (Elt F) (aSg.view.loc (c : Thread nD τ)))
  (gNs : Buf (Elt F) (aNs.view.loc (c : Thread nD τ)))

omit [FloatOps F] in
/-- The two slots in turn are slots 0 and 1. -/
theorem two_slots (P : Fin 2 → sProp 𝕄) (k : ℕ) : iprop(P (Ring.sl 2 k) ∗ P (Ring.sl 2 (k + 1))) ⊢ iprop(P 0 ∗ P 1) := by
  rcases Nat.mod_two_eq_zero_or_one k with h | h
  · rw [show Ring.sl 2 k = 0 from Fin.ext (by simp [Ring.sl, Fin.ofNat, h]), show Ring.sl 2 (k + 1) = 1 from Fin.ext (by simp [Ring.sl, Fin.ofNat]; omega)]
  · rw [show Ring.sl 2 k = 1 from Fin.ext (by simp [Ring.sl, Fin.ofNat, h]), show Ring.sl 2 (k + 1) = 0 from Fin.ext (by simp [Ring.sl, Fin.ofNat]; omega)]
    iintro ⟨H1, H0⟩; isplitl [H0] <;> iassumption

/-- What the body holds beside the tables at its start and at its end: the step word, the rings' slots and cells, the
    arrays; `R` is the result array. -/
def rest (R : sProp 𝕄) : sProp 𝕄 := iprop((∃ f, stepM.view.loc (c : Thread nD τ) ↦[stepM.view.set]{fullShare} f) ∗ (∃ W, owes (c : Thread nD τ) 0 W) ∗
  (inFree c XS 0 ∗ inFree c XS 1 ∗ inFree c XS 2) ∗ (scrAny (F := F) c ∗ (wFree (F := F) c 0 ∗ wFree (F := F) c 1) ∗ wHome c EG EU ED) ∗ (oFree (F := F) c 0 ∗ oFree (F := F) c 1) ∗ R)

variable {p}

omit [FloatOps F] in
theorem inRole_of_free (n b : ℕ) (h : n ≤ b) : inRole c XS n b ⊢ inFree c XS (Ring.sl 3 b) := by
  unfold inRole; rw [if_neg (show ¬ b < n by omega)]

/-- The weights after the last trip. -/
theorem wSt_end (hp : p.Ok) : wSt c EG EU ED p 96 ⊢ iprop(scrAny (F := F) c ∗ (wFree (F := F) c 0 ∗ wFree (F := F) c 1) ∗ wHome c EG EU ED) := by
  unfold wSt wNext
  rw [if_neg (show ¬ (96 : ℕ) = 0 by omega), if_neg (show ¬ 0 ≤ (p.nx (tl (96 - 1))).toInt by have := hp.last; rw [show (tl (96 - 1)) = (95 : Fin 96) from by decide]; omega)]
  iintro ⟨Hs, Hf, ⟨Hf', Hh⟩⟩
  isplitl [Hs]; · iapply (scrP_any c EG EU ED _) $$ Hs
  isplitl [Hf Hf']
  · iapply (two_slots (wFree (F := F) c) _)
    isplitl [Hf]; · iexact Hf
    iexact Hf'
  iexact Hh

/-- All the trips. -/
theorem loop_spec (hp : p.Ok) (ht : TabsOk c p aTe aNt aNx aSg aNs gTe gNt gNx gSg gNs) (v10 v22 : BitVec 32) (hw1 : k0_chk1 v22) :
    iprop(tabs c aTe aNt aNx aSg aNs gTe gNt gNx gSg gNs ∗ tripRes c p XS EG EU ED 0)
    ⊢ wp frame (wpE (defs₀ (F := F)) 𝒱₀ (c : Thread nD τ) none) Set.univ (Scf.Loop.for k0_t1_loop k0_t1_ok (carry p.n 0) (k0_t1_body (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 v10 v22 hw1))
      (fun r => iprop(⌜r = carry p.n 96⌝ ∗ tabs c aTe aNt aNx aSg aNs gTe gNt gNx gSg gNs ∗ tripRes c p XS EG EU ED 96)) := by
  iintro H
  iapply (Scf.wp_for Idealize.ShloMosaic.frame (wpE (defs₀ (F := F)) 𝒱₀ (c : Thread nD τ) none) Set.univ k0_t1_loop.lb k0_t1_loop.ub k0_t1_loop.st k0_t1_ok (carry p.n 0) _
    (fun k acc => iprop(⌜acc = carry p.n k⌝ ∗ tabs c aTe aNt aNx aSg aNs gTe gNt gNx gSg gNs ∗ tripRes c p XS EG EU ED k)) (by
      intro k acc
      iintro ⟨%ha, H⟩
      subst ha
      iapply (trip_spec c XS EG EU ED aTe hTe aNt hNt aNx hNx aSg hSg aNs hNs gTe gNt gNx gSg gNs hp ht k v10 v22 hw1)
      iexact H))
  isplitl [H]
  · isplitr
    · ipureintro; rfl
    iexact H
  iintro %acc H
  iexact H

end T

end Cert.Proof.Moe

end
-- ==== Proof.Body.lean ====
module

public import proofs.«01_k».proof.Proof.Loop

@[expose] public section

set_option maxRecDepth 65536

/-! # The body -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

variable (c : Dev nD) (p : Plan) (XS : Buf (Elt F) (xsM.view.loc (c : Thread nD τ)))
  (EG : Buf (Elt F) (egM.view.loc (c : Thread nD τ))) (EU : Buf (Elt F) (euM.view.loc (c : Thread nD τ)))
  (ED : Buf (Elt F) (edM.view.loc (c : Thread nD τ)))
variable (aTe : Memref sig .tc .smem S96 .i32) (hTe : aTe.IsWhole) (aNt : Memref sig .tc .smem S1 .i32) (hNt : aNt.IsWhole)
  (aNx : Memref sig .tc .smem S96 .i32) (hNx : aNx.IsWhole) (aSg : Memref sig .tc .smem S96 .i32) (hSg : aSg.IsWhole)
  (aNs : Memref sig .tc .smem S96 .i32) (hNs : aNs.IsWhole)
  (gTe : Buf (Elt F) (aTe.view.loc (c : Thread nD τ))) (gNt : Buf (Elt F) (aNt.view.loc (c : Thread nD τ)))
  (gNx : Buf (Elt F) (aNx.view.loc (c : Thread nD τ))) (gSg : Buf (Elt F) (aSg.view.loc (c : Thread nD τ)))
  (gNs : Buf (Elt F) (aNs.view.loc (c : Thread nD τ)))

variable {p}

theorem carry_end (hp : p.Ok) : carry p.n 96 = (W p.n, W p.n, W p.n, W (p.n - 1), W 0) := by
  have := hp.n_pos
  have := hp.n_le
  unfold carry c19 c20 c22 c23
  rw [if_pos rfl, if_pos rfl, show min (96 + 2) p.n = p.n by omega, show min 96 p.n = p.n by omega]

theorem carry_start (hp : p.Ok) {a : BitVec 32} (ha : a = c19 p.n 0) : carry p.n 0 = (a, 0#32, 0#32, 0#32, 0#32) := by
  have := hp.n_pos
  unfold carry c20 c22 c23
  rw [if_neg (show ¬ (0 : ℕ) = 96 by omega), if_neg (show ¬ (0 : ℕ) = 96 by omega), show min 0 (p.n - 1) = 0 by omega, show min 0 p.n - 1 = 0 by omega, ha]

/-- All the trips from the counters' own starting values. -/
theorem loop_start (hp : p.Ok) (ht : TabsOk c p aTe aNt aNx aSg aNs gTe gNt gNx gSg gNs) (v10 v22 : BitVec 32) (hw1 : k0_chk1 v22) {a : BitVec 32} (ha : a = c19 p.n 0) :
    iprop(tabs c aTe aNt aNx aSg aNs gTe gNt gNx gSg gNs ∗ tripRes c p XS EG EU ED 0)
    ⊢ wp frame (wpE (defs₀ (F := F)) 𝒱₀ (c : Thread nD τ) none) Set.univ (Scf.Loop.for k0_t1_loop k0_t1_ok (a, 0#32, 0#32, 0#32, 0#32) (k0_t1_body (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3 v10 v22 hw1))
      (fun r => iprop(⌜r = carry p.n 96⌝ ∗ tabs c aTe aNt aNx aSg aNs gTe gNt gNx gSg gNs ∗ tripRes c p XS EG EU ED 96)) := by
  rw [← carry_start hp ha]
  exact loop_spec c XS EG EU ED aTe hTe aNt hNt aNx hNx aSg hSg aNs hNs gTe gNt gNx gSg gNs hp ht v10 v22 hw1

/-- The state before the first trip. -/
theorem tripRes_start : iprop(stepP (F := F) c 0 ∗ (∃ W, owes (c : Thread nD τ) 0 W) ∗ (inRole c XS p.n 0 ∗ inRole c XS p.n 1 ∗ inFree c XS 2) ∗
    (scrAny (F := F) c ∗ (wFree (F := F) c 0 ∗ wFree (F := F) c 1) ∗ wHome c EG EU ED) ∗ (oFree (F := F) c 0 ∗ oFree (F := F) c 1) ∗ resAll c p XS EG EU ED 0)
    ⊢ tripRes c p XS EG EU ED 0 := by
  unfold tripRes wSt outSt
  rw [if_pos rfl, if_pos rfl]
  iintro ⟨Hst, HW, Hin, ⟨Hs, ⟨Hf0, Hf1⟩, Hh⟩, ⟨Ho0, Ho1⟩, Hr⟩
  isplitl [Hst]; · iexact Hst
  isplitl [HW]; · iexact HW
  isplitl [Hin]; · iexact Hin
  isplitl [Hs Hf0 Hf1 Hh]
  · isplitl [Hs]; · iexact Hs
    isplitl [Hf0]; · iexact Hf0
    isplitl [Hf1]; · iexact Hf1
    iexact Hh
  isplitl [Ho0]; · iexact Ho0
  isplitl [Ho1]; · iexact Ho1
  iexact Hr

/-- The state after the last trip: the rings free but for the last block on its way out. -/
theorem tripRes_end (hp : p.Ok) : tripRes c p XS EG EU ED 96 ⊢ iprop((∃ f, stepM.view.loc (c : Thread nD τ) ↦[stepM.view.set]{fullShare} f) ∗ (∃ W, owes (c : Thread nD τ) 0 W) ∗
    (inFree c XS 0 ∗ inFree c XS 1 ∗ inFree c XS 2) ∗ (scrAny (F := F) c ∗ (wFree (F := F) c 0 ∗ wFree (F := F) c 1) ∗ wHome c EG EU ED) ∗
    oFly c p XS EG EU ED (p.n - 1) ∗ oFree c (Ring.sl 2 p.n) ∗ resHole c p XS EG EU ED (p.n - 1)) := by
  have h2 := hp.n_le
  unfold tripRes outSt stepP
  rw [if_neg (show ¬ (96 : ℕ) = 0 by omega), if_pos (show 96 < p.n ∨ (96 : ℕ) = 96 from .inr rfl), show min 96 p.n = p.n by omega]
  iintro ⟨⟨%f, -, Hst⟩, HW, ⟨H0, H1, H2⟩, Hw, Ho⟩
  isplitl [Hst]; · iexists f; iexact Hst
  isplitl [HW]; · iexact HW
  isplitl [H0 H1 H2]
  · isplitl [H0]; · iapply (inRole_of_free c XS p.n 96 (by omega)) $$ H0
    isplitl [H1]; · iapply (inRole_of_free c XS p.n (96 + 1) (by omega)) $$ H1
    iexact H2
  isplitl [Hw]; · iapply (wSt_end c EG EU ED hp) $$ Hw
  iexact Ho

theorem inFree_open (s : Fin 3) : inFree c XS s ⊢ iprop(xsP c XS s ∗ (∃ f, islotP c s f) ∗ icell c s) := .rfl

/-- THE BODY: from the arrays and the rings free, to the arrays and the rings free, the result array good. -/
theorem body_spec (hp : p.Ok) (ht : TabsOk c p aTe aNt aNx aSg aNs gTe gNt gNx gSg gNs) :
    iprop(tabs c aTe aNt aNx aSg aNs gTe gNt gNx gSg gNs ∗ rest c XS EG EU ED (resAll c p XS EG EU ED 0))
    ⊢ wp frame (wpE (defs₀ (F := F)) 𝒱₀ (c : Thread nD τ) none) Set.univ (cc0_moe_experts (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3)
      (fun _ => iprop(tabs c aTe aNt aNx aSg aNs gTe gNt gNx gSg gNs ∗ rest c XS EG EU ED (resAll c p XS EG EU ED p.n))) := by
  have h1 := hp.n_pos
  have h2 := hp.n_le
  have hk1 := chk1_n h1 h2
  have hk2 := chk2_n h1 h2
  have hk20 := chk20_n h1 h2
  have hk21 := chk21_n h1 h2
  have hg : NtOk c aNt p.n gNt := ht.nt
  unfold NtOk at hg
  unfold rest
  iintro ⟨⟨HT, Hn, HX, HS, HN⟩, ⟨%fs, Hst⟩, ⟨%W0, HW⟩, ⟨H0, H1, H2⟩, Hw, Ho, Hr⟩
  irw [cc0_moe_experts_eq_skeleton]
  unfold cc0_moe_experts_skel
  by_cases hn : 2 ≤ p.n
  · have hC1 : k0_cond1 (W p.n) (W p.n) = 1#1 := (cond1_n h1 h2).2 hn
    ihave H0 := (inFree_open c XS 0) $$ H0
    ihave H1 := (inFree_open c XS 1) $$ H1
    icases H0 with ⟨Hx0, ⟨%f0, Hs0⟩, Hc0⟩
    icases H1 with ⟨Hx1, ⟨%f1, Hs1⟩, Hc1⟩
    sl_exec
    irw [wp_bind]
    iapply (wp_wand_r Idealize.ShloMosaic.frame (wpE (defs₀ (F := F)) 𝒱₀ (c : Thread nD τ) none) Set.univ)
    isplitl [HT Hn HX HS HN Hst HW Hx0 Hc0 Hx1 Hc1 H2 Hw Ho Hr]
    · iapply (loop_start c XS EG EU ED aTe hTe aNt hNt aNx hNx aSg hSg aNs hNs gTe gNt gNx gSg gNs hp ht _ _ _ (car0 h1 h2))
      isplitl [HT Hn HX HS HN]
      · isplitl [HT]; · iexact HT
        isplitl [Hn]; · iexact Hn
        isplitl [HX]; · iexact HX
        isplitl [HS]; · iexact HS
        iexact HN
      iapply (tripRes_start c XS EG EU ED)
      isplitl [Hst]
      · unfold stepP
        iexists _
        isplitr
        rotate_left
        · iexact Hst
        ipureintro
        intro inb
        exact View.readAt_writes_full ..
      isplitl [HW]; · iexists _; iexact HW
      isplitl [Hx0 Hc0 Hx1 Hc1 H2]
      · isplitl [Hx0 Hc0]
        · unfold inRole
          rw [if_pos (show 0 < p.n by omega)]
          unfold inFly
          isplitl [Hx0]; · iexact Hx0
          iexists f0
          iexact Hc0
        isplitl [Hx1 Hc1]
        · unfold inRole
          rw [if_pos (show 1 < p.n by omega)]
          unfold inFly
          isplitl [Hx1]; · iexact Hx1
          iexists f1
          iexact Hc1
        iexact H2
      isplitl [Hw]; · iexact Hw
      isplitl [Ho]; · iexact Ho
      iexact Hr
    iintro %acc ⟨%ha, ⟨HT, Hn, HX, HS, HN⟩, Hres⟩
    obtain rfl := ha.trans (carry_end hp)
    ihave Hres := (tripRes_end c XS EG EU ED hp) $$ Hres
    icases Hres with ⟨Hst, ⟨%W1, HW⟩, Hin, Hw, Hfly, Hof, Hhole⟩
    unfold oFly resHole
    icases Hfly with ⟨%gb, %fo, %hfo, Hf⟩
    icases Hhole with ⟨%g1, %hg1, Hr⟩
    have hn97 : p.n - 1 < 97 := by omega
    sl_exec
    ihave Hr := (pointsTo_join_subset (ℓ := resM.view.loc (c : Thread nD τ)) (q := fullShare) (oblk_subset (p.n - 1))) $$ [Hf_dst Hr]
    · isplitl [Hf_dst]; · iexact Hf_dst
      iexact Hr
    sl_step
    isplitl [HT Hn HX HS HN]
    · isplitl [HT]; · iexact HT
      isplitl [Hn]; · iexact Hn
      isplitl [HX]; · iexact HX
      isplitl [HS]; · iexact HS
      iexact HN
    isplitl [Hst]; · iexact Hst
    isplitl [HW]; · iexists _; iexact HW
    isplitl [Hin]; · iexact Hin
    isplitl [Hw]; · iexact Hw
    isplitl [Hf_src Hf Hof]
    · iapply (two_slots (oFree (F := F) c) (p.n - 1))
      rw [show p.n - 1 + 1 = p.n by omega]
      isplitl [Hf_src Hf]
      · unfold oFree
        isplitl [Hf_src]; · iexists fo; iexact Hf_src
        iexact Hf
      iexact Hof
    unfold resAll
    iexists _
    isplitr
    rotate_left
    · iexact Hr
    ipureintro
    have hres := res_step c p XS EG EU ED (b := p.n - 1) (by omega) _ gb g1 fo hfo hg1
    rwa [show p.n - 1 + 1 = p.n by omega] at hres
  · have hC1 : ¬ k0_cond1 (W p.n) (W p.n) = 1#1 := fun h => hn ((cond1_n h1 h2).1 h)
    ihave H0 := (inFree_open c XS 0) $$ H0
    icases H0 with ⟨Hx0, ⟨%f0, Hs0⟩, Hc0⟩
    sl_exec
    irw [wp_bind]
    iapply (wp_wand_r Idealize.ShloMosaic.frame (wpE (defs₀ (F := F)) 𝒱₀ (c : Thread nD τ) none) Set.univ)
    isplitl [HT Hn HX HS HN Hst HW Hx0 Hc0 H1 H2 Hw Ho Hr]
    · iapply (loop_start c XS EG EU ED aTe hTe aNt hNt aNx hNx aSg hSg aNs hNs gTe gNt gNx gSg gNs hp ht _ _ _ (car0 h1 h2))
      isplitl [HT Hn HX HS HN]
      · isplitl [HT]; · iexact HT
        isplitl [Hn]; · iexact Hn
        isplitl [HX]; · iexact HX
        isplitl [HS]; · iexact HS
        iexact HN
      iapply (tripRes_start c XS EG EU ED)
      isplitl [Hst]
      · unfold stepP
        iexists _
        isplitr
        rotate_left
        · iexact Hst
        ipureintro
        intro inb
        exact View.readAt_writes_full ..
      isplitl [HW]; · iexists _; iexact HW
      isplitl [Hx0 Hc0 H1 H2]
      · isplitl [Hx0 Hc0]
        · unfold inRole
          rw [if_pos (show 0 < p.n by omega)]
          unfold inFly
          isplitl [Hx0]; · iexact Hx0
          iexists f0
          iexact Hc0
        isplitl [H1]
        · unfold inRole
          rw [if_neg (show ¬ 1 < p.n by omega)]
          iexact H1
        iexact H2
      isplitl [Hw]; · iexact Hw
      isplitl [Ho]; · iexact Ho
      iexact Hr
    iintro %acc ⟨%ha, ⟨HT, Hn, HX, HS, HN⟩, Hres⟩
    obtain rfl := ha.trans (carry_end hp)
    ihave Hres := (tripRes_end c XS EG EU ED hp) $$ Hres
    icases Hres with ⟨Hst, ⟨%W1, HW⟩, Hin, Hw, Hfly, Hof, Hhole⟩
    unfold oFly resHole
    icases Hfly with ⟨%gb, %fo, %hfo, Hf⟩
    icases Hhole with ⟨%g1, %hg1, Hr⟩
    have hn97 : p.n - 1 < 97 := by omega
    sl_exec
    ihave Hr := (pointsTo_join_subset (ℓ := resM.view.loc (c : Thread nD τ)) (q := fullShare) (oblk_subset (p.n - 1))) $$ [Hf_dst Hr]
    · isplitl [Hf_dst]; · iexact Hf_dst
      iexact Hr
    sl_step
    isplitl [HT Hn HX HS HN]
    · isplitl [HT]; · iexact HT
      isplitl [Hn]; · iexact Hn
      isplitl [HX]; · iexact HX
      isplitl [HS]; · iexact HS
      iexact HN
    isplitl [Hst]; · iexact Hst
    isplitl [HW]; · iexists _; iexact HW
    isplitl [Hin]; · iexact Hin
    isplitl [Hw]; · iexact Hw
    isplitl [Hf_src Hf Hof]
    · iapply (two_slots (oFree (F := F) c) (p.n - 1))
      rw [show p.n - 1 + 1 = p.n by omega]
      isplitl [Hf_src Hf]
      · unfold oFree
        isplitl [Hf_src]; · iexists fo; iexact Hf_src
        iexact Hf
      iexact Hof
    unfold resAll
    iexists _
    isplitr
    rotate_left
    · iexact Hr
    ipureintro
    have hres := res_step c p XS EG EU ED (b := p.n - 1) (by omega) _ gb g1 fo hfo hg1
    rwa [show p.n - 1 + 1 = p.n by omega] at hres

end T

end Cert.Proof.Moe

end
-- ==== Proof.Split.lean ====
module

public import proofs.«01_k».proof.Proof.Body

@[expose] public section

set_option maxRecDepth 65536

/-! # The buffers at launch: slots and cells -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

omit [FloatOps F] in
theorem eqE {P Q : sProp 𝕄} (e : P = Q) : P ⊢ Q := e ▸ .rfl

section T

variable (c : Dev nD)

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-! ## The slots of the token ring -/

abbrev Ibox (s : Fin 3) : Finset S3x1024x1024.Idx := (Rect.unit (s := S3x1024x1024) (islotOff s) S1x1024x1024.size (islotOff_inb s)).set
theorem islot_set (s : Fin 3) : (islot s).view.set = Ibox s := (View.set_reshape _ _).trans (View.set_slice_whole _ _)
theorem mem_Ibox (s : Fin 3) (y : S3x1024x1024.Idx) : y ∈ Ibox s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem Ibox_disjoint : ∀ s s' : Fin 3, s ≠ s' → Disjoint (Ibox s) (Ibox s') := by
  intro s s' hne; rw [Finset.disjoint_left]; intro y hy hy'; rw [mem_Ibox] at hy hy'; exact hne (Fin.ext (hy.symm.trans hy'))
theorem Ibox_cover : (Finset.univ : Finset (Fin 3)).biUnion Ibox = Finset.univ := by
  ext y; simp only [Finset.mem_biUnion, Finset.mem_univ, true_and, iff_true]; exact ⟨(y 0).cast (by decide), by rw [mem_Ibox]; rfl⟩
omit [FloatOps F] in
theorem islotP_eq (s : Fin 3) (f) : islotP (F := F) c s f = (((c : Thread nD τ).loc cc0_scoped0) ↦[Ibox s]{fullShare} f : sProp 𝕄) :=
  congrArg (fun S => (_ ↦[S]{fullShare} f : sProp 𝕄)) (islot_set s)
omit [FloatOps F] in
/-- The token ring's buffer whole is its slots, each at some contents. -/
theorem ibuf_split :
    iprop(∃ f : Buf (Elt F) ((c : Thread nD τ).loc cc0_scoped0), ((c : Thread nD τ).loc cc0_scoped0) ↦{fullShare} f)
      ⊢ (iprop((∃ f, islotP (F := F) c 0 f) ∗ (∃ f, islotP (F := F) c 1 f) ∗ (∃ f, islotP (F := F) c 2 f)) : sProp 𝕄) := by
  iintro ⟨%f, H⟩
  ihave H2 := (eqE ((Ring.pointsTo_blocks (Ix := Unit) (Name := ℕ) (U := UU nD τ) (Lvl := ℕ) (q := fullShare) (ℓ := (c : Thread nD τ).loc cc0_scoped0) Ibox Ibox_disjoint Ibox_cover f).trans (bigSep_three _))) $$ H
  icases H2 with ⟨H0, H1, H2⟩
  isplitl [H0]
  · iexists f; iapply (eqE (islotP_eq c 0 f).symm); iexact H0
  isplitl [H1]
  · iexists f; iapply (eqE (islotP_eq c 1 f).symm); iexact H1
  iexists f; iapply (eqE (islotP_eq c 2 f).symm); iexact H2
/-- and back. -/
theorem ibuf_join :
    iprop((∃ f, islotP (F := F) c 0 f) ∗ (∃ f, islotP (F := F) c 1 f) ∗ (∃ f, islotP (F := F) c 2 f))
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) Ibox Ibox_disjoint Ibox_cover f0)
  irw [bigSep_three]
  isplitl [H0]
  · iexists f0; iapply (eqE (islotP_eq c 0 f0)); iexact H0
  isplitl [H1]
  · iexists f1; iapply (eqE (islotP_eq c 1 f1)); iexact H1
  iexists f2; iapply (eqE (islotP_eq c 2 f2)); iexact H2

/-! ## The slots of the result ring -/

abbrev Obox (s : Fin 2) : Finset S2x1024x1024.Idx := (Rect.unit (s := S2x1024x1024) (oslotOff s) S1x1024x1024.size (oslotOff_inb s)).set
theorem oslot_set (s : Fin 2) : (oslot s).view.set = Obox s := (View.set_reshape _ _).trans (View.set_slice_whole _ _)
theorem mem_Obox (s : Fin 2) (y : S2x1024x1024.Idx) : y ∈ Obox s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem Obox_disjoint : ∀ s s' : Fin 2, s ≠ s' → Disjoint (Obox s) (Obox s') := by
  intro s s' hne; rw [Finset.disjoint_left]; intro y hy hy'; rw [mem_Obox] at hy hy'; exact hne (Fin.ext (hy.symm.trans hy'))
theorem Obox_cover : (Finset.univ : Finset (Fin 2)).biUnion Obox = Finset.univ := by
  ext y; simp only [Finset.mem_biUnion, Finset.mem_univ, true_and, iff_true]; exact ⟨(y 0).cast (by decide), by rw [mem_Obox]; rfl⟩
omit [FloatOps F] in
theorem oslotP_eq (s : Fin 2) (f) : oslotP (F := F) c s f = (((c : Thread nD τ).loc cc0_scoped2) ↦[Obox s]{fullShare} f : sProp 𝕄) :=
  congrArg (fun S => (_ ↦[S]{fullShare} f : sProp 𝕄)) (oslot_set s)
omit [FloatOps F] in
/-- The result ring's buffer whole is its slots, each at some contents. -/
theorem obuf_split :
    iprop(∃ f : Buf (Elt F) ((c : Thread nD τ).loc cc0_scoped2), ((c : Thread nD τ).loc cc0_scoped2) ↦{fullShare} f)
      ⊢ (iprop((∃ f, oslotP (F := F) c 0 f) ∗ (∃ f, oslotP (F := F) c 1 f)) : sProp 𝕄) := by
  iintro ⟨%f, H⟩
  ihave H2 := (eqE ((Ring.pointsTo_blocks (Ix := Unit) (Name := ℕ) (U := UU nD τ) (Lvl := ℕ) (q := fullShare) (ℓ := (c : Thread nD τ).loc cc0_scoped2) Obox Obox_disjoint Obox_cover f).trans (bigSep_two _))) $$ H
  icases H2 with ⟨H0, H1⟩
  isplitl [H0]
  · iexists f; iapply (eqE (oslotP_eq c 0 f).symm); iexact H0
  iexists f; iapply (eqE (oslotP_eq c 1 f).symm); iexact H1
/-- and back. -/
theorem obuf_join :
    iprop((∃ f, oslotP (F := F) c 0 f) ∗ (∃ f, oslotP (F := F) c 1 f))
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) Obox Obox_disjoint Obox_cover f0)
  irw [bigSep_two]
  isplitl [H0]
  · iexists f0; iapply (eqE (oslotP_eq c 0 f0)); iexact H0
  iexists f1; iapply (eqE (oslotP_eq c 1 f1)); iexact H1

/-! ## The slots of the gate matrices' ring -/

abbrev Gbox (s : Fin 2) : Finset S2x1024x256.Idx := (Rect.unit (s := S2x1024x256) (gslotOff s) S1x1024x256.size (gslotOff_inb s)).set
theorem gslot_set (s : Fin 2) : (gslot s).view.set = Gbox s := (View.set_reshape _ _).trans (View.set_slice_whole _ _)
theorem mem_Gbox (s : Fin 2) (y : S2x1024x256.Idx) : y ∈ Gbox s ↔ (y 0).val = s.val := by
  rw [Rect.mem_set_unit]
  have h1 : (y 1).val < 1024 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 256; omega
theorem Gbox_disjoint : ∀ s s' : Fin 2, s ≠ s' → Disjoint (Gbox s) (Gbox s') := by
  intro s s' hne; rw [Finset.disjoint_left]; intro y hy hy'; rw [mem_Gbox] at hy hy'; exact hne (Fin.ext (hy.symm.trans hy'))
theorem Gbox_cover : (Finset.univ : Finset (Fin 2)).biUnion Gbox = Finset.univ := by
  ext y; simp only [Finset.mem_biUnion, Finset.mem_univ, true_and, iff_true]; exact ⟨(y 0).cast (by decide), by rw [mem_Gbox]; rfl⟩
omit [FloatOps F] in
theorem gslotP_eq (s : Fin 2) (f) : gslotP (F := F) c s f = (((c : Thread nD τ).loc cc0_scratch3) ↦[Gbox s]{fullShare} f : sProp 𝕄) :=
  congrArg (fun S => (_ ↦[S]{fullShare} f : sProp 𝕄)) (gslot_set s)
omit [FloatOps F] in
/-- The gate matrices' ring's buffer whole is its slots, each at some contents. -/
theorem gbuf_split :
    iprop(∃ f : Buf (Elt F) ((c : Thread nD τ).loc cc0_scratch3), ((c : Thread nD τ).loc cc0_scratch3) ↦{fullShare} f)
      ⊢ (iprop((∃ f, gslotP (F := F) c 0 f) ∗ (∃ f, gslotP (F := F) c 1 f)) : sProp 𝕄) := by
  iintro ⟨%f, H⟩
  ihave H2 := (eqE ((Ring.pointsTo_blocks (Ix := Unit) (Name := ℕ) (U := UU nD τ) (Lvl := ℕ) (q := fullShare) (ℓ := (c : Thread nD τ).loc cc0_scratch3) Gbox Gbox_disjoint Gbox_cover f).trans (bigSep_two _))) $$ H
  icases H2 with ⟨H0, H1⟩
  isplitl [H0]
  · iexists f; iapply (eqE (gslotP_eq c 0 f).symm); iexact H0
  iexists f; iapply (eqE (gslotP_eq c 1 f).symm); iexact H1
/-- and back. -/
theorem gbuf_join :
    iprop((∃ f, gslotP (F := F) c 0 f) ∗ (∃ f, gslotP (F := F) c 1 f))
      ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩⟩
  iapply (Ring.pointsTo_blocks_join_exists (ℓ := (c : Thread nD τ).loc cc0_scratch3) Gbox Gbox_disjoint Gbox_cover f0)
  irw [bigSep_two]
  isplitl [H0]
  · iexists f0; iapply (eqE (gslotP_eq c 0 f0)); iexact H0
  iexists f1; iapply (eqE (gslotP_eq c 1 f1)); iexact H1

/-! ## The slots of the up matrices' ring -/

abbrev Ubox (s : Fin 2) : Finset S2x1024x256.Idx := (Rect.unit (s := S2x1024x256) (uslotOff s) S1x1024x256.size (uslotOff_inb s)).set
theorem uslot_set (s : Fin 2) : (uslot s).view.set = Ubox s := (View.set_reshape _ _).trans (View.set_slice_whole _ _)
theorem mem_Ubox (s : Fin 2) (y : S2x1024x256.Idx) : y ∈ Ubox s ↔ (y 0).val = s.val := by
  rw [Rect.mem_set_unit]
  have h1 : (y 1).val < 1024 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 256; omega
theorem Ubox_disjoint : ∀ s s' : Fin 2, s ≠ s' → Disjoint (Ubox s) (Ubox s') := by
  intro s s' hne; rw [Finset.disjoint_left]; intro y hy hy'; rw [mem_Ubox] at hy hy'; exact hne (Fin.ext (hy.symm.trans hy'))
theorem Ubox_cover : (Finset.univ : Finset (Fin 2)).biUnion Ubox = Finset.univ := by
  ext y; simp only [Finset.mem_biUnion, Finset.mem_univ, true_and, iff_true]; exact ⟨(y 0).cast (by decide), by rw [mem_Ubox]; rfl⟩
omit [FloatOps F] in
theorem uslotP_eq (s : Fin 2) (f) : uslotP (F := F) c s f = (((c : Thread nD τ).loc cc0_scratch4) ↦[Ubox s]{fullShare} f : sProp 𝕄) :=
  congrArg (fun S => (_ ↦[S]{fullShare} f : sProp 𝕄)) (uslot_set s)
omit [FloatOps F] in
/-- The up matrices' ring's buffer whole is its slots, each at some contents. -/
theorem ubuf_split :
    iprop(∃ f : Buf (Elt F) ((c : Thread nD τ).loc cc0_scratch4), ((c : Thread nD τ).loc cc0_scratch4) ↦{fullShare} f)
      ⊢ (iprop((∃ f, uslotP (F := F) c 0 f) ∗ (∃ f, uslotP (F := F) c 1 f)) : sProp 𝕄) := by
  iintro ⟨%f, H⟩
  ihave H2 := (eqE ((Ring.pointsTo_blocks (Ix := Unit) (Name := ℕ) (U := UU nD τ) (Lvl := ℕ) (q := fullShare) (ℓ := (c : Thread nD τ).loc cc0_scratch4) Ubox Ubox_disjoint Ubox_cover f).trans (bigSep_two _))) $$ H
  icases H2 with ⟨H0, H1⟩
  isplitl [H0]
  · iexists f; iapply (eqE (uslotP_eq c 0 f).symm); iexact H0
  iexists f; iapply (eqE (uslotP_eq c 1 f).symm); iexact H1
/-- and back. -/
theorem ubuf_join :
    iprop((∃ f, uslotP (F := F) c 0 f) ∗ (∃ f, uslotP (F := F) c 1 f))
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩⟩
  iapply (Ring.pointsTo_blocks_join_exists (ℓ := (c : Thread nD τ).loc cc0_scratch4) Ubox Ubox_disjoint Ubox_cover f0)
  irw [bigSep_two]
  isplitl [H0]
  · iexists f0; iapply (eqE (uslotP_eq c 0 f0)); iexact H0
  iexists f1; iapply (eqE (uslotP_eq c 1 f1)); iexact H1

/-! ## The slots of the down matrices' ring -/

abbrev Dbox (s : Fin 2) : Finset S2x256x1024.Idx := (Rect.unit (s := S2x256x1024) (dslotOff s) S1x256x1024.size (dslotOff_inb s)).set
theorem dslot_set (s : Fin 2) : (dslot s).view.set = Dbox s := (View.set_reshape _ _).trans (View.set_slice_whole _ _)
theorem mem_Dbox (s : Fin 2) (y : S2x256x1024.Idx) : y ∈ Dbox s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 1024; omega
theorem Dbox_disjoint : ∀ s s' : Fin 2, s ≠ s' → Disjoint (Dbox s) (Dbox s') := by
  intro s s' hne; rw [Finset.disjoint_left]; intro y hy hy'; rw [mem_Dbox] at hy hy'; exact hne (Fin.ext (hy.symm.trans hy'))
theorem Dbox_cover : (Finset.univ : Finset (Fin 2)).biUnion Dbox = Finset.univ := by
  ext y; simp only [Finset.mem_biUnion, Finset.mem_univ, true_and, iff_true]; exact ⟨(y 0).cast (by decide), by rw [mem_Dbox]; rfl⟩
omit [FloatOps F] in
theorem dslotP_eq (s : Fin 2) (f) : dslotP (F := F) c s f = (((c : Thread nD τ).loc cc0_scratch5) ↦[Dbox s]{fullShare} f : sProp 𝕄) :=
  congrArg (fun S => (_ ↦[S]{fullShare} f : sProp 𝕄)) (dslot_set s)
omit [FloatOps F] in
/-- The down matrices' ring's buffer whole is its slots, each at some contents. -/
theorem dbuf_split :
    iprop(∃ f : Buf (Elt F) ((c : Thread nD τ).loc cc0_scratch5), ((c : Thread nD τ).loc cc0_scratch5) ↦{fullShare} f)
      ⊢ (iprop((∃ f, dslotP (F := F) c 0 f) ∗ (∃ f, dslotP (F := F) c 1 f)) : sProp 𝕄) := by
  iintro ⟨%f, H⟩
  ihave H2 := (eqE ((Ring.pointsTo_blocks (Ix := Unit) (Name := ℕ) (U := UU nD τ) (Lvl := ℕ) (q := fullShare) (ℓ := (c : Thread nD τ).loc cc0_scratch5) Dbox Dbox_disjoint Dbox_cover f).trans (bigSep_two _))) $$ H
  icases H2 with ⟨H0, H1⟩
  isplitl [H0]
  · iexists f; iapply (eqE (dslotP_eq c 0 f).symm); iexact H0
  iexists f; iapply (eqE (dslotP_eq c 1 f).symm); iexact H1
/-- and back. -/
theorem dbuf_join :
    iprop((∃ f, dslotP (F := F) c 0 f) ∗ (∃ f, dslotP (F := F) c 1 f))
      ⊢ (iprop(∃ f : Buf (Elt F) ((c : Thread nD τ).loc cc0_scratch5), ((c : Thread nD τ).loc cc0_scratch5) ↦{fullShare} f) : sProp 𝕄) := by
  iintro ⟨⟨%f0, H0⟩, ⟨%f1, H1⟩⟩
  iapply (Ring.pointsTo_blocks_join_exists (ℓ := (c : Thread nD τ).loc cc0_scratch5) Dbox Dbox_disjoint Dbox_cover f0)
  irw [bigSep_two]
  isplitl [H0]
  · iexists f0; iapply (eqE (dslotP_eq c 0 f0)); iexact H0
  iexists f1; iapply (eqE (dslotP_eq c 1 f1)); iexact H1

/-! ## The kernel's own cells -/

/-- The eleven cells: three for each of the two weight slots, three of the token ring, two of the result ring. -/
abbrev ownsem : Fin 11 → SemLoc sig := fun
  | 0 => .dma (isem 0).sem | 1 => .dma (isem 1).sem | 2 => .dma (isem 2).sem
  | 3 => .dma (gsem 0).sem | 4 => .dma (gsem 1).sem | 5 => .dma (usem 0).sem | 6 => .dma (usem 1).sem
  | 7 => .dma (dsem 0).sem | 8 => .dma (dsem 1).sem | 9 => .dma (osem 0).sem | 10 => .dma (osem 1).sem
theorem ownSemFacts : Pipeline.OwnSemFacts spec0 ownsem := by decide +kernel
omit [FloatOps F] in
theorem ownSems0_eq : (Pipeline.ownSems0 (Ix := Unit) (Name := ℕ) (U := UU nD τ) (Lvl := ℕ) (Val := Elt F) (τ := τ) ownsem c : sProp 𝕄)
    = iprop(icell (F := F) c 0 ∗ icell (F := F) c 1 ∗ icell (F := F) c 2 ∗ gcell (F := F) c 0 ∗ gcell (F := F) c 1 ∗ ucell (F := F) c 0 ∗ ucell (F := F) c 1 ∗
      dcell (F := F) c 0 ∗ dcell (F := F) c 1 ∗ ocell (F := F) c 0 ∗ ocell (F := F) c 1) := by
  unfold Pipeline.ownSems0
  exact bigSep_univ_eq_bigSepL [(0 : Fin 11), 1, 2, 3, 4, 5, 6, 7, 8, 9, 10] (by decide) (by decide) _

end T

end Cert.Proof.Moe

end
-- ==== Proof.PlanFacts.lean ====
module

public import proofs.«01_k».proof.Defs
public import proofs.«01_k».proof.Proof.Trip
public import Idealize.ShloMosaic.Lib.ReduceAll

@[expose] public section

set_option maxRecDepth 65536

/-! # The precondition as the proof uses it -/

noncomputable section

namespace Cert.Proof.Moe

open Idealize.ShloMosaic
open Cert.Pre_plan_fits (S96 S1 S_ S95)

theorem preFacts : Cert.Pre_plan_fits.Facts where
  shapeCasts_S1_S_ := by decide
  bcast_S_S96 := by decide
  reducesTo_S96_S_d0 := by decide
  h_S_ := by decide
  slices_S96_S95_1 := by decide
  slices_S96_S95_0 := by decide
  bcast_S_S95 := by decide
  slices_S96_S1_0 := by decide
  slices_S96_S1_95 := by decide
  reducesTo_S95_S_d0 := by decide

/-- Index `i` of a table. -/
abbrev ix96 (i : Fin 96) : S96.Idx := fun | 0 => i
abbrev ix1 : S1.Idx := fun | 0 => (0 : Fin 1)

/-- The plan the five tables hold. -/
def planOf (te : S96.Idx → BitVec 32) (nt : S1.Idx → BitVec 32) (nx sg ns : S96.Idx → BitVec 32) : Plan where
  n := (nt ix1).toNat
  te i := Fin.ofNat 32 (te (ix96 i)).toNat
  nx i := nx (ix96 i)
  seg i := Fin.ofNat 96 (sg (ix96 i)).toNat
  ns i := ns (ix96 i)

/-- The tables hold a plan that fits. -/
structure Fits (te : S96.Idx → BitVec 32) (nt : S1.Idx → BitVec 32) (nx sg ns : S96.Idx → BitVec 32) : Prop where
  ok : (planOf te nt nx sg ns).Ok
  te_eq : ∀ i, te (ix96 i) = W ((planOf te nt nx sg ns).te i).val
  sg_eq : ∀ i, sg (ix96 i) = W ((planOf te nt nx sg ns).seg i).val
  nt_eq : nt ix1 = W (planOf te nt nx sg ns).n

theorem bit_and (p q : BitVec 1) : IntOp.andi p q = 1#1 ↔ p = 1#1 ∧ q = 1#1 := by revert p q; decide
theorem bit_or (p q : BitVec 1) : IntOp.ori p q = 1#1 ↔ p = 1#1 ∨ q = 1#1 := by revert p q; decide
theorem bit_not (p : BitVec 1) : ~~~p = 1#1 ↔ ¬ p = 1#1 := by revert p; decide

/-- What the precondition says, in words' signed values. -/
structure Says (te : S96.Idx → BitVec 32) (nt : S1.Idx → BitVec 32) (nx sg ns : S96.Idx → BitVec 32) : Prop where
  n : 1 ≤ (nt ix1).toInt ∧ (nt ix1).toInt ≤ 96
  rng : ∀ i, 0 ≤ (te (ix96 i)).toInt ∧ (te (ix96 i)).toInt < 32 ∧ (nx (ix96 i)).toInt < 32 ∧ 0 ≤ (sg (ix96 i)).toInt ∧ (sg (ix96 i)).toInt < 96 ∧ (ns (ix96 i)).toInt ≤ 4
  adj : ∀ i : Fin 95, (te (ix96 i.succ) = te (ix96 i.castSucc) ∧ nx (ix96 i.succ) = nx (ix96 i.castSucc) ∧ sg (ix96 i.succ) = sg (ix96 i.castSucc))
    ∨ (¬ te (ix96 i.succ) = te (ix96 i.castSucc) ∧ nx (ix96 i.castSucc) = te (ix96 i.succ) ∧ sg (ix96 i.succ) = sg (ix96 i.castSucc) + 1#32)
  first : sg (ix96 0) = 0#32
  last : (nx (ix96 95)).toInt < 0
  idle : ∀ i : Fin 96, (W i.val).toInt < (nt ix1).toInt ∨ (ns (ix96 i)).toInt ≤ 0

theorem fits_of_says {te nt nx sg ns} (h : Says te nt nx sg ns) : Fits te nt nx sg ns := by
  have hw : ∀ (w : BitVec 32) (k : ℕ), 0 ≤ w.toInt → w.toInt < k → k < 2 ^ 31 → w.toNat < k := by
    intro w k h0 h1 hk
    rw [BitVec.toInt_eq_toNat_cond] at h0 h1
    have := w.isLt
    split at h0 <;> split at h1 <;> omega
  have hW : ∀ w : BitVec 32, w = W w.toNat := fun w => by simp [W]
  have hte : ∀ i, (te (ix96 i)).toNat < 32 := fun i => hw _ 32 (h.rng i).1 (h.rng i).2.1 (by norm_num)
  have hsg : ∀ i, (sg (ix96 i)).toNat < 96 := fun i => hw _ 96 (h.rng i).2.2.2.1 (h.rng i).2.2.2.2.1 (by norm_num)
  have hn : (nt ix1).toNat < 97 := hw _ 97 (by have := h.n.1; omega) (by have := h.n.2; omega) (by norm_num)
  have vte : ∀ i, ((planOf te nt nx sg ns).te i).val = (te (ix96 i)).toNat := fun i => Nat.mod_eq_of_lt (hte i)
  have vsg : ∀ i, ((planOf te nt nx sg ns).seg i).val = (sg (ix96 i)).toNat := fun i => Nat.mod_eq_of_lt (hsg i)
  have hni : (nt ix1).toInt = (nt ix1).toNat := by
    rw [BitVec.toInt_eq_toNat_cond]; split <;> omega
  have htl : ∀ i (hi : i + 1 < 96), tl (i + 1) = (⟨i, by omega⟩ : Fin 95).succ ∧ tl i = (⟨i, by omega⟩ : Fin 95).castSucc := by
    intro i hi
    constructor
    · exact Fin.ext (Nat.mod_eq_of_lt hi)
    · exact Fin.ext (Nat.mod_eq_of_lt (show i < 96 by omega))
  have ete : ∀ i j, (planOf te nt nx sg ns).te i = (planOf te nt nx sg ns).te j ↔ te (ix96 i) = te (ix96 j) := by
    intro i j
    rw [Fin.ext_iff, vte, vte]; exact ⟨BitVec.eq_of_toNat_eq, congrArg _⟩
  refine ⟨⟨?_, ?_, ?_, h.last, ?_, ?_, ?_, fun i => (h.rng i).2.2.2.2.2, ?_⟩, fun i => ?_, fun i => ?_, hW _⟩
  · show 1 ≤ (nt ix1).toNat
    have := h.n.1; omega
  · show (nt ix1).toNat ≤ 96
    omega
  · rw [vsg, h.first]; rfl
  · intro i hi
    have := hw (nx (ix96 i)) 32 hi (h.rng i).2.2.1 (by norm_num)
    exact ⟨⟨_, this⟩, hW _⟩
  · intro i hi e
    rw [ete] at e
    obtain ⟨e1, e2⟩ := htl i hi
    rw [e1, e2] at e ⊢
    rcases h.adj ⟨i, by omega⟩ with a | a
    · exact ⟨a.2.1, Fin.ext (by rw [vsg, vsg, a.2.2])⟩
    · exact absurd e a.1
  · intro i hi e
    rw [Ne, ete] at e
    obtain ⟨e1, e2⟩ := htl i hi
    rw [e1, e2] at e ⊢
    rcases h.adj ⟨i, by omega⟩ with a | a
    · exact absurd a.1 e
    · refine ⟨?_, ?_⟩
      · rw [vte]; exact a.2.1.trans (hW _)
      · rw [vsg, vsg, a.2.2, BitVec.toNat_add]
        have := hsg (⟨i, by omega⟩ : Fin 95).castSucc
        exact Nat.mod_eq_of_lt (show (sg _).toNat + 1 < 2 ^ 32 by omega)
  · intro i hi
    rcases h.idle i with a | a
    · exfalso
      have hWi : (W i.val).toInt = i.val := by
        have := i.isLt
        rw [BitVec.toInt_eq_toNat_cond]
        have : (W i.val).toNat = i.val := by simp [W]; omega
        rw [this]; split <;> omega
      have : (nt ix1).toNat ≤ i.val := hi
      omega
    · exact a
  · rw [vte]; exact hW _
  · rw [vsg]; exact hW _

theorem slice_one (t : S96.Idx → BitVec 32) (h) (i : Fin 95) : extractStridedSlice S95 ![1] t h (fun | 0 => i) = t (ix96 i.succ) :=
  congrArg t (funext fun | 0 => Fin.ext (show 1 + i.val = i.val + 1 from Nat.add_comm ..))
theorem slice_zero (t : S96.Idx → BitVec 32) (h) (i : Fin 95) : extractStridedSlice S95 ![0] t h (fun | 0 => i) = t (ix96 i.castSucc) :=
  congrArg t (funext fun | 0 => Fin.ext (show 0 + i.val = i.val from Nat.zero_add _))
theorem slice_at (k : ℕ) (j : Fin 96) (hj : k = j.val) (t : S96.Idx → BitVec 32) (h) (x : S1.Idx) : extractStridedSlice S1 ![k] t h x = t (ix96 j) :=
  congrArg t (funext fun | 0 => Fin.ext (show k + (x 0).val = j.val by have : (x 0).val < 1 := (x 0).isLt; omega))

variable {F : FTy → Type} [FloatOps F]

set_option backward.isDefEq.respectTransparency.types false in
/-- The precondition's predicate, read. -/
theorem says_of_pre [Cert.Pre_plan_fits.Facts] (te : S96.Idx → BitVec 32) (nt : S1.Idx → BitVec 32) (nx sg ns : S96.Idx → BitVec 32) (x5 x6 x7 x8)
    (h : Cert.Pre_plan_fits.fn (F := F) te nt nx sg ns x5 x6 x7 x8 = fun _ => 1#1) : Says te nt nx sg ns := by
  have e := congrFun h (fun a => a.elim0)
  unfold Cert.Pre_plan_fits.fn Cert.Pre_plan_fits.fn_part1 Cert.Pre_plan_fits.fn_part2 Cert.Pre_plan_fits.fn_part3 at e
  obtain ⟨e, e5⟩ := (bit_and _ _).1 e
  obtain ⟨e, e4⟩ := (bit_and _ _).1 e
  obtain ⟨e, e3⟩ := (bit_and _ _).1 e
  obtain ⟨e1, e2⟩ := (bit_and _ _).1 e
  haveI : Subsingleton S_.Idx := ⟨fun a b => funext fun i => i.elim0⟩
  have r2 := fun i => Host.reduce_andi_all _ _ _ _ _ e2 i
  have r3 := fun i => Host.reduce_andi_all _ _ _ _ _ e3 i
  have r5 := fun i => Host.reduce_andi_all _ _ _ _ _ e5 i
  simp only [andi, ori, noti, cmpi, addi, IntOp.addi, broadcastInDim, constantI, shapeCast, iotaInDim, bit_and, bit_or, bit_not,
    IntOp.cmpi_sge, IntOp.cmpi_sle, IntOp.cmpi_slt, IntOp.cmpi_eq] at e1 e4 r2 r3 r5
  have h1 : ∀ x : S1.Idx, x = ix1 := fun x => funext fun | 0 => Subsingleton.elim (α := Fin 1) _ _
  have hi : ∀ x : S96.Idx, x = ix96 (x 0) := fun x => funext fun | 0 => rfl
  refine ⟨?_, fun i => ?_, fun i => ?_, ?_, ?_, fun i => ?_⟩
  · rw [h1 (Shape.reshapeEquiv _ _)] at e1; exact e1
  · obtain ⟨⟨⟨⟨⟨a, b⟩, d⟩, e⟩, f⟩, g⟩ := r2 (ix96 i)
    exact ⟨a, b, d, e, f, g⟩
  · have r := r3 (fun | 0 => i)
    simp only [slice_one, slice_zero] at r
    rcases r with ⟨⟨a, b⟩, d⟩ | ⟨⟨a, b⟩, d⟩
    · exact .inl ⟨a, b, d⟩
    · exact .inr ⟨a, b, d⟩
  · have e := e4.1
    rw [slice_at 0 0 rfl] at e; exact e
  · have e := e4.2
    rw [slice_at 95 95 rfl] at e; exact e
  · have r := r5 (ix96 i)
    rw [h1 (Shape.reshapeEquiv _ _)] at r
    exact r
end Cert.Proof.Moe

end
-- ==== Proof.Launch.lean ====
module

public import proofs.«01_k».proof.Proof.Split
public import proofs.«01_k».proof.Proof.PlanFacts
public import Idealize.ShloMosaic.Lib.Pipeline.KitQuiescent
public import proofs.«01_k».proof.Proof.Gen.KernelIdeal.Points

@[expose] public section

set_option maxRecDepth 65536

/-! # The launch -/

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section T

variable (m : (ℓ : Loc nD τ sig) → Buf (Elt F) ℓ) (ρ : Dev nD → PrngReg)

/-- The launch state: memory `m`, every counter at zero. -/
abbrev s₀ : MemSt nD τ sig (Elt F) := ⟨m, fun _ => 0, ρ⟩
/-- A buffer's contents at launch. -/
abbrev V (c : Dev nD) (b : Ref sig .tc) : Buf (Elt F) ((c : Thread nD τ).loc b) := m ((c : Thread nD τ).loc b)
abbrev XSof (c : Dev nD) : Buf (Elt F) (xsM.view.loc (c : Thread nD τ)) := V m c main_arg5
abbrev EGof (c : Dev nD) : Buf (Elt F) (egM.view.loc (c : Thread nD τ)) := V m c main_arg6
abbrev EUof (c : Dev nD) : Buf (Elt F) (euM.view.loc (c : Thread nD τ)) := V m c main_arg7
abbrev EDof (c : Dev nD) : Buf (Elt F) (edM.view.loc (c : Thread nD τ)) := V m c main_arg8
/-- Core `c`'s plan. -/
abbrev pl (c : Dev nD) : Plan := planOf (V m c main_arg0) (V m c main_arg1) (V m c main_arg2) (V m c main_arg3) (V m c main_arg4)
/-- On every core the tables hold a plan that fits. -/
def PreOK : Prop := ∀ c : Dev nD, Fits (V m c main_arg0) (V m c main_arg1) (V m c main_arg2) (V m c main_arg3) (V m c main_arg4)

/-! ## The region invariant -/

/-- What the body holds beside the staged tables, the result array's blocks before `b` in place. -/
def ΦR (c : Dev nD) (b : ℕ) : sProp 𝕄 := iprop((∃ f, stepM.view.loc (c : Thread nD τ) ↦[stepM.view.set]{fullShare} f) ∗
  (inFree c (XSof m c) 0 ∗ inFree c (XSof m c) 1 ∗ inFree c (XSof m c) 2) ∗
  (scrAny (F := F) c ∗ (wFree (F := F) c 0 ∗ wFree (F := F) c 1) ∗ wHome c (EGof m c) (EUof m c) (EDof m c)) ∗ (oFree (F := F) c 0 ∗ oFree (F := F) c 1) ∗
  resAll c (pl m c) (XSof m c) (EGof m c) (EUof m c) (EDof m c) b)

theorem ΦR_rest (c : Dev nD) (b : ℕ) : iprop(ΦR m c b ∗ (∃ W, owes (c : Thread nD τ) 0 W)) ⊢
    rest c (XSof m c) (EGof m c) (EUof m c) (EDof m c) (resAll c (pl m c) (XSof m c) (EGof m c) (EUof m c) (EDof m c) b) := by
  unfold ΦR rest
  iintro ⟨⟨H1, H2, H3, H4, H5⟩, HW⟩
  isplitl [H1]; · iexact H1
  isplitl [HW]; · iexact HW
  isplitl [H2]; · iexact H2
  isplitl [H3]; · iexact H3
  isplitl [H4]; · iexact H4
  iexact H5
theorem rest_ΦR (c : Dev nD) (b : ℕ) : rest c (XSof m c) (EGof m c) (EUof m c) (EDof m c) (resAll c (pl m c) (XSof m c) (EGof m c) (EUof m c) (EDof m c) b)
    ⊢ iprop(ΦR m c b ∗ (∃ W, owes (c : Thread nD τ) 0 W)) := by
  unfold ΦR rest
  iintro ⟨H1, HW, H2, H3, H4, H5⟩
  isplitr [HW]
  · isplitl [H1]; · iexact H1
    isplitl [H2]; · iexact H2
    isplitl [H3]; · iexact H3
    isplitl [H4]; · iexact H4
    iexact H5
  iexact HW

omit [FloatOps F] in
/-- A buffer held whole, through its whole window. -/
theorem whole_pt (b : Ref sig .tc) (c : Dev nD) (q : PosShare TreeShare) (f : Buf (Elt F) ((c : Thread nD τ).loc b)) :
    (((c : Thread nD τ).loc b) ↦{q} f : sProp 𝕄) = (((c : Thread nD τ).loc b) ↦[(Memref.whole b).view.set]{q} f) :=
  congrArg (fun S => (_ ↦[S]{q} f : sProp 𝕄)) (View.set_whole _).symm

/-- The four arrays the pipeline does not stage, as they were. -/
def arrs (c : Dev nD) : sProp 𝕄 := iprop((((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8))
/-- The kernel's own scratch buffers at anything. -/
def scratch (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scoped0), ((c : Thread nD τ).loc cc0_scoped0) ↦{fullShare} f) ∗ (∃ f : Buf (Elt F) ((c : Thread nD τ).loc cc0_scoped2), ((c : Thread nD τ).loc cc0_scoped2) ↦{fullShare} f) ∗ (∃ f : Buf (Elt F) ((c : Thread nD τ).loc cc0_scratch7), ((c : Thread nD τ).loc cc0_scratch7) ↦{fullShare} f))
/-- The kernel's own cells at zero. -/
def cells0 (c : Dev nD) : sProp 𝕄 := iprop(icell (F := F) c 0 ∗ icell (F := F) c 1 ∗ icell (F := F) c 2 ∗ gcell (F := F) c 0 ∗ gcell (F := F) c 1 ∗ ucell (F := F) c 0 ∗ ucell (F := F) c 1 ∗ dcell (F := F) c 0 ∗ dcell (F := F) c 1 ∗ ocell (F := F) c 0 ∗ ocell (F := F) c 1)
/-- The result array, its blocks before `b` in place. -/
def outIs (c : Dev nD) (b : ℕ) : sProp 𝕄 := iprop(∃ g : Buf (Elt F) ((c : Thread nD τ).loc main_v0), ⌜ResGood c (pl m c) (XSof m c) (EGof m c) (EUof m c) (EDof m c) b g⌝ ∗ (((c : Thread nD τ).loc main_v0) ↦{fullShare} g))

theorem ΦR_intro (c : Dev nD) (b : ℕ) : iprop(arrs m c ∗ outIs m c b ∗ cells0 (F := F) c ∗ scratch (F := F) c) ⊢ ΦR m c b := by
  unfold arrs outIs cells0 scratch ΦR inFree scrAny wFree gFree uFree dFree oFree wHome resAll
  iintro ⟨⟨Hx, HEg, HEu, HEd⟩, ⟨%g, %hg, Hr⟩, ⟨Hi0, Hi1, Hi2, Hg0, Hg1, Hu0, Hu1, Hd0, Hd1, Ho0, Ho1⟩, ⟨⟨%f0, S0⟩, ⟨%f1, S1⟩, ⟨%f2, S2⟩, S3, S4, S5, S6, S7, ⟨%f8, S8⟩⟩⟩
  ihave Hx := (eqE (whole_pt main_arg5 c fullShare (V m c main_arg5))) $$ Hx
  ihave Hx := (Ring.pointsTo_thirds fullShare (V m c main_arg5)).1 $$ Hx
  icases Hx with ⟨Hx0, Hx1, Hx2⟩
  ihave HEg := (eqE (whole_pt main_arg6 c fullShare (V m c main_arg6))) $$ HEg
  ihave HEu := (eqE (whole_pt main_arg7 c fullShare (V m c main_arg7))) $$ HEu
  ihave HEd := (eqE (whole_pt main_arg8 c fullShare (V m c main_arg8))) $$ HEd
  ihave Hr := (eqE (whole_pt main_v0 c fullShare g)) $$ Hr
  ihave S0 := (eqE (whole_pt cc0_scratch0 c fullShare f0)) $$ S0
  ihave S1 := (eqE (whole_pt cc0_scratch1 c fullShare f1)) $$ S1
  ihave S2 := (eqE (whole_pt cc0_scratch2 c fullShare f2)) $$ S2
  ihave S8 := (eqE (whole_pt cc0_scratch7 c fullShare f8)) $$ S8
  ihave S3 := (gbuf_split c) $$ S3
  ihave S4 := (ubuf_split c) $$ S4
  ihave S5 := (dbuf_split c) $$ S5
  ihave S6 := (ibuf_split c) $$ S6
  ihave S7 := (obuf_split c) $$ S7
  icases S3 with ⟨S30, S31⟩
  icases S4 with ⟨S40, S41⟩
  icases S5 with ⟨S50, S51⟩
  icases S6 with ⟨S60, S61, S62⟩
  icases S7 with ⟨S70, S71⟩
  isplitl [S8]; · iexists f8; iexact S8
  isplitl [Hx0 Hx1 Hx2 S60 S61 S62 Hi0 Hi1 Hi2]
  · isplitl [Hx0 S60 Hi0]
    · isplitl [Hx0]; · iexact Hx0
      isplitl [S60]; · iexact S60
      iexact Hi0
    isplitl [Hx1 S61 Hi1]
    · isplitl [Hx1]; · iexact Hx1
      isplitl [S61]; · iexact S61
      iexact Hi1
    isplitl [Hx2]; · iexact Hx2
    isplitl [S62]; · iexact S62
    iexact Hi2
  isplitl [S0 S1 S2 S30 S31 S40 S41 S50 S51 Hg0 Hg1 Hu0 Hu1 Hd0 Hd1 HEg HEu HEd]
  · isplitl [S0 S1 S2]
    · isplitl [S0]; · iexists f0; iexact S0
      isplitl [S1]; · iexists f1; iexact S1
      iexists f2; iexact S2
    isplitl [S30 S31 S40 S41 S50 S51 Hg0 Hg1 Hu0 Hu1 Hd0 Hd1]
    · isplitl [S30 S40 S50 Hg0 Hu0 Hd0]
      · isplitl [S30 Hg0]
        · isplitl [S30]; · iexact S30
          iexact Hg0
        isplitl [S40 Hu0]
        · isplitl [S40]; · iexact S40
          iexact Hu0
        isplitl [S50]; · iexact S50
        iexact Hd0
      isplitl [S31 Hg1]
      · isplitl [S31]; · iexact S31
        iexact Hg1
      isplitl [S41 Hu1]
      · isplitl [S41]; · iexact S41
        iexact Hu1
      isplitl [S51]; · iexact S51
      iexact Hd1
    isplitl [HEg]; · iexact HEg
    isplitl [HEu]; · iexact HEu
    iexact HEd
  isplitl [S70 S71 Ho0 Ho1]
  · isplitl [S70 Ho0]
    · isplitl [S70]; · iexact S70
      iexact Ho0
    isplitl [S71]; · iexact S71
    iexact Ho1
  iexists g
  isplitr; · ipureintro; exact hg
  iexact Hr

theorem ΦR_elim (c : Dev nD) (b : ℕ) : ΦR m c b ⊢ iprop(arrs m c ∗ outIs m c b ∗ cells0 (F := F) c ∗ scratch (F := F) c) := by
  unfold arrs outIs cells0 scratch ΦR inFree scrAny wFree gFree uFree dFree oFree wHome resAll
  iintro ⟨⟨%f8, S8⟩, ⟨⟨Hx0, S60, Hi0⟩, ⟨Hx1, S61, Hi1⟩, ⟨Hx2, S62, Hi2⟩⟩, ⟨⟨⟨%f0, S0⟩, ⟨%f1, S1⟩, ⟨%f2, S2⟩⟩,
    ⟨⟨⟨S30, Hg0⟩, ⟨S40, Hu0⟩, ⟨S50, Hd0⟩⟩, ⟨⟨S31, Hg1⟩, ⟨S41, Hu1⟩, ⟨S51, Hd1⟩⟩⟩, ⟨HEg, HEu, HEd⟩⟩, ⟨⟨S70, Ho0⟩, ⟨S71, Ho1⟩⟩, ⟨%g, %hg, Hr⟩⟩
  ihave Hx := (Ring.pointsTo_thirds fullShare (V m c main_arg5)).2 $$ [Hx0 Hx1 Hx2]
  · isplitl [Hx0]; · iexact Hx0
    isplitl [Hx1]; · iexact Hx1
    iexact Hx2
  ihave Hx := (eqE (whole_pt main_arg5 c fullShare (V m c main_arg5)).symm) $$ Hx
  ihave HEg := (eqE (whole_pt main_arg6 c fullShare (V m c main_arg6)).symm) $$ HEg
  ihave HEu := (eqE (whole_pt main_arg7 c fullShare (V m c main_arg7)).symm) $$ HEu
  ihave HEd := (eqE (whole_pt main_arg8 c fullShare (V m c main_arg8)).symm) $$ HEd
  ihave Hr := (eqE (whole_pt main_v0 c fullShare g).symm) $$ Hr
  ihave S0 := (eqE (whole_pt cc0_scratch0 c fullShare f0).symm) $$ S0
  ihave S1 := (eqE (whole_pt cc0_scratch1 c fullShare f1).symm) $$ S1
  ihave S2 := (eqE (whole_pt cc0_scratch2 c fullShare f2).symm) $$ S2
  ihave S8 := (eqE (whole_pt cc0_scratch7 c fullShare f8).symm) $$ S8
  ihave S3 := (gbuf_join c) $$ [S30 S31]
  · isplitl [S30] <;> iassumption
  ihave S4 := (ubuf_join c) $$ [S40 S41]
  · isplitl [S40] <;> iassumption
  ihave S5 := (dbuf_join c) $$ [S50 S51]
  · isplitl [S50] <;> iassumption
  ihave S6 := (ibuf_join c) $$ [S60 S61 S62]
  · isplitl [S60]; · iexact S60
    isplitl [S61] <;> iassumption
  ihave S7 := (obuf_join c) $$ [S70 S71]
  · isplitl [S70] <;> iassumption
  isplitl [Hx HEg HEu HEd]
  · isplitl [Hx]; · iexact Hx
    isplitl [HEg]; · iexact HEg
    isplitl [HEu] <;> iassumption
  isplitl [Hr]
  · iexists g
    isplitr; · ipureintro; exact hg
    iexact Hr
  isplitl [Hi0 Hi1 Hi2 Hg0 Hg1 Hu0 Hu1 Hd0 Hd1 Ho0 Ho1]
  · isplitl [Hi0]; · iexact Hi0
    isplitl [Hi1]; · iexact Hi1
    isplitl [Hi2]; · iexact Hi2
    isplitl [Hg0]; · iexact Hg0
    isplitl [Hg1]; · iexact Hg1
    isplitl [Hu0]; · iexact Hu0
    isplitl [Hu1]; · iexact Hu1
    isplitl [Hd0]; · iexact Hd0
    isplitl [Hd1]; · iexact Hd1
    isplitl [Ho0]; · iexact Ho0
    iexact Ho1
  isplitl [S0]; · iexists f0; iexact S0
  isplitl [S1]; · iexists f1; iexact S1
  isplitl [S2]; · iexists f2; iexact S2
  isplitl [S3]; · iexact S3
  isplitl [S4]; · iexact S4
  isplitl [S5]; · iexact S5
  isplitl [S6]; · iexact S6
  isplitl [S7]; · iexact S7
  iexists f8; iexact S8

/-! ## The pipeline's proof data -/

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ k := ΦR m c (if k.val = 0 then 0 else (pl m c).n)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]

abbrev sTe (t : Fin cfg0.N) : Memref sig .tc .smem S96 .i32 := win0_0.stage (cfg0.slots t 0)
abbrev sNt (t : Fin cfg0.N) : Memref sig .tc .smem S1 .i32 := win0_1.stage (cfg0.slots t 1)
abbrev sNx (t : Fin cfg0.N) : Memref sig .tc .smem S96 .i32 := win0_2.stage (cfg0.slots t 2)
abbrev sSg (t : Fin cfg0.N) : Memref sig .tc .smem S96 .i32 := win0_3.stage (cfg0.slots t 3)
abbrev sNs (t : Fin cfg0.N) : Memref sig .tc .smem S96 .i32 := win0_4.stage (cfg0.slots t 4)
abbrev gst (c : Dev nD) (t : Fin cfg0.N) : Buf (Elt F) ((sTe t).view.loc (c : Thread nD τ)) := (sTe t).view.rep (iblk m c 0 t)

theorem tab_of (a : Memref sig .tc .smem S96 .i32) (c : Dev nD) (x : S96.Idx → Elt F .i32) (w : Fin 96 → BitVec 32) (h : ∀ i, x (ix96 i) = w i) :
    TabOk (F := F) c a w (a.view.rep x) := by
  intro k inb
  funext j
  rw [View.readAt_apply, View.read_rep]
  refine (congrArg x ?_).trans (h k)
  funext a
  match a with
  | 0 => exact Fin.ext (by show k.val + 1 * (j 0).val = k.val; have : (j 0).val < 1 := (j 0).isLt; omega)

theorem nt_of (a : Memref sig .tc .smem S1 .i32) (c : Dev nD) (x : S1.Idx → Elt F .i32) (n : ℕ) (h : x ix1 = W n) :
    NtOk (F := F) c a n (a.view.rep x) := by
  intro inb
  funext j
  rw [View.readAt_apply, View.read_rep]
  refine (congrArg x ?_).trans h
  funext a
  match a with
  | 0 => exact Subsingleton.elim (α := Fin 1) _ _

theorem blk_at0 (c : Dev nD) (t : Fin cfg0.N) (i : S96.Idx) : iblk m c 0 t i = V m c main_arg0 i := by
  unfold iblk; rw [View.read_apply]
  refine congrArg (V m c main_arg0) ?_
  funext a
  match a with
  | 0 => exact Fin.ext (by show 0 * _ + 1 * (i 0).val = (i 0).val; omega)
theorem blk_at1 (c : Dev nD) (t : Fin cfg0.N) (i : S1.Idx) : iblk m c 1 t i = V m c main_arg1 i := by
  unfold iblk; rw [View.read_apply]
  refine congrArg (V m c main_arg1) ?_
  funext a
  match a with
  | 0 => exact Fin.ext (by show 0 * _ + 1 * (i 0).val = (i 0).val; omega)
theorem blk_at2 (c : Dev nD) (t : Fin cfg0.N) (i : S96.Idx) : iblk m c 2 t i = V m c main_arg2 i := by
  unfold iblk; rw [View.read_apply]
  refine congrArg (V m c main_arg2) ?_
  funext a
  match a with
  | 0 => exact Fin.ext (by show 0 * _ + 1 * (i 0).val = (i 0).val; omega)
theorem blk_at3 (c : Dev nD) (t : Fin cfg0.N) (i : S96.Idx) : iblk m c 3 t i = V m c main_arg3 i := by
  unfold iblk; rw [View.read_apply]
  refine congrArg (V m c main_arg3) ?_
  funext a
  match a with
  | 0 => exact Fin.ext (by show 0 * _ + 1 * (i 0).val = (i 0).val; omega)
theorem blk_at4 (c : Dev nD) (t : Fin cfg0.N) (i : S96.Idx) : iblk m c 4 t i = V m c main_arg4 i := by
  unfold iblk; rw [View.read_apply]
  refine congrArg (V m c main_arg4) ?_
  funext a
  match a with
  | 0 => exact Fin.ext (by show 0 * _ + 1 * (i 0).val = (i 0).val; omega)

theorem tabsOk (h : PreOK m) (c : Dev nD) (t : Fin cfg0.N) : TabsOk c (pl m c) (sTe t) (sNt t) (sNx t) (sSg t) (sNs t)
    ((sTe t).view.rep (iblk m c 0 t)) ((sNt t).view.rep (iblk m c 1 t)) ((sNx t).view.rep (iblk m c 2 t)) ((sSg t).view.rep (iblk m c 3 t)) ((sNs t).view.rep (iblk m c 4 t)) where
  te := tab_of _ c _ _ fun i => (blk_at0 m c t (ix96 i)).trans ((h c).te_eq i)
  nt := nt_of _ c _ _ ((blk_at1 m c t ix1).trans (h c).nt_eq)
  nx := tab_of _ c _ _ fun i => (blk_at2 m c t (ix96 i))
  sg := tab_of _ c _ _ fun i => (blk_at3 m c t (ix96 i)).trans ((h c).sg_eq i)
  ns := tab_of _ c _ _ fun i => (blk_at4 m c t (ix96 i))

/-! ## The body obligation -/

abbrev bodyG (aTe : Memref sig .tc .smem S96 .i32) (hTe : aTe.IsWhole) (aNt : Memref sig .tc .smem S1 .i32) (hNt : aNt.IsWhole)
    (aNx : Memref sig .tc .smem S96 .i32) (hNx : aNx.IsWhole) (aSg : Memref sig .tc .smem S96 .i32) (hSg : aSg.IsWhole)
    (aNs : Memref sig .tc .smem S96 .i32) (hNs : aNs.IsWhole) : Prog (TpuEff nD τ sig (Elt F) Λ₀ .tc) PUnit :=
  cc0_moe_experts (F := F) aTe hTe aNt hNt aNx hNx aSg hSg aNs hNs xsM (Memref.isWhole_whole _) egM (Memref.isWhole_whole _) euM (Memref.isWhole_whole _) edM (Memref.isWhole_whole _) resM (Memref.isWhole_whole _) gScr (Memref.isWhole_whole _) uScr (Memref.isWhole_whole _) dScr (Memref.isWhole_whole _) gBuf (Memref.isWhole_whole _) uBuf (Memref.isWhole_whole _) dBuf (Memref.isWhole_whole _) cc0_scratch6 stepM (Memref.isWhole_whole _) inM (Memref.isWhole_whole _) cc0_scoped1 outM (Memref.isWhole_whole _) cc0_scoped3

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (sTe t) (hstage0_0 0) (sNt t) (hstage0_1 0) (sNx t) (hstage0_2 0) (sSg t) (hstage0_3 0) (sNs t) (hstage0_4 0) :=
  (congrFun defs_tc _).trans rfl

set_option backward.isDefEq.respectTransparency.types false in
/-- The one point: the body takes the invariant before to the invariant after. -/
theorem body_obligation (h : PreOK m) (c : Dev nD) : BodyObligation (dats (F := F) m 0 c) (defs₀ (F := F)) 𝒱₀ () Set.univ := fun t => by
  rw [bigSep_W0, bigSep_W0]
  dsimp only
  simp only [before_w0, after_w0, before_w1, after_w1, before_w2, after_w2, before_w3, after_w3, before_w4, after_w4]
  rw [show (dats m 0 c).Φ t.castSucc = ΦR m c 0 from congrArg (ΦR m c) (if_pos (by have := t.isLt; have : cfg0.N = 1 := N_0; show t.val = 0; omega)),
    show (dats m 0 c).Φ t.succ = ΦR m c (pl m c).n from congrArg (ΦR m c) (if_neg (Nat.succ_ne_zero _))]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩⟩
  ihave H0' := (pointsTo_rep_entails (c : Thread nD τ) (sTe t) g0 fullShare) $$ H0
  rw [hg0]
  ihave H1' := (pointsTo_rep_entails (c : Thread nD τ) (sNt t) g1 fullShare) $$ H1
  rw [hg1]
  ihave H2' := (pointsTo_rep_entails (c : Thread nD τ) (sNx t) g2 fullShare) $$ H2
  rw [hg2]
  ihave H3' := (pointsTo_rep_entails (c : Thread nD τ) (sSg t) g3 fullShare) $$ H3
  rw [hg3]
  ihave H4' := (pointsTo_rep_entails (c : Thread nD τ) (sNs t) g4 fullShare) $$ H4
  rw [hg4]
  sl_rw [prog_eq t]
  iapply (wp_wand_r Idealize.ShloMosaic.frame (wpE (defs₀ (F := F)) 𝒱₀ (c : Thread nD τ) none) Set.univ)
  isplitl [HΦ HW H0' H1' H2' H3' H4']
  · iapply (body_spec c (XSof m c) (EGof m c) (EUof m c) (EDof m c) (sTe t) (hstage0_0 0) (sNt t) (hstage0_1 0) (sNx t) (hstage0_2 0) (sSg t) (hstage0_3 0) (sNs t) (hstage0_4 0) _ _ _ _ _ (h c).ok (tabsOk m h c t))
    isplitl [H0' H1' H2' H3' H4']
    · isplitl [H0']; · iexact H0'
      isplitl [H1']; · iexact H1'
      isplitl [H2']; · iexact H2'
      isplitl [H3']; · iexact H3'
      iexact H4'
    iapply (ΦR_rest m c 0)
    isplitl [HΦ]; · iexact HΦ
    iexists W; iexact HW
  iintro %u ⟨⟨H0, H1, H2, H3, H4⟩, Hr⟩
  ihave Hr := (rest_ΦR m c (pl m c).n) $$ Hr
  icases Hr with ⟨HΦ, ⟨%W', HW⟩⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists _; isplitr; · ipureintro; exact View.read_rep _ _
  iexact H4

/-! ## The run -/

def intoΦ (c : Dev nD) : sProp 𝕄 := iprop(arrs m c ∗ outIs m c 0 ∗ Pipeline.ownSems0 ownsem c)
def outOfΦ (c : Dev nD) : sProp 𝕄 := iprop(arrs m c ∗ outIs m c (pl m c).n)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  (s.mem ((c : Thread nD τ).loc main_arg5) = m ((c : Thread nD τ).loc main_arg5) ∧ s.mem ((c : Thread nD τ).loc main_arg6) = m ((c : Thread nD τ).loc main_arg6) ∧
    s.mem ((c : Thread nD τ).loc main_arg7) = m ((c : Thread nD τ).loc main_arg7) ∧ s.mem ((c : Thread nD τ).loc main_arg8) = m ((c : Thread nD τ).loc main_arg8)) ∧
  ResGood c (pl m c) (XSof m c) (EGof m c) (EUof m c) (EDof m c) (pl m c).n (s.mem ((c : Thread nD τ).loc main_v0))
def QC : PUnit × MemSt nD τ sig (Elt F) → Prop := fun r =>
  ∀ c : Dev nD, (∀ w : Fin cfg0.W, r.2.mem ((cfg0.win w).arr.view.loc (c : Thread nD τ)) = finalA m c w) ∧ QY m c r.2

/-- Nothing of the result array is claimed before the first block. -/
theorem resGood_zero (c : Dev nD) (g) : ResGood c (pl m c) (XSof m c) (EGof m c) (EUof m c) (EDof m c) 0 g := fun k h => absurd h (Nat.not_lt_zero _)

set_option backward.isDefEq.respectTransparency.types false in
/-- THE RUN, for any float values: from any memory with zero counters whose tables hold a plan that fits, every weakly
    fair execution of @main terminates; every final state has the arrays as they were, the result array's routed rows
    computed, every counter at zero. -/
theorem run_main (h : PreOK m) : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq]
      unfold intoΦ arrs outIs
      iintro ⟨⟨H5, H6, H7, H8, Hv⟩, HS, -, -, -⟩; imodintro
      isplitl [H5 H6 H7 H8 Hv HS]
      · isplitl [H5 H6 H7 H8]
        · isplitl [H5]; · iexact H5
          isplitl [H6]; · iexact H6
          isplitl [H7]; · iexact H7
          iexact H8
        isplitl [Hv]
        · iexists (m ((c : Thread nD τ).loc main_v0))
          isplitr; · ipureintro; exact resGood_zero m c _
          iexact Hv
        iexact HS
      iempintro)
    (hin := fun c => by
      rw [scopedRest0_eq, show (dats m 0 c).Φ 0 = ΦR m c 0 from congrArg (ΦR m c) (if_pos rfl)]
      unfold intoΦ; rw [ownSems0_eq]
      iintro ⟨⟨H0, H1, H2⟩, Hb⟩
      iapply (ΦR_intro m c 0)
      unfold cells0 scratch
      isplitl [H0]; · iexact H0
      isplitl [H1]; · iexact H1
      isplitl [H2]; · iexact H2
      iexact Hb)
    (hout := fun c => by
      rw [scopedRest0_eq, show (dats m 0 c).Φ (Fin.last cfg0.N) = ΦR m c (pl m c).n from congrArg (ΦR m c) (if_neg (by show cfg0.N ≠ 0; exact fun h0 => absurd (N_0.symm.trans h0) (by decide))), ownSems0_eq]
      unfold outOfΦ
      iintro H
      ihave H := (ΦR_elim m c (pl m c).n) $$ H
      unfold cells0 scratch
      icases H with ⟨H0, H1, H2, H3⟩
      isplitl [H0 H1]
      · isplitl [H0]; · iexact H0
        iexact H1
      isplitl [H2]; · iexact H2
      iexact H3)
    (QY := QY m)
    (hY := fun c s' => by
      unfold outOfΦ arrs outIs
      iintro ⟨⟨⟨H5, H6, H7, H8⟩, ⟨%g, %hg, Hv⟩⟩, -, HSI⟩
      icombine HSI H5 gives %h5
      icombine HSI H6 gives %h6
      icombine HSI H7 gives %h7
      icombine HSI H8 gives %h8
      icombine HSI Hv gives %hv
      imodintro
      isplitr
      · ipureintro
        refine ⟨⟨Buf.eq_of_forall_mem_univ h5, Buf.eq_of_forall_mem_univ h6, Buf.eq_of_forall_mem_univ h7, Buf.eq_of_forall_mem_univ h8⟩, ?_⟩
        rw [Buf.eq_of_forall_mem_univ hv]; exact hg
      iexact HSI)
    (hQ := fun _ hh hz => ⟨hh, hz⟩)

theorem finalA_in (c : Dev nD) (w : Fin cfg0.W) (hw : (cfg0.win w).isOut = false) :
    finalA m c w = (s₀ m ρ).mem ((cfg0.win w).arr.view.loc (c : Thread nD τ)) :=
  (dats (F := F) m 0 c).arrAt_in w hw _

end T

end Cert.Proof.Moe

end
-- ==== Proof.SameText.lean ====
module

public import proofs.«01_k».proof.Defs
public import proofs.«01_k».proof.Proof.Gen.Kernel
public import proofs.«01_k».proof.Proof.Gen.KernelIdeal

@[expose] public section

set_option maxRecDepth 65536

/-! # The kernel and its ideal reading are one text -/
noncomputable section

namespace Cert.Proof.Moe

open Idealize.ShloMosaic Idealize.ShloMosaic.TcCoe Idealize.SL.Sem

variable {F : FTy → Type} [FloatOps F]

set_option maxHeartbeats 0 in
/-- The two kernel functions are the same function. -/
theorem body_same : Cert.Kernel.cc0_moe_experts (F := F) = Cert.KernelIdeal.cc0_moe_experts (F := F) := rfl

open Cert.KernelIdeal Cert.KernelIdeal.Gen in
/-- So are the two body tables' entries, at every label and argument. -/
theorem entry_same (l : Fin 1) (a) : (Cert.Kernel.defs₀ (F := F)) .tc l a = (Cert.KernelIdeal.defs₀ (F := F)) .tc l a := by
  match l, a with
  | 0, (t, s) =>
    exact congrArg (fun f => f (win0_0.stage (s 0)) (hstage0_0 0) (win0_1.stage (s 1)) (hstage0_1 0) (win0_2.stage (s 2)) (hstage0_2 0) (win0_3.stage (s 3)) (hstage0_3 0) (win0_4.stage (s 4)) (hstage0_4 0) (Memref.whole main_arg5) (Memref.isWhole_whole _) (Memref.whole main_arg6) (Memref.isWhole_whole _) (Memref.whole main_arg7) (Memref.isWhole_whole _) (Memref.whole main_arg8) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _) (Memref.whole cc0_scoped0) (Memref.isWhole_whole _) cc0_scoped1 (Memref.whole cc0_scoped2) (Memref.isWhole_whole _) cc0_scoped3) (body_same (F := F))

/-- And so are the two tables, with each call's region. -/
theorem defs_same : Cert.Kernel.defs (F := F) = Cert.KernelIdeal.defs (F := F) := by
  refine congrArg (Pipeline.defs Cert.KernelIdeal.pcfgs) (funext fun κ => funext fun l => funext fun a => ?_)
  match κ with
  | .tc => exact entry_same l a
  | .scScalar _ => rfl
  | .scVector _ _ => rfl

end Cert.Proof.Moe

end
-- ==== Proof.ValIdeal.lean ====
module

public import proofs.«01_k».proof.Proof.State
public import Idealize.ShloMosaic.Lib.MatmulPlain
public import Idealize.ShloMosaic.Lib.Pipeline.Value
public import Idealize.ShloMosaic.Lib.ValueIdx

@[expose] public section

/-! # The kernel's rows at the ideal reals

At the ideal reals a projection's two half products are one product over the whole inner axis, and a row of a group is
the row of its tile through the matrices of the tile's expert. -/

noncomputable section

namespace Cert.Proof.Moe

open Cert.KernelIdeal Cert.KernelIdeal.Gen
open Idealize.ShloMosaic
open Idealize.ShloMosaic.ValueIdx (ix2 ix3 eq_ix2)
open Idealize.ShloMosaic.TcCoe
open scoped BigOperators

/-- The gated product of two sums: `silu a * b`. -/
def gated (a b : EReal) : EReal := a * Ideal.logistic a * b

/-- One element of a row through an expert: the row `x`, the expert's gate `g`, up `u` and one column `d` of its down
matrix. -/
def ffn (x : Fin 1024 → EReal) (g u : Fin 1024 → Fin 256 → EReal) (d : Fin 256 → EReal) : EReal :=
  ∑ k : Fin 256, gated (∑ q : Fin 1024, x q * g q k) (∑ q : Fin 1024, x q * u q k) * d k

/-- A sum over 1024 places by halves. -/
theorem sum_halves (f : Fin 1024 → EReal) : (∑ k : Fin 512, f (halfG 0 k)) + (∑ k : Fin 512, f (halfG 1 k)) = ∑ q, f q := by
  refine Eq.trans ?_ (Fin.sum_univ_add (a := 512) (b := 512) f).symm
  refine congrArg₂ (· + ·) (Finset.sum_congr rfl fun k _ => congrArg f (Fin.ext ?_)) (Finset.sum_congr rfl fun k _ => congrArg f (Fin.ext ?_))
  · show 512 * 0 + k.val = k.val; omega
  · show 512 * 1 + k.val = 512 + k.val; omega

/-- A projection is the product over the whole inner axis. -/
theorem proj_ideal (x : FVec Ideal S1024x1024 .bf16) (w : FVec Ideal S1024x256 .bf16) (r : Fin 4) (i k : Fin 256) :
    projVal (F := Ideal) (xPart x r 0) (xPart x r 1) (wPart w 0) (wPart w 1) (ix2 i k)
      = ∑ q : Fin 1024, (x (ix2 (rowG r i) q) : EReal) * w (ix2 q k) := by
  refine Eq.trans ?_ (sum_halves fun q => (x (ix2 (rowG r i) q) : EReal) * w (ix2 q k))
  refine congrArg₂ (fun a b : EReal => a + b) ?_ ?_
  · refine (Ideal.matmul_plain_apply (M := 256) (K := 512) (N := 256) none (xPart x r 0) (wPart w 0) _ i k).trans ?_
    exact (congrArg (fun a : EReal => a + _) Ideal.ofBits_zero_f32).trans (zero_add _)
  · refine (Ideal.matmul_plain_apply (M := 256) (K := 512) (N := 256) none (xPart x r 1) (wPart w 1) _ i k).trans ?_
    exact (congrArg (fun a : EReal => a + _) Ideal.ofBits_zero_f32).trans (zero_add _)

/-- A group's row is its tile's row through the expert. -/
theorem group_ideal (x : FVec Ideal S1024x1024 .bf16) (g u : FVec Ideal S1024x256 .bf16) (d : FVec Ideal S256x1024 .bf16) (r : Fin 4)
    (i : Fin 256) (j : Fin 1024) :
    groupVal (F := Ideal) x g u d r (ix2 i j)
      = ffn (fun q => x (ix2 (rowG r i) q)) (fun q k => g (ix2 q k)) (fun q k => u (ix2 q k)) (fun k => d (ix2 k j)) := by
  refine (Ideal.matmul_plain_apply (M := 256) (K := 256) (N := 1024) none _ d _ i j).trans ?_
  refine (congrArg (fun a : EReal => a + _) Ideal.ofBits_zero_f32).trans ((zero_add _).trans ?_)
  refine Finset.sum_congr rfl fun k _ => congrArg (fun a : EReal => a * d (ix2 k j)) ?_
  show gated (projVal (F := Ideal) _ _ _ _ (ix2 i k)) (projVal (F := Ideal) _ _ _ _ (ix2 i k)) = _
  rw [proj_ideal, proj_ideal]

/-- Row `p` of tile `b` among all rows. -/
abbrev rowT (b : Fin 96) (p : Fin 1024) : Fin 98304 := ⟨1024 * b.val + p.val, by have := b.isLt; have := p.isLt; omega⟩

section Blocks

variable {F : FTy → Type} [FloatOps F] (c : Dev nD)

/-- A tile of the rows, read. -/
theorem xblk_read (b : Fin 96) (X : Buf (Elt F) (xsM.view.loc (c : Thread nD τ))) (p q : Fin 1024) :
    (xblk b).view.read (Elt F) X (ix2 p q) = X (ix2 (rowT b p) q) :=
  congrArg X (funext fun a => Fin.ext (match a with
    | ⟨0, _⟩ => by show 1024 * b.val + 1 * p.val = 1024 * b.val + p.val; omega
    | ⟨1, _⟩ => by show 0 + 1 * q.val = q.val; omega))

/-- A tile of the result, read. -/
theorem oblk_read (b : Fin 96) (X : Buf (Elt F) (resM.view.loc (c : Thread nD τ))) (p q : Fin 1024) :
    (oblk b).view.read (Elt F) X (ix2 p q) = X (ix2 (rowT b p) q) :=
  congrArg X (funext fun a => Fin.ext (match a with
    | ⟨0, _⟩ => by show 1024 * b.val + 1 * p.val = 1024 * b.val + p.val; omega
    | ⟨1, _⟩ => by show 0 + 1 * q.val = q.val; omega))

/-- An expert's gate matrix, read. -/
theorem egE_read (e : Fin 32) (X : Buf (Elt F) (egM.view.loc (c : Thread nD τ))) (q : Fin 1024) (k : Fin 256) :
    (egE e).view.read (Elt F) X (ix2 q k) = X (ix3 e q k) := by
  refine (ValueIdx.shapeCast_1ab_ab_apply (egM.view.readAt (Elt F) (Rect.unit (s := S32x1024x256) (egEOff e) S1x1024x256.size (egEOff_inb e)).toLoadRect X) _ q k).trans ?_
  exact congrArg X (funext fun a => Fin.ext (match a with
    | ⟨0, _⟩ => by show e.val + 1 * 0 = e.val; omega
    | ⟨1, _⟩ => by show 0 + 1 * q.val = q.val; omega
    | ⟨2, _⟩ => by show 0 + 1 * k.val = k.val; omega))

/-- An expert's up matrix, read. -/
theorem euE_read (e : Fin 32) (X : Buf (Elt F) (euM.view.loc (c : Thread nD τ))) (q : Fin 1024) (k : Fin 256) :
    (euE e).view.read (Elt F) X (ix2 q k) = X (ix3 e q k) := by
  refine (ValueIdx.shapeCast_1ab_ab_apply (euM.view.readAt (Elt F) (Rect.unit (s := S32x1024x256) (euEOff e) S1x1024x256.size (euEOff_inb e)).toLoadRect X) _ q k).trans ?_
  exact congrArg X (funext fun a => Fin.ext (match a with
    | ⟨0, _⟩ => by show e.val + 1 * 0 = e.val; omega
    | ⟨1, _⟩ => by show 0 + 1 * q.val = q.val; omega
    | ⟨2, _⟩ => by show 0 + 1 * k.val = k.val; omega))

/-- An expert's down matrix, read. -/
theorem edE_read (e : Fin 32) (X : Buf (Elt F) (edM.view.loc (c : Thread nD τ))) (k : Fin 256) (j : Fin 1024) :
    (edE e).view.read (Elt F) X (ix2 k j) = X (ix3 e k j) := by
  refine (ValueIdx.shapeCast_1ab_ab_apply (edM.view.readAt (Elt F) (Rect.unit (s := S32x256x1024) (edEOff e) S1x256x1024.size (edEOff_inb e)).toLoadRect X) _ k j).trans ?_
  exact congrArg X (funext fun a => Fin.ext (match a with
    | ⟨0, _⟩ => by show e.val + 1 * 0 = e.val; omega
    | ⟨1, _⟩ => by show 0 + 1 * k.val = k.val; omega
    | ⟨2, _⟩ => by show 0 + 1 * j.val = j.val; omega))

end Blocks

/-- The rows the kernel makes for a group, at the ideal reals: each is its row of the arguments through the expert its
tile's table entry names. -/
theorem rowsOf_ideal (c : Dev nD) (p : Plan) (XS : Buf (Elt Ideal) (xsM.view.loc (c : Thread nD τ)))
    (EG : Buf (Elt Ideal) (egM.view.loc (c : Thread nD τ))) (EU : Buf (Elt Ideal) (euM.view.loc (c : Thread nD τ)))
    (ED : Buf (Elt Ideal) (edM.view.loc (c : Thread nD τ))) (b : Fin 96) (r : Fin 4) (i : Fin 256) (j : Fin 1024) :
    rowsOf c p XS EG EU ED b r (ix2 i j)
      = ffn (fun q => XS (ix2 (rowT b (rowG r i)) q)) (fun q k => EG (ix3 (p.te b) q k)) (fun q k => EU (ix3 (p.te b) q k))
          (fun k => ED (ix3 (p.te b) k j)) := by
  refine (group_ideal _ _ _ _ r i j).trans ?_
  have e1 : (fun q => (xblk b).view.read (Elt Ideal) XS (ix2 (rowG r i) q)) = fun q => XS (ix2 (rowT b (rowG r i)) q) :=
    funext fun q => xblk_read c b XS (rowG r i) q
  have e2 : (fun q k => (egE (p.te b)).view.read (Elt Ideal) EG (ix2 q k)) = fun q k => EG (ix3 (p.te b) q k) :=
    funext fun q => funext fun k => egE_read c (p.te b) EG q k
  have e3 : (fun q k => (euE (p.te b)).view.read (Elt Ideal) EU (ix2 q k)) = fun q k => EU (ix3 (p.te b) q k) :=
    funext fun q => funext fun k => euE_read c (p.te b) EU q k
  have e4 : (fun k => (edE (p.te b)).view.read (Elt Ideal) ED (ix2 k j)) = fun k => ED (ix3 (p.te b) k j) :=
    funext fun k => edE_read c (p.te b) ED k j
  exact congr (congr (congrArg₂ ffn e1 e2) e3) e4

end Cert.Proof.Moe

end
-- ==== Proof.ValRef.lean ====
module

public import proofs.«01_k».proof.Proof.ValIdeal
public import proofs.«01_k».proof.Proof.Gen.ReferenceIdeal.Read
public import Idealize.ShloMosaic.Lib.IdealHost

@[expose] public section

/-! # The reference's rows at the ideal reals

The reference takes every row through all 32 experts and keeps, by a masked sum, the expert its tile's table entry
names: what is left is that row through that expert. -/

noncomputable section

namespace Cert.Proof.Moe

open Cert.ReferenceIdeal Cert.ReferenceIdeal.Gen Cert.ReferenceIdeal.Read
open Idealize.ShloMosaic
open Idealize.ShloMosaic.ValueIdx (ix1 ix2 ix3 eq_ix2)
open scoped BigOperators

/-- A row's gate sum. -/
theorem ref_gate (x5 : FVec Ideal S98304x1024 .bf16) (x6 : FVec Ideal S32x1024x256 .f32) (R : Fin 98304) (e : Fin 32) (k : Fin 256) :
    val_main_v3 (F := Ideal) x5 x6 (ix3 R e k) = ∑ q : Fin 1024, (x5 (ix2 R q) : EReal) * x6 (ix3 e q k) := by
  refine (val_main_v3_apply x5 x6 _).trans (Finset.sum_congr rfl fun q _ => ?_)
  refine congrArg₂ (fun a b : EReal => a * b) (congrArg x5 (funext fun a => ?_)) (congrArg x6 (funext fun a => ?_))
  · match a with
    | ⟨0, _⟩ => rfl
    | ⟨1, _⟩ => rfl
  · match a with
    | ⟨0, _⟩ => rfl
    | ⟨1, _⟩ => rfl
    | ⟨2, _⟩ => rfl

/-- A row's up sum. -/
theorem ref_up (x5 : FVec Ideal S98304x1024 .bf16) (x7 : FVec Ideal S32x1024x256 .f32) (R : Fin 98304) (e : Fin 32) (k : Fin 256) :
    val_main_v5 (F := Ideal) x5 x7 (ix3 R e k) = ∑ q : Fin 1024, (x5 (ix2 R q) : EReal) * x7 (ix3 e q k) := by
  refine (val_main_v5_apply x5 x7 _).trans (Finset.sum_congr rfl fun q _ => ?_)
  refine congrArg₂ (fun a b : EReal => a * b) (congrArg x5 (funext fun a => ?_)) (congrArg x7 (funext fun a => ?_))
  · match a with
    | ⟨0, _⟩ => rfl
    | ⟨1, _⟩ => rfl
  · match a with
    | ⟨0, _⟩ => rfl
    | ⟨1, _⟩ => rfl
    | ⟨2, _⟩ => rfl

/-- The gate sum through silu. -/
theorem ref_silu (x5 : FVec Ideal S98304x1024 .bf16) (x6 : FVec Ideal S32x1024x256 .f32) (i : S98304x32x256.Idx) :
    val_main_v4 (F := Ideal) x5 x6 i = (val_main_v3 (F := Ideal) x5 x6 i : EReal) * Ideal.logistic (val_main_v3 (F := Ideal) x5 x6 i) := by
  rw [val_main_v4_apply, val_main_call0_v5_apply, val_main_call0_v4_apply, val_main_call0_cst_0_apply, val_main_call0_v3_apply,
    val_main_call0_v2_apply, val_main_call0_cst_apply, val_main_call0_v1_apply, val_main_call0_v0_apply]
  generalize val_main_v3 (F := Ideal) x5 x6 i = a
  show (a : EReal) * Ideal.div (Ideal.ofBits .f32 0x3F800000#32) (Ideal.ofBits .f32 0x3F800000#32 + Ideal.exp (-a)) = _
  rw [Ideal.ofBits_one_f32]
  rfl

/-- A row through one of the experts. -/
theorem ref_row (x5 : FVec Ideal S98304x1024 .bf16) (x6 x7 : FVec Ideal S32x1024x256 .f32) (x8 : FVec Ideal S32x256x1024 .f32)
    (e : Fin 32) (R : Fin 98304) (j : Fin 1024) :
    val_main_v7 (F := Ideal) x5 x6 x7 x8 (ix3 e R j)
      = ffn (fun q => x5 (ix2 R q)) (fun q k => x6 (ix3 e q k)) (fun q k => x7 (ix3 e q k)) (fun k => x8 (ix3 e k j)) := by
  refine (val_main_v7_apply x5 x6 x7 x8 _).trans (Finset.sum_congr rfl fun k _ => ?_)
  refine congrArg₂ (fun a b : EReal => a * b) ?_ (congrArg x8 (funext fun a => ?_))
  · have hl : lidx_main_v7 (ix3 e R j) k = ix3 R e k := funext fun a => (match a with
      | ⟨0, _⟩ => rfl
      | ⟨1, _⟩ => rfl
      | ⟨2, _⟩ => rfl)
    rw [hl, val_main_v6_apply, ref_silu, ref_gate, ref_up]
    rfl
  · match a with
    | ⟨0, _⟩ => rfl
    | ⟨1, _⟩ => rfl
    | ⟨2, _⟩ => rfl

/-- The mask of row `R` for expert `e`: the table's entry for the row's tile is `e`. -/
theorem ref_mask (x0 : IVec S96 32) (e : Fin 32) (R : Fin 98304) (j : Fin 1024) (b : Fin 96) (hb : R.val / 1024 = b.val) :
    val_main_call1_v1 (F := Ideal) x0 (ix3 e R j) = IntOp.cmpi .eq (BitVec.ofNat 32 e.val) (x0 (ix1 b)) := by
  rw [val_main_call1_v1_apply, val_main_v14_apply, val_main_v13_apply, val_main_v11_apply, val_main_v9_apply, val_main_v8_apply,
    val_main_v12_apply, val_main_v10_apply, val_main_v1_apply, val_main_v0_apply]
  refine congrArg (fun y => IntOp.cmpi .eq (BitVec.ofNat 32 e.val) (x0 y)) (funext fun a => Fin.ext ?_)
  match a with
  | ⟨0, _⟩ => exact hb

/-- The reference's result at a row of tile `b`, whose table entry names expert `t`: the row through `t`. -/
theorem ref_ideal (x0 : IVec S96 32) (x5 : FVec Ideal S98304x1024 .bf16) (x6 x7 : FVec Ideal S32x1024x256 .f32) (x8 : FVec Ideal S32x256x1024 .f32)
    (R : Fin 98304) (j : Fin 1024) (b : Fin 96) (hb : R.val / 1024 = b.val) (t : Fin 32) (ht : x0 (ix1 b) = BitVec.ofNat 32 t.val) :
    val_main_v17 (F := Ideal) x0 x5 x6 x7 x8 (ix2 R j)
      = ffn (fun q => x5 (ix2 R q)) (fun q k => x6 (ix3 t q k)) (fun q k => x7 (ix3 t q k)) (fun k => x8 (ix3 t k j)) := by
  have hsum : val_main_v17 (F := Ideal) x0 x5 x6 x7 x8 (ix2 R j)
      = (val_main_cst_0 (F := Ideal)) (Shape.Idx.first h_S_) + ∑ e : Fin 32, (val_main_v15 (F := Ideal) x0 x5 x6 x7 x8) (idx_main_v16 (ix2 R j) e) :=
    val_main_v16_apply x0 x5 x6 x7 x8 (ix2 R j)
  have hix : ∀ e : Fin 32, idx_main_v16 (ix2 R j) e = ix3 e R j := fun e => funext fun a => (match a with
      | ⟨0, _⟩ => rfl
      | ⟨1, _⟩ => rfl
      | ⟨2, _⟩ => rfl)
  have hz : (val_main_cst_0 (F := Ideal)) (Shape.Idx.first h_S_) = (0 : EReal) := Ideal.ofBits_zero_f32
  rw [hsum, hz, zero_add, Finset.sum_eq_single t]
  · rw [hix, val_main_v15_apply, ref_mask x0 t R j b hb, ht, ref_row]
    have h1 : IntOp.cmpi .eq (BitVec.ofNat 32 t.val) (BitVec.ofNat 32 t.val) = 1#1 := IntOp.cmpi_eq.2 rfl
    rw [h1]; rfl
  · intro e _ hne
    rw [hix, val_main_v15_apply, ref_mask x0 e R j b hb, ht]
    have h0 : IntOp.cmpi .eq (BitVec.ofNat 32 e.val) (BitVec.ofNat 32 t.val) = 0#1 := by
      have hn : ¬ IntOp.cmpi .eq (BitVec.ofNat 32 e.val) (BitVec.ofNat 32 t.val) = 1#1 := fun h => by
        have h' := congrArg BitVec.toNat (IntOp.cmpi_eq.1 h)
        rw [BitVec.toNat_ofNat, BitVec.toNat_ofNat] at h'
        have := e.isLt; have := t.isLt
        exact hne (Fin.ext (by omega))
      revert hn
      generalize IntOp.cmpi .eq (BitVec.ofNat 32 e.val) (BitVec.ofNat 32 t.val) = z
      revert z; decide
    rw [h0]
    exact Ideal.ofBits_zero_f32
  · intro h; exact absurd (Finset.mem_univ t) h

end Cert.Proof.Moe

end
-- ==== Proof.ValMask.lean ====
module

public import proofs.«01_k».proof.Defs
public import proofs.«01_k».proof.Proof.PlanFacts
public import Idealize.ShloMosaic.Lib.ValueIdxCore
public import Idealize.ShloMosaic.Lib.Pipeline.Value

@[expose] public section

/-! # The rows the value claim is of

The mask is set at a row of tile `b`, row group `r`, just when `b` is one of the plan's tiles and `r` is below the number
of the tile's groups that hold rows. -/

noncomputable section

namespace Cert.Proof.Moe

open Idealize.ShloMosaic
open Idealize.ShloMosaic.ValueIdx (ix2 ix4)
open Cert.On_rows_routed

theorem onFacts : Cert.On_rows_routed.Facts where
  shapeCasts_S1_S_ := by decide
  bcast_S_S96x4 := by decide
  bcast_S96_S96x1_0 := by decide
  bcast_S96x1_S96x4_0_1 := by decide
  bcast_S96x4_S96x4x1x1_0_1 := by decide
  bcast_S96x4x1x1_S96x4x256x1024_0_1_2_3 := by decide
  shapeCasts_S96x4x256x1024_S98304x1024 := by decide

variable {F : FTy → Type} [FloatOps F]

theorem mask_says [Cert.On_rows_routed.Facts] (te : IVec S96 32) (nt : IVec S1 32) (nx sg ns : IVec S96 32) (x5 : FVec F S98304x1024 .bf16)
    (x6 x7 : FVec F S32x1024x256 .f32) (x8 : FVec F S32x256x1024 .f32) (b : Fin 96) (r : Fin 4) (l : Fin 256) (R : Fin 98304) (j : Fin 1024)
    (hR : R.val = 1024 * b.val + (256 * r.val + l.val))
    (h : Cert.On_rows_routed.fn (F := F) te nt nx sg ns x5 x6 x7 x8 (ix2 R j) = 1#1) :
    (W b.val).toInt < (nt ix1).toInt ∧ (W r.val).toInt < (ns (ix96 b)).toInt := by
  unfold Cert.On_rows_routed.fn at h
  dsimp only at h
  rw [shapeCast_apply _ _ (ix2 R j) (ix4 b r l j) (by
      rw [Shape.rowMajor_val_four, Shape.rowMajor_val_two]
      show ((b.val * 4 + r.val) * 256 + l.val) * 1024 + j.val = R.val * 1024 + j.val
      omega),
    broadcastInDim_apply _ _ _ (ix4 b r l j) (ix4 b r (0 : Fin 1) (0 : Fin 1)) (fun a => match a with
      | ⟨0, _⟩ => by show b.val = if (96 : Nat) = 1 then 0 else b.val; rw [if_neg (by decide)]
      | ⟨1, _⟩ => by show r.val = if (4 : Nat) = 1 then 0 else r.val; rw [if_neg (by decide)]
      | ⟨2, _⟩ => rfl
      | ⟨3, _⟩ => rfl),
    broadcastInDim_apply _ _ _ (ix4 b r (0 : Fin 1) (0 : Fin 1)) (ix2 b r) (fun a => match a with
      | ⟨0, _⟩ => by show b.val = if (96 : Nat) = 1 then 0 else b.val; rw [if_neg (by decide)]
      | ⟨1, _⟩ => by show r.val = if (4 : Nat) = 1 then 0 else r.val; rw [if_neg (by decide)])] at h
  obtain ⟨h1, h2⟩ := (bit_and _ _).1 h
  have e1 := IntOp.cmpi_slt.1 h1
  have e2 := IntOp.cmpi_slt.1 h2
  constructor
  · have hx : ∀ x : S1.Idx, x = ix1 := fun x => funext fun | 0 => Subsingleton.elim (α := Fin 1) _ _
    rw [broadcastInDim_apply _ _ _ (ix2 b r) (fun a => a.elim0) (fun a => a.elim0)] at e1
    unfold shapeCast at e1
    rw [hx (Shape.reshapeEquiv _ _)] at e1
    exact e1
  · rw [broadcastInDim_apply _ _ _ (ix2 b r) (ix2 b (0 : Fin 1)) (fun a => match a with
      | ⟨0, _⟩ => by show b.val = if (96 : Nat) = 1 then 0 else b.val; rw [if_neg (by decide)]
      | ⟨1, _⟩ => rfl),
      broadcastInDim_apply _ _ _ (ix2 b (0 : Fin 1)) (ix96 b) (fun a => match a with
      | ⟨0, _⟩ => by show b.val = if (96 : Nat) = 1 then 0 else b.val; rw [if_neg (by decide)])] at e2
    exact e2

end Cert.Proof.Moe

end
-- ==== Proof.PleRow.lean ====
module

public import Idealize.ShloMosaic.Lib.IdealHost
public import Idealize.ShloMosaic.Lib.ValueIdx

@[expose] public section

/-! # A row of the last call, over the extended reals

What both programs compute for one row: the row plus its two picked expert rows, each times its weight; a root mean square
norm and a gate; the gated embedding added; and a last norm. A picked row comes as 512 words, each two `bf16` numbers: its
low half is the number of a left column, its high half the number 512 columns to the right. -/

noncomputable section

namespace Cert.Proof.Ple

open Idealize.ShloMosaic
open Idealize.ShloMosaic.ValueIdx (ix1 ix2 ix3)
open scoped BigOperators

/-- Entry `d` of a row's root mean square norm with gains `g`. -/
def rms (v g : Fin 1024 → EReal) (d : Fin 1024) : EReal :=
  v d * Ideal.rsqrt (Ideal.div (∑ q, v q * v q) (Ideal.ofBits .f32 0x44800000#32) + Ideal.ofBits .f32 0x358637BD#32) * g d

/-- Entry `d` of a row plus its two picked rows, each times its weight. -/
def mixRow (x a b : Fin 1024 → EReal) (ra rb : EReal) (d : Fin 1024) : EReal := x d + (ra * a d + rb * b d)

/-- Entry `d` of the row with the gated embedding added. -/
def gatedRow (x g3 : Fin 1024 → EReal) (wg : Fin 1024 → Fin 1024 → EReal) (bg : Fin 1024 → EReal) (p : Fin 256 → EReal)
    (wp : Fin 256 → Fin 1024 → EReal) (d : Fin 1024) : EReal :=
  x d + Ideal.logistic ((∑ q, rms x g3 q * wg q d) + bg d) * ∑ k, p k * wp k d

/-- Entry `d` of the row's result. -/
def outRow (x g3 : Fin 1024 → EReal) (wg : Fin 1024 → Fin 1024 → EReal) (bg : Fin 1024 → EReal) (p : Fin 256 → EReal)
    (wp : Fin 256 → Fin 1024 → EReal) (gf : Fin 1024 → EReal) (d : Fin 1024) : EReal :=
  rms (gatedRow x g3 wg bg p wp) gf d

/-- Entry `d` of a row of 512 words of two `bf16` numbers. -/
def pick (w : Fin 512 → BitVec 32) (d : Fin 1024) : EReal :=
  Ideal.ofBits .bf16 ((w ⟨d.val % 512, Nat.mod_lt _ (by decide)⟩).extractLsb' (d.val / 512 * 16) 16)

/-- The call's result on whole arrays: `y` the rows, `w` the picked rows' words (a row's second pick 32768 rows below its
first), `rt` the router's columns, of which 2 and 3 are the weights. -/
def outArr (y : (⟨2, ![32768, 1024]⟩ : Shape).Idx → EReal) (w : (⟨2, ![65536, 512]⟩ : Shape).Idx → BitVec 32)
    (rt : (⟨2, ![32768, 128]⟩ : Shape).Idx → EReal) (p : (⟨3, ![16, 2048, 256]⟩ : Shape).Idx → EReal)
    (g3 : (⟨1, ![1024]⟩ : Shape).Idx → EReal) (wg : (⟨2, ![1024, 1024]⟩ : Shape).Idx → EReal) (bg : (⟨1, ![1024]⟩ : Shape).Idx → EReal)
    (wp : (⟨2, ![256, 1024]⟩ : Shape).Idx → EReal) (gf : (⟨1, ![1024]⟩ : Shape).Idx → EReal) (R : Fin 32768) (d : Fin 1024) : EReal :=
  outRow (mixRow (fun q => y (ix2 R q)) (pick fun q => w (ix2 ⟨R.val, by omega⟩ q)) (pick fun q => w (ix2 ⟨32768 + R.val, by omega⟩ q))
      (rt (ix2 R 2)) (rt (ix2 R 3)))
    (fun q => g3 (ix1 q)) (fun q k => wg (ix2 q k)) (fun q => bg (ix1 q))
    (fun k => p (ix3 ⟨R.val / 2048, by omega⟩ ⟨R.val % 2048, by omega⟩ k)) (fun k q => wp (ix2 k q)) (fun q => gf (ix1 q)) d

/-- A `bf16` pattern above sixteen zero bits is the `f32` pattern of the same number. -/
theorem ieee_widen (b : BitVec 32) (h : BitVec 16) (hb : b.toNat = h.toNat * 65536) : Ideal.ieee 8 23 b = Ideal.ieee 8 7 h := by
  have hlt := h.isLt
  have hs : (b.extractLsb' (8 + 23) 1 == 1#1) = (h.extractLsb' (8 + 7) 1 == 1#1) := by
    have e : b.extractLsb' (8 + 23) 1 = h.extractLsb' (8 + 7) 1 := by
      apply BitVec.eq_of_toNat_eq
      simp only [BitVec.extractLsb'_toNat, Nat.shiftRight_eq_div_pow, hb]
      omega
    rw [e]
  have he : (b.extractLsb' 23 8).toNat = (h.extractLsb' 7 8).toNat := by
    simp only [BitVec.extractLsb'_toNat, Nat.shiftRight_eq_div_pow, hb]
    omega
  have hf : (b.extractLsb' 0 23).toNat = (h.extractLsb' 0 7).toNat * 65536 := by
    simp only [BitVec.extractLsb'_toNat, Nat.shiftRight_eq_div_pow, hb]
    omega
  unfold Ideal.ieee
  simp only [hs, he, hf]
  generalize (h.extractLsb' (8 + 7) 1 == 1#1) = s
  generalize (h.extractLsb' 7 8).toNat = x
  generalize (h.extractLsb' 0 7).toNat = f
  have hz : (f * 65536 = 0) ↔ (f = 0) := by omega
  have hp : ∀ n : Int, (65536 : ℝ) * (2 : ℝ) ^ (n - 23) = (2 : ℝ) ^ (n - 7) := fun n => by
    rw [show n - 7 = 16 + (n - 23) by omega, zpow_add₀ (by norm_num)]
    norm_num
  by_cases h1 : x = 2 ^ 8 - 1
  · rw [if_pos h1, if_pos h1]
    simp only [hz]
  · rw [if_neg h1, if_neg h1]
    by_cases h0 : x = 0
    · rw [if_pos h0, if_pos h0]
      refine congrArg _ ?_
      have e := hp (-126)
      rw [show (-126 : Int) - 23 = -149 by decide, show (-126 : Int) - 7 = -133 by decide] at e
      push_cast
      rw [← e]
      ring
    · rw [if_neg h0, if_neg h0]
      refine congrArg _ ?_
      have e := hp ((x : Int) - 127)
      push_cast
      rw [← e]
      ring

/-- A word shifted up by sixteen bits reads as the `bf16` number of its low half. -/
theorem ofBits_low (w : BitVec 32) : Ideal.ofBits .f32 (w <<< (16#32 : BitVec 32)) = Ideal.ofBits .bf16 (w.extractLsb' 0 16) := by
  refine ieee_widen _ _ ?_
  have := w.isLt
  rw [show w <<< (16#32 : BitVec 32) = w <<< 16 from rfl]
  simp only [BitVec.toNat_shiftLeft, BitVec.extractLsb'_toNat, Nat.shiftRight_eq_div_pow, Nat.shiftLeft_eq]
  omega

/-- A word with its low half cleared reads as the `bf16` number of its high half. -/
theorem ofBits_high (w : BitVec 32) : Ideal.ofBits .f32 (w &&& 4294901760#32) = Ideal.ofBits .bf16 (w.extractLsb' 16 16) := by
  refine ieee_widen _ _ ?_
  have e : w &&& 4294901760#32 = (w >>> 16) <<< 16 := by
    apply BitVec.eq_of_getLsbD_eq
    intro i hi
    interval_cases i <;> simp
  have := w.isLt
  rw [e]
  simp only [BitVec.toNat_shiftLeft, BitVec.toNat_ushiftRight, BitVec.extractLsb'_toNat, Nat.shiftRight_eq_div_pow, Nat.shiftLeft_eq]
  omega

end Cert.Proof.Ple

end
-- ==== Proof.PleIdeal.lean ====
module

public import proofs.«01_k».proof.Proof.PleRow
public import proofs.«01_k».proof.Proof.Gen.Kernel2Ideal.Frame
public import Idealize.ShloMosaic.Lib.MatmulPlain
public import Idealize.ShloMosaic.Lib.Pipeline.Value
public import Idealize.ShloMosaic.Lib.Pointwise.Reduce

@[expose] public section

/-! # The last call's block at the ideal reals

The call takes its block of 1024 rows in four groups of 256, each by the same expression. At the ideal reals a group's row
is the row of `PleRow`, so the block is that row for each of its rows. -/

noncomputable section

namespace Cert.Proof.Ple

open Cert.Kernel2Ideal Cert.Kernel2Ideal.Gen
open Idealize.ShloMosaic hiding ix1 ix2 ix3
open Idealize.ShloMosaic.ValueIdx (ix1 ix2 ix3 eq_ix2)
open Idealize.ShloMosaic.TcCoe
open scoped BigOperators

variable {F : FTy → Type} [FloatOps F]

/-- What the call stores for a group of 256 rows, from the loads of the group. -/
def groupVal (g3 bg gf : Vec F S1x1024 .f32) (wg : Vec F S1024x1024 .bf16) (wp : Vec F S256x1024 .bf16)
    (ya yb : Vec F S256x512 .i32) (rt : Vec F S256x128 .f32) (x : Vec F S256x1024 .f32) (p : Vec F S256x256 .f32) : FVec F S256x1024 .f32 :=
  k0_pay20 (k0_pay4 gf) (k0_pay5 bg) (k0_pay6 ya yb rt x)
    (k0_pay9 (k0_pay3 g3) (k0_pay6 ya yb rt x) (k0_pay7 ya yb rt x) k0_pay8 wg) (k0_pay10 p wp)

/-- The block the call leaves is its four groups, each by the same expression. -/
theorem out_eq (x0 : Vec F S1024x1024 .f32) (x1 x2 : Vec F S1024x512 .i32) (x3 : Vec F S1024x128 .f32) (x4 : Vec F S1024x256 .f32)
    (x5 : Vec F S1x1024 .f32) (x6 : Vec F S1024x1024 .bf16) (x7 : Vec F S1x1024 .f32) (x8 : Vec F S256x1024 .bf16) (x9 : Vec F S1x1024 .f32) :
    out0_10 x0 x1 x2 x3 x4 x5 x6 x7 x8 x9 = View.canon
      [⟨r0_17, groupVal (View.ld x5 r0_0) (View.ld x7 r0_0) (View.ld x9 r0_0) (View.ld x6 r0_4) (View.ld x8 r0_6) (View.ld x1 r0_15) (View.ld x2 r0_15) (View.ld x3 r0_16) (View.ld x0 r0_17) (View.ld x4 r0_18)⟩,
       ⟨r0_13, groupVal (View.ld x5 r0_0) (View.ld x7 r0_0) (View.ld x9 r0_0) (View.ld x6 r0_4) (View.ld x8 r0_6) (View.ld x1 r0_11) (View.ld x2 r0_11) (View.ld x3 r0_12) (View.ld x0 r0_13) (View.ld x4 r0_14)⟩,
       ⟨r0_9, groupVal (View.ld x5 r0_0) (View.ld x7 r0_0) (View.ld x9 r0_0) (View.ld x6 r0_4) (View.ld x8 r0_6) (View.ld x1 r0_7) (View.ld x2 r0_7) (View.ld x3 r0_8) (View.ld x0 r0_9) (View.ld x4 r0_10)⟩,
       ⟨r0_3, groupVal (View.ld x5 r0_0) (View.ld x7 r0_0) (View.ld x9 r0_0) (View.ld x6 r0_4) (View.ld x8 r0_6) (View.ld x1 r0_1) (View.ld x2 r0_1) (View.ld x3 r0_2) (View.ld x0 r0_3) (View.ld x4 r0_5)⟩] := rfl

/-- A row of gains over a group, at an entry. -/
theorem gains_apply (g : FVec Ideal S1x1024 .f32) (r : Fin 256) (d : Fin 1024) :
    broadcastTo S256x1024 g broadcasts_S1x1024_S256x1024 (ix2 r d) = g (ix2 0 d) :=
  broadcastTo_apply g broadcasts_S1x1024_S256x1024 (ix2 r d) (ix2 0 d) (fun a => match a with
    | ⟨0, _⟩ => rfl
    | ⟨1, _⟩ => rfl)

/-- A column over a group, at an entry. -/
theorem column_apply (g : FVec Ideal S256x1 .f32) (r : Fin 256) (d : Fin 1024) :
    broadcastTo S256x1024 g broadcasts_S256x1_S256x1024 (ix2 r d) = g (ix2 r 0) :=
  broadcastTo_apply g broadcasts_S256x1_S256x1024 (ix2 r d) (ix2 r 0) (fun a => match a with
    | ⟨0, _⟩ => rfl
    | ⟨1, _⟩ => rfl)

/-- A reshape to the same shape changes nothing. -/
theorem reshape_same {α : Type} {s : Shape} (x : s.Idx → α) (h : s.ShapeCasts s) : shapeCast s x h = x :=
  funext fun i => shapeCast_apply x h i i rfl

/-- The sum of a row's squares, as a column. -/
theorem squares_apply (v : FVec Ideal S256x1024 .f32) (r : Fin 256) :
    shapeCast S256x1 (multiReduction .add [1] S256 (mulf v v) 0x00000000#32 reduces_S256x1024_S256 (.inl rfl) rfl) shapeCasts_S256_S256x1 (ix2 r 0)
      = ∑ q : Fin 1024, (v (ix2 r q) : EReal) * v (ix2 r q) := by
  refine (shapeCast_apply _ shapeCasts_S256_S256x1 (ix2 r 0) (ix1 r) ?_).trans ?_
  · rw [Shape.rowMajor_val_two, Shape.rowMajor_val_one]
    show r.val = r.val * 1 + 0
    omega
  · exact Ideal.reduceAdd_r2_a1 reduces_S256x1024_S256 (mulf v v) (ix1 r)

/-- A group's norm, at an entry. -/
theorem norm_apply (v : FVec Ideal S256x1024 .f32) (g : FVec Ideal S1x1024 .f32) (r : Fin 256) (d : Fin 1024) :
    mulf (mulf v (broadcastTo S256x1024 (rsqrt (addf (divf (shapeCast S256x1 (multiReduction .add [1] S256 (mulf v v) 0x00000000#32 reduces_S256x1024_S256 (.inl rfl) rfl) shapeCasts_S256_S256x1)
        (broadcast S256x1 (Scalar.ofBits (F := Ideal) .f32 0x44800000#32))) (broadcast S256x1 (Scalar.ofBits (F := Ideal) .f32 0x358637BD#32)))) broadcasts_S256x1_S256x1024))
      (broadcastTo S256x1024 g broadcasts_S1x1024_S256x1024) (ix2 r d)
      = rms (fun q => v (ix2 r q)) (fun q => g (ix2 0 q)) d := by
  refine congrArg₂ (fun a b : EReal => v (ix2 r d) * a * b) ((column_apply _ r d).trans ?_) (gains_apply g r d)
  exact congrArg (fun s : EReal => Ideal.rsqrt (Ideal.div s (Ideal.ofBits .f32 0x44800000#32) + Ideal.ofBits .f32 0x358637BD#32)) (squares_apply v r)

/-- A group's picked rows, unpacked, at an entry. -/
theorem unpack_apply (w : IVec S256x512 32) (r : Fin 256) (d : Fin 1024) :
    concatenate S256x1024 1 [⟨S256x512, bitcastToFloat (F := Ideal) .f32 (shli w (broadcast S256x512 16#32))⟩,
        ⟨S256x512, bitcastToFloat (F := Ideal) .f32 (andi w (broadcast S256x512 4294901760#32))⟩] concatenates_S256x512_S256x512_S256x1024_d1 (ix2 r d)
      = pick (fun q => w (ix2 r q)) d := by
  have hd := d.isLt
  by_cases h : d.val < 512
  · refine (concatenate_pair_apply_left 1 _ _ concatenates_S256x512_S256x512_S256x1024_d1 (ix2 r d) rfl (ix2 r ⟨d.val, h⟩) (fun b => match b with
      | ⟨0, _⟩ => rfl
      | ⟨1, _⟩ => rfl)).trans ?_
    refine (ofBits_low (w (ix2 r ⟨d.val, h⟩))).trans ?_
    unfold pick
    rw [show (⟨d.val % 512, Nat.mod_lt _ (by decide)⟩ : Fin 512) = ⟨d.val, h⟩ from Fin.ext (Nat.mod_eq_of_lt h), show d.val / 512 * 16 = 0 by omega]
  · refine (concatenate_pair_apply_right 1 _ _ concatenates_S256x512_S256x512_S256x1024_d1 (ix2 r d) rfl rfl (ix2 r ⟨d.val - 512, by omega⟩) (fun b => match b with
      | ⟨0, _⟩ => fun _ => rfl
      | ⟨1, _⟩ => fun hb => absurd rfl hb) (by show d.val - 512 + 512 = d.val; omega)).trans ?_
    refine (ofBits_high (w (ix2 r ⟨d.val - 512, _⟩))).trans ?_
    unfold pick
    rw [show (⟨d.val % 512, Nat.mod_lt _ (by decide)⟩ : Fin 512) = ⟨d.val - 512, by omega⟩ from Fin.ext (by show d.val % 512 = d.val - 512; omega), show d.val / 512 * 16 = 16 by omega]

/-- A weight's column of a group's route block, spread over the group, at an entry. -/
theorem weight_apply (rt : FVec Ideal S256x128 .f32) (r : Fin 256) (d : Fin 1024) :
    broadcastTo S256x1024 (extractStridedSlice S256x1 ![0, 2] rt slices_S256x128_o0_2_S256x1) broadcasts_S256x1_S256x1024 (ix2 r d) = rt (ix2 r 2)
    ∧ broadcastTo S256x1024 (extractStridedSlice S256x1 ![0, 3] rt slices_S256x128_o0_3_S256x1) broadcasts_S256x1_S256x1024 (ix2 r d) = rt (ix2 r 3) := by
  refine ⟨(column_apply _ r d).trans ?_, (column_apply _ r d).trans ?_⟩
  · exact extractStridedSlice_apply ![0, 2] rt slices_S256x128_o0_2_S256x1 (ix2 r 0) (ix2 r 2) (fun a => match a with
      | ⟨0, _⟩ => (Nat.zero_add r.val).symm
      | ⟨1, _⟩ => rfl)
  · exact extractStridedSlice_apply ![0, 3] rt slices_S256x128_o0_3_S256x1 (ix2 r 0) (ix2 r 3) (fun a => match a with
      | ⟨0, _⟩ => (Nat.zero_add r.val).symm
      | ⟨1, _⟩ => rfl)

/-- A group's rows plus their picked rows, at an entry. -/
theorem mix_ideal (ya yb : IVec S256x512 32) (rt : FVec Ideal S256x128 .f32) (x : FVec Ideal S256x1024 .f32) (r : Fin 256) (d : Fin 1024) :
    k0_pay6 (F := Ideal) ya yb rt x (ix2 r d)
      = mixRow (fun q => x (ix2 r q)) (pick fun q => ya (ix2 r q)) (pick fun q => yb (ix2 r q)) (rt (ix2 r 2)) (rt (ix2 r 3)) d := by
  unfold mixRow
  rw [← unpack_apply ya r d, ← unpack_apply yb r d, ← (weight_apply rt r d).1, ← (weight_apply rt r d).2, ← add_assoc]
  rfl

/-- A group's gate product, at an entry. -/
theorem gate_ideal (g3 : FVec Ideal S1x1024 .f32) (ya yb : IVec S256x512 32) (rt : FVec Ideal S256x128 .f32) (x : FVec Ideal S256x1024 .f32)
    (wg : FVec Ideal S1024x1024 .bf16) (r : Fin 256) (d : Fin 1024) :
    k0_pay9 (F := Ideal) g3 (k0_pay6 ya yb rt x) (k0_pay7 ya yb rt x) k0_pay8 wg (ix2 r d)
      = ∑ q : Fin 1024, rms (fun q => k0_pay6 (F := Ideal) ya yb rt x (ix2 r q)) (fun q => g3 (ix2 0 q)) q * wg (ix2 q d) := by
  refine (Ideal.matmul_plain_apply (M := 256) (K := 1024) (N := 1024) none _ _ _ r d).trans ?_
  refine (congrArg (fun a : EReal => a + _) Ideal.ofBits_zero_f32).trans ((zero_add _).trans ?_)
  refine Finset.sum_congr rfl fun q _ => congrArg₂ (fun a b : EReal => a * b) ?_ ?_
  · exact norm_apply (k0_pay6 ya yb rt x) g3 r q
  · exact congrFun (reshape_same wg shapeCasts_S1024x1024_S1024x1024) (ix2 q d)

/-- A group's embedding product, at an entry. -/
theorem embed_ideal (p : FVec Ideal S256x256 .f32) (wp : FVec Ideal S256x1024 .bf16) (r : Fin 256) (d : Fin 1024) :
    k0_pay10 (F := Ideal) p wp (ix2 r d) = ∑ k : Fin 256, (p (ix2 r k) : EReal) * wp (ix2 k d) := by
  refine (Ideal.matmul_plain_apply (M := 256) (K := 256) (N := 1024) none _ _ _ r d).trans ?_
  refine (congrArg (fun a : EReal => a + _) Ideal.ofBits_zero_f32).trans ((zero_add _).trans ?_)
  refine Finset.sum_congr rfl fun q _ => congrArg₂ (fun a b : EReal => a * b) ?_ ?_
  · exact congrFun (reshape_same p shapeCasts_S256x256_S256x256) (ix2 r q)
  · exact congrFun (reshape_same wp shapeCasts_S256x1024_S256x1024) (ix2 q d)

/-- A group's row is the row of `PleRow`. -/
theorem group_ideal (g3 bg gf : FVec Ideal S1x1024 .f32) (wg : FVec Ideal S1024x1024 .bf16) (wp : FVec Ideal S256x1024 .bf16)
    (ya yb : IVec S256x512 32) (rt : FVec Ideal S256x128 .f32) (x : FVec Ideal S256x1024 .f32) (p : FVec Ideal S256x256 .f32) (r : Fin 256) (d : Fin 1024) :
    groupVal (F := Ideal) g3 bg gf wg wp ya yb rt x p (ix2 r d)
      = outRow (mixRow (fun q => x (ix2 r q)) (pick fun q => ya (ix2 r q)) (pick fun q => yb (ix2 r q)) (rt (ix2 r 2)) (rt (ix2 r 3)))
          (fun q => g3 (ix2 0 q)) (fun q k => wg (ix2 q k)) (fun q => bg (ix2 0 q)) (fun k => p (ix2 r k)) (fun k q => wp (ix2 k q))
          (fun q => gf (ix2 0 q)) d := by
  refine (norm_apply (addf (k0_pay6 ya yb rt x) (mulf (logistic (addf (k0_pay9 (k0_pay3 g3) (k0_pay6 ya yb rt x) (k0_pay7 ya yb rt x) k0_pay8 wg)
    (broadcastTo S256x1024 (k0_pay5 bg) broadcasts_S1x1024_S256x1024))) (k0_pay10 p wp))) (k0_pay4 gf) r d).trans ?_
  refine congrArg₂ (fun v g : Fin 1024 → EReal => rms v g d) (funext fun q => ?_) (funext fun q => congrFun (reshape_same gf shapeCasts_S1x1024_S1x1024) (ix2 0 q))
  have hm : (fun q => k0_pay6 (F := Ideal) ya yb rt x (ix2 r q)) = mixRow (fun q => x (ix2 r q)) (pick fun q => ya (ix2 r q)) (pick fun q => yb (ix2 r q)) (rt (ix2 r 2)) (rt (ix2 r 3)) :=
    funext fun q => mix_ideal ya yb rt x r q
  have hg : (fun q => k0_pay3 (F := Ideal) g3 (ix2 0 q)) = fun q => g3 (ix2 0 q) := funext fun q => congrFun (reshape_same g3 shapeCasts_S1x1024_S1x1024) (ix2 0 q)
  have hz := gate_ideal (k0_pay3 g3) ya yb rt x wg r q
  rw [hm, hg] at hz
  have hb : broadcastTo S256x1024 (k0_pay5 (F := Ideal) bg) broadcasts_S1x1024_S256x1024 (ix2 r q) = bg (ix2 0 q) :=
    (gains_apply _ r q).trans (congrFun (reshape_same bg shapeCasts_S1x1024_S1x1024) (ix2 0 q))
  show (k0_pay6 (F := Ideal) ya yb rt x (ix2 r q) : EReal) + Ideal.logistic (k0_pay9 (F := Ideal) (k0_pay3 g3) (k0_pay6 ya yb rt x) (k0_pay7 ya yb rt x) k0_pay8 wg (ix2 r q)
    + broadcastTo S256x1024 (k0_pay5 (F := Ideal) bg) broadcasts_S1x1024_S256x1024 (ix2 r q)) * k0_pay10 (F := Ideal) p wp (ix2 r q) = _
  rw [mix_ideal, hz, hb, embed_ideal]
  rfl

end Cert.Proof.Ple

end
-- ==== Proof.PleArray.lean ====
module

public import proofs.«01_k».proof.Proof.PleIdeal
public import proofs.«01_k».proof.Proof.Gen.Kernel2Ideal.Value
public import Idealize.ShloMosaic.Lib.Pipeline.ValueKit

@[expose] public section

set_option maxRecDepth 16384

/-! # The last call's array at the ideal reals

Grid point `t` writes the 1024 rows from row `1024 t` on, from the rows' own blocks and the whole of the gains and weights:
the array the call leaves is `outArr` of its arguments. -/

noncomputable section

namespace Cert.Proof.Ple

open Cert.Kernel2Ideal Cert.Kernel2Ideal.Gen
open Idealize.ShloMosaic hiding ix1 ix2 ix3
open Idealize.ShloMosaic.ValueIdx (ix1 ix2 ix3)
open Idealize.ShloMosaic.TcCoe
open Idealize.SL.Sem
open scoped BigOperators

/-- A row of the block from the blocks of the arguments. -/
def blockRow (x0 : FVec Ideal S1024x1024 .f32) (x1 x2 : IVec S1024x512 32) (x3 : FVec Ideal S1024x128 .f32) (x4 : FVec Ideal S1024x256 .f32)
    (x5 : FVec Ideal S1x1024 .f32) (x6 : FVec Ideal S1024x1024 .bf16) (x7 : FVec Ideal S1x1024 .f32) (x8 : FVec Ideal S256x1024 .bf16) (x9 : FVec Ideal S1x1024 .f32)
    (r d : Fin 1024) : EReal :=
  outRow (mixRow (fun q => x0 (ix2 r q)) (pick fun q => x1 (ix2 r q)) (pick fun q => x2 (ix2 r q)) (x3 (ix2 r 2)) (x3 (ix2 r 3)))
    (fun q => x5 (ix2 0 q)) (fun q k => x6 (ix2 q k)) (fun q => x7 (ix2 0 q)) (fun k => x4 (ix2 r k)) (fun k q => x8 (ix2 k q)) (fun q => x9 (ix2 0 q)) d

/-- A load of 256 rows from row `o` on, at an entry. -/
theorem ld_rows {C : Nat} {e : EltTy} (X : Vec Ideal (⟨2, ![1024, C]⟩ : Shape) e) (o : Nat) (inb) (i : Fin 256) (q : Fin C) (r : Fin 1024) (hr : r.val = o + i.val) :
    View.ld (Val := Elt Ideal) X (Rect.unit (s := (⟨2, ![1024, C]⟩ : Shape)) ![o, 0] ![256, C] inb) (ix2 i q) = X (ix2 r q) :=
  congrArg X (funext fun a => Fin.ext (match a with
    | ⟨0, _⟩ => by show o + 1 * i.val = r.val; omega
    | ⟨1, _⟩ => by show 0 + 1 * q.val = q.val; omega))

/-- A load of a whole block, at an entry. -/
theorem ld_whole {A B : Nat} {e : EltTy} (X : Vec Ideal (⟨2, ![A, B]⟩ : Shape) e) (inb) (i : Fin A) (q : Fin B) :
    View.ld (Val := Elt Ideal) X (Rect.unit (s := (⟨2, ![A, B]⟩ : Shape)) ![0, 0] ![A, B] inb) (ix2 i q) = X (ix2 i q) :=
  congrArg X (funext fun a => Fin.ext (match a with
    | ⟨0, _⟩ => by show 0 + 1 * i.val = i.val; omega
    | ⟨1, _⟩ => by show 0 + 1 * q.val = q.val; omega))

/-- A group of the block, taken from row `o` on, holds the block's rows from row `o` on. -/
theorem piece_ideal (x0 : FVec Ideal S1024x1024 .f32) (x1 x2 : IVec S1024x512 32) (x3 : FVec Ideal S1024x128 .f32) (x4 : FVec Ideal S1024x256 .f32)
    (x5 : FVec Ideal S1x1024 .f32) (x6 : FVec Ideal S1024x1024 .bf16) (x7 : FVec Ideal S1x1024 .f32) (x8 : FVec Ideal S256x1024 .bf16) (x9 : FVec Ideal S1x1024 .f32)
    (o : Nat) (i0 i1 i2 i3) (x : S256x1024.Idx) :
    groupVal (F := Ideal) (View.ld x5 r0_0) (View.ld x7 r0_0) (View.ld x9 r0_0) (View.ld x6 r0_4) (View.ld x8 r0_6)
        (View.ld (Val := Elt Ideal) (e' := .i32) x1 (Rect.unit (s := S1024x512) ![o, 0] S256x512.size i1)) (View.ld (Val := Elt Ideal) (e' := .i32) x2 (Rect.unit (s := S1024x512) ![o, 0] S256x512.size i1))
        (View.ld (Val := Elt Ideal) (e' := .f32) x3 (Rect.unit (s := S1024x128) ![o, 0] S256x128.size i2)) (View.ld (Val := Elt Ideal) (e' := .f32) x0 (Rect.unit (s := S1024x1024) ![o, 0] S256x1024.size i0))
        (View.ld (Val := Elt Ideal) (e' := .f32) x4 (Rect.unit (s := S1024x256) ![o, 0] S256x256.size i3)) x
      = (fun y : S1024x1024.Idx => blockRow x0 x1 x2 x3 x4 x5 x6 x7 x8 x9 (y 0) (y 1)) ((Rect.unit (s := S1024x1024) ![o, 0] S256x1024.size i0).emb x) := by
  have ho : o + 256 ≤ 1024 := i0 0
  have h0 : (x 0).val < 256 := (x 0).isLt
  let r : Fin 1024 := ⟨o + (x 0).val, by omega⟩
  let d : Fin 1024 := x 1
  have hy0 : (Rect.unit (s := S1024x1024) ![o, 0] S256x1024.size i0).emb x 0 = r := Fin.ext (by show o + 1 * (x 0).val = o + (x 0).val; omega)
  have hy1 : (Rect.unit (s := S1024x1024) ![o, 0] S256x1024.size i0).emb x 1 = d := Fin.ext (by show 0 + 1 * (x 1).val = (x 1).val; omega)
  show _ = blockRow x0 x1 x2 x3 x4 x5 x6 x7 x8 x9 ((Rect.unit (s := S1024x1024) ![o, 0] S256x1024.size i0).emb x 0) ((Rect.unit (s := S1024x1024) ![o, 0] S256x1024.size i0).emb x 1)
  rw [hy0, hy1, ValueIdx.eq_ix2 x]
  refine (group_ideal _ _ _ _ _ _ _ _ _ _ (x 0) (x 1)).trans ?_
  unfold blockRow
  have e1 : ∀ (w : IVec S1024x512 32), (fun q => View.ld (Val := Elt Ideal) (e' := .i32) w (Rect.unit (s := S1024x512) ![o, 0] S256x512.size i1) (ix2 (x 0) q)) = fun q => w (ix2 r q) :=
    fun w => funext fun q => ld_rows (e := .i32) w o i1 (x 0) q r rfl
  have e0 : (fun q => View.ld (Val := Elt Ideal) (e' := .f32) x0 (Rect.unit (s := S1024x1024) ![o, 0] S256x1024.size i0) (ix2 (x 0) q)) = fun q => x0 (ix2 r q) :=
    funext fun q => ld_rows (e := .f32) x0 o i0 (x 0) q r rfl
  have e3 : ∀ q, View.ld (Val := Elt Ideal) (e' := .f32) x3 (Rect.unit (s := S1024x128) ![o, 0] S256x128.size i2) (ix2 (x 0) q) = x3 (ix2 r q) :=
    fun q => ld_rows (e := .f32) x3 o i2 (x 0) q r rfl
  have e4 : (fun q => View.ld (Val := Elt Ideal) (e' := .f32) x4 (Rect.unit (s := S1024x256) ![o, 0] S256x256.size i3) (ix2 (x 0) q)) = fun q => x4 (ix2 r q) :=
    funext fun q => ld_rows (e := .f32) x4 o i3 (x 0) q r rfl
  have e5 : ∀ g : FVec Ideal S1x1024 .f32, (fun q => View.ld (Val := Elt Ideal) (e' := .f32) g r0_0 (ix2 0 q)) = fun q => g (ix2 0 q) :=
    fun g => funext fun q => ld_whole (e := .f32) g _ 0 q
  have e6 : (fun q k => View.ld (Val := Elt Ideal) (e' := .bf16) x6 r0_4 (ix2 q k)) = fun q k => x6 (ix2 q k) :=
    funext fun q => funext fun k => ld_whole (e := .bf16) x6 _ q k
  have e8 : (fun q k => View.ld (Val := Elt Ideal) (e' := .bf16) x8 r0_6 (ix2 q k)) = fun q k => x8 (ix2 q k) :=
    funext fun q => funext fun k => ld_whole (e := .bf16) x8 _ q k
  simp only [e0, e1, e3, e4, e5, e6, e8]
  rfl

/-- The block the call leaves, at an entry. -/
theorem block_ideal (x0 : FVec Ideal S1024x1024 .f32) (x1 x2 : IVec S1024x512 32) (x3 : FVec Ideal S1024x128 .f32) (x4 : FVec Ideal S1024x256 .f32)
    (x5 : FVec Ideal S1x1024 .f32) (x6 : FVec Ideal S1024x1024 .bf16) (x7 : FVec Ideal S1x1024 .f32) (x8 : FVec Ideal S256x1024 .bf16) (x9 : FVec Ideal S1x1024 .f32)
    (y : S1024x1024.Idx) :
    out0_10 (F := Ideal) x0 x1 x2 x3 x4 x5 x6 x7 x8 x9 y = blockRow x0 x1 x2 x3 x4 x5 x6 x7 x8 x9 (y 0) (y 1) := by
  rw [out_eq]
  refine View.canon_apply_of_pieces (Val := Elt Ideal) (e := .f32) (fun y : S1024x1024.Idx => blockRow x0 x1 x2 x3 x4 x5 x6 x7 x8 x9 (y 0) (y 1)) _ ?_ y (cover0_10 _ _ _ _ y)
  intro p hp
  simp only [List.mem_cons, List.not_mem_nil, or_false] at hp
  rcases hp with rfl | rfl | rfl | rfl
  · exact piece_ideal x0 x1 x2 x3 x4 x5 x6 x7 x8 x9 768 _ _ _ _
  · exact piece_ideal x0 x1 x2 x3 x4 x5 x6 x7 x8 x9 512 _ _ _ _
  · exact piece_ideal x0 x1 x2 x3 x4 x5 x6 x7 x8 x9 256 _ _ _ _
  · exact piece_ideal x0 x1 x2 x3 x4 x5 x6 x7 x8 x9 0 _ _ _ _

variable (m : (ℓ : Loc nD τ sig) → Buf (Elt Ideal) ℓ)

/-- Where each window's block sits at grid point `t`: the row blocks at `t` (the second picks' 32 blocks further on), the
gains and weights at the start. -/
theorem index_facts : ∀ t : Fin grid0.N,
    win0_0.index t = ![t.val, 0] ∧ win0_1.index t = ![t.val, 0] ∧ win0_2.index t = ![t.val + 32, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![t.val, 0] := by decide +kernel

/-- The gate gains, reshaped to a row. -/
theorem V_v1 (c : Dev nD) (q : Fin 1024) : V m c main_v1 (ix2 0 q) = m ((c : Thread nD τ).loc main_arg4) (ix1 q) := by
  entry_read
  exact shapeCast_apply _ shapeCasts_S1024_S1x1024 (ix2 0 q) (ix1 q) (by rw [Shape.rowMajor_val_two, Shape.rowMajor_val_one]; show q.val = 0 * 1024 + q.val; omega)

/-- The gate biases, reshaped to a row. -/
theorem V_v3 (c : Dev nD) (q : Fin 1024) : V m c main_v3 (ix2 0 q) = m ((c : Thread nD τ).loc main_arg6) (ix1 q) := by
  entry_read
  exact shapeCast_apply _ shapeCasts_S1024_S1x1024 (ix2 0 q) (ix1 q) (by rw [Shape.rowMajor_val_two, Shape.rowMajor_val_one]; show q.val = 0 * 1024 + q.val; omega)

/-- The last norm's gains, reshaped to a row. -/
theorem V_v5 (c : Dev nD) (q : Fin 1024) : V m c main_v5 (ix2 0 q) = m ((c : Thread nD τ).loc main_arg8) (ix1 q) := by
  entry_read
  exact shapeCast_apply _ shapeCasts_S1024_S1x1024 (ix2 0 q) (ix1 q) (by rw [Shape.rowMajor_val_two, Shape.rowMajor_val_one]; show q.val = 0 * 1024 + q.val; omega)

/-- The embeddings, the batch and the position of a row folded into one axis. -/
theorem V_v0 (c : Dev nD) (R : Fin 32768) (k : Fin 256) :
    V m c main_v0 (ix2 R k) = m ((c : Thread nD τ).loc main_arg3) (ix3 ⟨R.val / 2048, by omega⟩ ⟨R.val % 2048, by omega⟩ k) := by
  entry_read
  refine shapeCast_apply _ shapeCasts_S16x2048x256_S32768x256 (ix2 R k) (ix3 ⟨R.val / 2048, by omega⟩ ⟨R.val % 2048, by omega⟩ k) ?_
  rw [Shape.rowMajor_val_two, Shape.rowMajor_val_three]
  show (R.val / 2048 * 2048 + R.val % 2048) * 256 + k.val = R.val * 256 + k.val
  omega

/-- The gate weights: their cast changes no value. -/
theorem V_v2 (c : Dev nD) (q k : Fin 1024) : V m c main_v2 (ix2 q k) = m ((c : Thread nD τ).loc main_arg5) (ix2 q k) := by
  entry_read
  rfl

/-- The embedding's weights: their cast changes no value. -/
theorem V_v4 (c : Dev nD) (q : Fin 256) (k : Fin 1024) : V m c main_v4 (ix2 q k) = m ((c : Thread nD τ).loc main_arg7) (ix2 q k) := by
  entry_read
  rfl

/-- Row `r` of point `t`'s block, among all rows. -/
def rowAt (t : Fin grid0.N) (r : Fin 1024) : Fin 32768 := ⟨t.val * 1024 + r.val, by have : t.val < 32 := t.isLt; omega⟩

/-- The rows' block at a point. -/
theorem iblk0 (c : Dev nD) (t : Fin cfg0.N) (r q : Fin 1024) :
    iblk m c 0 t (ix2 r q) = m ((c : Thread nD τ).loc main_arg0) (ix2 (rowAt t r) q) := by
  refine Eq.trans (congrArg (V m c main_arg0) (funext fun a => Fin.ext ((win0_0.rect_emb_val t (ix2 r q) a).trans ?_))) (congrFun (V_main_arg0 m c) _)
  rw [(index_facts t).1]
  match a with
  | ⟨0, _⟩ => rfl
  | ⟨1, _⟩ => exact Nat.zero_add _

/-- The first picks' block at a point. -/
theorem iblk1 (c : Dev nD) (t : Fin cfg0.N) (r : Fin 1024) (q : Fin 512) :
    iblk m c 1 t (ix2 r q) = m ((c : Thread nD τ).loc main_arg1) (ix2 ⟨(rowAt t r).val, by omega⟩ q) := by
  refine Eq.trans (congrArg (V m c main_arg1) (funext fun a => Fin.ext ((win0_1.rect_emb_val t (ix2 r q) a).trans ?_))) (congrFun (V_main_arg1 m c) _)
  rw [(index_facts t).2.1]
  match a with
  | ⟨0, _⟩ => rfl
  | ⟨1, _⟩ => exact Nat.zero_add _

/-- The second picks' block at a point. -/
theorem iblk2 (c : Dev nD) (t : Fin cfg0.N) (r : Fin 1024) (q : Fin 512) :
    iblk m c 2 t (ix2 r q) = m ((c : Thread nD τ).loc main_arg1) (ix2 ⟨32768 + (rowAt t r).val, by omega⟩ q) := by
  refine Eq.trans (congrArg (V m c main_arg1) (funext fun a => Fin.ext ((win0_2.rect_emb_val t (ix2 r q) a).trans ?_))) (congrFun (V_main_arg1 m c) _)
  rw [(index_facts t).2.2.1]
  match a with
  | ⟨0, _⟩ => show (t.val + 32) * 1024 + r.val = 32768 + (t.val * 1024 + r.val); omega
  | ⟨1, _⟩ => exact Nat.zero_add _

/-- The router's block at a point. -/
theorem iblk3 (c : Dev nD) (t : Fin cfg0.N) (r : Fin 1024) (q : Fin 128) :
    iblk m c 3 t (ix2 r q) = m ((c : Thread nD τ).loc main_arg2) (ix2 (rowAt t r) q) := by
  refine Eq.trans (congrArg (V m c main_arg2) (funext fun a => Fin.ext ((win0_3.rect_emb_val t (ix2 r q) a).trans ?_))) (congrFun (V_main_arg2 m c) _)
  rw [(index_facts t).2.2.2.1]
  match a with
  | ⟨0, _⟩ => rfl
  | ⟨1, _⟩ => exact Nat.zero_add _

/-- The embeddings' block at a point. -/
theorem iblk4 (c : Dev nD) (t : Fin cfg0.N) (r : Fin 1024) (q : Fin 256) :
    iblk m c 4 t (ix2 r q) = m ((c : Thread nD τ).loc main_arg3) (ix3 ⟨(rowAt t r).val / 2048, by omega⟩ ⟨(rowAt t r).val % 2048, by omega⟩ q) := by
  refine Eq.trans (congrArg (V m c main_v0) (funext fun a => Fin.ext ((win0_4.rect_emb_val t (ix2 r q) a).trans ?_))) (V_v0 m c (rowAt t r) q)
  rw [(index_facts t).2.2.2.2.1]
  match a with
  | ⟨0, _⟩ => rfl
  | ⟨1, _⟩ => exact Nat.zero_add _

/-- The gate norm's gains at a point. -/
theorem iblk5 (c : Dev nD) (t : Fin cfg0.N) (q : Fin 1024) : iblk m c 5 t (ix2 0 q) = m ((c : Thread nD τ).loc main_arg4) (ix1 q) := by
  refine Eq.trans (congrArg (V m c main_v1) (funext fun a => Fin.ext ((win0_5.rect_emb_val t (ix2 0 q) a).trans ?_))) (V_v1 m c q)
  rw [(index_facts t).2.2.2.2.2.1]
  match a with
  | ⟨0, _⟩ => exact Nat.zero_add _
  | ⟨1, _⟩ => exact Nat.zero_add _

/-- The gate's weights at a point. -/
theorem iblk6 (c : Dev nD) (t : Fin cfg0.N) (q : Fin 1024) (k : Fin 1024) : iblk m c 6 t (ix2 q k) = m ((c : Thread nD τ).loc main_arg5) (ix2 q k) := by
  refine Eq.trans (congrArg (V m c main_v2) (funext fun a => Fin.ext ((win0_6.rect_emb_val t (ix2 q k) a).trans ?_))) (V_v2 m c q k)
  rw [(index_facts t).2.2.2.2.2.2.1]
  match a with
  | ⟨0, _⟩ => exact Nat.zero_add _
  | ⟨1, _⟩ => exact Nat.zero_add _

/-- The gate's biases at a point. -/
theorem iblk7 (c : Dev nD) (t : Fin cfg0.N) (q : Fin 1024) : iblk m c 7 t (ix2 0 q) = m ((c : Thread nD τ).loc main_arg6) (ix1 q) := by
  refine Eq.trans (congrArg (V m c main_v3) (funext fun a => Fin.ext ((win0_7.rect_emb_val t (ix2 0 q) a).trans ?_))) (V_v3 m c q)
  rw [(index_facts t).2.2.2.2.2.2.2.1]
  match a with
  | ⟨0, _⟩ => exact Nat.zero_add _
  | ⟨1, _⟩ => exact Nat.zero_add _

/-- The embedding's weights at a point. -/
theorem iblk8 (c : Dev nD) (t : Fin cfg0.N) (q : Fin 256) (k : Fin 1024) : iblk m c 8 t (ix2 q k) = m ((c : Thread nD τ).loc main_arg7) (ix2 q k) := by
  refine Eq.trans (congrArg (V m c main_v4) (funext fun a => Fin.ext ((win0_8.rect_emb_val t (ix2 q k) a).trans ?_))) (V_v4 m c q k)
  rw [(index_facts t).2.2.2.2.2.2.2.2.1]
  match a with
  | ⟨0, _⟩ => exact Nat.zero_add _
  | ⟨1, _⟩ => exact Nat.zero_add _

/-- The last norm's gains at a point. -/
theorem iblk9 (c : Dev nD) (t : Fin cfg0.N) (q : Fin 1024) : iblk m c 9 t (ix2 0 q) = m ((c : Thread nD τ).loc main_arg8) (ix1 q) := by
  refine Eq.trans (congrArg (V m c main_v5) (funext fun a => Fin.ext ((win0_9.rect_emb_val t (ix2 0 q) a).trans ?_))) (V_v5 m c q)
  rw [(index_facts t).2.2.2.2.2.2.2.2.2.1]
  match a with
  | ⟨0, _⟩ => exact Nat.zero_add _
  | ⟨1, _⟩ => exact Nat.zero_add _

/-- What the call leaves, row by row. -/
def leftArr (c : Dev nD) : S32768x1024.Idx → EReal := fun i =>
  outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (i 0) (i 1)

/-- A row of a point's block from the arguments. -/
theorem blockRow_eq (c : Dev nD) (t : Fin cfg0.N) (r d : Fin 1024) :
    blockRow (iblk m c 0 t) (iblk m c 1 t) (iblk m c 2 t) (iblk m c 3 t) (iblk m c 4 t) (iblk m c 5 t) (iblk m c 6 t) (iblk m c 7 t) (iblk m c 8 t) (iblk m c 9 t) r d
      = outArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (rowAt t r) d := by
  have h0 : (fun q => iblk m c 0 t (ix2 r q)) = _ := funext fun q => iblk0 m c t r q
  have h1 : (fun q => iblk m c 1 t (ix2 r q)) = _ := funext fun q => iblk1 m c t r q
  have h2 : (fun q => iblk m c 2 t (ix2 r q)) = _ := funext fun q => iblk2 m c t r q
  have h4 : (fun q => iblk m c 4 t (ix2 r q)) = _ := funext fun q => iblk4 m c t r q
  have h5 : (fun q => iblk m c 5 t (ix2 0 q)) = _ := funext fun q => iblk5 m c t q
  have h6 : (fun q k => iblk m c 6 t (ix2 q k)) = _ := funext fun q => funext fun k => iblk6 m c t q k
  have h7 : (fun q => iblk m c 7 t (ix2 0 q)) = _ := funext fun q => iblk7 m c t q
  have h8 : (fun q k => iblk m c 8 t (ix2 q k)) = _ := funext fun q => funext fun k => iblk8 m c t q k
  have h9 : (fun q => iblk m c 9 t (ix2 0 q)) = _ := funext fun q => iblk9 m c t q
  unfold blockRow outArr
  rw [h0, h1, h2, iblk3, iblk3, h4, h5, h6, h7, h8, h9]

/-- The array the call leaves is `outArr` of its arguments. -/
theorem array_ideal (c : Dev nD) : (dats m 0 c).arrAt 10 cfg0.N = leftArr m c := by
  refine (dats m 0 c).arrAt_eq_of_covers 10 (leftArr m c) (by decide +kernel) fun t hf y => ?_
  have e : ((cfg0.win 10).blk t).view.emb y = (ix2 (rowAt t (y 0)) (y 1) : S32768x1024.Idx) := funext fun a => Fin.ext ((win0_10.rect_emb_val t y a).trans (by
    rw [(index_facts t).2.2.2.2.2.2.2.2.2.2]
    match a with
    | ⟨0, _⟩ => rfl
    | ⟨1, _⟩ => exact Nat.zero_add _))
  rw [e]
  refine Eq.trans (congrFun (after0_10 m c t) y) ?_
  exact (block_ideal _ _ _ _ _ _ _ _ _ _ y).trans (blockRow_eq m c t (y 0) (y 1))

end Cert.Proof.Ple

end
-- ==== Proof.PleRef.lean ====
module

public import proofs.«01_k».proof.Proof.PleRow
public import proofs.«01_k».proof.Proof.Gen.Reference2Ideal.Read
public import Idealize.ShloMosaic.Lib.BitcastConvert

@[expose] public section

/-! # The last call's reference at the ideal reals

Each entry of the reference's result is that entry of `outArr`. -/

noncomputable section

namespace Cert.Proof.Ple

open Cert.Reference2Ideal Cert.Reference2Ideal.Gen Cert.Reference2Ideal.Read
open Idealize.ShloMosaic
open Idealize.ShloMosaic.ValueIdx (ix1 ix2 ix3)
open scoped BigOperators

/-- A picked row, its words split into their two numbers and the two halves side by side. -/
theorem ref_pick (x1 : IVec S65536x512 32) (S : Fin 65536) (d : Fin 1024) :
    val_main_v3 (F := Ideal) x1 (ix2 S d) = pick (fun q => x1 (ix2 S q)) d := by
  rw [val_main_v3_apply, val_main_v2_apply, val_main_v1_apply]
  have hd := d.isLt
  have e : idx_main_v1 (idx_main_v2 (ix2 S d)) = ix3 S ⟨d.val % 512, Nat.mod_lt _ (by decide)⟩ ⟨d.val / 512, by omega⟩ := funext fun a => Fin.ext (match a with
    | ⟨0, _⟩ => by show (S.val * 1024 + d.val) / 1024 = S.val; omega
    | ⟨1, _⟩ => by show (S.val * 1024 + d.val) % 512 = d.val % 512; omega
    | ⟨2, _⟩ => by show (S.val * 1024 + d.val) / 512 % 2 = d.val / 512; omega)
  rw [e]
  show Ideal.ofBits .bf16 (Host.bitcastConvertNarrow S65536x512x2 16 x1 splits_S65536x512_w32_S65536x512x2_w16 _) = _
  rw [Host.bitcastConvertNarrow_apply]
  refine congrArg (fun w : BitVec 32 => Ideal.ofBits .bf16 (w.extractLsb' (d.val / 512 * 16) 16)) (congrArg x1 (funext fun a => Fin.ext (match a with
    | ⟨0, _⟩ => rfl
    | ⟨1, _⟩ => rfl)))

/-- A row plus its two picked rows, each times its weight. -/
theorem ref_mix (x0 : FVec Ideal S32768x1024 .f32) (x1 : IVec S65536x512 32) (x2 : FVec Ideal S32768x128 .f32) (R : Fin 32768) (d : Fin 1024) :
    val_main_v13 (F := Ideal) x0 x1 x2 (ix2 R d)
      = mixRow (fun q => x0 (ix2 R q)) (pick fun q => x1 (ix2 ⟨R.val, by omega⟩ q)) (pick fun q => x1 (ix2 ⟨32768 + R.val, by omega⟩ q))
          (x2 (ix2 R 2)) (x2 (ix2 R 3)) d := by
  rw [val_main_v13_apply, val_main_v12_apply, val_main_v7_apply, val_main_v11_apply, val_main_v6_apply, val_main_v4_apply,
    val_main_v10_apply, val_main_v8_apply, val_main_v5_apply, val_main_v9_apply]
  have e5 : idx_main_v5 (ix2 R d) = ix2 ⟨R.val, by omega⟩ d := funext fun a => (match a with
    | ⟨0, _⟩ => rfl
    | ⟨1, _⟩ => rfl)
  have e9 : idx_main_v9 (ix2 R d) = ix2 ⟨32768 + R.val, by omega⟩ d := funext fun a => (match a with
    | ⟨0, _⟩ => rfl
    | ⟨1, _⟩ => rfl)
  have e4 : idx_main_v4 (idx_main_v6 (ix2 R d)) = ix2 R 2 := funext fun a => (match a with
    | ⟨0, _⟩ => rfl
    | ⟨1, _⟩ => rfl)
  have e8 : idx_main_v8 (idx_main_v10 (ix2 R d)) = ix2 R 3 := funext fun a => (match a with
    | ⟨0, _⟩ => rfl
    | ⟨1, _⟩ => rfl)
  rw [e5, e9, e4, e8, ref_pick, ref_pick]
  rfl

/-- The gate's norm. -/
theorem ref_norm (x0 : FVec Ideal S32768x1024 .f32) (x1 : IVec S65536x512 32) (x2 : FVec Ideal S32768x128 .f32) (x4 : FVec Ideal S1024 .f32) (R : Fin 32768) (d : Fin 1024) :
    val_main_v26 (F := Ideal) x0 x1 x2 x4 (ix2 R d) = rms (fun q => val_main_v13 (F := Ideal) x0 x1 x2 (ix2 R q)) (fun q => x4 (ix1 q)) d := by
  rw [val_main_v26_apply, val_main_v23_apply, val_main_v22_apply, val_main_v21_apply, val_main_v20_apply, val_main_v19_apply,
    val_main_v18_apply, val_main_v17_apply, val_main_v16_apply, val_main_v15_apply, val_main_v25_apply, val_main_v24_apply]
  have hz : (val_main_cst (F := Ideal)) (Shape.Idx.first h_S_) = (0 : EReal) := Ideal.ofBits_zero_f32
  rw [hz, zero_add]
  have e : ∀ k, idx_main_v15 (idx_main_v16 (idx_main_v22 (ix2 R d))) k = ix2 R k := fun k => funext fun a => (match a with
    | ⟨0, _⟩ => rfl
    | ⟨1, _⟩ => rfl)
  have eg : idx_main_v24 (idx_main_v25 (ix2 R d)) = ix1 d := funext fun a => (match a with
    | ⟨0, _⟩ => rfl)
  simp only [e, eg]
  rfl

/-- The gate. -/
theorem ref_gate (x0 : FVec Ideal S32768x1024 .f32) (x1 : IVec S65536x512 32) (x2 : FVec Ideal S32768x128 .f32) (x4 : FVec Ideal S1024 .f32)
    (x5 : FVec Ideal S1024x1024 .f32) (x6 : FVec Ideal S1024 .f32) (R : Fin 32768) (d : Fin 1024) :
    val_main_v36 (F := Ideal) x0 x1 x2 x4 x5 x6 (ix2 R d)
      = Ideal.logistic ((∑ q : Fin 1024, rms (fun q => val_main_v13 (F := Ideal) x0 x1 x2 (ix2 R q)) (fun q => x4 (ix1 q)) q * x5 (ix2 q d)) + x6 (ix1 d)) := by
  rw [val_main_v36_apply, val_main_v35_apply, val_main_v34_apply, val_main_v33_apply, val_main_v32_apply, val_main_v31_apply,
    val_main_v30_apply, val_main_v29_apply, val_main_v28_apply, val_main_v27_apply]
  have el : ∀ k, lidx_main_v27 (ix2 R d) k = ix2 R k := fun k => funext fun a => (match a with
    | ⟨0, _⟩ => rfl
    | ⟨1, _⟩ => rfl)
  have er : ∀ k, ridx_main_v27 (ix2 R d) k = ix2 k d := fun k => funext fun a => (match a with
    | ⟨0, _⟩ => rfl
    | ⟨1, _⟩ => rfl)
  have eb : idx_main_v28 (idx_main_v29 (ix2 R d)) = ix1 d := funext fun a => (match a with
    | ⟨0, _⟩ => rfl)
  simp only [el, er, eb, ref_norm]
  generalize (∑ q : Fin 1024, rms (fun q => val_main_v13 (F := Ideal) x0 x1 x2 (ix2 R q)) (fun q => x4 (ix1 q)) q * x5 (ix2 q d)) = s
  show Ideal.div (Ideal.ofBits .f32 0x3F800000#32) (Ideal.ofBits .f32 0x3F800000#32 + Ideal.exp (-(s + x6 (ix1 d)))) = _
  rw [Ideal.ofBits_one_f32]
  rfl

/-- The embedding's product. -/
theorem ref_embed (x3 : FVec Ideal S16x2048x256 .f32) (x7 : FVec Ideal S256x1024 .f32) (R : Fin 32768) (d : Fin 1024) :
    val_main_v38 (F := Ideal) x3 x7 (ix2 R d)
      = ∑ k : Fin 256, (x3 (ix3 ⟨R.val / 2048, by omega⟩ ⟨R.val % 2048, by omega⟩ k) : EReal) * x7 (ix2 k d) := by
  refine (val_main_v38_apply x3 x7 _).trans (Finset.sum_congr rfl fun k _ => ?_)
  rw [val_main_v37_apply]
  have hk := k.isLt
  refine congrArg₂ (fun a b : EReal => a * b) (congrArg x3 (funext fun a => Fin.ext (match a with
    | ⟨0, _⟩ => ?_
    | ⟨1, _⟩ => ?_
    | ⟨2, _⟩ => ?_))) (congrArg x7 (funext fun a => (match a with
    | ⟨0, _⟩ => rfl
    | ⟨1, _⟩ => rfl)))
  · show (R.val * 256 + k.val) / 524288 = R.val / 2048
    omega
  · show (R.val * 256 + k.val) / 256 % 2048 = R.val % 2048
    omega
  · show (R.val * 256 + k.val) % 256 = k.val
    omega

/-- The reference's result, at an entry. -/
theorem ref_ideal (x0 : FVec Ideal S32768x1024 .f32) (x1 : IVec S65536x512 32) (x2 : FVec Ideal S32768x128 .f32) (x3 : FVec Ideal S16x2048x256 .f32)
    (x4 : FVec Ideal S1024 .f32) (x5 : FVec Ideal S1024x1024 .f32) (x6 : FVec Ideal S1024 .f32) (x7 : FVec Ideal S256x1024 .f32) (x8 : FVec Ideal S1024 .f32)
    (R : Fin 32768) (d : Fin 1024) :
    val_main_v53 (F := Ideal) x0 x1 x2 x3 x4 x5 x6 x7 x8 (ix2 R d) = outArr x0 x1 x2 x3 x4 x5 x6 x7 x8 R d := by
  have hx : (fun q => val_main_v13 (F := Ideal) x0 x1 x2 (ix2 R q)) = mixRow (fun q => x0 (ix2 R q)) (pick fun q => x1 (ix2 ⟨R.val, by omega⟩ q))
      (pick fun q => x1 (ix2 ⟨32768 + R.val, by omega⟩ q)) (x2 (ix2 R 2)) (x2 (ix2 R 3)) := funext fun q => ref_mix x0 x1 x2 R q
  have hg : ∀ q, val_main_v40 (F := Ideal) x0 x1 x2 x3 x4 x5 x6 x7 (ix2 R q)
      = gatedRow (fun q => val_main_v13 (F := Ideal) x0 x1 x2 (ix2 R q)) (fun q => x4 (ix1 q)) (fun q k => x5 (ix2 q k)) (fun q => x6 (ix1 q))
          (fun k => x3 (ix3 ⟨R.val / 2048, by omega⟩ ⟨R.val % 2048, by omega⟩ k)) (fun k q => x7 (ix2 k q)) q := fun q => by
    rw [val_main_v40_apply, val_main_v39_apply, ref_gate, ref_embed]
    rfl
  unfold outArr outRow
  rw [← hx, ← funext hg]
  rw [val_main_v53_apply, val_main_v50_apply, val_main_v49_apply, val_main_v48_apply, val_main_v47_apply, val_main_v46_apply,
    val_main_v45_apply, val_main_v44_apply, val_main_v43_apply, val_main_v42_apply, val_main_v52_apply, val_main_v51_apply]
  have hz : (val_main_cst_4 (F := Ideal)) (Shape.Idx.first h_S_) = (0 : EReal) := Ideal.ofBits_zero_f32
  rw [hz, zero_add]
  have e : ∀ k, idx_main_v42 (idx_main_v43 (idx_main_v49 (ix2 R d))) k = ix2 R k := fun k => funext fun a => (match a with
    | ⟨0, _⟩ => rfl
    | ⟨1, _⟩ => rfl)
  have eg : idx_main_v51 (idx_main_v52 (ix2 R d)) = ix1 d := funext fun a => (match a with
    | ⟨0, _⟩ => rfl)
  simp only [e, eg, val_main_v41_apply]
  rfl

end Cert.Proof.Ple

end
-- ==== Proof.MixBitsRunA.lean ====
/- The mixers' call at the bits: the body at the first grid point: it clears the carried arrays, then computes the first tile. -/
module

public import proofs.«01_k».proof.Proof.MixBitsCases

@[expose] public section

set_option maxRecDepth 16384

noncomputable section

namespace Cert.Proof.MixBits

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 40000000 in
/-- The body at the first grid point: it clears the carried arrays, then computes the first tile: on whole buffers, the inputs' at
    their contents and the others at any, it ends with the inputs' as they were and the others at some contents. -/
theorem runA (c : Dev nD) (i : grid0.Coords) (arg1 : Memref sig .tc .vmem S1x512x1024 .f32) (harg1 : arg1.IsWhole) (arg2 : Memref sig .tc .vmem S1x512x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2048 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x2048 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x256 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x512 .i32) (harg21 : arg21.IsWhole) (arg22 : Memref sig .tc .vmem S512x128 .f32) (harg22 : arg22.IsWhole) (arg23 : Memref sig .tc .vmem S8x512 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S1x128 .f32) (harg26 : arg26.IsWhole) (arg27 : Memref sig .tc .vmem S512x1024 .f32) (harg27 : arg27.IsWhole) (hc0 : cond0_0 i) (hc1 : cond0_1 i) (hc2 : ¬cond0_2 i)
    (x0 : Vec F S1x512x1024 .f32) (x1 : Vec F S1x512x512 .bf16) (x2 : Vec F S1024x512 .bf16) (x3 : Vec F S1024x512 .bf16) (x4 : Vec F S1024x512 .bf16) (x5 : Vec F S1024x2048 .bf16) (x6 : Vec F S1x512 .f32) (x7 : Vec F S1x512 .f32) (x8 : Vec F S1x512 .f32) (x9 : Vec F S1x2048 .f32) (x10 : Vec F S1x1024 .f32) (x11 : Vec F S3x512 .f32) (x12 : Vec F S1x512 .f32) (x13 : Vec F S512x1024 .bf16) (x14 : Vec F S512x2048 .bf16) (x15 : Vec F S1024x1024 .bf16) (x16 : Vec F S1x1024 .f32) (x17 : Vec F S1024x256 .bf16) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_conv_glu_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_conv_glu_router_eq_skeleton]; unfold cc0_conv_glu_router_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

end Cert.Proof.MixBits

end
-- ==== Proof.MixBitsRunB.lean ====
/- The mixers' call at the bits: the body at a grid point between the first and the last. -/
module

public import proofs.«01_k».proof.Proof.MixBitsRunA

@[expose] public section

set_option maxRecDepth 16384

noncomputable section

namespace Cert.Proof.MixBits

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 40000000 in
/-- The body at a grid point between the first and the last: on whole buffers, the inputs' at
    their contents and the others at any, it ends with the inputs' as they were and the others at some contents. -/
theorem runB (c : Dev nD) (i : grid0.Coords) (arg1 : Memref sig .tc .vmem S1x512x1024 .f32) (harg1 : arg1.IsWhole) (arg2 : Memref sig .tc .vmem S1x512x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2048 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x2048 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x256 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x512 .i32) (harg21 : arg21.IsWhole) (arg22 : Memref sig .tc .vmem S512x128 .f32) (harg22 : arg22.IsWhole) (arg23 : Memref sig .tc .vmem S8x512 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S1x128 .f32) (harg26 : arg26.IsWhole) (arg27 : Memref sig .tc .vmem S512x1024 .f32) (harg27 : arg27.IsWhole) (hc0 : ¬cond0_0 i) (hc1 : cond0_1 i) (hc2 : ¬cond0_2 i)
    (x0 : Vec F S1x512x1024 .f32) (x1 : Vec F S1x512x512 .bf16) (x2 : Vec F S1024x512 .bf16) (x3 : Vec F S1024x512 .bf16) (x4 : Vec F S1024x512 .bf16) (x5 : Vec F S1024x2048 .bf16) (x6 : Vec F S1x512 .f32) (x7 : Vec F S1x512 .f32) (x8 : Vec F S1x512 .f32) (x9 : Vec F S1x2048 .f32) (x10 : Vec F S1x1024 .f32) (x11 : Vec F S3x512 .f32) (x12 : Vec F S1x512 .f32) (x13 : Vec F S512x1024 .bf16) (x14 : Vec F S512x2048 .bf16) (x15 : Vec F S1024x1024 .bf16) (x16 : Vec F S1x1024 .f32) (x17 : Vec F S1024x256 .bf16) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_conv_glu_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_conv_glu_router_eq_skeleton]; unfold cc0_conv_glu_router_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

end Cert.Proof.MixBits

end
-- ==== Proof.MixBitsRunC.lean ====
/- The mixers' call at the bits: the body at the last grid point, which finishes the tile before it and computes none. -/
module

public import proofs.«01_k».proof.Proof.MixBitsRunB

@[expose] public section

set_option maxRecDepth 16384

noncomputable section

namespace Cert.Proof.MixBits

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 40000000 in
/-- The body at the last grid point, which finishes the tile before it and computes none: on whole buffers, the inputs' at
    their contents and the others at any, it ends with the inputs' as they were and the others at some contents. -/
theorem runC (c : Dev nD) (i : grid0.Coords) (arg1 : Memref sig .tc .vmem S1x512x1024 .f32) (harg1 : arg1.IsWhole) (arg2 : Memref sig .tc .vmem S1x512x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2048 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x2048 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x256 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x512 .i32) (harg21 : arg21.IsWhole) (arg22 : Memref sig .tc .vmem S512x128 .f32) (harg22 : arg22.IsWhole) (arg23 : Memref sig .tc .vmem S8x512 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S1x128 .f32) (harg26 : arg26.IsWhole) (arg27 : Memref sig .tc .vmem S512x1024 .f32) (harg27 : arg27.IsWhole) (hc0 : ¬cond0_0 i) (hc1 : ¬cond0_1 i) (hc2 : cond0_2 i)
    (x0 : Vec F S1x512x1024 .f32) (x1 : Vec F S1x512x512 .bf16) (x2 : Vec F S1024x512 .bf16) (x3 : Vec F S1024x512 .bf16) (x4 : Vec F S1024x512 .bf16) (x5 : Vec F S1024x2048 .bf16) (x6 : Vec F S1x512 .f32) (x7 : Vec F S1x512 .f32) (x8 : Vec F S1x512 .f32) (x9 : Vec F S1x2048 .f32) (x10 : Vec F S1x1024 .f32) (x11 : Vec F S3x512 .f32) (x12 : Vec F S1x512 .f32) (x13 : Vec F S512x1024 .bf16) (x14 : Vec F S512x2048 .bf16) (x15 : Vec F S1024x1024 .bf16) (x16 : Vec F S1x1024 .f32) (x17 : Vec F S1024x256 .bf16) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_conv_glu_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_conv_glu_router_eq_skeleton]; unfold cc0_conv_glu_router_skel
  simp only [k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

end Cert.Proof.MixBits

end
-- ==== Proof.MixBitsFrame.lean ====
/- The mixers' call at the bits: its frame. -/
module

public import proofs.«01_k».proof.Proof.MixBitsRunC
public import Idealize.ShloMosaic.Lib.Claim

@[expose] public section

set_option maxRecDepth 16384

noncomputable section

namespace Cert.Proof.MixBits

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The windows of the five results: what they hold is not followed. -/
def forgets0 : Fin 24 → Bool := fun w => w.val == 19 || w.val == 20 || w.val == 21 || w.val == 22 || w.val == 23

/-- The arrays as the pipeline finds them, each input's buffer at its block after every point, the carried arrays at any
    contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q w := Pipeline.shareOf spec0 w
  owed _ := 0

/-- The arrays are those the pipeline finds. -/
theorem A_eq (c : Dev nD) (w : Fin cfg0.W) : (dats m 0 c).A w = V m c (Pipeline.arrRef spec0 w) := by
  dsimp only [dats]

/-- The body leaves this input's buffer at its block. -/
theorem after0_0 (c : Dev nD) (t : Fin cfg0.N) : (dats m 0 c).after 0 t = iblk m c 0 t := by dsimp only [dats]
/-- The body leaves this input's buffer at its block. -/
theorem after0_1 (c : Dev nD) (t : Fin cfg0.N) : (dats m 0 c).after 1 t = iblk m c 1 t := by dsimp only [dats]
/-- The body leaves this input's buffer at its block. -/
theorem after0_2 (c : Dev nD) (t : Fin cfg0.N) : (dats m 0 c).after 2 t = iblk m c 2 t := by dsimp only [dats]
/-- The body leaves this input's buffer at its block. -/
theorem after0_3 (c : Dev nD) (t : Fin cfg0.N) : (dats m 0 c).after 3 t = iblk m c 3 t := by dsimp only [dats]
/-- The body leaves this input's buffer at its block. -/
theorem after0_4 (c : Dev nD) (t : Fin cfg0.N) : (dats m 0 c).after 4 t = iblk m c 4 t := by dsimp only [dats]
/-- The body leaves this input's buffer at its block. -/
theorem after0_5 (c : Dev nD) (t : Fin cfg0.N) : (dats m 0 c).after 5 t = iblk m c 5 t := by dsimp only [dats]
/-- The body leaves this input's buffer at its block. -/
theorem after0_6 (c : Dev nD) (t : Fin cfg0.N) : (dats m 0 c).after 6 t = iblk m c 6 t := by dsimp only [dats]
/-- The body leaves this input's buffer at its block. -/
theorem after0_7 (c : Dev nD) (t : Fin cfg0.N) : (dats m 0 c).after 7 t = iblk m c 7 t := by dsimp only [dats]
/-- The body leaves this input's buffer at its block. -/
theorem after0_8 (c : Dev nD) (t : Fin cfg0.N) : (dats m 0 c).after 8 t = iblk m c 8 t := by dsimp only [dats]
/-- The body leaves this input's buffer at its block. -/
theorem after0_9 (c : Dev nD) (t : Fin cfg0.N) : (dats m 0 c).after 9 t = iblk m c 9 t := by dsimp only [dats]
/-- The body leaves this input's buffer at its block. -/
theorem after0_10 (c : Dev nD) (t : Fin cfg0.N) : (dats m 0 c).after 10 t = iblk m c 10 t := by dsimp only [dats]
/-- The body leaves this input's buffer at its block. -/
theorem after0_11 (c : Dev nD) (t : Fin cfg0.N) : (dats m 0 c).after 11 t = iblk m c 11 t := by dsimp only [dats]
/-- The body leaves this input's buffer at its block. -/
theorem after0_12 (c : Dev nD) (t : Fin cfg0.N) : (dats m 0 c).after 12 t = iblk m c 12 t := by dsimp only [dats]
/-- The body leaves this input's buffer at its block. -/
theorem after0_13 (c : Dev nD) (t : Fin cfg0.N) : (dats m 0 c).after 13 t = iblk m c 13 t := by dsimp only [dats]
/-- The body leaves this input's buffer at its block. -/
theorem after0_14 (c : Dev nD) (t : Fin cfg0.N) : (dats m 0 c).after 14 t = iblk m c 14 t := by dsimp only [dats]
/-- The body leaves this input's buffer at its block. -/
theorem after0_15 (c : Dev nD) (t : Fin cfg0.N) : (dats m 0 c).after 15 t = iblk m c 15 t := by dsimp only [dats]
/-- The body leaves this input's buffer at its block. -/
theorem after0_16 (c : Dev nD) (t : Fin cfg0.N) : (dats m 0 c).after 16 t = iblk m c 16 t := by dsimp only [dats]
/-- The body leaves this input's buffer at its block. -/
theorem after0_17 (c : Dev nD) (t : Fin cfg0.N) : (dats m 0 c).after 17 t = iblk m c 17 t := by dsimp only [dats]
/-- The body leaves this input's buffer at its block. -/
theorem after0_18 (c : Dev nD) (t : Fin cfg0.N) : (dats m 0 c).after 18 t = iblk m c 18 t := by dsimp only [dats]
/-- The body finds this input's buffer at its block. -/
theorem before0_0 (c : Dev nD) (t : Fin cfg0.N) (d) : (dats m 0 c).before 0 t d = iblk m c 0 t :=
  before0_0_of m (dats m 0 c) (A_eq m c 0) (after0_0 m c) t d
/-- The body finds this input's buffer at its block. -/
theorem before0_1 (c : Dev nD) (t : Fin cfg0.N) (d) : (dats m 0 c).before 1 t d = iblk m c 1 t :=
  before0_1_of m (dats m 0 c) (A_eq m c 1) (after0_1 m c) t d
/-- The body finds this input's buffer at its block. -/
theorem before0_2 (c : Dev nD) (t : Fin cfg0.N) (d) : (dats m 0 c).before 2 t d = iblk m c 2 t :=
  before0_2_of m (dats m 0 c) (A_eq m c 2) (after0_2 m c) t d
/-- The body finds this input's buffer at its block. -/
theorem before0_3 (c : Dev nD) (t : Fin cfg0.N) (d) : (dats m 0 c).before 3 t d = iblk m c 3 t :=
  before0_3_of m (dats m 0 c) (A_eq m c 3) (after0_3 m c) t d
/-- The body finds this input's buffer at its block. -/
theorem before0_4 (c : Dev nD) (t : Fin cfg0.N) (d) : (dats m 0 c).before 4 t d = iblk m c 4 t :=
  before0_4_of m (dats m 0 c) (A_eq m c 4) (after0_4 m c) t d
/-- The body finds this input's buffer at its block. -/
theorem before0_5 (c : Dev nD) (t : Fin cfg0.N) (d) : (dats m 0 c).before 5 t d = iblk m c 5 t :=
  before0_5_of m (dats m 0 c) (A_eq m c 5) (after0_5 m c) t d
/-- The body finds this input's buffer at its block. -/
theorem before0_6 (c : Dev nD) (t : Fin cfg0.N) (d) : (dats m 0 c).before 6 t d = iblk m c 6 t :=
  before0_6_of m (dats m 0 c) (A_eq m c 6) (after0_6 m c) t d
/-- The body finds this input's buffer at its block. -/
theorem before0_7 (c : Dev nD) (t : Fin cfg0.N) (d) : (dats m 0 c).before 7 t d = iblk m c 7 t :=
  before0_7_of m (dats m 0 c) (A_eq m c 7) (after0_7 m c) t d
/-- The body finds this input's buffer at its block. -/
theorem before0_8 (c : Dev nD) (t : Fin cfg0.N) (d) : (dats m 0 c).before 8 t d = iblk m c 8 t :=
  before0_8_of m (dats m 0 c) (A_eq m c 8) (after0_8 m c) t d
/-- The body finds this input's buffer at its block. -/
theorem before0_9 (c : Dev nD) (t : Fin cfg0.N) (d) : (dats m 0 c).before 9 t d = iblk m c 9 t :=
  before0_9_of m (dats m 0 c) (A_eq m c 9) (after0_9 m c) t d
/-- The body finds this input's buffer at its block. -/
theorem before0_10 (c : Dev nD) (t : Fin cfg0.N) (d) : (dats m 0 c).before 10 t d = iblk m c 10 t :=
  before0_10_of m (dats m 0 c) (A_eq m c 10) (after0_10 m c) t d
/-- The body finds this input's buffer at its block. -/
theorem before0_11 (c : Dev nD) (t : Fin cfg0.N) (d) : (dats m 0 c).before 11 t d = iblk m c 11 t :=
  before0_11_of m (dats m 0 c) (A_eq m c 11) (after0_11 m c) t d
/-- The body finds this input's buffer at its block. -/
theorem before0_12 (c : Dev nD) (t : Fin cfg0.N) (d) : (dats m 0 c).before 12 t d = iblk m c 12 t :=
  before0_12_of m (dats m 0 c) (A_eq m c 12) (after0_12 m c) t d
/-- The body finds this input's buffer at its block. -/
theorem before0_13 (c : Dev nD) (t : Fin cfg0.N) (d) : (dats m 0 c).before 13 t d = iblk m c 13 t :=
  before0_13_of m (dats m 0 c) (A_eq m c 13) (after0_13 m c) t d
/-- The body finds this input's buffer at its block. -/
theorem before0_14 (c : Dev nD) (t : Fin cfg0.N) (d) : (dats m 0 c).before 14 t d = iblk m c 14 t :=
  before0_14_of m (dats m 0 c) (A_eq m c 14) (after0_14 m c) t d
/-- The body finds this input's buffer at its block. -/
theorem before0_15 (c : Dev nD) (t : Fin cfg0.N) (d) : (dats m 0 c).before 15 t d = iblk m c 15 t :=
  before0_15_of m (dats m 0 c) (A_eq m c 15) (after0_15 m c) t d
/-- The body finds this input's buffer at its block. -/
theorem before0_16 (c : Dev nD) (t : Fin cfg0.N) (d) : (dats m 0 c).before 16 t d = iblk m c 16 t :=
  before0_16_of m (dats m 0 c) (A_eq m c 16) (after0_16 m c) t d
/-- The body finds this input's buffer at its block. -/
theorem before0_17 (c : Dev nD) (t : Fin cfg0.N) (d) : (dats m 0 c).before 17 t d = iblk m c 17 t :=
  before0_17_of m (dats m 0 c) (A_eq m c 17) (after0_17 m c) t d
/-- The body finds this input's buffer at its block. -/
theorem before0_18 (c : Dev nD) (t : Fin cfg0.N) (d) : (dats m 0 c).before 18 t d = iblk m c 18 t :=
  before0_18_of m (dats m 0 c) (A_eq m c 18) (after0_18 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

set_option maxHeartbeats 40000000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 65 := lt_of_lt_of_eq t.isLt (show cfg0.N = 65 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  by_cases h0 : t.val % 65 = 0
  · have h1 : t.val < 64 := by omega
    have h2 : ¬t.val % 65 = 64 := by omega
    iintro ⟨⟨⟨H24, H25, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (runA c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    isplitl [H25]; · iexact H25
    isplitl [H26]; · iexact H26
    iintro ⟨H0, H1, H2, H3, H4, H5, H6, H7, H8, H9, H10, H11, H12, H13, H14, H15, H16, H17, H18, H19, H20, H21, H22, H23, H24, H25, H26⟩
    isplitl [H24 H25 H26 Hg]
    · isplitl [H24 H25 H26]
      · isplitl [H24]; · iexact H24
        isplitl [H25]; · iexact H25
        iexact H26
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · by_cases h1 : t.val < 64
    · have h2 : ¬t.val % 65 = 64 := by omega
      iintro ⟨⟨⟨H24, H25, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply (runB c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexact H24
      isplitl [H25]; · iexact H25
      isplitl [H26]; · iexact H26
      iintro ⟨H0, H1, H2, H3, H4, H5, H6, H7, H8, H9, H10, H11, H12, H13, H14, H15, H16, H17, H18, H19, H20, H21, H22, H23, H24, H25, H26⟩
      isplitl [H24 H25 H26 Hg]
      · isplitl [H24 H25 H26]
        · isplitl [H24]; · iexact H24
          isplitl [H25]; · iexact H25
          iexact H26
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23
    · have h2 : t.val % 65 = 64 := by omega
      iintro ⟨⟨⟨H24, H25, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply (runC c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexact H24
      isplitl [H25]; · iexact H25
      isplitl [H26]; · iexact H26
      iintro ⟨H0, H1, H2, H3, H4, H5, H6, H7, H8, H9, H10, H11, H12, H13, H14, H15, H16, H17, H18, H19, H20, H21, H22, H23, H24, H25, H26⟩
      isplitl [H24 H25 H26 Hg]
      · isplitl [H24 H25 H26]
        · isplitl [H24]; · iexact H24
          isplitl [H25]; · iexact H25
          iexact H26
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23

/-- The body the pipeline calls is the printed one. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair execution ends, with the input arrays as they were and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => Idealize.SL.BI.Entails.refl _) (hout := fun _ => Idealize.SL.BI.Entails.refl _)

/-- Every fair execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  rframe_of m ρ (fun c => (dats m 0 c).toRForget forgets0) (A_eq m) ((θ_run defs _ _).mono (fun _ h => h.1) (run_main_quiescent m ρ))

/-- The frame: every fair execution ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Proof.MixBits

end
-- ==== Proof.MixIdealCases.lean ====
/- The mixers' call over the reals: the three kinds of grid point, the buffers its body is given, and how an end state of the
   pipeline gives the frame. -/
module

public import proofs.«01_k».proof.Proof.Gen.Kernel3Ideal.Frame
public import proofs.«01_k».proof.Proof.Gen.Kernel3Ideal.Skeleton
public import Idealize.ShloMosaic.Lib.Ring
public import Idealize.ShloMosaic.Lib.WordCmp

@[expose] public section

set_option maxRecDepth 16384

noncomputable section

namespace Cert.Proof.MixIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the grid point is the first: the carried arrays are cleared. -/
abbrev cond0_0 (i : grid0.Coords) : Prop := (Scalar.cmpi .ne (Scalar.extui (Scalar.cmpi .eq (BitVec.ofNat 32 (i 0).val) 0#32)) 0#32) = 1#1
/-- It is so at point 0 only. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-- Whether the grid point has a tile of its own. -/
abbrev cond0_1 (i : grid0.Coords) : Prop := k0_cond2 i = 1#1
/-- It is so at every point but the last. -/
theorem hcond0_1 : ∀ t : Fin cfg0.N, cond0_1 (grid0.coords t) ↔ t.val < 64 :=
  (by decide +kernel : ∀ t : Fin grid0.N, cond0_1 (grid0.coords t) ↔ t.val < 64)

/-- Whether the grid point is the last, which only finishes the tile before. -/
abbrev cond0_2 (i : grid0.Coords) : Prop := k0_cond3 i = 1#1
/-- It is so at point 64 only. -/
theorem hcond0_2 : ∀ t : Fin cfg0.N, cond0_2 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_2, k0_cond3, e0]
    word_cmp
   : ∀ t : Fin grid0.N, cond0_2 (grid0.coords t) ↔ t.val % 65 = 64)

/-- Input window 0 is used at every point. -/
theorem liveAt0_0 : ∀ t : Fin cfg0.N, cfg0.idle 0 (grid0.coords t) = false := fun _ => rfl
/-- Input window 1 is used at every point. -/
theorem liveAt0_1 : ∀ t : Fin cfg0.N, cfg0.idle 1 (grid0.coords t) = false := fun _ => rfl
/-- Input window 2 is used at every point. -/
theorem liveAt0_2 : ∀ t : Fin cfg0.N, cfg0.idle 2 (grid0.coords t) = false := fun _ => rfl
/-- Input window 3 is used at every point. -/
theorem liveAt0_3 : ∀ t : Fin cfg0.N, cfg0.idle 3 (grid0.coords t) = false := fun _ => rfl
/-- Input window 4 is used at every point. -/
theorem liveAt0_4 : ∀ t : Fin cfg0.N, cfg0.idle 4 (grid0.coords t) = false := fun _ => rfl
/-- Input window 5 is used at every point. -/
theorem liveAt0_5 : ∀ t : Fin cfg0.N, cfg0.idle 5 (grid0.coords t) = false := fun _ => rfl
/-- Input window 6 is used at every point. -/
theorem liveAt0_6 : ∀ t : Fin cfg0.N, cfg0.idle 6 (grid0.coords t) = false := fun _ => rfl
/-- Input window 7 is used at every point. -/
theorem liveAt0_7 : ∀ t : Fin cfg0.N, cfg0.idle 7 (grid0.coords t) = false := fun _ => rfl
/-- Input window 8 is used at every point. -/
theorem liveAt0_8 : ∀ t : Fin cfg0.N, cfg0.idle 8 (grid0.coords t) = false := fun _ => rfl
/-- Input window 9 is used at every point. -/
theorem liveAt0_9 : ∀ t : Fin cfg0.N, cfg0.idle 9 (grid0.coords t) = false := fun _ => rfl
/-- Input window 10 is used at every point. -/
theorem liveAt0_10 : ∀ t : Fin cfg0.N, cfg0.idle 10 (grid0.coords t) = false := fun _ => rfl
/-- Input window 11 is used at every point. -/
theorem liveAt0_11 : ∀ t : Fin cfg0.N, cfg0.idle 11 (grid0.coords t) = false := fun _ => rfl
/-- Input window 12 is used at every point. -/
theorem liveAt0_12 : ∀ t : Fin cfg0.N, cfg0.idle 12 (grid0.coords t) = false := fun _ => rfl
/-- Input window 13 is used at every point. -/
theorem liveAt0_13 : ∀ t : Fin cfg0.N, cfg0.idle 13 (grid0.coords t) = false := fun _ => rfl
/-- Input window 14 is used at every point. -/
theorem liveAt0_14 : ∀ t : Fin cfg0.N, cfg0.idle 14 (grid0.coords t) = false := fun _ => rfl
/-- Input window 15 is used at every point. -/
theorem liveAt0_15 : ∀ t : Fin cfg0.N, cfg0.idle 15 (grid0.coords t) = false := fun _ => rfl
/-- Input window 16 is used at every point. -/
theorem liveAt0_16 : ∀ t : Fin cfg0.N, cfg0.idle 16 (grid0.coords t) = false := fun _ => rfl
/-- Input window 17 is used at every point. -/
theorem liveAt0_17 : ∀ t : Fin cfg0.N, cfg0.idle 17 (grid0.coords t) = false := fun _ => rfl
/-- Input window 18 is used at every point. -/
theorem liveAt0_18 : ∀ t : Fin cfg0.N, cfg0.idle 18 (grid0.coords t) = false := fun _ => rfl

/-- The buffer of window 0 at a point. -/
abbrev ms0_0 (t : Fin cfg0.N) : Memref sig .tc .vmem S1x512x1024 .f32 := win0_0.stage (cfg0.slots t 0)
/-- It is a whole buffer. -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .vmem S1x512x512 .bf16 := win0_1.stage (cfg0.slots t 1)
/-- It is a whole buffer. -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .vmem S1024x512 .bf16 := win0_2.stage (cfg0.slots t 2)
/-- It is a whole buffer. -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .vmem S1024x512 .bf16 := win0_3.stage (cfg0.slots t 3)
/-- It is a whole buffer. -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1024x512 .bf16 := win0_4.stage (cfg0.slots t 4)
/-- It is a whole buffer. -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S1024x2048 .bf16 := win0_5.stage (cfg0.slots t 5)
/-- It is a whole buffer. -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S1x512 .f32 := win0_6.stage (cfg0.slots t 6)
/-- It is a whole buffer. -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1x512 .f32 := win0_7.stage (cfg0.slots t 7)
/-- It is a whole buffer. -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S1x512 .f32 := win0_8.stage (cfg0.slots t 8)
/-- It is a whole buffer. -/
abbrev hs0_8 (t : Fin cfg0.N) : (ms0_8 t).IsWhole := hstage0_8 ((cfg0.slots t 8).cast nbuf0_8)
/-- The buffer of window 9 at a point. -/
abbrev ms0_9 (t : Fin cfg0.N) : Memref sig .tc .vmem S1x2048 .f32 := win0_9.stage (cfg0.slots t 9)
/-- It is a whole buffer. -/
abbrev hs0_9 (t : Fin cfg0.N) : (ms0_9 t).IsWhole := hstage0_9 ((cfg0.slots t 9).cast nbuf0_9)
/-- The buffer of window 10 at a point. -/
abbrev ms0_10 (t : Fin cfg0.N) : Memref sig .tc .vmem S1x1024 .f32 := win0_10.stage (cfg0.slots t 10)
/-- It is a whole buffer. -/
abbrev hs0_10 (t : Fin cfg0.N) : (ms0_10 t).IsWhole := hstage0_10 ((cfg0.slots t 10).cast nbuf0_10)
/-- The buffer of window 11 at a point. -/
abbrev ms0_11 (t : Fin cfg0.N) : Memref sig .tc .vmem S3x512 .f32 := win0_11.stage (cfg0.slots t 11)
/-- It is a whole buffer. -/
abbrev hs0_11 (t : Fin cfg0.N) : (ms0_11 t).IsWhole := hstage0_11 ((cfg0.slots t 11).cast nbuf0_11)
/-- The buffer of window 12 at a point. -/
abbrev ms0_12 (t : Fin cfg0.N) : Memref sig .tc .vmem S1x512 .f32 := win0_12.stage (cfg0.slots t 12)
/-- It is a whole buffer. -/
abbrev hs0_12 (t : Fin cfg0.N) : (ms0_12 t).IsWhole := hstage0_12 ((cfg0.slots t 12).cast nbuf0_12)
/-- The buffer of window 13 at a point. -/
abbrev ms0_13 (t : Fin cfg0.N) : Memref sig .tc .vmem S512x1024 .bf16 := win0_13.stage (cfg0.slots t 13)
/-- It is a whole buffer. -/
abbrev hs0_13 (t : Fin cfg0.N) : (ms0_13 t).IsWhole := hstage0_13 ((cfg0.slots t 13).cast nbuf0_13)
/-- The buffer of window 14 at a point. -/
abbrev ms0_14 (t : Fin cfg0.N) : Memref sig .tc .vmem S512x2048 .bf16 := win0_14.stage (cfg0.slots t 14)
/-- It is a whole buffer. -/
abbrev hs0_14 (t : Fin cfg0.N) : (ms0_14 t).IsWhole := hstage0_14 ((cfg0.slots t 14).cast nbuf0_14)
/-- The buffer of window 15 at a point. -/
abbrev ms0_15 (t : Fin cfg0.N) : Memref sig .tc .vmem S1024x1024 .bf16 := win0_15.stage (cfg0.slots t 15)
/-- It is a whole buffer. -/
abbrev hs0_15 (t : Fin cfg0.N) : (ms0_15 t).IsWhole := hstage0_15 ((cfg0.slots t 15).cast nbuf0_15)
/-- The buffer of window 16 at a point. -/
abbrev ms0_16 (t : Fin cfg0.N) : Memref sig .tc .vmem S1x1024 .f32 := win0_16.stage (cfg0.slots t 16)
/-- It is a whole buffer. -/
abbrev hs0_16 (t : Fin cfg0.N) : (ms0_16 t).IsWhole := hstage0_16 ((cfg0.slots t 16).cast nbuf0_16)
/-- The buffer of window 17 at a point. -/
abbrev ms0_17 (t : Fin cfg0.N) : Memref sig .tc .vmem S1024x256 .bf16 := win0_17.stage (cfg0.slots t 17)
/-- It is a whole buffer. -/
abbrev hs0_17 (t : Fin cfg0.N) : (ms0_17 t).IsWhole := hstage0_17 ((cfg0.slots t 17).cast nbuf0_17)
/-- The buffer of window 18 at a point. -/
abbrev ms0_18 (t : Fin cfg0.N) : Memref sig .tc .vmem S1x128 .f32 := win0_18.stage (cfg0.slots t 18)
/-- It is a whole buffer. -/
abbrev hs0_18 (t : Fin cfg0.N) : (ms0_18 t).IsWhole := hstage0_18 ((cfg0.slots t 18).cast nbuf0_18)
/-- The buffer of window 19 at a point. -/
abbrev ms0_19 (t : Fin cfg0.N) : Memref sig .tc .vmem S512x1024 .f32 := win0_19.stage (cfg0.slots t 19)
/-- It is a whole buffer. -/
abbrev hs0_19 (t : Fin cfg0.N) : (ms0_19 t).IsWhole := hstage0_19 ((cfg0.slots t 19).cast nbuf0_19)
/-- The buffer of window 20 at a point. -/
abbrev ms0_20 (t : Fin cfg0.N) : Memref sig .tc .vmem S512x2x512 .bf16 := win0_20.stage (cfg0.slots t 20)
/-- It is a whole buffer. -/
abbrev hs0_20 (t : Fin cfg0.N) : (ms0_20 t).IsWhole := hstage0_20 ((cfg0.slots t 20).cast nbuf0_20)
/-- The buffer of window 21 at a point. -/
abbrev ms0_21 (t : Fin cfg0.N) : Memref sig .tc .vmem S512x128 .f32 := win0_21.stage (cfg0.slots t 21)
/-- It is a whole buffer. -/
abbrev hs0_21 (t : Fin cfg0.N) : (ms0_21 t).IsWhole := hstage0_21 ((cfg0.slots t 21).cast nbuf0_21)
/-- The buffer of window 22 at a point. -/
abbrev ms0_22 (t : Fin cfg0.N) : Memref sig .tc .vmem S8x512 .f32 := win0_22.stage (cfg0.slots t 22)
/-- It is a whole buffer. -/
abbrev hs0_22 (t : Fin cfg0.N) : (ms0_22 t).IsWhole := hstage0_22 ((cfg0.slots t 22).cast nbuf0_22)
/-- The buffer of window 23 at a point. -/
abbrev ms0_23 (t : Fin cfg0.N) : Memref sig .tc .vmem S1x128 .f32 := win0_23.stage (cfg0.slots t 23)
/-- It is a whole buffer. -/
abbrev hs0_23 (t : Fin cfg0.N) : (ms0_23 t).IsWhole := hstage0_23 ((cfg0.slots t 23).cast nbuf0_23)
/-- The carried array 0. -/
abbrev scM0_0 : Memref sig .tc .vmem S8x512 .f32 := Memref.whole cc0_scratch0
/-- The carried array 1. -/
abbrev scM0_1 : Memref sig .tc .vmem S1x128 .f32 := Memref.whole cc0_scratch1
/-- The carried array 2. -/
abbrev scM0_2 : Memref sig .tc .vmem S512x1024 .f32 := Memref.whole cc0_scratch2

/-- The pipeline's own part of the memory: the three carried arrays, at any contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (m : (ℓ : Loc nD τ sig) → Buf (Elt F) ℓ) (ρ : Dev nD → PrngReg)

/-- When every input array of the pipeline ends as it was, so does every argument. -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 11 rfl).trans ((hA c 11).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

end Cert.Proof.MixIdeal

end
-- ==== Proof.MixIdealVals.lean ====
/- The mixers' call over the reals: what the body stores for the mixed rows, and for the rows carried to the next grid
   point, from the blocks it loads. -/
module

public import proofs.«01_k».proof.Proof.MixIdealCases
public import Idealize.ShloMosaic.Lib.Pipeline.Value

@[expose] public section

set_option maxRecDepth 16384

noncomputable section

namespace Cert.Proof.MixIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole two-dimensional block. -/
theorem z2 : (![0, 0] : Fin 2 → ℕ) = fun _ => 0 := funext fun a => match a with
  | ⟨0, _⟩ => rfl
  | ⟨1, _⟩ => rfl

/-- The offset of a whole three-dimensional block. -/
theorem z3 : (![0, 0, 0] : Fin 3 → ℕ) = fun _ => 0 := funext fun a => match a with
  | ⟨0, _⟩ => rfl
  | ⟨1, _⟩ => rfl
  | ⟨2, _⟩ => rfl

/-- The product that is convolved, from the block of the rows, the norm's gains, and the two parts' weights and biases. -/
def convIn (x0 : Vec F S1x512x1024 .f32) (x10 : Vec F S1x1024 .f32) (x3 x4 : Vec F S1024x512 .bf16) (x7 x8 : Vec F S1x512 .f32) : FVec F S512x512 .f32 :=
  k0_pay48 (k0_pay15 x0 x10 x3 x7) (k0_pay18 (k0_pay16 x0 x10 x4) (k0_pay17 x8))

/-- The convolved part, projected: `cr` is what the point before carried. -/
def convOut (i : grid0.Coords) (cr : Vec F S8x512 .f32) (x0 : Vec F S1x512x1024 .f32) (x2 x3 x4 : Vec F S1024x512 .bf16) (x6 x7 x8 : Vec F S1x512 .f32)
    (x10 : Vec F S1x1024 .f32) (w0 w1 w2 x12 : Vec F S1x512 .f32) (x13 : Vec F S512x1024 .bf16) : FVec F S512x1024 .f32 :=
  k0_pay54 (k0_pay14 x0 x10 x2 x6) (convIn x0 x10 x3 x4 x7 x8) (iota .tc S512x512 32 [0] iota_S512x512_d0_w32)
    (k0_pay50 (BitVec.ofNat 32 (i 0).val) cr) (k0_pay51 (BitVec.ofNat 32 (i 0).val) cr) k0_pay52 w0 w1 w2 x12 x13

/-- The mixed rows, from the loaded blocks. -/
def mixLoads (i : grid0.Coords) (cr : Vec F S8x512 .f32) (x0 : Vec F S1x512x1024 .f32) (x1 : Vec F S1x512x512 .bf16) (x2 x3 x4 : Vec F S1024x512 .bf16)
    (x5 : Vec F S1024x2048 .bf16) (x6 x7 x8 : Vec F S1x512 .f32) (x9 : Vec F S1x2048 .f32) (x10 : Vec F S1x1024 .f32) (w0 w1 w2 x12 : Vec F S1x512 .f32)
    (x13 : Vec F S512x1024 .bf16) (x14 : Vec F S512x2048 .bf16) (x15 : Vec F S1024x1024 .bf16) : FVec F S512x1024 .f32 :=
  k0_pay4 (k0_pay12 x0) (k0_pay19 (k0_pay13 x0 x10) x5 x9) (convOut i cr x0 x2 x3 x4 x6 x7 x8 x10 w0 w1 w2 x12 x13)
    (k0_pay55 (k0_pay19 (k0_pay13 x0 x10) x5 x9) (k0_pay47 (k0_pay6 x1 x14))) x15

/-- The mixed rows, from the blocks. -/
def mixOut (i : grid0.Coords) (cr : Vec F S8x512 .f32) (x0 : Vec F S1x512x1024 .f32) (x1 : Vec F S1x512x512 .bf16) (x2 x3 x4 : Vec F S1024x512 .bf16)
    (x5 : Vec F S1024x2048 .bf16) (x6 x7 x8 : Vec F S1x512 .f32) (x9 : Vec F S1x2048 .f32) (x10 : Vec F S1x1024 .f32) (x11 : Vec F S3x512 .f32) (x12 : Vec F S1x512 .f32)
    (x13 : Vec F S512x1024 .bf16) (x14 : Vec F S512x2048 .bf16) (x15 : Vec F S1024x1024 .bf16) : FVec F S512x1024 .f32 :=
  mixLoads i cr
    (View.ld x0 (Rect.unit (s := S1x512x1024) ![0, 0, 0] S1x512x1024.size inb_S1x512x1024_S1x512x1024_0_0_0))
    (View.ld x1 (Rect.unit (s := S1x512x512) ![0, 0, 0] S1x512x512.size inb_S1x512x512_S1x512x512_0_0_0))
    (View.ld x2 (Rect.unit (s := S1024x512) ![0, 0] S1024x512.size inb_S1024x512_S1024x512_0_0))
    (View.ld x3 (Rect.unit (s := S1024x512) ![0, 0] S1024x512.size inb_S1024x512_S1024x512_0_0))
    (View.ld x4 (Rect.unit (s := S1024x512) ![0, 0] S1024x512.size inb_S1024x512_S1024x512_0_0))
    (View.ld x5 (Rect.unit (s := S1024x2048) ![0, 0] S1024x2048.size inb_S1024x2048_S1024x2048_0_0))
    (View.ld x6 (Rect.unit (s := S1x512) ![0, 0] S1x512.size inb_S1x512_S1x512_0_0))
    (View.ld x7 (Rect.unit (s := S1x512) ![0, 0] S1x512.size inb_S1x512_S1x512_0_0))
    (View.ld x8 (Rect.unit (s := S1x512) ![0, 0] S1x512.size inb_S1x512_S1x512_0_0))
    (View.ld x9 (Rect.unit (s := S1x2048) ![0, 0] S1x2048.size inb_S1x2048_S1x2048_0_0))
    (View.ld x10 (Rect.unit (s := S1x1024) ![0, 0] S1x1024.size inb_S1x1024_S1x1024_0_0))
    (View.ld x11 (Rect.unit (s := S3x512) ![0, 0] S1x512.size inb_S3x512_S1x512_0_0))
    (View.ld x11 (Rect.unit (s := S3x512) ![1, 0] S1x512.size inb_S3x512_S1x512_1_0))
    (View.ld x11 (Rect.unit (s := S3x512) ![2, 0] S1x512.size inb_S3x512_S1x512_2_0))
    (View.ld x12 (Rect.unit (s := S1x512) ![0, 0] S1x512.size inb_S1x512_S1x512_0_0))
    (View.ld x13 (Rect.unit (s := S512x1024) ![0, 0] S512x1024.size inb_S512x1024_S512x1024_0_0))
    (View.ld x14 (Rect.unit (s := S512x2048) ![0, 0] S512x2048.size inb_S512x2048_S512x2048_0_0))
    (View.ld x15 (Rect.unit (s := S1024x1024) ![0, 0] S1024x1024.size inb_S1024x1024_S1024x1024_0_0))

/-- The rows carried to the next grid point, from the blocks. -/
def carryOut (x0 : Vec F S1x512x1024 .f32) (x3 x4 : Vec F S1024x512 .bf16) (x7 x8 : Vec F S1x512 .f32) (x10 : Vec F S1x1024 .f32) : FVec F S8x512 .f32 :=
  k0_pay53 (convIn (View.ld x0 (Rect.unit (s := S1x512x1024) ![0, 0, 0] S1x512x1024.size inb_S1x512x1024_S1x512x1024_0_0_0))
    (View.ld x10 (Rect.unit (s := S1x1024) ![0, 0] S1x1024.size inb_S1x1024_S1x1024_0_0))
    (View.ld x3 (Rect.unit (s := S1024x512) ![0, 0] S1024x512.size inb_S1024x512_S1024x512_0_0))
    (View.ld x4 (Rect.unit (s := S1024x512) ![0, 0] S1024x512.size inb_S1024x512_S1024x512_0_0))
    (View.ld x7 (Rect.unit (s := S1x512) ![0, 0] S1x512.size inb_S1x512_S1x512_0_0))
    (View.ld x8 (Rect.unit (s := S1x512) ![0, 0] S1x512.size inb_S1x512_S1x512_0_0)))

end Cert.Proof.MixIdeal

end
-- ==== Proof.MixIdealRunA.lean ====
/- The mixers' call over the reals: the body at the first grid point: it clears the carried arrays, then computes the first tile. -/
module

public import proofs.«01_k».proof.Proof.MixIdealVals

@[expose] public section

set_option maxRecDepth 16384

noncomputable section

namespace Cert.Proof.MixIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first grid point: it clears the carried arrays, then computes the first tile: on whole buffers, the inputs' at
    their contents and the others at any, it ends with the inputs' as they were, the mixed rows and the carried rows at their values, and the others at some contents. The carried rows it reads are of no matter: `X`. -/
theorem runA (c : Dev nD) (i : grid0.Coords) (arg1 : Memref sig .tc .vmem S1x512x1024 .f32) (harg1 : arg1.IsWhole) (arg2 : Memref sig .tc .vmem S1x512x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2048 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x2048 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x256 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x2x512 .bf16) (harg21 : arg21.IsWhole) (arg22 : Memref sig .tc .vmem S512x128 .f32) (harg22 : arg22.IsWhole) (arg23 : Memref sig .tc .vmem S8x512 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S1x128 .f32) (harg26 : arg26.IsWhole) (arg27 : Memref sig .tc .vmem S512x1024 .f32) (harg27 : arg27.IsWhole) (hc0 : cond0_0 i) (hc1 : cond0_1 i) (hc2 : ¬cond0_2 i)
    (x0 : Vec F S1x512x1024 .f32) (x1 : Vec F S1x512x512 .bf16) (x2 : Vec F S1024x512 .bf16) (x3 : Vec F S1024x512 .bf16) (x4 : Vec F S1024x512 .bf16) (x5 : Vec F S1024x2048 .bf16) (x6 : Vec F S1x512 .f32) (x7 : Vec F S1x512 .f32) (x8 : Vec F S1x512 .f32) (x9 : Vec F S1x2048 .f32) (x10 : Vec F S1x1024 .f32) (x11 : Vec F S3x512 .f32) (x12 : Vec F S1x512 .f32) (x13 : Vec F S512x1024 .bf16) (x14 : Vec F S512x2048 .bf16) (x15 : Vec F S1024x1024 .bf16) (x16 : Vec F S1x1024 .f32) (x17 : Vec F S1024x256 .bf16) (x18 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ X, owns (c : Thread nD τ) arg20 fullShare (mixOut i X x0 x1 x2 x3 x4 x5 x6 x7 x8 x9 x10 x11 x12 x13 x14 x15)) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare (carryOut x0 x3 x4 x7 x8 x10) ∗ (∃ d, owns (c : Thread nD τ) arg26 fullShare d) ∗ (∃ d, owns (c : Thread nD τ) arg27 fullShare d)) -∗ K ⟨⟩))
      ⊢ wp frame (wpE (defs₀ (F := F)) Variants.none c none) E (cc0_conv_glu_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_conv_glu_router_eq_skeleton]; unfold cc0_conv_glu_router_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _, _; isplitr; swap; · iexact H19
    ipureintro
    exact (View.read_writes_eq_canon _ _ _ (fun y => ⟨_, List.mem_cons_self .., View.mem_set_unit_zero z2 inb_S512x1024_S512x1024_0_0 y⟩)).trans (View.canon_cons_unit_zero z2 _ _ _)
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _; isplitr; swap; · iexact H24
    ipureintro
    exact (View.read_writes_eq_canon _ _ _ (fun y => ⟨_, List.mem_cons_self .., View.mem_set_unit_zero z2 inb_S8x512_S8x512_0_0 y⟩)).trans (View.canon_cons_unit_zero z2 _ _ _)
  isplitl [H25]
  · iexists _, _; isplitr; swap; · iexact H25
    ipureintro; rfl
  iexists _, _; isplitr; swap; · iexact H26
  ipureintro; rfl

end Cert.Proof.MixIdeal

end
-- ==== Proof.MixIdealRunB.lean ====
/- The mixers' call over the reals: the body at a grid point between the first and the last. -/
module

public import proofs.«01_k».proof.Proof.MixIdealVals

@[expose] public section

set_option maxRecDepth 16384

noncomputable section

namespace Cert.Proof.MixIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a grid point between the first and the last: on whole buffers, the inputs' at
    their contents and the others at any, and the carried rows' at its contents, it ends with the inputs' as they were, the mixed rows and the carried rows at their values, and the others at some contents. -/
theorem runB (c : Dev nD) (i : grid0.Coords) (arg1 : Memref sig .tc .vmem S1x512x1024 .f32) (harg1 : arg1.IsWhole) (arg2 : Memref sig .tc .vmem S1x512x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2048 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x2048 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x256 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x2x512 .bf16) (harg21 : arg21.IsWhole) (arg22 : Memref sig .tc .vmem S512x128 .f32) (harg22 : arg22.IsWhole) (arg23 : Memref sig .tc .vmem S8x512 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S1x128 .f32) (harg26 : arg26.IsWhole) (arg27 : Memref sig .tc .vmem S512x1024 .f32) (harg27 : arg27.IsWhole) (hc0 : ¬cond0_0 i) (hc1 : cond0_1 i) (hc2 : ¬cond0_2 i)
    (x0 : Vec F S1x512x1024 .f32) (x1 : Vec F S1x512x512 .bf16) (x2 : Vec F S1024x512 .bf16) (x3 : Vec F S1024x512 .bf16) (x4 : Vec F S1024x512 .bf16) (x5 : Vec F S1024x2048 .bf16) (x6 : Vec F S1x512 .f32) (x7 : Vec F S1x512 .f32) (x8 : Vec F S1x512 .f32) (x9 : Vec F S1x2048 .f32) (x10 : Vec F S1x1024 .f32) (x11 : Vec F S3x512 .f32) (x12 : Vec F S1x512 .f32) (x13 : Vec F S512x1024 .bf16) (x14 : Vec F S512x2048 .bf16) (x15 : Vec F S1024x1024 .bf16) (x16 : Vec F S1x1024 .f32) (x17 : Vec F S1024x256 .bf16) (x18 : Vec F S1x128 .f32) (xs : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (mixOut i (View.ld xs (Rect.unit (s := S8x512) ![0, 0] S8x512.size inb_S8x512_S8x512_0_0)) x0 x1 x2 x3 x4 x5 x6 x7 x8 x9 x10 x11 x12 x13 x14 x15) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare (carryOut x0 x3 x4 x7 x8 x10) ∗ (∃ d, owns (c : Thread nD τ) arg26 fullShare d) ∗ (∃ d, owns (c : Thread nD τ) arg27 fullShare d)) -∗ K ⟨⟩))
      ⊢ wp frame (wpE (defs₀ (F := F)) Variants.none c none) E (cc0_conv_glu_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_conv_glu_router_eq_skeleton]; unfold cc0_conv_glu_router_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%d25, %f25, -, H25⟩, ⟨%d26, %f26, -, H26⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf24
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr; swap; · iexact H19
    ipureintro
    exact (View.read_writes_eq_canon _ _ _ (fun y => ⟨_, List.mem_cons_self .., View.mem_set_unit_zero z2 inb_S512x1024_S512x1024_0_0 y⟩)).trans (View.canon_cons_unit_zero z2 _ _ _)
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _; isplitr; swap; · iexact H24
    ipureintro
    exact (View.read_writes_eq_canon _ _ _ (fun y => ⟨_, List.mem_cons_self .., View.mem_set_unit_zero z2 inb_S8x512_S8x512_0_0 y⟩)).trans (View.canon_cons_unit_zero z2 _ _ _)
  isplitl [H25]
  · iexists _, _; isplitr; swap; · iexact H25
    ipureintro; rfl
  iexists _, _; isplitr; swap; · iexact H26
  ipureintro; rfl

end Cert.Proof.MixIdeal

end
-- ==== Proof.MixIdealRunC.lean ====
/- The mixers' call over the reals: the body at the last grid point, which finishes the tile before it and computes none. -/
module

public import proofs.«01_k».proof.Proof.MixIdealVals

@[expose] public section

set_option maxRecDepth 16384

noncomputable section

namespace Cert.Proof.MixIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the last grid point, which finishes the tile before it and computes none: on whole buffers, the inputs' at
    their contents and the others at any, and the mixed rows' at its contents, it ends with the inputs' and the mixed rows' as they were and the others at some contents. -/
theorem runC (c : Dev nD) (i : grid0.Coords) (arg1 : Memref sig .tc .vmem S1x512x1024 .f32) (harg1 : arg1.IsWhole) (arg2 : Memref sig .tc .vmem S1x512x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x2048 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x2048 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x2048 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x256 .bf16) (harg18 : arg18.IsWhole) (arg19 : Memref sig .tc .vmem S1x128 .f32) (harg19 : arg19.IsWhole) (arg20 : Memref sig .tc .vmem S512x1024 .f32) (harg20 : arg20.IsWhole) (arg21 : Memref sig .tc .vmem S512x2x512 .bf16) (harg21 : arg21.IsWhole) (arg22 : Memref sig .tc .vmem S512x128 .f32) (harg22 : arg22.IsWhole) (arg23 : Memref sig .tc .vmem S8x512 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S1x128 .f32) (harg26 : arg26.IsWhole) (arg27 : Memref sig .tc .vmem S512x1024 .f32) (harg27 : arg27.IsWhole) (hc0 : ¬cond0_0 i) (hc1 : ¬cond0_1 i) (hc2 : cond0_2 i)
    (x0 : Vec F S1x512x1024 .f32) (x1 : Vec F S1x512x512 .bf16) (x2 : Vec F S1024x512 .bf16) (x3 : Vec F S1024x512 .bf16) (x4 : Vec F S1024x512 .bf16) (x5 : Vec F S1024x2048 .bf16) (x6 : Vec F S1x512 .f32) (x7 : Vec F S1x512 .f32) (x8 : Vec F S1x512 .f32) (x9 : Vec F S1x2048 .f32) (x10 : Vec F S1x1024 .f32) (x11 : Vec F S3x512 .f32) (x12 : Vec F S1x512 .f32) (x13 : Vec F S512x1024 .bf16) (x14 : Vec F S512x2048 .bf16) (x15 : Vec F S1024x1024 .bf16) (x16 : Vec F S1x1024 .f32) (x17 : Vec F S1024x256 .bf16) (x18 : Vec F S1x128 .f32) (x19 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_conv_glu_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_conv_glu_router_eq_skeleton]; unfold cc0_conv_glu_router_skel
  simp only [k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; exact hf19
    iexact H19
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  iexists _, _; isplitr; swap; · iexact H26
  ipureintro; rfl

end Cert.Proof.MixIdeal

end
-- ==== Proof.MixIdealFrame.lean ====
/- The mixers' call over the reals: its frame, and what it leaves for the mixed rows. -/
module

public import proofs.«01_k».proof.Proof.MixIdealRunA
public import proofs.«01_k».proof.Proof.MixIdealRunB
public import proofs.«01_k».proof.Proof.MixIdealRunC
public import Idealize.ShloMosaic.Lib.Claim

@[expose] public section

set_option maxRecDepth 16384

noncomputable section

namespace Cert.Proof.MixIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the results after the first: what they hold is not followed. -/
def forgets0 : Fin 24 → Bool := fun w => w.val == 20 || w.val == 21 || w.val == 22 || w.val == 23

/-- The grid point of a number. -/
def ptN (n : ℕ) : Fin cfg0.N := ⟨n % 65, Nat.lt_of_lt_of_eq (Nat.mod_lt _ (by decide)) (show cfg0.N = 65 from N_0).symm⟩

/-- The rows the point of a number leaves to the next. -/
def carryN (c : Dev nD) (n : ℕ) : FVec F S8x512 .f32 :=
  carryOut (iblk m c 0 (ptN n)) (iblk m c 3 (ptN n)) (iblk m c 4 (ptN n)) (iblk m c 7 (ptN n)) (iblk m c 8 (ptN n)) (iblk m c 10 (ptN n))

/-- The mixed rows a point stores. -/
def mixBlk (c : Dev nD) (t : Fin cfg0.N) : FVec F S512x1024 .f32 :=
  mixOut (grid0.coords t) (carryN m c (t.val - 1)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The point whose tile the mixed rows' buffer holds: the last point stores none. -/
def ownPt (t : Fin cfg0.N) : Fin cfg0.N := ⟨min t.val 63, Nat.lt_of_le_of_lt (Nat.min_le_left _ _) t.isLt⟩

/-- The memory the body keeps between the points: from the second point to the last that has a tile, the carried rows are those
    of the point before; the counts and the tile are at any contents. -/
def carried (c : Dev nD) (n : ℕ) : sProp 𝕄 :=
  iprop(iprop((∃ d, ⌜n ≠ 0 → n < 64 → d = carryN m c (n - 1)⌝ ∗ owns (c : Thread nD τ) scM0_0 fullShare d) ∗ (∃ d, owns (c : Thread nD τ) scM0_1 fullShare d) ∗ (∃ d, owns (c : Thread nD τ) scM0_2 fullShare d)) ∗ (∃ r, prngReg c r))

/-- Before the first point nothing is asked of it. -/
theorem carried_in (c : Dev nD) : (Pipeline.ΦA spec0 c : sProp 𝕄) ⊢ carried m c 0 := by
  rw [PhiA0_eq]; unfold carried
  iintro ⟨⟨⟨%d, H0⟩, H1, H2⟩, Hg⟩
  isplitl [H0 H1 H2]
  · isplitl [H0]
    · iexists d; isplitr; · ipureintro; exact fun h => absurd rfl h
      iexact H0
    isplitl [H1]; · iexact H1
    iexact H2
  iexact Hg

/-- After any point it is the pipeline's own part of the memory. -/
theorem carried_out (c : Dev nD) (n : ℕ) : carried m c n ⊢ (Pipeline.ΦA spec0 c : sProp 𝕄) := by
  rw [PhiA0_eq]; unfold carried
  iintro ⟨⟨⟨%d, %hd, H0⟩, H1, H2⟩, Hg⟩
  isplitl [H0 H1 H2]
  · isplitl [H0]; · iexists d; iexact H0
    isplitl [H1]; · iexact H1
    iexact H2
  iexact Hg

/-- The arrays as the pipeline finds them, each input's buffer at its block after every point, the mixed rows' buffer at the rows
    stored last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => mixBlk m c (ownPt t)
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ t := carried m c t.val
  q w := Pipeline.shareOf spec0 w
  owed _ := 0

/-- The arrays are those the pipeline finds. -/
theorem A_eq (c : Dev nD) (w : Fin cfg0.W) : (dats m 0 c).A w = V m c (Pipeline.arrRef spec0 w) := by
  dsimp only [dats]

/-- The body leaves this input's buffer at its block. -/
theorem after0_0 (c : Dev nD) (t : Fin cfg0.N) : (dats m 0 c).after 0 t = iblk m c 0 t := by dsimp only [dats]
/-- The body leaves this input's buffer at its block. -/
theorem after0_1 (c : Dev nD) (t : Fin cfg0.N) : (dats m 0 c).after 1 t = iblk m c 1 t := by dsimp only [dats]
/-- The body leaves this input's buffer at its block. -/
theorem after0_2 (c : Dev nD) (t : Fin cfg0.N) : (dats m 0 c).after 2 t = iblk m c 2 t := by dsimp only [dats]
/-- The body leaves this input's buffer at its block. -/
theorem after0_3 (c : Dev nD) (t : Fin cfg0.N) : (dats m 0 c).after 3 t = iblk m c 3 t := by dsimp only [dats]
/-- The body leaves this input's buffer at its block. -/
theorem after0_4 (c : Dev nD) (t : Fin cfg0.N) : (dats m 0 c).after 4 t = iblk m c 4 t := by dsimp only [dats]
/-- The body leaves this input's buffer at its block. -/
theorem after0_5 (c : Dev nD) (t : Fin cfg0.N) : (dats m 0 c).after 5 t = iblk m c 5 t := by dsimp only [dats]
/-- The body leaves this input's buffer at its block. -/
theorem after0_6 (c : Dev nD) (t : Fin cfg0.N) : (dats m 0 c).after 6 t = iblk m c 6 t := by dsimp only [dats]
/-- The body leaves this input's buffer at its block. -/
theorem after0_7 (c : Dev nD) (t : Fin cfg0.N) : (dats m 0 c).after 7 t = iblk m c 7 t := by dsimp only [dats]
/-- The body leaves this input's buffer at its block. -/
theorem after0_8 (c : Dev nD) (t : Fin cfg0.N) : (dats m 0 c).after 8 t = iblk m c 8 t := by dsimp only [dats]
/-- The body leaves this input's buffer at its block. -/
theorem after0_9 (c : Dev nD) (t : Fin cfg0.N) : (dats m 0 c).after 9 t = iblk m c 9 t := by dsimp only [dats]
/-- The body leaves this input's buffer at its block. -/
theorem after0_10 (c : Dev nD) (t : Fin cfg0.N) : (dats m 0 c).after 10 t = iblk m c 10 t := by dsimp only [dats]
/-- The body leaves this input's buffer at its block. -/
theorem after0_11 (c : Dev nD) (t : Fin cfg0.N) : (dats m 0 c).after 11 t = iblk m c 11 t := by dsimp only [dats]
/-- The body leaves this input's buffer at its block. -/
theorem after0_12 (c : Dev nD) (t : Fin cfg0.N) : (dats m 0 c).after 12 t = iblk m c 12 t := by dsimp only [dats]
/-- The body leaves this input's buffer at its block. -/
theorem after0_13 (c : Dev nD) (t : Fin cfg0.N) : (dats m 0 c).after 13 t = iblk m c 13 t := by dsimp only [dats]
/-- The body leaves this input's buffer at its block. -/
theorem after0_14 (c : Dev nD) (t : Fin cfg0.N) : (dats m 0 c).after 14 t = iblk m c 14 t := by dsimp only [dats]
/-- The body leaves this input's buffer at its block. -/
theorem after0_15 (c : Dev nD) (t : Fin cfg0.N) : (dats m 0 c).after 15 t = iblk m c 15 t := by dsimp only [dats]
/-- The body leaves this input's buffer at its block. -/
theorem after0_16 (c : Dev nD) (t : Fin cfg0.N) : (dats m 0 c).after 16 t = iblk m c 16 t := by dsimp only [dats]
/-- The body leaves this input's buffer at its block. -/
theorem after0_17 (c : Dev nD) (t : Fin cfg0.N) : (dats m 0 c).after 17 t = iblk m c 17 t := by dsimp only [dats]
/-- The body leaves this input's buffer at its block. -/
theorem after0_18 (c : Dev nD) (t : Fin cfg0.N) : (dats m 0 c).after 18 t = iblk m c 18 t := by dsimp only [dats]
/-- The body finds this input's buffer at its block. -/
theorem before0_0 (c : Dev nD) (t : Fin cfg0.N) (d) : (dats m 0 c).before 0 t d = iblk m c 0 t :=
  before0_0_of m (dats m 0 c) (A_eq m c 0) (after0_0 m c) t d
/-- The body finds this input's buffer at its block. -/
theorem before0_1 (c : Dev nD) (t : Fin cfg0.N) (d) : (dats m 0 c).before 1 t d = iblk m c 1 t :=
  before0_1_of m (dats m 0 c) (A_eq m c 1) (after0_1 m c) t d
/-- The body finds this input's buffer at its block. -/
theorem before0_2 (c : Dev nD) (t : Fin cfg0.N) (d) : (dats m 0 c).before 2 t d = iblk m c 2 t :=
  before0_2_of m (dats m 0 c) (A_eq m c 2) (after0_2 m c) t d
/-- The body finds this input's buffer at its block. -/
theorem before0_3 (c : Dev nD) (t : Fin cfg0.N) (d) : (dats m 0 c).before 3 t d = iblk m c 3 t :=
  before0_3_of m (dats m 0 c) (A_eq m c 3) (after0_3 m c) t d
/-- The body finds this input's buffer at its block. -/
theorem before0_4 (c : Dev nD) (t : Fin cfg0.N) (d) : (dats m 0 c).before 4 t d = iblk m c 4 t :=
  before0_4_of m (dats m 0 c) (A_eq m c 4) (after0_4 m c) t d
/-- The body finds this input's buffer at its block. -/
theorem before0_5 (c : Dev nD) (t : Fin cfg0.N) (d) : (dats m 0 c).before 5 t d = iblk m c 5 t :=
  before0_5_of m (dats m 0 c) (A_eq m c 5) (after0_5 m c) t d
/-- The body finds this input's buffer at its block. -/
theorem before0_6 (c : Dev nD) (t : Fin cfg0.N) (d) : (dats m 0 c).before 6 t d = iblk m c 6 t :=
  before0_6_of m (dats m 0 c) (A_eq m c 6) (after0_6 m c) t d
/-- The body finds this input's buffer at its block. -/
theorem before0_7 (c : Dev nD) (t : Fin cfg0.N) (d) : (dats m 0 c).before 7 t d = iblk m c 7 t :=
  before0_7_of m (dats m 0 c) (A_eq m c 7) (after0_7 m c) t d
/-- The body finds this input's buffer at its block. -/
theorem before0_8 (c : Dev nD) (t : Fin cfg0.N) (d) : (dats m 0 c).before 8 t d = iblk m c 8 t :=
  before0_8_of m (dats m 0 c) (A_eq m c 8) (after0_8 m c) t d
/-- The body finds this input's buffer at its block. -/
theorem before0_9 (c : Dev nD) (t : Fin cfg0.N) (d) : (dats m 0 c).before 9 t d = iblk m c 9 t :=
  before0_9_of m (dats m 0 c) (A_eq m c 9) (after0_9 m c) t d
/-- The body finds this input's buffer at its block. -/
theorem before0_10 (c : Dev nD) (t : Fin cfg0.N) (d) : (dats m 0 c).before 10 t d = iblk m c 10 t :=
  before0_10_of m (dats m 0 c) (A_eq m c 10) (after0_10 m c) t d
/-- The body finds this input's buffer at its block. -/
theorem before0_11 (c : Dev nD) (t : Fin cfg0.N) (d) : (dats m 0 c).before 11 t d = iblk m c 11 t :=
  before0_11_of m (dats m 0 c) (A_eq m c 11) (after0_11 m c) t d
/-- The body finds this input's buffer at its block. -/
theorem before0_12 (c : Dev nD) (t : Fin cfg0.N) (d) : (dats m 0 c).before 12 t d = iblk m c 12 t :=
  before0_12_of m (dats m 0 c) (A_eq m c 12) (after0_12 m c) t d
/-- The body finds this input's buffer at its block. -/
theorem before0_13 (c : Dev nD) (t : Fin cfg0.N) (d) : (dats m 0 c).before 13 t d = iblk m c 13 t :=
  before0_13_of m (dats m 0 c) (A_eq m c 13) (after0_13 m c) t d
/-- The body finds this input's buffer at its block. -/
theorem before0_14 (c : Dev nD) (t : Fin cfg0.N) (d) : (dats m 0 c).before 14 t d = iblk m c 14 t :=
  before0_14_of m (dats m 0 c) (A_eq m c 14) (after0_14 m c) t d
/-- The body finds this input's buffer at its block. -/
theorem before0_15 (c : Dev nD) (t : Fin cfg0.N) (d) : (dats m 0 c).before 15 t d = iblk m c 15 t :=
  before0_15_of m (dats m 0 c) (A_eq m c 15) (after0_15 m c) t d
/-- The body finds this input's buffer at its block. -/
theorem before0_16 (c : Dev nD) (t : Fin cfg0.N) (d) : (dats m 0 c).before 16 t d = iblk m c 16 t :=
  before0_16_of m (dats m 0 c) (A_eq m c 16) (after0_16 m c) t d
/-- The body finds this input's buffer at its block. -/
theorem before0_17 (c : Dev nD) (t : Fin cfg0.N) (d) : (dats m 0 c).before 17 t d = iblk m c 17 t :=
  before0_17_of m (dats m 0 c) (A_eq m c 17) (after0_17 m c) t d
/-- The body finds this input's buffer at its block. -/
theorem before0_18 (c : Dev nD) (t : Fin cfg0.N) (d) : (dats m 0 c).before 18 t d = iblk m c 18 t :=
  before0_18_of m (dats m 0 c) (A_eq m c 18) (after0_18 m c) t d

/-- The body leaves the mixed rows' buffer at the rows stored last. -/
theorem after0_19 (c : Dev nD) (t : Fin cfg0.N) : (dats m 0 c).after 19 t = mixBlk m c (ownPt t) := by dsimp only [dats]

/-- A point with a tile stores its own. -/
theorem ownPt_of_lt (t : Fin cfg0.N) (h : t.val < 64) : ownPt t = t := Fin.ext (by show min t.val 63 = t.val; omega)

/-- Whether a tile is the first of its sequence. -/
def restart (arg0 : BitVec 32) : BitVec 1 :=
  let v245 : BitVec 32 := Scalar.select (Scalar.cmpi .eq 4#32 0#32) 1#32 4#32
  let v246 : BitVec 32 := Scalar.remsi arg0 v245
  Scalar.cmpi .eq (Scalar.select (Scalar.andi (Scalar.xori (Scalar.cmpi .slt v246 0#32) (Scalar.cmpi .slt v245 0#32)) (Scalar.cmpi .ne v246 0#32)) (Scalar.addi v246 v245) v246) 0#32

/-- It is so every fourth point. -/
theorem restart_iff : ∀ k : Fin 65, restart (BitVec.ofNat 32 k.val) = 1#1 ↔ k.val % 4 = 0 := by decide +kernel

/-- The rows before a tile: the carried ones, or zeros where a sequence starts. -/
theorem pay49_eq (n : ℕ) (hn : n < 65) (X : Vec F S8x512 .f32) :
    k0_pay49 (BitVec.ofNat 32 n) X = if n % 4 = 0 then broadcast S8x512 (Scalar.ofBits (F := F) .f32 0x00000000#32) else X := by
  have h := restart_iff ⟨n, hn⟩
  show (if restart (BitVec.ofNat 32 n) = 1#1 then broadcast S8x512 (Scalar.ofBits (F := F) .f32 0x00000000#32) else X) = _
  by_cases h4 : n % 4 = 0
  · rw [if_pos h4, if_pos (h.mpr h4)]
  · rw [if_neg h4, if_neg (fun e => h4 (h.mp e))]

/-- The grid coordinate of a point is its number. -/
theorem coord0 (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  omega

/-- The first point's rows, whatever the carried array held. -/
theorem mixBlk_A (c : Dev nD) (t : Fin cfg0.N) (h : t.val % 65 = 0) (X : Vec F S8x512 .f32) :
    mixOut (grid0.coords t) X (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = mixBlk m c t := by
  have ht : t.val < 65 := Nat.lt_of_lt_of_eq t.isLt N_0
  have h0 : (grid0.coords t 0).val = 0 := by rw [coord0]; omega
  have e : ∀ X : Vec F S8x512 .f32, k0_pay49 (BitVec.ofNat 32 (grid0.coords t 0).val) X = broadcast S8x512 (Scalar.ofBits (F := F) .f32 0x00000000#32) := fun X => by
    rw [h0, pay49_eq 0 (by decide), if_pos rfl]
  unfold mixBlk mixOut mixLoads convOut k0_pay50 k0_pay51
  rw [e X, e (carryN m c (t.val - 1))]

/-- A later point's rows, the carried array loaded whole. -/
theorem mixBlk_B (c : Dev nD) (t : Fin cfg0.N) :
    mixOut (grid0.coords t) (View.ld (carryN m c (t.val - 1)) (Rect.unit (s := S8x512) ![0, 0] S8x512.size inb_S8x512_S8x512_0_0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = mixBlk m c t := by
  exact congrArg (fun X : Vec F S8x512 .f32 => mixOut (grid0.coords t) X (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld_unit_zero (Val := Elt F) (e := .f32) (S := S8x512) z2 inb_S8x512_S8x512_0_0 (carryN m c (t.val - 1)))

/-- The rows a point leaves to the next. -/
theorem carryN_at (c : Dev nD) (t : Fin cfg0.N) : carryN m c t.val = carryOut (iblk m c 0 t) (iblk m c 3 t) (iblk m c 4 t) (iblk m c 7 t) (iblk m c 8 t) (iblk m c 10 t) := by
  have e : ptN t.val = t := Fin.ext (Nat.mod_eq_of_lt (Nat.lt_of_lt_of_eq t.isLt N_0))
  unfold carryN; rw [e]

/-- The last point finds the mixed rows' buffer as the point before left it. -/
theorem before0_19_C (c : Dev nD) (t : Fin cfg0.N) (h : t.val % 65 = 64) (d) : (dats m 0 c).before 19 t d = (dats m 0 c).after 19 t := by
  have hN : t.val < 65 := Nat.lt_of_lt_of_eq t.isLt N_0
  have ht : t.val ≠ 0 := by omega
  have hlt : t.val - 1 < cfg0.N := Nat.lt_of_le_of_lt (Nat.sub_le _ _) t.isLt
  have hfl : (cfg0.win 19).flush ⟨t.val - 1, hlt⟩ = false :=
    (by decide +kernel : ∀ s : Fin grid0.N, s.val = 63 → win0_19.flush s = false) ⟨t.val - 1, hlt⟩ (by show t.val - 1 = 63; omega)
  have hid : cfg0.idle 19 (grid0.coords ⟨t.val - 1, hlt⟩) = false := by
    show (!(k0_cond2 (grid0.coords ⟨t.val - 1, hlt⟩) == 1#1)) = false
    rw [(hcond0_1 ⟨t.val - 1, hlt⟩).mpr (by show t.val - 1 < 64; omega)]; rfl
  rw [(dats m 0 c).before_of_pos 19 t ht ((cfg0.win 19).fetch_out rfl t), hfl, if_neg Bool.false_ne_true]
  unfold Dat.left; rw [hid]
  show (dats m 0 c).kept 19 ⟨t.val - 1, hlt⟩ d = _
  unfold Dat.kept
  rw [Pipeline.fill_of_clip_none (cfg := cfg0) 19 _ (fun _ => rfl) d ((dats m 0 c).after 19 ⟨t.val - 1, hlt⟩), Window.fill_cut, after0_19, after0_19]
  exact congrArg (mixBlk m c) (Fin.ext (by show min (t.val - 1) 63 = min t.val 63; omega))

/-- The body leaves the mixed rows' buffer at the rows stored last, at every point. -/
theorem leaves0_19 (c : Dev nD) (t : Fin cfg0.N) :
    (dats m 0 c).leavesExact 19 t = owns (c : Thread nD τ) (ms0_19 t) fullShare ((dats m 0 c).after 19 t) := by
  by_cases h : t.val < 64
  · have hid : cfg0.idle 19 (grid0.coords t) = false := by
      show (!(k0_cond2 (grid0.coords t) == 1#1)) = false
      rw [(hcond0_1 t).mpr h]; rfl
    unfold Dat.leavesExact; rw [hid]
  · have hid : cfg0.idle 19 (grid0.coords t) = true := by
      show (!(k0_cond2 (grid0.coords t) == 1#1)) = true
      have : ¬k0_cond2 (grid0.coords t) = 1#1 := fun e => h ((hcond0_1 t).mp e)
      simp [this]
    have hfl : (cfg0.win 19).flush t = true := (by decide +kernel : ∀ s : Fin grid0.N, ¬s.val < 64 → win0_19.flush s = true) t h
    unfold Dat.leavesExact; rw [hid, hfl]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

set_option maxHeartbeats 40000000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl]
  rw [show (dats m 0 c).Φ t.succ = carried m c (t.val + 1) from rfl, show (dats m 0 c).Φ t.castSucc = carried m c t.val from rfl, leaves0_19]
  unfold carried
  have hN : t.val < 65 := lt_of_lt_of_eq t.isLt (show cfg0.N = 65 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  by_cases h0 : t.val % 65 = 0
  · have h1 : t.val < 64 := by omega
    have h2 : ¬t.val % 65 = 64 := by omega
    iintro ⟨⟨⟨⟨%cr, %hcr, H24⟩, H25, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply (runA c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexact H25
    isplitl [H26]; · iexact H26
    iintro ⟨H0, H1, H2, H3, H4, H5, H6, H7, H8, H9, H10, H11, H12, H13, H14, H15, H16, H17, H18, ⟨%X, H19⟩, H20, H21, H22, H23, H24, H25, H26⟩
    isplitl [H24 H25 H26 Hg]
    · isplitl [H24 H25 H26]
      · isplitl [H24]; · iexists _; isplitr; swap; iexact H24; ipureintro; exact fun _ _ => (carryN_at m c t).symm
        isplitl [H25]; · iexact H25
        iexact H26
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · rw [after0_19, ownPt_of_lt t h1, ← mixBlk_A m c t h0 X]; iexact H19
    isplitl [H20]; · iexact H20
    isplitl [H21]; · iexact H21
    isplitl [H22]; · iexact H22
    iexact H23
  · by_cases h1 : t.val < 64
    · have h2 : ¬t.val % 65 = 64 := by omega
      iintro ⟨⟨⟨⟨%cr, %hcr, H24⟩, H25, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply (runB c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (carryN m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · rw [← hcr (by omega) h1]; iexact H24
      isplitl [H25]; · iexact H25
      isplitl [H26]; · iexact H26
      iintro ⟨H0, H1, H2, H3, H4, H5, H6, H7, H8, H9, H10, H11, H12, H13, H14, H15, H16, H17, H18, H19, H20, H21, H22, H23, H24, H25, H26⟩
      isplitl [H24 H25 H26 Hg]
      · isplitl [H24 H25 H26]
        · isplitl [H24]; · iexists _; isplitr; swap; iexact H24; ipureintro; exact fun _ _ => (carryN_at m c t).symm
          isplitl [H25]; · iexact H25
          iexact H26
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · rw [after0_19, ownPt_of_lt t h1, ← mixBlk_B m c t]; iexact H19
      isplitl [H20]; · iexact H20
      isplitl [H21]; · iexact H21
      isplitl [H22]; · iexact H22
      iexact H23
    · have h2 : t.val % 65 = 64 := by omega
      iintro ⟨⟨⟨⟨%cr, %hcr, H24⟩, H25, H26⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
      iapply (runC c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) ((dats m 0 c).after 19 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · rw [← before0_19_C m c t h2 d19]; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexact H25
      isplitl [H26]; · iexact H26
      iintro ⟨H0, H1, H2, H3, H4, H5, H6, H7, H8, H9, H10, H11, H12, H13, H14, H15, H16, H17, H18, H19, H20, H21, H22, H23, ⟨%cs, H24⟩, H25, H26⟩
      isplitl [H24 H25 H26 Hg]
      · isplitl [H24 H25 H26]
        · isplitl [H24]; · iexists _; isplitr; swap; iexact H24; ipureintro; exact fun _ h => absurd h (by omega)
          isplitl [H25]; · iexact H25
          iexact H26
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23

/-- The body the pipeline calls is the printed one. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair execution ends, with the input arrays as they were and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun c => carried_in m c) (hout := fun c => carried_out m c _)

/-- Every fair execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  rframe_of m ρ (fun c => (dats m 0 c).toRForget forgets0) (A_eq m) ((θ_run defs _ _).mono (fun _ h => h.1) (run_main_quiescent m ρ))

/-- Every fair execution ends with the mixed rows as the points' tiles write them. -/
theorem run_rows : θ_run defs (onTc (τ := τ) (main (F := F))) ⟨m, fun _ => 0, ρ⟩ (fun r => ∀ c : Dev nD,
      r.2.mem ((c.tc : Thread nD τ).loc main_v20_0) = (dats m 0 c).arrAt 19 cfg0.N) :=
  (θ_run defs _ _).mono (fun _ h c => ((dats m 0 c).toRForget_arrAt_iff (w := 19) (fgt := forgets0) rfl _ _).mp ((h.1 c).1 19)) (run_main_quiescent m ρ)

/-- The frame: every fair execution ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Proof.MixIdeal

end
-- ==== Proof.MixRow.lean ====
module

public import proofs.«01_k».proof.Proof.PleRow

@[expose] public section

/-! # A row of the mixing call, over the extended reals

What both programs compute for one row: the norm of the row, its projections, the product of two of them convolved over the
row and the two rows before it in its sequence (zeros before the sequence's start), the gated unit on the state-space mixer's
result, and the row plus the projected sum of the two, each with its gate. -/

noncomputable section

namespace Cert.Proof.MixRow

open Idealize.ShloMosaic
open Idealize.ShloMosaic.ValueIdx (ix1 ix2 ix3)
open scoped BigOperators

/-- One projection of a row's norm: `col` the column of the weights, `b` its bias. -/
def lin (v g col : Fin 1024 → EReal) (b : EReal) : EReal := (∑ q, Ple.rms v g q * col q) + b

/-- The gated unit on a row `y` of the state-space mixer's result: `a` and `b` the columns of its two weights. -/
def glu (y a b : Fin 512 → EReal) : EReal := (∑ k, y k * a k) * Ideal.logistic (∑ k, y k * b k)

/-- The convolution of three products, the earliest first. -/
def conv (c0 c1 c2 b p2 p1 p0 : EReal) : EReal := ((c0 * p2 + c1 * p1) + c2 * p0) + b

/-- An entry of the mixed row: `ga` and `gb` the gates before their logistic, `col` the column of the last projection. -/
def mixed (x : EReal) (ga gb ya yb col : Fin 1024 → EReal) : EReal :=
  x + ∑ q, (Ideal.logistic (ga q) * ya q + Ideal.logistic (gb q) * yb q) * col q

variable (x : (⟨3, ![16, 2048, 1024]⟩ : Shape).Idx → EReal) (ys : (⟨3, ![16, 2048, 512]⟩ : Shape).Idx → EReal)
  (g : (⟨1, ![1024]⟩ : Shape).Idx → EReal) (w : (⟨2, ![1024, 4096]⟩ : Shape).Idx → EReal) (b : (⟨1, ![4096]⟩ : Shape).Idx → EReal)
  (cw : (⟨2, ![3, 512]⟩ : Shape).Idx → EReal) (cb : (⟨1, ![512]⟩ : Shape).Idx → EReal)
  (wc wa wb : (⟨2, ![512, 1024]⟩ : Shape).Idx → EReal) (wo : (⟨2, ![1024, 1024]⟩ : Shape).Idx → EReal)

/-- Projection `n` of row `S` of sequence `B`. -/
def linAt (B : Fin 16) (S : Fin 2048) (n : Fin 4096) : EReal :=
  lin (fun q => x (ix3 B S q)) (fun q => g (ix1 q)) (fun q => w (ix2 q n)) (b (ix1 n))

/-- The product that is convolved. -/
def prodAt (B : Fin 16) (S : Fin 2048) (k : Fin 512) : EReal :=
  linAt x g w b B S ⟨1024 + k.val, by omega⟩ * linAt x g w b B S ⟨1536 + k.val, by omega⟩

/-- The product `j` rows before, zero before the sequence's start. -/
def back (j : ℕ) (B : Fin 16) (S : Fin 2048) (k : Fin 512) : EReal :=
  if j ≤ S.val then prodAt x g w b B ⟨S.val - j, by omega⟩ k else 0

/-- The convolved product. -/
def convAt (B : Fin 16) (S : Fin 2048) (k : Fin 512) : EReal :=
  conv (cw (ix2 0 k)) (cw (ix2 1 k)) (cw (ix2 2 k)) (cb (ix1 k)) (back x g w b 2 B S k) (back x g w b 1 B S k) (prodAt x g w b B S k)

/-- Entry `d` of the mixed row. -/
def mixedAt (B : Fin 16) (S : Fin 2048) (d : Fin 1024) : EReal :=
  mixed (x (ix3 B S d)) (fun q => linAt x g w b B S ⟨2048 + q.val, by omega⟩) (fun q => linAt x g w b B S ⟨3072 + q.val, by omega⟩)
    (fun q => glu (fun k => ys (ix3 B S k)) (fun k => wa (ix2 k q)) (fun k => wb (ix2 k q)))
    (fun q => ∑ k : Fin 512, (linAt x g w b B S ⟨512 + k.val, by omega⟩ * convAt x g w b cw cb B S k) * wc (ix2 k q))
    (fun q => wo (ix2 q d))

/-- The mixed rows, the sequence and the position folded into one axis. -/
def outArr (R : Fin 32768) (d : Fin 1024) : EReal :=
  mixedAt x ys g w b cw cb wc wa wb wo ⟨R.val / 2048, by omega⟩ ⟨R.val % 2048, by omega⟩ d

end Cert.Proof.MixRow

end
-- ==== Proof.MixBlock.lean ====
module

public import proofs.«01_k».proof.Proof.MixRow
public import proofs.«01_k».proof.Proof.MixIdealVals
public import Idealize.ShloMosaic.Lib.MatmulPlain
public import Idealize.ShloMosaic.Lib.Pipeline.Value
public import Idealize.ShloMosaic.Lib.Pointwise.Reduce
public import Idealize.ShloMosaic.Lib.KernelVsHost

@[expose] public section

set_option maxRecDepth 16384

/-! # The mixing call's block at the ideal reals

A grid point mixes 512 rows. At the ideal reals a row of its block is the row of `MixRow`, the products before the block's
first row taken from the rows carried over. -/

noncomputable section

namespace Cert.Proof.MixRow

open Cert.Kernel3Ideal Cert.Kernel3Ideal.Gen Cert.Proof.MixIdeal
open Idealize.ShloMosaic hiding ix1 ix2 ix3
open Idealize.ShloMosaic.ValueIdx (ix1 ix2 ix3)
open Idealize.ShloMosaic.TcCoe
open scoped BigOperators

/-- A reshape to the same shape changes nothing. -/
theorem reshape_same {α : Type} {s : Shape} (x : s.Idx → α) (h : s.ShapeCasts s) : shapeCast s x h = x :=
  funext fun i => shapeCast_apply x h i i rfl

/-- A row spread over the block, at an entry. -/
theorem row512 (g : FVec Ideal S1x512 .f32) (r k : Fin 512) : broadcastTo S512x512 g broadcasts_S1x512_S512x512 (ix2 r k) = g (ix2 0 k) :=
  broadcastTo_apply g broadcasts_S1x512_S512x512 (ix2 r k) (ix2 0 k) (fun a => match a with
    | ⟨0, _⟩ => rfl
    | ⟨1, _⟩ => rfl)

/-- A row spread over the block, at an entry. -/
theorem row1024 (g : FVec Ideal S1x1024 .f32) (r : Fin 512) (k : Fin 1024) : broadcastTo S512x1024 g broadcasts_S1x1024_S512x1024 (ix2 r k) = g (ix2 0 k) :=
  broadcastTo_apply g broadcasts_S1x1024_S512x1024 (ix2 r k) (ix2 0 k) (fun a => match a with
    | ⟨0, _⟩ => rfl
    | ⟨1, _⟩ => rfl)

/-- A row spread over the block, at an entry. -/
theorem row2048 (g : FVec Ideal S1x2048 .f32) (r : Fin 512) (k : Fin 2048) : broadcastTo S512x2048 g broadcasts_S1x2048_S512x2048 (ix2 r k) = g (ix2 0 k) :=
  broadcastTo_apply g broadcasts_S1x2048_S512x2048 (ix2 r k) (ix2 0 k) (fun a => match a with
    | ⟨0, _⟩ => rfl
    | ⟨1, _⟩ => rfl)

/-- A column spread over the block, at an entry. -/
theorem column_apply (g : FVec Ideal S512x1 .f32) (r : Fin 512) (d : Fin 1024) : broadcastTo S512x1024 g broadcasts_S512x1_S512x1024 (ix2 r d) = g (ix2 r 0) :=
  broadcastTo_apply g broadcasts_S512x1_S512x1024 (ix2 r d) (ix2 r 0) (fun a => match a with
    | ⟨0, _⟩ => rfl
    | ⟨1, _⟩ => rfl)

/-- The sum of a row's squares, as a column. -/
theorem squares_apply (v : FVec Ideal S512x1024 .f32) (r : Fin 512) :
    shapeCast S512x1 (multiReduction .add [1] S512 (mulf v v) 0x00000000#32 reduces_S512x1024_S512 (.inl rfl) rfl) shapeCasts_S512_S512x1 (ix2 r 0)
      = ∑ q : Fin 1024, (v (ix2 r q) : EReal) * v (ix2 r q) := by
  refine (shapeCast_apply _ shapeCasts_S512_S512x1 (ix2 r 0) (ix1 r) ?_).trans ?_
  · rw [Shape.rowMajor_val_two, Shape.rowMajor_val_one]
    show r.val = r.val * 1 + 0
    omega
  · exact Ideal.reduceAdd_r2_a1 reduces_S512x1024_S512 (mulf v v) (ix1 r)

/-- The block's norm, at an entry. -/
theorem norm_apply (v : FVec Ideal S512x1024 .f32) (g : FVec Ideal S1x1024 .f32) (r : Fin 512) (d : Fin 1024) :
    mulf (mulf v (broadcastTo S512x1024 (rsqrt (addf (divf (shapeCast S512x1 (multiReduction .add [1] S512 (mulf v v) 0x00000000#32 reduces_S512x1024_S512 (.inl rfl) rfl) shapeCasts_S512_S512x1)
        (broadcast S512x1 (Scalar.ofBits (F := Ideal) .f32 0x44800000#32))) (broadcast S512x1 (Scalar.ofBits (F := Ideal) .f32 0x358637BD#32)))) broadcasts_S512x1_S512x1024))
      (broadcastTo S512x1024 g broadcasts_S1x1024_S512x1024) (ix2 r d)
      = Ple.rms (fun q => v (ix2 r q)) (fun q => g (ix2 0 q)) d := by
  refine congrArg₂ (fun a b : EReal => v (ix2 r d) * a * b) ((column_apply _ r d).trans ?_) (row1024 g r d)
  exact congrArg (fun s : EReal => Ideal.rsqrt (Ideal.div s (Ideal.ofBits .f32 0x44800000#32) + Ideal.ofBits .f32 0x358637BD#32)) (squares_apply v r)

section

variable (x0 : FVec Ideal S1x512x1024 .f32) (x10 : FVec Ideal S1x1024 .f32)

/-- The rows' block without its leading axis. -/
theorem rows_apply (r : Fin 512) (q : Fin 1024) : k0_pay12 (F := Ideal) x0 (ix2 r q) = x0 (ix3 0 r q) :=
  shapeCast_apply x0 shapeCasts_S1x512x1024_S512x1024 (ix2 r q) (ix3 0 r q) (by
    rw [Shape.rowMajor_val_two, Shape.rowMajor_val_three]
    show (0 * 512 + r.val) * 1024 + q.val = r.val * 1024 + q.val
    omega)

/-- The norm of the rows' block, at an entry. -/
theorem normed_apply (r : Fin 512) (q : Fin 1024) :
    k0_pay13 (F := Ideal) x0 x10 (ix2 r q) = Ple.rms (fun q => x0 (ix3 0 r q)) (fun q => x10 (ix2 0 q)) q := by
  refine (norm_apply (k0_pay12 (F := Ideal) x0) (shapeCast S1x1024 x10 shapeCasts_S1x1024_S1x1024) r q).trans ?_
  rw [reshape_same x10, show (fun q => k0_pay12 (F := Ideal) x0 (ix2 r q)) = fun q => x0 (ix3 0 r q) from funext fun q => rows_apply x0 r q]

/-- A projection to 512 columns, at an entry. -/
theorem lin512 (w : FVec Ideal S1024x512 .bf16) (b : FVec Ideal S1x512 .f32) (r k : Fin 512) :
    k0_pay14 (F := Ideal) x0 x10 w b (ix2 r k) = lin (fun q => x0 (ix3 0 r q)) (fun q => x10 (ix2 0 q)) (fun q => w (ix2 q k)) (b (ix2 0 k)) := by
  refine congrArg₂ (fun a b : EReal => a + b) ?_ ((row512 _ r k).trans (congrFun (reshape_same b shapeCasts_S1x512_S1x512) (ix2 0 k)))
  refine (Ideal.matmul_plain_apply (M := 512) (K := 1024) (N := 512) none _ _ _ r k).trans ?_
  refine (congrArg (fun a : EReal => a + _) Ideal.ofBits_zero_f32).trans ((zero_add _).trans ?_)
  exact Finset.sum_congr rfl fun q _ => congrArg₂ (fun a b : EReal => a * b) (normed_apply x0 x10 r q) (congrFun (reshape_same w shapeCasts_S1024x512_S1024x512) (ix2 q k))

/-- A projection to 2048 columns, at an entry. -/
theorem lin2048 (w : FVec Ideal S1024x2048 .bf16) (b : FVec Ideal S1x2048 .f32) (r : Fin 512) (k : Fin 2048) :
    k0_pay19 (F := Ideal) (k0_pay13 x0 x10) w b (ix2 r k) = lin (fun q => x0 (ix3 0 r q)) (fun q => x10 (ix2 0 q)) (fun q => w (ix2 q k)) (b (ix2 0 k)) := by
  refine congrArg₂ (fun a b : EReal => a + b) ?_ ((row2048 _ r k).trans (congrFun (reshape_same b shapeCasts_S1x2048_S1x2048) (ix2 0 k)))
  refine (Ideal.matmul_plain_apply (M := 512) (K := 1024) (N := 2048) none _ _ _ r k).trans ?_
  refine (congrArg (fun a : EReal => a + _) Ideal.ofBits_zero_f32).trans ((zero_add _).trans ?_)
  exact Finset.sum_congr rfl fun q _ => congrArg₂ (fun a b : EReal => a * b) (normed_apply x0 x10 r q) (congrFun (reshape_same w shapeCasts_S1024x2048_S1024x2048) (ix2 q k))

/-- The product that is convolved, at an entry. -/
theorem convIn_apply (x3 x4 : FVec Ideal S1024x512 .bf16) (x7 x8 : FVec Ideal S1x512 .f32) (r k : Fin 512) :
    convIn (F := Ideal) x0 x10 x3 x4 x7 x8 (ix2 r k)
      = lin (fun q => x0 (ix3 0 r q)) (fun q => x10 (ix2 0 q)) (fun q => x3 (ix2 q k)) (x7 (ix2 0 k))
        * lin (fun q => x0 (ix3 0 r q)) (fun q => x10 (ix2 0 q)) (fun q => x4 (ix2 q k)) (x8 (ix2 0 k)) :=
  congrArg₂ (fun a b : EReal => a * b) (lin512 x0 x10 x3 x7 r k) (lin512 x0 x10 x4 x8 r k)

end

/-- The left and the right half of a block of 2048 columns. -/
theorem halves {α : Type} (v : S512x2048.Idx → α) (r : Fin 512) (q : Fin 1024) :
    extractStridedSlice S512x1024 ![0, 0] v slices_S512x2048_o0_0_S512x1024 (ix2 r q) = v (ix2 r ⟨q.val, by omega⟩)
    ∧ extractStridedSlice S512x1024 ![0, 1024] v slices_S512x2048_o0_1024_S512x1024 (ix2 r q) = v (ix2 r ⟨1024 + q.val, by omega⟩) :=
  ⟨extractStridedSlice_apply ![0, 0] v slices_S512x2048_o0_0_S512x1024 (ix2 r q) (ix2 r ⟨q.val, by omega⟩) (fun a => match a with
      | ⟨0, _⟩ => (Nat.zero_add r.val).symm
      | ⟨1, _⟩ => (Nat.zero_add q.val).symm),
    extractStridedSlice_apply ![0, 1024] v slices_S512x2048_o0_1024_S512x1024 (ix2 r q) (ix2 r ⟨1024 + q.val, by omega⟩) (fun a => match a with
      | ⟨0, _⟩ => (Nat.zero_add r.val).symm
      | ⟨1, _⟩ => rfl)⟩

/-- The two products of the gated unit, side by side, at an entry. -/
theorem glu_dot (x1 : FVec Ideal S1x512x512 .bf16) (w : FVec Ideal S512x2048 .bf16) (r : Fin 512) (n : Fin 2048) :
    k0_pay6 (F := Ideal) x1 w (ix2 r n) = ∑ k : Fin 512, (x1 (ix3 0 r k) : EReal) * w (ix2 k n) := by
  refine (Ideal.matmul_plain_apply (M := 512) (K := 512) (N := 2048) none _ _ _ r n).trans ?_
  refine (congrArg (fun a : EReal => a + _) Ideal.ofBits_zero_f32).trans ((zero_add _).trans ?_)
  refine Finset.sum_congr rfl fun k _ => congrArg₂ (fun a b : EReal => a * b) ?_ (congrFun (reshape_same w shapeCasts_S512x2048_S512x2048) (ix2 k n))
  exact shapeCast_apply x1 shapeCasts_S1x512x512_S512x512 (ix2 r k) (ix3 0 r k) (by
    rw [Shape.rowMajor_val_two, Shape.rowMajor_val_three]
    show (0 * 512 + r.val) * 512 + k.val = r.val * 512 + k.val
    omega)

/-- The gated unit, at an entry. -/
theorem glu_apply (x1 : FVec Ideal S1x512x512 .bf16) (w : FVec Ideal S512x2048 .bf16) (r : Fin 512) (q : Fin 1024) :
    k0_pay47 (F := Ideal) (k0_pay6 x1 w) (ix2 r q)
      = glu (fun k => x1 (ix3 0 r k)) (fun k => w (ix2 k ⟨q.val, by omega⟩)) (fun k => w (ix2 k ⟨1024 + q.val, by omega⟩)) :=
  congrArg₂ (fun a b : EReal => a * Ideal.logistic b) ((halves _ r q).1.trans (glu_dot x1 w r _)) ((halves _ r q).2.trans (glu_dot x1 w r _))

/-- The row number in the block is the number asked for. -/
theorem isRow : ∀ r : Fin 512, (Scalar.cmpi .eq (BitVec.ofNat 32 r.val) 0#32 = 1#1 ↔ r.val = 0) ∧ (Scalar.cmpi .eq (BitVec.ofNat 32 r.val) 1#32 = 1#1 ↔ r.val = 1) := by
  decide +kernel

/-- The mask of one row of the block, at an entry. -/
theorem mask_apply (n : BitVec 32) (r k : Fin 512) :
    cmpi .eq (iota .tc S512x512 32 [0] iota_S512x512_d0_w32) (broadcast S512x512 n) (ix2 r k) = Scalar.cmpi .eq (BitVec.ofNat 32 r.val) n :=
  congrArg (fun a => Scalar.cmpi .eq a n) (iota_single_apply .tc S512x512 32 0 iota_S512x512_d0_w32 (ix2 r k))

/-- The block one row down, at an entry after the first row. -/
theorem rot1_apply (v : FVec Ideal S512x512 .f32) (r k : Fin 512) (h : r.val ≠ 0) :
    dynamicRotate 0 1#32 none v rotates_S512x512_d0 (ix2 r k) = v (ix2 ⟨r.val - 1, by omega⟩ k) :=
  dynamicRotate_apply 0 1#32 v rotates_S512x512_d0 (ix2 r k) (ix2 ⟨r.val - 1, by omega⟩ k) (fun b => match b with
    | ⟨0, _⟩ => Eq.trans (show r.val - 1 = (r.val + 512 - 1 % 512) % 512 by omega) (if_pos rfl).symm
    | ⟨1, _⟩ => Eq.trans rfl (if_neg (fun e => Nat.one_ne_zero (congrArg Fin.val e))).symm)

/-- The block two rows down, at an entry after the second row. -/
theorem rot2_apply (v : FVec Ideal S512x512 .f32) (r k : Fin 512) (h : 2 ≤ r.val) :
    dynamicRotate 0 2#32 none v rotates_S512x512_d0 (ix2 r k) = v (ix2 ⟨r.val - 2, by omega⟩ k) :=
  dynamicRotate_apply 0 2#32 v rotates_S512x512_d0 (ix2 r k) (ix2 ⟨r.val - 2, by omega⟩ k) (fun b => match b with
    | ⟨0, _⟩ => Eq.trans (show r.val - 2 = (r.val + 512 - 2 % 512) % 512 by omega) (if_pos rfl).symm
    | ⟨1, _⟩ => Eq.trans rfl (if_neg (fun e => Nat.one_ne_zero (congrArg Fin.val e))).symm)

/-- The product one row before, the row before the block's first being `p1`. -/
def prev1 (v : FVec Ideal S512x512 .f32) (p1 : FVec Ideal S1x512 .f32) (r k : Fin 512) : EReal :=
  if r.val = 0 then p1 (ix2 0 k) else v (ix2 ⟨r.val - 1, by omega⟩ k)

/-- The product two rows before, the two rows before the block being `p2` and `p1`. -/
def prev2 (v : FVec Ideal S512x512 .f32) (p1 p2 : FVec Ideal S1x512 .f32) (r k : Fin 512) : EReal :=
  if r.val = 0 then p2 (ix2 0 k) else if r.val = 1 then p1 (ix2 0 k) else v (ix2 ⟨r.val - 2, by omega⟩ k)

/-- A carried row spread over the block, at an entry. -/
theorem carriedRow (p : FVec Ideal S1x512 .f32) (r k : Fin 512) :
    broadcastTo S512x512 (shapeCast S1x512 p shapeCasts_S1x512_S1x512) broadcasts_S1x512_S512x512 (ix2 r k) = p (ix2 0 k) :=
  (row512 _ r k).trans (congrFun (reshape_same p shapeCasts_S1x512_S1x512) (ix2 0 k))

/-- The block one row down with the carried row on top, at an entry. -/
theorem prev1_apply (v : FVec Ideal S512x512 .f32) (p1 : FVec Ideal S1x512 .f32) (r k : Fin 512) :
    select k0_pay52 (broadcastTo S512x512 (shapeCast S1x512 p1 shapeCasts_S1x512_S1x512) broadcasts_S1x512_S512x512) (dynamicRotate 0 1#32 none v rotates_S512x512_d0) (ix2 r k)
      = prev1 v p1 r k := by
  have hm : (k0_pay52 (ix2 r k) = 1#1) ↔ r.val = 0 := by
    rw [show k0_pay52 (ix2 r k) = _ from mask_apply 0#32 r k]; exact (isRow r).1
  unfold prev1
  by_cases h : r.val = 0
  · rw [if_pos h]; exact (if_pos (hm.mpr h)).trans (carriedRow p1 r k)
  · rw [if_neg h]; exact (if_neg (fun e => h (hm.mp e))).trans (rot1_apply v r k h)

/-- The block two rows down with the two carried rows on top, at an entry. -/
theorem prev2_apply (v : FVec Ideal S512x512 .f32) (p1 p2 : FVec Ideal S1x512 .f32) (r k : Fin 512) :
    select (cmpi .eq (iota .tc S512x512 32 [0] iota_S512x512_d0_w32) (broadcast S512x512 0#32))
        (broadcastTo S512x512 (shapeCast S1x512 p2 shapeCasts_S1x512_S1x512) broadcasts_S1x512_S512x512)
        (select (cmpi .eq (iota .tc S512x512 32 [0] iota_S512x512_d0_w32) (broadcast S512x512 1#32))
          (broadcastTo S512x512 (shapeCast S1x512 p1 shapeCasts_S1x512_S1x512) broadcasts_S1x512_S512x512) (dynamicRotate 0 2#32 none v rotates_S512x512_d0)) (ix2 r k)
      = prev2 v p1 p2 r k := by
  have hm0 : (cmpi .eq (iota .tc S512x512 32 [0] iota_S512x512_d0_w32) (broadcast S512x512 0#32) (ix2 r k) = 1#1) ↔ r.val = 0 := by
    rw [mask_apply]; exact (isRow r).1
  have hm1 : (cmpi .eq (iota .tc S512x512 32 [0] iota_S512x512_d0_w32) (broadcast S512x512 1#32) (ix2 r k) = 1#1) ↔ r.val = 1 := by
    rw [mask_apply]; exact (isRow r).2
  unfold prev2
  by_cases h : r.val = 0
  · rw [if_pos h]; exact (if_pos (hm0.mpr h)).trans (carriedRow p2 r k)
  · rw [if_neg h]
    refine (if_neg (fun e => h (hm0.mp e))).trans ?_
    by_cases h' : r.val = 1
    · rw [if_pos h']; exact (if_pos (hm1.mpr h')).trans (carriedRow p1 r k)
    · rw [if_neg h']; exact (if_neg (fun e => h' (hm1.mp e))).trans (rot2_apply v r k (by omega))

/-- The convolved part, projected, at an entry. -/
theorem conv_apply (u v : FVec Ideal S512x512 .f32) (p1 p2 w0 w1 w2 b : FVec Ideal S1x512 .f32) (x13 : FVec Ideal S512x1024 .bf16) (r : Fin 512) (d : Fin 1024) :
    k0_pay54 (F := Ideal) u v (iota .tc S512x512 32 [0] iota_S512x512_d0_w32) p1 p2 k0_pay52 w0 w1 w2 b x13 (ix2 r d)
      = ∑ k : Fin 512, (u (ix2 r k) * conv (w0 (ix2 0 k)) (w1 (ix2 0 k)) (w2 (ix2 0 k)) (b (ix2 0 k)) (prev2 v p1 p2 r k) (prev1 v p1 r k) (v (ix2 r k))) * x13 (ix2 k d) := by
  refine (Ideal.matmul_plain_apply (M := 512) (K := 512) (N := 1024) none _ _ _ r d).trans ?_
  refine (congrArg (fun a : EReal => a + _) Ideal.ofBits_zero_f32).trans ((zero_add _).trans ?_)
  refine Finset.sum_congr rfl fun k _ => congrArg₂ (fun a b : EReal => a * b) ?_ (congrFun (reshape_same x13 shapeCasts_S512x1024_S512x1024) (ix2 k d))
  refine congrArg (fun a : EReal => u (ix2 r k) * a) ?_
  unfold conv
  rw [← prev2_apply v p1 p2 r k, ← prev1_apply v p1 r k, ← row512 w0 r k, ← row512 w1 r k, ← row512 w2 r k, ← carriedRow b r k]
  rfl

/-- The last projection and sum, at an entry. -/
theorem sum_apply (v52 : FVec Ideal S512x1024 .f32) (v95 : FVec Ideal S512x2048 .f32) (yb ya : FVec Ideal S512x1024 .f32) (x15 : FVec Ideal S1024x1024 .bf16) (r : Fin 512) (d : Fin 1024) :
    k0_pay4 (F := Ideal) v52 v95 yb (k0_pay55 v95 ya) x15 (ix2 r d)
      = mixed (v52 (ix2 r d)) (fun q => v95 (ix2 r ⟨q.val, by omega⟩)) (fun q => v95 (ix2 r ⟨1024 + q.val, by omega⟩)) (fun q => ya (ix2 r q)) (fun q => yb (ix2 r q))
          (fun q => x15 (ix2 q d)) := by
  refine congrArg (fun a : EReal => v52 (ix2 r d) + a) ?_
  refine (Ideal.matmul_plain_apply (M := 512) (K := 1024) (N := 1024) none _ _ _ r d).trans ?_
  refine (congrArg (fun a : EReal => a + _) Ideal.ofBits_zero_f32).trans ((zero_add _).trans ?_)
  refine Finset.sum_congr rfl fun q _ => congrArg₂ (fun a b : EReal => a * b) ?_ (congrFun (reshape_same x15 shapeCasts_S1024x1024_S1024x1024) (ix2 q d))
  exact congrArg₂ (fun a b : EReal => Ideal.logistic a * ya (ix2 r q) + Ideal.logistic b * yb (ix2 r q)) (halves v95 r q).1 (halves v95 r q).2

/-- A row of the block, from the loaded blocks and the two carried rows. -/
theorem loads_apply (i : grid0.Coords) (cr : FVec Ideal S8x512 .f32) (x0 : FVec Ideal S1x512x1024 .f32) (x1 : FVec Ideal S1x512x512 .bf16) (x2 x3 x4 : FVec Ideal S1024x512 .bf16)
    (x5 : FVec Ideal S1024x2048 .bf16) (x6 x7 x8 : FVec Ideal S1x512 .f32) (x9 : FVec Ideal S1x2048 .f32) (x10 : FVec Ideal S1x1024 .f32) (w0 w1 w2 x12 : FVec Ideal S1x512 .f32)
    (x13 : FVec Ideal S512x1024 .bf16) (x14 : FVec Ideal S512x2048 .bf16) (x15 : FVec Ideal S1024x1024 .bf16) (r : Fin 512) (d : Fin 1024) :
    mixLoads (F := Ideal) i cr x0 x1 x2 x3 x4 x5 x6 x7 x8 x9 x10 w0 w1 w2 x12 x13 x14 x15 (ix2 r d)
      = mixed (x0 (ix3 0 r d))
          (fun q => lin (fun q => x0 (ix3 0 r q)) (fun q => x10 (ix2 0 q)) (fun p => x5 (ix2 p ⟨q.val, by omega⟩)) (x9 (ix2 0 ⟨q.val, by omega⟩)))
          (fun q => lin (fun q => x0 (ix3 0 r q)) (fun q => x10 (ix2 0 q)) (fun p => x5 (ix2 p ⟨1024 + q.val, by omega⟩)) (x9 (ix2 0 ⟨1024 + q.val, by omega⟩)))
          (fun q => glu (fun k => x1 (ix3 0 r k)) (fun k => x14 (ix2 k ⟨q.val, by omega⟩)) (fun k => x14 (ix2 k ⟨1024 + q.val, by omega⟩)))
          (fun q => ∑ k : Fin 512, (lin (fun q => x0 (ix3 0 r q)) (fun q => x10 (ix2 0 q)) (fun p => x2 (ix2 p k)) (x6 (ix2 0 k))
            * conv (w0 (ix2 0 k)) (w1 (ix2 0 k)) (w2 (ix2 0 k)) (x12 (ix2 0 k))
                (prev2 (convIn x0 x10 x3 x4 x7 x8) (k0_pay50 (BitVec.ofNat 32 (i 0).val) cr) (k0_pay51 (BitVec.ofNat 32 (i 0).val) cr) r k)
                (prev1 (convIn x0 x10 x3 x4 x7 x8) (k0_pay50 (BitVec.ofNat 32 (i 0).val) cr) r k) (convIn (F := Ideal) x0 x10 x3 x4 x7 x8 (ix2 r k))) * x13 (ix2 k q))
          (fun q => x15 (ix2 q d)) := by
  unfold mixLoads convOut
  rw [sum_apply, rows_apply]
  simp only [lin2048, glu_apply]
  refine congrArg (fun f => mixed _ _ _ _ f _) (funext fun q => (conv_apply _ _ _ _ _ _ _ _ _ r q).trans ?_)
  exact Finset.sum_congr rfl fun k _ => by rw [lin512]

end Cert.Proof.MixRow

end
-- ==== Proof.MixArray.lean ====
module

public import proofs.«01_k».proof.Proof.MixBlock
public import proofs.«01_k».proof.Proof.MixIdealFrame
public import Idealize.ShloMosaic.Lib.Pipeline.ValueKit

@[expose] public section

set_option maxRecDepth 16384

/-! # The mixing call's array at the ideal reals

Grid point `t` writes the 512 rows from row `512 t` on; the rows before them in their sequence, which the convolution reads,
are the last of point `t - 1`. The array the call leaves is `outArr` of its arguments. -/

noncomputable section

namespace Cert.Proof.MixRow

open Cert.Kernel3Ideal Cert.Kernel3Ideal.Gen Cert.Proof.MixIdeal
open Idealize.ShloMosaic hiding ix1 ix2 ix3
open Idealize.ShloMosaic.ValueIdx (ix1 ix2 ix3)
open Idealize.ShloMosaic.TcCoe
open Idealize.SL.Sem
open scoped BigOperators

variable (m : (ℓ : Loc nD τ sig) → Buf (Elt Ideal) ℓ)

/-- Where each window's block sits at grid point `t`. The last point has no tile of its own and is given the one before. -/
theorem index_facts : ∀ t : Fin grid0.N,
    win0_0.index t = ![min t.val 63 / 4, min t.val 63 % 4, 0]
    ∧ win0_1.index t = ![min t.val 63 / 4, min t.val 63 % 4, 0]
    ∧ win0_2.index t = ![0, 1]
    ∧ win0_3.index t = ![0, 2]
    ∧ win0_4.index t = ![0, 3]
    ∧ win0_5.index t = ![0, 1]
    ∧ win0_6.index t = ![0, 1]
    ∧ win0_7.index t = ![0, 2]
    ∧ win0_8.index t = ![0, 3]
    ∧ win0_9.index t = ![0, 1]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_19.index t = ![min t.val 63, 0] := by decide +kernel

/-- The sequence a point's rows are of. -/
def seqOf (t : Fin grid0.N) : Fin 16 := ⟨min t.val 63 / 4, by omega⟩

/-- Where in its sequence row `r` of a point's block is. -/
def posOf (t : Fin grid0.N) (r : Fin 512) : Fin 2048 := ⟨min t.val 63 % 4 * 512 + r.val, by omega⟩

/-- Row `r` of a point's block, among all rows. -/
def rowAt (t : Fin grid0.N) (r : Fin 512) : Fin 32768 := ⟨min t.val 63 * 512 + r.val, by omega⟩

/-- The input projection's weights: their cast changes no value. -/
theorem V_v9 (c : Dev nD) (q : Fin 1024) (n : Fin 4096) : V m c main_v9 (ix2 q n) = m ((c : Thread nD τ).loc main_arg3) (ix2 q n) := by
  entry_read
  rfl

/-- The input projection's biases, reshaped to a row. -/
theorem V_v10 (c : Dev nD) (n : Fin 4096) : V m c main_v10 (ix2 0 n) = m ((c : Thread nD τ).loc main_arg4) (ix1 n) := by
  entry_read
  exact shapeCast_apply _ shapeCasts_S4096_S1x4096 (ix2 0 n) (ix1 n) (by rw [Shape.rowMajor_val_two, Shape.rowMajor_val_one]; show n.val = 0 * 4096 + n.val; omega)

/-- The norm's gains, reshaped to a row. -/
theorem V_v11 (c : Dev nD) (q : Fin 1024) : V m c main_v11 (ix2 0 q) = m ((c : Thread nD τ).loc main_arg2) (ix1 q) := by
  entry_read
  exact shapeCast_apply _ shapeCasts_S1024_S1x1024 (ix2 0 q) (ix1 q) (by rw [Shape.rowMajor_val_two, Shape.rowMajor_val_one]; show q.val = 0 * 1024 + q.val; omega)

/-- The convolution's biases, reshaped to a row. -/
theorem V_v12 (c : Dev nD) (q : Fin 512) : V m c main_v12 (ix2 0 q) = m ((c : Thread nD τ).loc main_arg6) (ix1 q) := by
  entry_read
  exact shapeCast_apply _ shapeCasts_S512_S1x512 (ix2 0 q) (ix1 q) (by rw [Shape.rowMajor_val_two, Shape.rowMajor_val_one]; show q.val = 0 * 512 + q.val; omega)

/-- The convolved part's weights: their cast changes no value. -/
theorem V_v13 (c : Dev nD) (k : Fin 512) (q : Fin 1024) : V m c main_v13 (ix2 k q) = m ((c : Thread nD τ).loc main_arg7) (ix2 k q) := by
  entry_read
  rfl

/-- The left of the gated unit's two weights side by side. -/
theorem V_v16_left (c : Dev nD) (k : Fin 512) (q : Fin 1024) : V m c main_v16 (ix2 k ⟨q.val, by omega⟩) = m ((c : Thread nD τ).loc main_arg8) (ix2 k q) := by
  entry_read
  exact concatenate_pair_apply_left 1 _ _ concatenates_S512x1024_S512x1024_S512x2048_d1 (ix2 k ⟨q.val, by omega⟩) rfl (ix2 k q) (fun b => match b with
      | ⟨0, _⟩ => rfl
      | ⟨1, _⟩ => rfl)

/-- The right of the two. -/
theorem V_v16_right (c : Dev nD) (k : Fin 512) (q : Fin 1024) : V m c main_v16 (ix2 k ⟨1024 + q.val, by omega⟩) = m ((c : Thread nD τ).loc main_arg9) (ix2 k q) := by
  entry_read
  exact concatenate_pair_apply_right 1 _ _ concatenates_S512x1024_S512x1024_S512x2048_d1 (ix2 k ⟨1024 + q.val, by omega⟩) rfl rfl (ix2 k q) (fun b => match b with
      | ⟨0, _⟩ => fun _ => rfl
      | ⟨1, _⟩ => fun hb => absurd rfl hb) (by show q.val + 1024 = 1024 + q.val; omega)

/-- The last projection's weights: their cast changes no value. -/
theorem V_v17 (c : Dev nD) (q d : Fin 1024) : V m c main_v17 (ix2 q d) = m ((c : Thread nD τ).loc main_arg10) (ix2 q d) := by
  entry_read
  rfl

/-- The rows' block at a point. -/
theorem iblk0 (c : Dev nD) (t : Fin cfg0.N) (r : Fin 512) (q : Fin 1024) :
    iblk m c 0 t (ix3 0 r q) = m ((c : Thread nD τ).loc main_arg0) (ix3 (seqOf t) (posOf t r) q) := by
  refine Eq.trans (congrArg (V m c main_arg0) (funext fun a => Fin.ext ((win0_0.rect_emb_val t (ix3 0 r q) a).trans ?_))) (congrFun (V_main_arg0 m c) _)
  rw [(index_facts t).1]
  match a with
  | ⟨0, _⟩ => show min t.val 63 / 4 * 1 + 0 = min t.val 63 / 4; omega
  | ⟨1, _⟩ => rfl
  | ⟨2, _⟩ => exact Nat.zero_add _

/-- The state-space mixer's block at a point. -/
theorem iblk1 (c : Dev nD) (t : Fin cfg0.N) (r : Fin 512) (q : Fin 512) :
    iblk m c 1 t (ix3 0 r q) = m ((c : Thread nD τ).loc main_arg1) (ix3 (seqOf t) (posOf t r) q) := by
  refine Eq.trans (congrArg (V m c main_arg1) (funext fun a => Fin.ext ((win0_1.rect_emb_val t (ix3 0 r q) a).trans ?_))) (congrFun (V_main_arg1 m c) _)
  rw [(index_facts t).2.1]
  match a with
  | ⟨0, _⟩ => show min t.val 63 / 4 * 1 + 0 = min t.val 63 / 4; omega
  | ⟨1, _⟩ => rfl
  | ⟨2, _⟩ => exact Nat.zero_add _

/-- The weights of the columns from 512 on. -/
theorem iblk2 (c : Dev nD) (t : Fin cfg0.N) (q : Fin 1024) (k : Fin 512) :
    iblk m c 2 t (ix2 q k) = m ((c : Thread nD τ).loc main_arg3) (ix2 q ⟨512 + k.val, by omega⟩) := by
  refine Eq.trans (congrArg (V m c main_v9) (funext fun a => Fin.ext ((win0_2.rect_emb_val t (ix2 q k) a).trans ?_))) (V_v9 m c q ⟨512 + k.val, by omega⟩)
  rw [(index_facts t).2.2.1]
  match a with
  | ⟨0, _⟩ => exact Nat.zero_add _
  | ⟨1, _⟩ => rfl

/-- The weights of the columns from 1024 on. -/
theorem iblk3 (c : Dev nD) (t : Fin cfg0.N) (q : Fin 1024) (k : Fin 512) :
    iblk m c 3 t (ix2 q k) = m ((c : Thread nD τ).loc main_arg3) (ix2 q ⟨1024 + k.val, by omega⟩) := by
  refine Eq.trans (congrArg (V m c main_v9) (funext fun a => Fin.ext ((win0_3.rect_emb_val t (ix2 q k) a).trans ?_))) (V_v9 m c q ⟨1024 + k.val, by omega⟩)
  rw [(index_facts t).2.2.2.1]
  match a with
  | ⟨0, _⟩ => exact Nat.zero_add _
  | ⟨1, _⟩ => rfl

/-- The weights of the columns from 1536 on. -/
theorem iblk4 (c : Dev nD) (t : Fin cfg0.N) (q : Fin 1024) (k : Fin 512) :
    iblk m c 4 t (ix2 q k) = m ((c : Thread nD τ).loc main_arg3) (ix2 q ⟨1536 + k.val, by omega⟩) := by
  refine Eq.trans (congrArg (V m c main_v9) (funext fun a => Fin.ext ((win0_4.rect_emb_val t (ix2 q k) a).trans ?_))) (V_v9 m c q ⟨1536 + k.val, by omega⟩)
  rw [(index_facts t).2.2.2.2.1]
  match a with
  | ⟨0, _⟩ => exact Nat.zero_add _
  | ⟨1, _⟩ => rfl

/-- The weights of the columns from 2048 on. -/
theorem iblk5 (c : Dev nD) (t : Fin cfg0.N) (q : Fin 1024) (k : Fin 2048) :
    iblk m c 5 t (ix2 q k) = m ((c : Thread nD τ).loc main_arg3) (ix2 q ⟨2048 + k.val, by omega⟩) := by
  refine Eq.trans (congrArg (V m c main_v9) (funext fun a => Fin.ext ((win0_5.rect_emb_val t (ix2 q k) a).trans ?_))) (V_v9 m c q ⟨2048 + k.val, by omega⟩)
  rw [(index_facts t).2.2.2.2.2.1]
  match a with
  | ⟨0, _⟩ => exact Nat.zero_add _
  | ⟨1, _⟩ => rfl

/-- The biases of the columns from 512 on. -/
theorem iblk6 (c : Dev nD) (t : Fin cfg0.N) (k : Fin 512) :
    iblk m c 6 t (ix2 0 k) = m ((c : Thread nD τ).loc main_arg4) (ix1 ⟨512 + k.val, by omega⟩) := by
  refine Eq.trans (congrArg (V m c main_v10) (funext fun a => Fin.ext ((win0_6.rect_emb_val t (ix2 0 k) a).trans ?_))) (V_v10 m c ⟨512 + k.val, by omega⟩)
  rw [(index_facts t).2.2.2.2.2.2.1]
  match a with
  | ⟨0, _⟩ => exact Nat.zero_add _
  | ⟨1, _⟩ => rfl

/-- The biases of the columns from 1024 on. -/
theorem iblk7 (c : Dev nD) (t : Fin cfg0.N) (k : Fin 512) :
    iblk m c 7 t (ix2 0 k) = m ((c : Thread nD τ).loc main_arg4) (ix1 ⟨1024 + k.val, by omega⟩) := by
  refine Eq.trans (congrArg (V m c main_v10) (funext fun a => Fin.ext ((win0_7.rect_emb_val t (ix2 0 k) a).trans ?_))) (V_v10 m c ⟨1024 + k.val, by omega⟩)
  rw [(index_facts t).2.2.2.2.2.2.2.1]
  match a with
  | ⟨0, _⟩ => exact Nat.zero_add _
  | ⟨1, _⟩ => rfl

/-- The biases of the columns from 1536 on. -/
theorem iblk8 (c : Dev nD) (t : Fin cfg0.N) (k : Fin 512) :
    iblk m c 8 t (ix2 0 k) = m ((c : Thread nD τ).loc main_arg4) (ix1 ⟨1536 + k.val, by omega⟩) := by
  refine Eq.trans (congrArg (V m c main_v10) (funext fun a => Fin.ext ((win0_8.rect_emb_val t (ix2 0 k) a).trans ?_))) (V_v10 m c ⟨1536 + k.val, by omega⟩)
  rw [(index_facts t).2.2.2.2.2.2.2.2.1]
  match a with
  | ⟨0, _⟩ => exact Nat.zero_add _
  | ⟨1, _⟩ => rfl

/-- The biases of the columns from 2048 on. -/
theorem iblk9 (c : Dev nD) (t : Fin cfg0.N) (k : Fin 2048) :
    iblk m c 9 t (ix2 0 k) = m ((c : Thread nD τ).loc main_arg4) (ix1 ⟨2048 + k.val, by omega⟩) := by
  refine Eq.trans (congrArg (V m c main_v10) (funext fun a => Fin.ext ((win0_9.rect_emb_val t (ix2 0 k) a).trans ?_))) (V_v10 m c ⟨2048 + k.val, by omega⟩)
  rw [(index_facts t).2.2.2.2.2.2.2.2.2.1]
  match a with
  | ⟨0, _⟩ => exact Nat.zero_add _
  | ⟨1, _⟩ => rfl

/-- The norm's gains. -/
theorem iblk10 (c : Dev nD) (t : Fin cfg0.N) (q : Fin 1024) :
    iblk m c 10 t (ix2 0 q) = m ((c : Thread nD τ).loc main_arg2) (ix1 q) := by
  refine Eq.trans (congrArg (V m c main_v11) (funext fun a => Fin.ext ((win0_10.rect_emb_val t (ix2 0 q) a).trans ?_))) (V_v11 m c q)
  rw [(index_facts t).2.2.2.2.2.2.2.2.2.2.1]
  match a with
  | ⟨0, _⟩ => exact Nat.zero_add _
  | ⟨1, _⟩ => exact Nat.zero_add _

/-- The convolution's weights. -/
theorem iblk11 (c : Dev nD) (t : Fin cfg0.N) (j : Fin 3) (k : Fin 512) :
    iblk m c 11 t (ix2 j k) = m ((c : Thread nD τ).loc main_arg5) (ix2 j k) := by
  refine Eq.trans (congrArg (V m c main_arg5) (funext fun a => Fin.ext ((win0_11.rect_emb_val t (ix2 j k) a).trans ?_))) (congrFun (V_main_arg5 m c) _)
  rw [(index_facts t).2.2.2.2.2.2.2.2.2.2.2.1]
  match a with
  | ⟨0, _⟩ => exact Nat.zero_add _
  | ⟨1, _⟩ => exact Nat.zero_add _

/-- The convolution's biases. -/
theorem iblk12 (c : Dev nD) (t : Fin cfg0.N) (k : Fin 512) :
    iblk m c 12 t (ix2 0 k) = m ((c : Thread nD τ).loc main_arg6) (ix1 k) := by
  refine Eq.trans (congrArg (V m c main_v12) (funext fun a => Fin.ext ((win0_12.rect_emb_val t (ix2 0 k) a).trans ?_))) (V_v12 m c k)
  rw [(index_facts t).2.2.2.2.2.2.2.2.2.2.2.2.1]
  match a with
  | ⟨0, _⟩ => exact Nat.zero_add _
  | ⟨1, _⟩ => exact Nat.zero_add _

/-- The convolved part's weights. -/
theorem iblk13 (c : Dev nD) (t : Fin cfg0.N) (k : Fin 512) (q : Fin 1024) :
    iblk m c 13 t (ix2 k q) = m ((c : Thread nD τ).loc main_arg7) (ix2 k q) := by
  refine Eq.trans (congrArg (V m c main_v13) (funext fun a => Fin.ext ((win0_13.rect_emb_val t (ix2 k q) a).trans ?_))) (V_v13 m c k q)
  rw [(index_facts t).2.2.2.2.2.2.2.2.2.2.2.2.2.1]
  match a with
  | ⟨0, _⟩ => exact Nat.zero_add _
  | ⟨1, _⟩ => exact Nat.zero_add _

/-- The left of the gated unit's weights. -/
theorem iblk14_left (c : Dev nD) (t : Fin cfg0.N) (k : Fin 512) (q : Fin 1024) :
    iblk m c 14 t (ix2 k ⟨q.val, by omega⟩) = m ((c : Thread nD τ).loc main_arg8) (ix2 k q) := by
  refine Eq.trans (congrArg (V m c main_v16) (funext fun a => Fin.ext ((win0_14.rect_emb_val t (ix2 k ⟨q.val, by omega⟩) a).trans ?_))) (V_v16_left m c k q)
  rw [(index_facts t).2.2.2.2.2.2.2.2.2.2.2.2.2.2.1]
  match a with
  | ⟨0, _⟩ => exact Nat.zero_add _
  | ⟨1, _⟩ => exact Nat.zero_add _

/-- The right of the gated unit's weights. -/
theorem iblk14_right (c : Dev nD) (t : Fin cfg0.N) (k : Fin 512) (q : Fin 1024) :
    iblk m c 14 t (ix2 k ⟨1024 + q.val, by omega⟩) = m ((c : Thread nD τ).loc main_arg9) (ix2 k q) := by
  refine Eq.trans (congrArg (V m c main_v16) (funext fun a => Fin.ext ((win0_14.rect_emb_val t (ix2 k ⟨1024 + q.val, by omega⟩) a).trans ?_))) (V_v16_right m c k q)
  rw [(index_facts t).2.2.2.2.2.2.2.2.2.2.2.2.2.2.1]
  match a with
  | ⟨0, _⟩ => exact Nat.zero_add _
  | ⟨1, _⟩ => exact Nat.zero_add _

/-- The last projection's weights. -/
theorem iblk15 (c : Dev nD) (t : Fin cfg0.N) (q d : Fin 1024) :
    iblk m c 15 t (ix2 q d) = m ((c : Thread nD τ).loc main_arg10) (ix2 q d) := by
  refine Eq.trans (congrArg (V m c main_v17) (funext fun a => Fin.ext ((win0_15.rect_emb_val t (ix2 q d) a).trans ?_))) (V_v17 m c q d)
  rw [(index_facts t).2.2.2.2.2.2.2.2.2.2.2.2.2.2.2.1]
  match a with
  | ⟨0, _⟩ => exact Nat.zero_add _
  | ⟨1, _⟩ => exact Nat.zero_add _

/-- The mixed rows depend on the loaded blocks alone. -/
theorem loads_congr (i : grid0.Coords) (cr : FVec Ideal S8x512 .f32) (w0 w1 w2 : FVec Ideal S1x512 .f32) {x0 y0 : FVec Ideal S1x512x1024 .f32} (h0 : y0 = x0) {x1 y1 : FVec Ideal S1x512x512 .bf16} (h1 : y1 = x1) {x2 y2 : FVec Ideal S1024x512 .bf16} (h2 : y2 = x2) {x3 y3 : FVec Ideal S1024x512 .bf16} (h3 : y3 = x3) {x4 y4 : FVec Ideal S1024x512 .bf16} (h4 : y4 = x4) {x5 y5 : FVec Ideal S1024x2048 .bf16} (h5 : y5 = x5) {x6 y6 : FVec Ideal S1x512 .f32} (h6 : y6 = x6) {x7 y7 : FVec Ideal S1x512 .f32} (h7 : y7 = x7) {x8 y8 : FVec Ideal S1x512 .f32} (h8 : y8 = x8) {x9 y9 : FVec Ideal S1x2048 .f32} (h9 : y9 = x9) {x10 y10 : FVec Ideal S1x1024 .f32} (h10 : y10 = x10) {x12 y12 : FVec Ideal S1x512 .f32} (h12 : y12 = x12) {x13 y13 : FVec Ideal S512x1024 .bf16} (h13 : y13 = x13) {x14 y14 : FVec Ideal S512x2048 .bf16} (h14 : y14 = x14) {x15 y15 : FVec Ideal S1024x1024 .bf16} (h15 : y15 = x15) :
    mixLoads (F := Ideal) i cr y0 y1 y2 y3 y4 y5 y6 y7 y8 y9 y10 w0 w1 w2 y12 y13 y14 y15 = mixLoads (F := Ideal) i cr x0 x1 x2 x3 x4 x5 x6 x7 x8 x9 x10 w0 w1 w2 x12 x13 x14 x15 := by
  subst h0 h1 h2 h3 h4 h5 h6 h7 h8 h9 h10 h12 h13 h14 h15; rfl

/-- The mixed rows with each block loaded whole. -/
theorem mixOut_eq (i : grid0.Coords) (cr : FVec Ideal S8x512 .f32) (x0 : FVec Ideal S1x512x1024 .f32) (x1 : FVec Ideal S1x512x512 .bf16) (x2 x3 x4 : FVec Ideal S1024x512 .bf16) (x5 : FVec Ideal S1024x2048 .bf16) (x6 x7 x8 : FVec Ideal S1x512 .f32) (x9 : FVec Ideal S1x2048 .f32) (x10 : FVec Ideal S1x1024 .f32) (x11 : FVec Ideal S3x512 .f32) (x12 : FVec Ideal S1x512 .f32) (x13 : FVec Ideal S512x1024 .bf16) (x14 : FVec Ideal S512x2048 .bf16) (x15 : FVec Ideal S1024x1024 .bf16) :
    mixOut (F := Ideal) i cr x0 x1 x2 x3 x4 x5 x6 x7 x8 x9 x10 x11 x12 x13 x14 x15
      = mixLoads (F := Ideal) i cr x0 x1 x2 x3 x4 x5 x6 x7 x8 x9 x10 (View.ld (Val := Elt Ideal) (e' := .f32) x11 (Rect.unit (s := S3x512) ![0, 0] S1x512.size inb_S3x512_S1x512_0_0)) (View.ld (Val := Elt Ideal) (e' := .f32) x11 (Rect.unit (s := S3x512) ![1, 0] S1x512.size inb_S3x512_S1x512_1_0)) (View.ld (Val := Elt Ideal) (e' := .f32) x11 (Rect.unit (s := S3x512) ![2, 0] S1x512.size inb_S3x512_S1x512_2_0)) x12 x13 x14 x15 :=
  loads_congr i cr _ _ _ (View.ld_unit_zero (Val := Elt Ideal) (e := .f32) (S := S1x512x1024) z3 inb_S1x512x1024_S1x512x1024_0_0_0 x0) (View.ld_unit_zero (Val := Elt Ideal) (e := .bf16) (S := S1x512x512) z3 inb_S1x512x512_S1x512x512_0_0_0 x1) (View.ld_unit_zero (Val := Elt Ideal) (e := .bf16) (S := S1024x512) z2 inb_S1024x512_S1024x512_0_0 x2) (View.ld_unit_zero (Val := Elt Ideal) (e := .bf16) (S := S1024x512) z2 inb_S1024x512_S1024x512_0_0 x3) (View.ld_unit_zero (Val := Elt Ideal) (e := .bf16) (S := S1024x512) z2 inb_S1024x512_S1024x512_0_0 x4) (View.ld_unit_zero (Val := Elt Ideal) (e := .bf16) (S := S1024x2048) z2 inb_S1024x2048_S1024x2048_0_0 x5) (View.ld_unit_zero (Val := Elt Ideal) (e := .f32) (S := S1x512) z2 inb_S1x512_S1x512_0_0 x6) (View.ld_unit_zero (Val := Elt Ideal) (e := .f32) (S := S1x512) z2 inb_S1x512_S1x512_0_0 x7) (View.ld_unit_zero (Val := Elt Ideal) (e := .f32) (S := S1x512) z2 inb_S1x512_S1x512_0_0 x8) (View.ld_unit_zero (Val := Elt Ideal) (e := .f32) (S := S1x2048) z2 inb_S1x2048_S1x2048_0_0 x9) (View.ld_unit_zero (Val := Elt Ideal) (e := .f32) (S := S1x1024) z2 inb_S1x1024_S1x1024_0_0 x10) (View.ld_unit_zero (Val := Elt Ideal) (e := .f32) (S := S1x512) z2 inb_S1x512_S1x512_0_0 x12) (View.ld_unit_zero (Val := Elt Ideal) (e := .bf16) (S := S512x1024) z2 inb_S512x1024_S512x1024_0_0 x13) (View.ld_unit_zero (Val := Elt Ideal) (e := .bf16) (S := S512x2048) z2 inb_S512x2048_S512x2048_0_0 x14) (View.ld_unit_zero (Val := Elt Ideal) (e := .bf16) (S := S1024x1024) z2 inb_S1024x1024_S1024x1024_0_0 x15)

/-- A row of the convolution's weights, loaded. -/
theorem ld_taps (x11 : FVec Ideal S3x512 .f32) (k : Fin 512) :
    View.ld (Val := Elt Ideal) (e' := .f32) x11 (Rect.unit (s := S3x512) ![0, 0] S1x512.size inb_S3x512_S1x512_0_0) (ix2 0 k) = x11 (ix2 0 k)
    ∧ View.ld (Val := Elt Ideal) (e' := .f32) x11 (Rect.unit (s := S3x512) ![1, 0] S1x512.size inb_S3x512_S1x512_1_0) (ix2 0 k) = x11 (ix2 1 k)
    ∧ View.ld (Val := Elt Ideal) (e' := .f32) x11 (Rect.unit (s := S3x512) ![2, 0] S1x512.size inb_S3x512_S1x512_2_0) (ix2 0 k) = x11 (ix2 2 k) :=
  ⟨congrArg x11 (funext fun a => Fin.ext (match a with
    | ⟨0, _⟩ => rfl
    | ⟨1, _⟩ => by show 0 + 1 * k.val = k.val; omega)), congrArg x11 (funext fun a => Fin.ext (match a with
    | ⟨0, _⟩ => rfl
    | ⟨1, _⟩ => by show 0 + 1 * k.val = k.val; omega)), congrArg x11 (funext fun a => Fin.ext (match a with
    | ⟨0, _⟩ => rfl
    | ⟨1, _⟩ => by show 0 + 1 * k.val = k.val; omega))⟩

/-- The product that is convolved depends on the loaded blocks alone. -/
theorem convIn_congr {x0 y0 : FVec Ideal S1x512x1024 .f32} (h0 : y0 = x0) {x10 y10 : FVec Ideal S1x1024 .f32} (h10 : y10 = x10) {x3 y3 : FVec Ideal S1024x512 .bf16} (h3 : y3 = x3) {x4 y4 : FVec Ideal S1024x512 .bf16} (h4 : y4 = x4) {x7 y7 : FVec Ideal S1x512 .f32} (h7 : y7 = x7) {x8 y8 : FVec Ideal S1x512 .f32} (h8 : y8 = x8) :
    convIn (F := Ideal) y0 y10 y3 y4 y7 y8 = convIn (F := Ideal) x0 x10 x3 x4 x7 x8 := by
  subst h0 h10 h3 h4 h7 h8; rfl

/-- The carried rows are the last eight of the block. -/
theorem carryOut_apply (x0 : FVec Ideal S1x512x1024 .f32) (x3 : FVec Ideal S1024x512 .bf16) (x4 : FVec Ideal S1024x512 .bf16) (x7 : FVec Ideal S1x512 .f32) (x8 : FVec Ideal S1x512 .f32) (x10 : FVec Ideal S1x1024 .f32) (j : Fin 8) (k : Fin 512) :
    carryOut (F := Ideal) x0 x3 x4 x7 x8 x10 (ix2 j k) = convIn (F := Ideal) x0 x10 x3 x4 x7 x8 (ix2 ⟨504 + j.val, by omega⟩ k) := by
  unfold carryOut
  rw [convIn_congr (View.ld_unit_zero (Val := Elt Ideal) (e := .f32) (S := S1x512x1024) z3 inb_S1x512x1024_S1x512x1024_0_0_0 x0) (View.ld_unit_zero (Val := Elt Ideal) (e := .f32) (S := S1x1024) z2 inb_S1x1024_S1x1024_0_0 x10) (View.ld_unit_zero (Val := Elt Ideal) (e := .bf16) (S := S1024x512) z2 inb_S1024x512_S1024x512_0_0 x3) (View.ld_unit_zero (Val := Elt Ideal) (e := .bf16) (S := S1024x512) z2 inb_S1024x512_S1024x512_0_0 x4) (View.ld_unit_zero (Val := Elt Ideal) (e := .f32) (S := S1x512) z2 inb_S1x512_S1x512_0_0 x7) (View.ld_unit_zero (Val := Elt Ideal) (e := .f32) (S := S1x512) z2 inb_S1x512_S1x512_0_0 x8)]
  show shapeCast S8x512 (extractStridedSlice S8x512 ![504, 0] (convIn (F := Ideal) x0 x10 x3 x4 x7 x8) slices_S512x512_o504_0_S8x512) shapeCasts_S8x512_S8x512 (ix2 j k) = _
  rw [reshape_same]
  exact extractStridedSlice_apply ![504, 0] _ slices_S512x512_o504_0_S8x512 (ix2 j k) (ix2 ⟨504 + j.val, by omega⟩ k) (fun a => match a with
    | ⟨0, _⟩ => rfl
    | ⟨1, _⟩ => (Nat.zero_add k.val).symm)

section

variable (c : Dev nD)

/-- A point's row of the layer's input. -/
theorem row_x (t : Fin cfg0.N) (r : Fin 512) : (fun q => iblk m c 0 t (ix3 0 r q)) = fun q => (m ((c : Thread nD τ).loc main_arg0)) (ix3 (seqOf t) (posOf t r) q) := funext fun q => iblk0 m c t r q

/-- The norm's gains. -/
theorem row_g (t : Fin cfg0.N) : (fun q => iblk m c 10 t (ix2 0 q)) = fun q => (m ((c : Thread nD τ).loc main_arg2)) (ix1 q) := funext fun q => iblk10 m c t q

/-- The products a point convolves. -/
theorem prod_at (t : Fin cfg0.N) (r k : Fin 512) :
    convIn (F := Ideal) (iblk m c 0 t) (iblk m c 10 t) (iblk m c 3 t) (iblk m c 4 t) (iblk m c 7 t) (iblk m c 8 t) (ix2 r k)
      = prodAt (m ((c : Thread nD τ).loc main_arg0)) (m ((c : Thread nD τ).loc main_arg2)) (m ((c : Thread nD τ).loc main_arg3)) (m ((c : Thread nD τ).loc main_arg4)) (seqOf t) (posOf t r) k := by
  have h3 : (fun p => iblk m c 3 t (ix2 p k)) = _ := funext fun p => iblk3 m c t p k
  have h4 : (fun p => iblk m c 4 t (ix2 p k)) = _ := funext fun p => iblk4 m c t p k
  refine (convIn_apply _ _ _ _ _ _ r k).trans ?_
  unfold prodAt linAt
  rw [row_x, row_g, h3, h4, iblk7, iblk8]

/-- Going back from a place depends only on where it ends. -/
theorem back_shift (x : (⟨3, ![16, 2048, 1024]⟩ : Shape).Idx → EReal) (g : (⟨1, ![1024]⟩ : Shape).Idx → EReal) (w : (⟨2, ![1024, 4096]⟩ : Shape).Idx → EReal)
    (b : (⟨1, ![4096]⟩ : Shape).Idx → EReal) (j j' : ℕ) (B B' : Fin 16) (S S' : Fin 2048) (k : Fin 512) (hB : B = B') (h : S.val + j' = S'.val + j) :
    back x g w b j B S k = back x g w b j' B' S' k := by
  subst hB
  unfold back
  by_cases hj : j ≤ S.val
  · rw [if_pos hj, if_pos (show j' ≤ S'.val by omega)]
    exact congrArg (fun T => prodAt x g w b B T k) (Fin.ext (by show S.val - j = S'.val - j'; omega))
  · rw [if_neg hj, if_neg (show ¬j' ≤ S'.val by omega)]

/-- The rows a point finds before its block: the last of the point before, or zeros where a sequence starts. -/
theorem before_at (t : Fin cfg0.N) (ht : t.val < 64) (j : Fin 8) (k : Fin 512) :
    k0_pay49 (F := Ideal) (BitVec.ofNat 32 (grid0.coords t 0).val) (carryN m c (t.val - 1)) (ix2 j k)
      = back (m ((c : Thread nD τ).loc main_arg0)) (m ((c : Thread nD τ).loc main_arg2)) (m ((c : Thread nD τ).loc main_arg3)) (m ((c : Thread nD τ).loc main_arg4)) (8 - j.val) (seqOf t) (posOf t 0) k := by
  have hj := j.isLt
  rw [coord0 t, pay49_eq t.val (by omega)]
  by_cases h : t.val % 4 = 0
  · rw [if_pos h]
    unfold back
    have hp : ¬8 - j.val ≤ (posOf t 0).val := by show ¬8 - j.val ≤ min t.val 63 % 4 * 512 + 0; omega
    rw [if_neg hp]
    exact Ideal.ofBits_zero_f32
  · rw [if_neg h]
    have hlt : t.val - 1 < cfg0.N := Nat.lt_of_le_of_lt (Nat.sub_le _ _) t.isLt
    refine (congrFun (carryN_at m c ⟨t.val - 1, hlt⟩) (ix2 j k)).trans ?_
    refine (carryOut_apply _ _ _ _ _ _ j k).trans ((prod_at m c ⟨t.val - 1, hlt⟩ _ k).trans ?_)
    refine Eq.trans ?_ (back_shift _ _ _ _ 0 (8 - j.val) (seqOf ⟨t.val - 1, hlt⟩) (seqOf t) (posOf ⟨t.val - 1, hlt⟩ ⟨504 + j.val, by omega⟩) (posOf t 0) k
      (Fin.ext (by show min (t.val - 1) 63 / 4 = min t.val 63 / 4; omega))
      (by show min (t.val - 1) 63 % 4 * 512 + (504 + j.val) + (8 - j.val) = min t.val 63 % 4 * 512 + 0 + 0; omega))
    unfold back
    rw [if_pos (Nat.zero_le _)]
    rfl

/-- The first row before a point's block. -/
theorem last_at (t : Fin cfg0.N) (ht : t.val < 64) (k : Fin 512) :
    k0_pay50 (F := Ideal) (BitVec.ofNat 32 (grid0.coords t 0).val) (carryN m c (t.val - 1)) (ix2 0 k) = back (m ((c : Thread nD τ).loc main_arg0)) (m ((c : Thread nD τ).loc main_arg2)) (m ((c : Thread nD τ).loc main_arg3)) (m ((c : Thread nD τ).loc main_arg4)) 1 (seqOf t) (posOf t 0) k :=
  (extractStridedSlice_apply ![7, 0] _ slices_S8x512_o7_0_S1x512 (ix2 0 k) (ix2 7 k) (fun a => match a with
    | ⟨0, _⟩ => rfl
    | ⟨1, _⟩ => (Nat.zero_add k.val).symm)).trans (before_at m c t ht 7 k)

/-- The second row before a point's block. -/
theorem last2_at (t : Fin cfg0.N) (ht : t.val < 64) (k : Fin 512) :
    k0_pay51 (F := Ideal) (BitVec.ofNat 32 (grid0.coords t 0).val) (carryN m c (t.val - 1)) (ix2 0 k) = back (m ((c : Thread nD τ).loc main_arg0)) (m ((c : Thread nD τ).loc main_arg2)) (m ((c : Thread nD τ).loc main_arg3)) (m ((c : Thread nD τ).loc main_arg4)) 2 (seqOf t) (posOf t 0) k :=
  (extractStridedSlice_apply ![6, 0] _ slices_S8x512_o6_0_S1x512 (ix2 0 k) (ix2 6 k) (fun a => match a with
    | ⟨0, _⟩ => rfl
    | ⟨1, _⟩ => (Nat.zero_add k.val).symm)).trans (before_at m c t ht 6 k)

/-- A row of the block is no row back from itself. -/
theorem back_zero (t : Fin cfg0.N) (r k : Fin 512) :
    convIn (F := Ideal) (iblk m c 0 t) (iblk m c 10 t) (iblk m c 3 t) (iblk m c 4 t) (iblk m c 7 t) (iblk m c 8 t) (ix2 r k)
      = back (m ((c : Thread nD τ).loc main_arg0)) (m ((c : Thread nD τ).loc main_arg2)) (m ((c : Thread nD τ).loc main_arg3)) (m ((c : Thread nD τ).loc main_arg4)) 0 (seqOf t) (posOf t r) k := by
  refine (prod_at m c t r k).trans ?_
  unfold back
  rw [if_pos (Nat.zero_le _)]
  rfl

/-- The product one row before a point's row. -/
theorem prev1_at (t : Fin cfg0.N) (ht : t.val < 64) (r k : Fin 512) :
    prev1 (convIn (F := Ideal) (iblk m c 0 t) (iblk m c 10 t) (iblk m c 3 t) (iblk m c 4 t) (iblk m c 7 t) (iblk m c 8 t))
        (k0_pay50 (BitVec.ofNat 32 (grid0.coords t 0).val) (carryN m c (t.val - 1))) r k
      = back (m ((c : Thread nD τ).loc main_arg0)) (m ((c : Thread nD τ).loc main_arg2)) (m ((c : Thread nD τ).loc main_arg3)) (m ((c : Thread nD τ).loc main_arg4)) 1 (seqOf t) (posOf t r) k := by
  unfold prev1
  by_cases h : r.val = 0
  · rw [if_pos h, last_at m c t ht k]
    exact back_shift _ _ _ _ _ _ _ _ _ _ k rfl (by show min t.val 63 % 4 * 512 + 0 + 1 = min t.val 63 % 4 * 512 + r.val + 1; omega)
  · rw [if_neg h, back_zero]
    exact back_shift _ _ _ _ _ _ _ _ _ _ k rfl (by show min t.val 63 % 4 * 512 + (r.val - 1) + 1 = min t.val 63 % 4 * 512 + r.val + 0; omega)

/-- The product two rows before a point's row. -/
theorem prev2_at (t : Fin cfg0.N) (ht : t.val < 64) (r k : Fin 512) :
    prev2 (convIn (F := Ideal) (iblk m c 0 t) (iblk m c 10 t) (iblk m c 3 t) (iblk m c 4 t) (iblk m c 7 t) (iblk m c 8 t))
        (k0_pay50 (BitVec.ofNat 32 (grid0.coords t 0).val) (carryN m c (t.val - 1))) (k0_pay51 (BitVec.ofNat 32 (grid0.coords t 0).val) (carryN m c (t.val - 1))) r k
      = back (m ((c : Thread nD τ).loc main_arg0)) (m ((c : Thread nD τ).loc main_arg2)) (m ((c : Thread nD τ).loc main_arg3)) (m ((c : Thread nD τ).loc main_arg4)) 2 (seqOf t) (posOf t r) k := by
  unfold prev2
  by_cases h : r.val = 0
  · rw [if_pos h, last2_at m c t ht k]
    exact back_shift _ _ _ _ _ _ _ _ _ _ k rfl (by show min t.val 63 % 4 * 512 + 0 + 2 = min t.val 63 % 4 * 512 + r.val + 2; omega)
  · rw [if_neg h]
    by_cases h' : r.val = 1
    · rw [if_pos h', last_at m c t ht k]
      exact back_shift _ _ _ _ _ _ _ _ _ _ k rfl (by show min t.val 63 % 4 * 512 + 0 + 2 = min t.val 63 % 4 * 512 + r.val + 1; omega)
    · rw [if_neg h', back_zero]
      exact back_shift _ _ _ _ _ _ _ _ _ _ k rfl (by show min t.val 63 % 4 * 512 + (r.val - 2) + 2 = min t.val 63 % 4 * 512 + r.val + 0; omega)

/-- An entry of the mixed row depends on its parts alone. -/
theorem mixed_parts {x x' : EReal} {ga ga' gb gb' ya ya' yb yb' col col' : Fin 1024 → EReal} (hx : x = x') (ha : ga = ga') (hb : gb = gb') (hya : ya = ya') (hyb : yb = yb')
    (hc : col = col') : mixed x ga gb ya yb col = mixed x' ga' gb' ya' yb' col' := by
  subst hx ha hb hya hyb hc; rfl

/-- The rows a point stores, from the arguments. -/
theorem mixBlk_row (t : Fin cfg0.N) (ht : t.val < 64) (r : Fin 512) (d : Fin 1024) :
    mixBlk m c t (ix2 r d) = mixedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf t) (posOf t r) d := by
  have h1 : (fun k => iblk m c 1 t (ix3 0 r k)) = _ := funext fun k => iblk1 m c t r k
  have h2 : ∀ k, (fun p => iblk m c 2 t (ix2 p k)) = _ := fun k => funext fun p => iblk2 m c t p k
  have h5 : ∀ k, (fun p => iblk m c 5 t (ix2 p k)) = _ := fun k => funext fun p => iblk5 m c t p k
  have h14 : ∀ q : Fin 1024, (fun k => iblk m c 14 t (ix2 k ⟨q.val, by omega⟩)) = _ := fun q => funext fun k => iblk14_left m c t k q
  have h14' : ∀ q : Fin 1024, (fun k => iblk m c 14 t (ix2 k ⟨1024 + q.val, by omega⟩)) = _ := fun q => funext fun k => iblk14_right m c t k q
  have h15 : (fun q => iblk m c 15 t (ix2 q d)) = _ := funext fun q => iblk15 m c t q d
  have e3 : ∀ q : Fin 1024, (⟨2048 + (1024 + q.val), by omega⟩ : Fin 4096) = ⟨3072 + q.val, by omega⟩ := fun q => Fin.ext (by show 2048 + (1024 + q.val) = 3072 + q.val; omega)
  unfold mixBlk
  refine (congrFun (mixOut_eq (grid0.coords t) (carryN m c (t.val - 1)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ix2 r d)).trans ?_
  refine (loads_apply _ _ _ _ _ _ _ _ _ _ _ _ _ _ _ _ _ _ _ _ r d).trans ?_
  unfold mixedAt
  rw [iblk0, row_x, row_g, h1, h15]
  refine mixed_parts rfl ?_ ?_ ?_ ?_ rfl
  · funext q
    unfold linAt
    rw [h5, iblk9]
  · funext q
    unfold linAt
    rw [h5, iblk9, ← e3]
  · funext q
    rw [h14, h14']
  · funext q
    refine Finset.sum_congr rfl fun k _ => ?_
    unfold convAt linAt
    rw [h2, iblk6, (ld_taps (iblk m c 11 t) k).1, (ld_taps (iblk m c 11 t) k).2.1, (ld_taps (iblk m c 11 t) k).2.2, iblk11, iblk11, iblk11, iblk12, iblk13,
      prev1_at m c t ht, prev2_at m c t ht, prod_at]

end

/-- What the call leaves, row by row. -/
def leftArr (c : Dev nD) : S32768x1024.Idx → EReal := fun i => outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)

/-- The array the call leaves is `outArr` of its arguments. -/
theorem array_ideal (c : Dev nD) : (dats m 0 c).arrAt 19 cfg0.N = leftArr m c := by
  refine (dats m 0 c).arrAt_eq_of_covers 19 (leftArr m c) (by decide +kernel) fun t hf y => ?_
  have e : ((cfg0.win 19).blk t).view.emb y = (ix2 (rowAt t (y 0)) (y 1) : S32768x1024.Idx) := funext fun a => Fin.ext ((win0_19.rect_emb_val t y a).trans (by
    rw [(index_facts t).2.2.2.2.2.2.2.2.2.2.2.2.2.2.2.2]
    match a with
    | ⟨0, _⟩ => rfl
    | ⟨1, _⟩ => exact Nat.zero_add _))
  rw [e]
  have hy : (y 0).val < 512 := (y 0).isLt
  have ho : (ownPt t).val = min t.val 63 := rfl
  refine Eq.trans (congrFun (after0_19 m c t) y) ?_
  rw [show y = (ix2 (y 0) (y 1) : S512x1024.Idx) from ValueIdx.eq_ix2 y]
  refine (mixBlk_row m c (ownPt t) (by omega) (y 0) (y 1)).trans ?_
  show mixedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf (ownPt t)) (posOf (ownPt t) (y 0)) (y 1)
    = mixedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨(min t.val 63 * 512 + (y 0).val) / 2048, by omega⟩ ⟨(min t.val 63 * 512 + (y 0).val) % 2048, by omega⟩ (y 1)
  rw [show seqOf (ownPt t) = ⟨(min t.val 63 * 512 + (y 0).val) / 2048, by omega⟩ from Fin.ext (by show min (min t.val 63) 63 / 4 = (min t.val 63 * 512 + (y 0).val) / 2048; omega),
    show posOf (ownPt t) (y 0) = ⟨(min t.val 63 * 512 + (y 0).val) % 2048, by omega⟩ from Fin.ext (by show min (min t.val 63) 63 % 4 * 512 + (y 0).val = (min t.val 63 * 512 + (y 0).val) % 2048; omega)]

end Cert.Proof.MixRow

end
-- ==== Proof.MixRef.lean ====
module

public import proofs.«01_k».proof.Proof.MixRow
public import proofs.«01_k».proof.Proof.Gen.Reference3Ideal.Read
public import Idealize.ShloMosaic.Lib.KernelVsHost

@[expose] public section

/-! # The mixing call's reference at the ideal reals

Each entry of the reference's result is that entry of `outArr`. -/

noncomputable section

namespace Cert.Proof.MixRow

open Cert.Reference3Ideal Cert.Reference3Ideal.Gen Cert.Reference3Ideal.Read
open Idealize.ShloMosaic
open Idealize.ShloMosaic.ValueIdx (ix1 ix2 ix3)
open scoped BigOperators

variable (x0 : FVec Ideal S16x2048x1024 .f32) (x1 : FVec Ideal S16x2048x512 .bf16) (x2 : FVec Ideal S1024 .f32) (x3 : FVec Ideal S1024x4096 .f32)
  (x4 : FVec Ideal S4096 .f32) (x5 : FVec Ideal S3x512 .f32) (x6 : FVec Ideal S512 .f32) (x7 x8 x9 : FVec Ideal S512x1024 .f32) (x10 : FVec Ideal S1024x1024 .f32)
  (B : Fin 16) (S : Fin 2048)

/-- The norm. -/
theorem ref_norm (q : Fin 1024) :
    val_main_v12 (F := Ideal) x0 x2 (ix3 B S q) = Ple.rms (fun q => x0 (ix3 B S q)) (fun q => x2 (ix1 q)) q := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply]
  have hz : (val_main_cst (F := Ideal)) (Shape.Idx.first h_S_) = (0 : EReal) := Ideal.ofBits_zero_f32
  rw [hz, zero_add]
  have e : ∀ k, idx_main_v1 (idx_main_v2 (idx_main_v8 (ix3 B S q))) k = ix3 B S k := fun k => funext fun a => (match a with
    | ⟨0, _⟩ => rfl
    | ⟨1, _⟩ => rfl
    | ⟨2, _⟩ => rfl)
  have eg : idx_main_v10 (idx_main_v11 (ix3 B S q)) = ix1 q := funext fun a => (match a with
    | ⟨0, _⟩ => rfl)
  simp only [e, eg, val_main_v0_apply]
  rfl

/-- A projection. -/
theorem ref_lin (n : Fin 4096) : val_main_v16 (F := Ideal) x0 x2 x3 x4 (ix3 B S n) = linAt x0 x2 x3 x4 B S n := by
  rw [val_main_v16_apply, val_main_v13_apply, val_main_v15_apply, val_main_v14_apply]
  have el : ∀ k, lidx_main_v13 (ix3 B S n) k = ix3 B S k := fun k => funext fun a => (match a with
    | ⟨0, _⟩ => rfl
    | ⟨1, _⟩ => rfl
    | ⟨2, _⟩ => rfl)
  have er : ∀ k, ridx_main_v13 (ix3 B S n) k = ix2 k n := fun k => funext fun a => (match a with
    | ⟨0, _⟩ => rfl
    | ⟨1, _⟩ => rfl)
  have eb : idx_main_v14 (idx_main_v15 (ix3 B S n)) = ix1 n := funext fun a => (match a with
    | ⟨0, _⟩ => rfl)
  simp only [el, er, eb, ref_norm]
  rfl

/-- The projection beside the convolution. -/
theorem ref_v17 (k : Fin 512) : val_main_v17 (F := Ideal) x0 x2 x3 x4 (ix3 B S k) = linAt x0 x2 x3 x4 B S ⟨512 + k.val, by omega⟩ := by
  rw [val_main_v17_apply, ← ref_lin]
  exact congrArg _ (funext fun a => (match a with
    | ⟨0, _⟩ => rfl
    | ⟨1, _⟩ => rfl
    | ⟨2, _⟩ => rfl))

/-- The product that is convolved. -/
theorem ref_prod (k : Fin 512) : val_main_v44 (F := Ideal) x0 x2 x3 x4 (ix3 B S k) = prodAt x0 x2 x3 x4 B S k := by
  rw [val_main_v44_apply, val_main_v18_apply, val_main_v19_apply]
  unfold prodAt
  rw [← ref_lin, ← ref_lin]
  refine congrArg₂ (fun a b : EReal => a * b) (congrArg _ (funext fun a => (match a with
    | ⟨0, _⟩ => rfl
    | ⟨1, _⟩ => rfl
    | ⟨2, _⟩ => rfl))) (congrArg _ (funext fun a => (match a with
    | ⟨0, _⟩ => rfl
    | ⟨1, _⟩ => rfl
    | ⟨2, _⟩ => rfl)))

/-- The first gate. -/
theorem ref_gate_a (q : Fin 1024) : val_main_v26 (F := Ideal) x0 x2 x3 x4 (ix3 B S q) = Ideal.logistic (linAt x0 x2 x3 x4 B S ⟨2048 + q.val, by omega⟩) := by
  rw [val_main_v26_apply, val_main_v25_apply, val_main_v24_apply, val_main_v23_apply, val_main_v22_apply, val_main_v21_apply, val_main_v20_apply]
  have e : idx_main_v20 (ix3 B S q) = ix3 B S ⟨2048 + q.val, by omega⟩ := funext fun a => (match a with
    | ⟨0, _⟩ => rfl
    | ⟨1, _⟩ => rfl
    | ⟨2, _⟩ => rfl)
  rw [e, ref_lin]
  generalize linAt x0 x2 x3 x4 B S ⟨2048 + q.val, _⟩ = s
  show Ideal.div (Ideal.ofBits .f32 0x3F800000#32) (Ideal.ofBits .f32 0x3F800000#32 + Ideal.exp (-s)) = _
  rw [Ideal.ofBits_one_f32]
  rfl

/-- The second gate. -/
theorem ref_gate_b (q : Fin 1024) : val_main_v33 (F := Ideal) x0 x2 x3 x4 (ix3 B S q) = Ideal.logistic (linAt x0 x2 x3 x4 B S ⟨3072 + q.val, by omega⟩) := by
  rw [val_main_v33_apply, val_main_v32_apply, val_main_v31_apply, val_main_v30_apply, val_main_v29_apply, val_main_v28_apply, val_main_v27_apply]
  have e : idx_main_v27 (ix3 B S q) = ix3 B S ⟨3072 + q.val, by omega⟩ := funext fun a => (match a with
    | ⟨0, _⟩ => rfl
    | ⟨1, _⟩ => rfl
    | ⟨2, _⟩ => rfl)
  rw [e, ref_lin]
  generalize linAt x0 x2 x3 x4 B S ⟨3072 + q.val, _⟩ = s
  show Ideal.div (Ideal.ofBits .f32 0x3F800000#32) (Ideal.ofBits .f32 0x3F800000#32 + Ideal.exp (-s)) = _
  rw [Ideal.ofBits_one_f32]
  rfl

/-- The gated unit. -/
theorem ref_glu (q : Fin 1024) : val_main_v43 (F := Ideal) x1 x8 x9 (ix3 B S q)
    = glu (fun k => x1 (ix3 B S k)) (fun k => x8 (ix2 k q)) (fun k => x9 (ix2 k q)) := by
  rw [val_main_v43_apply, val_main_v42_apply, val_main_v41_apply, val_main_v40_apply, val_main_v39_apply, val_main_v38_apply, val_main_v37_apply,
    val_main_v36_apply, val_main_v35_apply]
  have el : ∀ k, lidx_main_v35 (ix3 B S q) k = ix3 B S k := fun k => funext fun a => (match a with
    | ⟨0, _⟩ => rfl
    | ⟨1, _⟩ => rfl
    | ⟨2, _⟩ => rfl)
  have er : ∀ k, ridx_main_v35 (ix3 B S q) k = ix2 k q := fun k => funext fun a => (match a with
    | ⟨0, _⟩ => rfl
    | ⟨1, _⟩ => rfl)
  have el' : ∀ k, lidx_main_v36 (ix3 B S q) k = ix3 B S k := fun k => funext fun a => (match a with
    | ⟨0, _⟩ => rfl
    | ⟨1, _⟩ => rfl
    | ⟨2, _⟩ => rfl)
  have er' : ∀ k, ridx_main_v36 (ix3 B S q) k = ix2 k q := fun k => funext fun a => (match a with
    | ⟨0, _⟩ => rfl
    | ⟨1, _⟩ => rfl)
  have ec : ∀ i, val_main_v34 (F := Ideal) x1 i = (x1 i : EReal) := fun i => rfl
  simp only [el, er, el', er', ec]
  unfold glu
  generalize (∑ k : Fin 512, (x1 (ix3 B S k) : EReal) * x9 (ix2 k q)) = s
  generalize (∑ k : Fin 512, (x1 (ix3 B S k) : EReal) * x8 (ix2 k q)) = u
  show u * Ideal.div (Ideal.ofBits .f32 0x3F800000#32) (Ideal.ofBits .f32 0x3F800000#32 + Ideal.exp (-s)) = _
  rw [Ideal.ofBits_one_f32]
  rfl

/-- The padding is zeros. -/
theorem ref_pad0 (i : S_.Idx) : val_main_call0_v0 (F := Ideal) i = (0 : EReal) := by
  show (((0#32 : BitVec 32).toInt : ℝ) : EReal) = 0
  simp

/-- The product with two rows of zeros before each sequence. -/
theorem ref_padded (P : Fin 2050) (k : Fin 512) (T : Fin 2048) (h : P.val = 2 + T.val) :
    val_main_v45 (F := Ideal) x0 x2 x3 x4 (ix3 B P k) = prodAt x0 x2 x3 x4 B T k := by
  rw [← ref_prod]
  unfold val_main_v45
  refine pad_apply_of_inside ![0, 2, 0] ![0, 0, 0] ![0, 0, 0] _ _ pads_S16x2048x512_S16x2050x512_000_200_000 h_S_ (ix3 B P k) (ix3 B T k) (fun a => match a with
    | ⟨0, _⟩ => by show B.val = 0 + B.val * (0 + 1); omega
    | ⟨1, _⟩ => by show P.val = 2 + T.val * (0 + 1); omega
    | ⟨2, _⟩ => by show k.val = 0 + k.val * (0 + 1); omega)

/-- The zeros. -/
theorem ref_zeros (P : Fin 2050) (k : Fin 512) (h : P.val < 2) : val_main_v45 (F := Ideal) x0 x2 x3 x4 (ix3 B P k) = (0 : EReal) := by
  unfold val_main_v45
  refine (pad_apply_of_not_inside (s := S16x2048x512) (t := S16x2050x512) ![0, 2, 0] ![0, 0, 0] ![0, 0, 0] _ _ pads_S16x2048x512_S16x2050x512_000_200_000 h_S_ (ix3 B P k) 1 ?_).trans (ref_pad0 _)
  intro hh
  have h2 : 2 ≤ P.val := hh.1
  omega

/-- The product two rows before. -/
theorem ref_back2 (k : Fin 512) : val_main_v48 (F := Ideal) x0 x2 x3 x4 (ix3 B S k) = back x0 x2 x3 x4 2 B S k := by
  rw [val_main_v48_apply]
  have e : idx_main_v48 (ix3 B S k) = ix3 B ⟨S.val, by omega⟩ k := funext fun a => (match a with
    | ⟨0, _⟩ => rfl
    | ⟨1, _⟩ => rfl
    | ⟨2, _⟩ => rfl)
  rw [e]; unfold back
  by_cases h : 2 ≤ S.val
  · rw [if_pos h]; exact ref_padded x0 x2 x3 x4 B _ k _ (by show S.val = 2 + (S.val - 2); omega)
  · rw [if_neg h]; exact ref_zeros x0 x2 x3 x4 B _ k (by show S.val < 2; omega)

/-- The product one row before. -/
theorem ref_back1 (k : Fin 512) : val_main_v56 (F := Ideal) x0 x2 x3 x4 (ix3 B S k) = back x0 x2 x3 x4 1 B S k := by
  rw [val_main_v56_apply]
  have e : idx_main_v56 (ix3 B S k) = ix3 B ⟨1 + S.val, by omega⟩ k := funext fun a => (match a with
    | ⟨0, _⟩ => rfl
    | ⟨1, _⟩ => rfl
    | ⟨2, _⟩ => rfl)
  rw [e]; unfold back
  by_cases h : 1 ≤ S.val
  · rw [if_pos h]; exact ref_padded x0 x2 x3 x4 B _ k _ (by show 1 + S.val = 2 + (S.val - 1); omega)
  · rw [if_neg h]; exact ref_zeros x0 x2 x3 x4 B _ k (by show 1 + S.val < 2; omega)

/-- The product itself. -/
theorem ref_back0 (k : Fin 512) : val_main_v63 (F := Ideal) x0 x2 x3 x4 (ix3 B S k) = prodAt x0 x2 x3 x4 B S k := by
  rw [val_main_v63_apply]
  have e : idx_main_v63 (ix3 B S k) = ix3 B ⟨2 + S.val, by omega⟩ k := funext fun a => (match a with
    | ⟨0, _⟩ => rfl
    | ⟨1, _⟩ => rfl
    | ⟨2, _⟩ => rfl)
  rw [e]
  exact ref_padded x0 x2 x3 x4 B _ k _ rfl

/-- The convolution. -/
theorem ref_conv (k : Fin 512) : val_main_v70 (F := Ideal) x0 x2 x3 x4 x5 x6 (ix3 B S k) = convAt x0 x2 x3 x4 x5 x6 B S k := by
  rw [val_main_v70_apply, val_main_v67_apply, val_main_v66_apply, val_main_v60_apply, val_main_v59_apply, val_main_v53_apply, val_main_v51_apply,
    val_main_v52_apply, ref_back0, ref_back1, ref_back2,
    val_main_v50_apply, val_main_v49_apply, val_main_v47_apply, val_main_v46_apply, val_main_v58_apply, val_main_v57_apply, val_main_v55_apply,
    val_main_v54_apply, val_main_v65_apply, val_main_v64_apply, val_main_v62_apply, val_main_v61_apply, val_main_v69_apply, val_main_v68_apply]
  have hk : k.val % 512 = k.val := Nat.mod_eq_of_lt k.isLt
  have e0 : idx_main_v46 (idx_main_v47 (idx_main_v49 (idx_main_v50 (ix3 B S k)))) = ix2 0 k := funext fun a => Fin.ext (match a with
    | ⟨0, _⟩ => rfl
    | ⟨1, _⟩ => hk)
  have e1 : idx_main_v54 (idx_main_v55 (idx_main_v57 (idx_main_v58 (ix3 B S k)))) = ix2 1 k := funext fun a => Fin.ext (match a with
    | ⟨0, _⟩ => rfl
    | ⟨1, _⟩ => hk)
  have e2 : idx_main_v61 (idx_main_v62 (idx_main_v64 (idx_main_v65 (ix3 B S k)))) = ix2 2 k := funext fun a => Fin.ext (match a with
    | ⟨0, _⟩ => rfl
    | ⟨1, _⟩ => hk)
  have eb : idx_main_v68 (idx_main_v69 (ix3 B S k)) = ix1 k := funext fun a => (match a with
    | ⟨0, _⟩ => rfl)
  rw [e0, e1, e2, eb]
  have hz : ∀ i, (val_main_cst_8 (F := Ideal)) i = (0 : EReal) := fun _ => Ideal.ofBits_zero_f32
  rw [hz]
  unfold convAt conv
  refine congrArg (fun s : EReal => ((s + x5 (ix2 1 k) * back x0 x2 x3 x4 1 B S k) + x5 (ix2 2 k) * prodAt x0 x2 x3 x4 B S k) + x6 (ix1 k)) ?_
  exact zero_add _

/-- The convolved part, projected. -/
theorem ref_yb (q : Fin 1024) : val_main_v72 (F := Ideal) x0 x2 x3 x4 x5 x6 x7 (ix3 B S q)
    = ∑ k : Fin 512, (linAt x0 x2 x3 x4 B S ⟨512 + k.val, by omega⟩ * convAt x0 x2 x3 x4 x5 x6 B S k) * x7 (ix2 k q) := by
  rw [val_main_v72_apply]
  have el : ∀ k, lidx_main_v72 (ix3 B S q) k = ix3 B S k := fun k => funext fun a => (match a with
    | ⟨0, _⟩ => rfl
    | ⟨1, _⟩ => rfl
    | ⟨2, _⟩ => rfl)
  have er : ∀ k, ridx_main_v72 (ix3 B S q) k = ix2 k q := fun k => funext fun a => (match a with
    | ⟨0, _⟩ => rfl
    | ⟨1, _⟩ => rfl)
  simp only [el, er, val_main_v71_apply, ref_v17, ref_conv]
  rfl

/-- The mixed row. -/
theorem ref_mixed (d : Fin 1024) : val_main_v77 (F := Ideal) x0 x1 x2 x3 x4 x5 x6 x7 x8 x9 x10 (ix3 B S d)
    = mixedAt x0 x1 x2 x3 x4 x5 x6 x7 x8 x9 x10 B S d := by
  rw [val_main_v77_apply, val_main_v76_apply]
  have el : ∀ k, lidx_main_v76 (ix3 B S d) k = ix3 B S k := fun k => funext fun a => (match a with
    | ⟨0, _⟩ => rfl
    | ⟨1, _⟩ => rfl
    | ⟨2, _⟩ => rfl)
  have er : ∀ k, ridx_main_v76 (ix3 B S d) k = ix2 k d := fun k => funext fun a => (match a with
    | ⟨0, _⟩ => rfl
    | ⟨1, _⟩ => rfl)
  simp only [el, er, val_main_v75_apply, val_main_v74_apply, val_main_v73_apply, ref_gate_a, ref_gate_b, ref_glu, ref_yb]
  rfl

/-- The reference's result, at an entry. -/
theorem ref_ideal (R : Fin 32768) (d : Fin 1024) : val_main_v78 (F := Ideal) x0 x1 x2 x3 x4 x5 x6 x7 x8 x9 x10 (ix2 R d)
    = outArr x0 x1 x2 x3 x4 x5 x6 x7 x8 x9 x10 R d := by
  rw [val_main_v78_apply]
  have hd := d.isLt
  have e : idx_main_v78 (ix2 R d) = ix3 ⟨R.val / 2048, by omega⟩ ⟨R.val % 2048, by omega⟩ d := funext fun a => Fin.ext (match a with
    | ⟨0, _⟩ => by show (R.val * 1024 + d.val) / 2097152 = R.val / 2048; omega
    | ⟨1, _⟩ => by show (R.val * 1024 + d.val) / 1024 % 2048 = R.val % 2048; omega
    | ⟨2, _⟩ => by show (R.val * 1024 + d.val) % 1024 = d.val; omega)
  rw [e]
  exact ref_mixed x0 x1 x2 x3 x4 x5 x6 x7 x8 x9 x10 _ _ d

end Cert.Proof.MixRow

end
-- ==== Proof.lean ====
module

public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Defs
public import proofs.«01_k».proof.Proof.Launch
public import proofs.«01_k».proof.Proof.SameText
public import proofs.«01_k».proof.Proof.ValRef
public import proofs.«01_k».proof.Proof.ValMask
public import proofs.«01_k».proof.Proof.PleArray
public import proofs.«01_k».proof.Proof.PleRef
public import proofs.«01_k».proof.Proof.MixBitsFrame
public import proofs.«01_k».proof.Proof.MixIdealFrame
public import proofs.«01_k».proof.Proof.MixArray
public import proofs.«01_k».proof.Proof.MixRef
public import Idealize.ShloMosaic.Lib.Bf16PairInverse
public import Idealize.ShloMosaic.Lib.Bf16Pair
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem
open Cert.Proof.Moe

/-- The claim's precondition says that every core's tables hold a plan that fits. -/
theorem ok_of_pre [Cert.Pre_plan_fits.Facts] {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_plan_fits.fn (F := F) (V m c Cert.KernelIdeal.main_arg0) (V m c Cert.KernelIdeal.main_arg1)
      (V m c Cert.KernelIdeal.main_arg2) (V m c Cert.KernelIdeal.main_arg3) (V m c Cert.KernelIdeal.main_arg4) (V m c Cert.KernelIdeal.main_arg5)
      (V m c Cert.KernelIdeal.main_arg6) (V m c Cert.KernelIdeal.main_arg7) (V m c Cert.KernelIdeal.main_arg8) = fun _ => 1#1) :
    PreOK m := fun c => fits_of_says (says_of_pre _ _ _ _ _ _ _ _ _ (h c))

/-- The kernel's frame at any float values: the nine arguments are left as they were and every counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5) = m ((c : Thread Cert.KernelIdeal.nD Cert.KernelIdeal.τ).loc Cert.KernelIdeal.main_arg5)
        ∧ r.2.mem ((c : Thread Cert.KernelIdeal.nD Cert.KernelIdeal.τ).loc Cert.KernelIdeal.main_arg6) = m ((c : Thread Cert.KernelIdeal.nD Cert.KernelIdeal.τ).loc Cert.KernelIdeal.main_arg6)
        ∧ r.2.mem ((c : Thread Cert.KernelIdeal.nD Cert.KernelIdeal.τ).loc Cert.KernelIdeal.main_arg7) = m ((c : Thread Cert.KernelIdeal.nD Cert.KernelIdeal.τ).loc Cert.KernelIdeal.main_arg7)
        ∧ r.2.mem ((c : Thread Cert.KernelIdeal.nD Cert.KernelIdeal.τ).loc Cert.KernelIdeal.main_arg8) = m ((c : Thread Cert.KernelIdeal.nD Cert.KernelIdeal.τ).loc Cert.KernelIdeal.main_arg8))
      ∧ r.2.sem = fun _ => 0) :=
  (θ_run Cert.KernelIdeal.defs _ _).mono (fun _ hh => ⟨fun c =>
    ⟨((hh.1 c).1 0).trans (finalA_in m ρ c 0 rfl), ((hh.1 c).1 1).trans (finalA_in m ρ c 1 rfl), ((hh.1 c).1 2).trans (finalA_in m ρ c 2 rfl),
      ((hh.1 c).1 3).trans (finalA_in m ρ c 3 rfl), ((hh.1 c).1 4).trans (finalA_in m ρ c 4 rfl),
      (hh.1 c).2.1.1, (hh.1 c).2.1.2.1, (hh.1 c).2.1.2.2.1, (hh.1 c).2.1.2.2.2⟩, hh.2⟩) (run_main m ρ h)

/-- The kernel's frame at the bits. -/
theorem frame_kernel : Cert.quiescent_Kernel (hPre_plan_fits := preFacts) := fun m ρ hpre =>
  haveI := preFacts
  (congrArg (fun D => (θ_run D (onTc (τ := Cert.Kernel.τ) (Cert.Kernel.main (F := Bits))) ⟨m, fun _ => 0, ρ⟩) _) (defs_same (F := Bits))).mpr
    (frame_any (F := Bits) m ρ (ok_of_pre m hpre))

/-- The kernel's frame at the ideal reals. -/
theorem frame_kernelIdeal : Cert.quiescent_KernelIdeal (hPre_plan_fits := preFacts) := fun m ρ hpre =>
  haveI := preFacts
  frame_any (F := Ideal) m ρ (ok_of_pre m hpre)

/-- The reference's frame: it writes no argument and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories whose tables hold a plan that fits. -/
theorem frame_reference_pre : Cert.quiescent_ReferenceIdeal_pre_plan_fits (hPre_plan_fits := preFacts) := fun m ρ _ =>
  frame_reference m ρ trivial

/-- The reference's result at the kernel's arguments, on every core. -/
def refOut (m : (ℓ : Loc Cert.KernelIdeal.nD Cert.KernelIdeal.τ Cert.KernelIdeal.sig) → Buf (Elt Ideal) ℓ) (c : Dev Cert.KernelIdeal.nD) :
    Buf (Elt Ideal) ((c : Thread Cert.KernelIdeal.nD Cert.KernelIdeal.τ).loc Cert.KernelIdeal.main_v0) :=
  Cert.ReferenceIdeal.Read.val_main_v17 (F := Ideal) (V m c Cert.KernelIdeal.main_arg0) (V m c Cert.KernelIdeal.main_arg5)
    (V m c Cert.KernelIdeal.main_arg6) (V m c Cert.KernelIdeal.main_arg7) (V m c Cert.KernelIdeal.main_arg8)

/-- A row of tile `b` that the run has made is the reference's. -/
theorem row_eq (m : (ℓ : Loc Cert.KernelIdeal.nD Cert.KernelIdeal.τ Cert.KernelIdeal.sig) → Buf (Elt Ideal) ℓ) (h : PreOK m) (c : Dev Cert.KernelIdeal.nD)
    (f : Buf (Elt Ideal) ((c : Thread Cert.KernelIdeal.nD Cert.KernelIdeal.τ).loc Cert.KernelIdeal.main_v0))
    (hf : ResGood c (pl m c) (XSof m c) (EGof m c) (EUof m c) (EDof m c) (pl m c).n f)
    (b : Fin 96) (r : Fin 4) (l : Fin 256) (j : Fin 1024) (hb : b.val < (pl m c).n) (hr : (r.val : ℤ) < ((pl m c).ns b).toInt) :
    f (ValueIdx.ix2 (rowT b (rowG r l)) j) = refOut m c (ValueIdx.ix2 (rowT b (rowG r l)) j) := by
  have e1 := (oblk_read c b f (rowG r l) j).symm.trans (hf b hb r hr l j)
  refine e1.trans ((rowsOf_ideal c (pl m c) (XSof m c) (EGof m c) (EUof m c) (EDof m c) b r l j).trans ?_)
  have hte : (V m c Cert.KernelIdeal.main_arg0) (ValueIdx.ix1 b) = BitVec.ofNat 32 ((pl m c).te b).val :=
    (congrArg (V m c Cert.KernelIdeal.main_arg0) (show (ValueIdx.ix1 b : Cert.KernelIdeal.S96.Idx) = ix96 b from funext fun a => match a with | ⟨0, _⟩ => rfl)).trans ((h c).te_eq b)
  refine (ref_ideal (V m c Cert.KernelIdeal.main_arg0) (V m c Cert.KernelIdeal.main_arg5) (V m c Cert.KernelIdeal.main_arg6)
    (V m c Cert.KernelIdeal.main_arg7) (V m c Cert.KernelIdeal.main_arg8) (rowT b (rowG r l)) j b ?_ ((pl m c).te b) hte).symm
  show (1024 * b.val + (256 * r.val + l.val)) / 1024 = b.val
  have := r.isLt; have := l.isLt; omega

/-- A small word's signed value. -/
theorem word_toInt {k : ℕ} (h : k < 100) : (W k).toInt = k := by
  rw [BitVec.toInt_eq_toNat_cond, W_toNat h, if_pos (by omega)]

/-- Where the mask is set, the run's result is the reference's. -/
theorem masked_eq (m : (ℓ : Loc Cert.KernelIdeal.nD Cert.KernelIdeal.τ Cert.KernelIdeal.sig) → Buf (Elt Ideal) ℓ) (h : PreOK m) (c : Dev Cert.KernelIdeal.nD)
    (f : Buf (Elt Ideal) ((c : Thread Cert.KernelIdeal.nD Cert.KernelIdeal.τ).loc Cert.KernelIdeal.main_v0))
    (hf : ResGood c (pl m c) (XSof m c) (EGof m c) (EUof m c) (EDof m c) (pl m c).n f) (i : (⟨2, ![98304, 1024]⟩ : Shape).Idx)
    (hi : haveI := onFacts; Cert.On_rows_routed.fn  (F := Ideal) (V m c Cert.KernelIdeal.main_arg0) (V m c Cert.KernelIdeal.main_arg1)
      (V m c Cert.KernelIdeal.main_arg2) (V m c Cert.KernelIdeal.main_arg3) (V m c Cert.KernelIdeal.main_arg4) (V m c Cert.KernelIdeal.main_arg5)
      (V m c Cert.KernelIdeal.main_arg6) (V m c Cert.KernelIdeal.main_arg7) (V m c Cert.KernelIdeal.main_arg8) i = 1#1) :
    f i = refOut m c i := by
  have hR : (i 0).val < 98304 := (i 0).isLt
  let b : Fin 96 := ⟨(i 0).val / 1024, by omega⟩
  let r : Fin 4 := ⟨(i 0).val % 1024 / 256, by omega⟩
  let l : Fin 256 := ⟨(i 0).val % 256, by omega⟩
  have eR : (rowT b (rowG r l)).val = (i 0).val := by
    show 1024 * ((i 0).val / 1024) + (256 * ((i 0).val % 1024 / 256) + (i 0).val % 256) = (i 0).val
    omega
  have ei : i = ValueIdx.ix2 (rowT b (rowG r l)) (i 1) := funext fun a => (match a with
    | ⟨0, _⟩ => Fin.ext eR.symm
    | ⟨1, _⟩ => rfl)
  rw [ei] at hi ⊢
  obtain ⟨h1, h2⟩ := haveI := onFacts; mask_says _ _ _ _ _ _ _ _ _ b r l (rowT b (rowG r l)) (i 1) rfl hi
  refine row_eq m h c f hf b r l (i 1) ?_ ?_
  · have hn := (h c).ok.n_le
    rw [(h c).nt_eq] at h1
    have hb96 : b.val < 100 := by have := b.isLt; omega
    rw [word_toInt hb96, word_toInt (show (planOf _ _ _ _ _).n < 100 from Nat.lt_of_le_of_lt hn (by decide))] at h1
    exact_mod_cast h1
  · rw [word_toInt (show r.val < 100 from Nat.lt_trans r.isLt (by decide))] at h2
    exact h2

/-- The two results agree on the rows that hold a token. -/
theorem values : Cert.algebraic_KernelIdeal_ReferenceIdeal_on_rows_routed (hPre_plan_fits := preFacts) (hOn_rows_routed := onFacts) := by
  intro m g m' g' hpre hargs
  haveI := preFacts
  have h : PreOK m := ok_of_pre m hpre
  refine ⟨refOut m, ?_, ?_⟩
  · refine (θ_run Cert.KernelIdeal.defs _ _).mono (fun _ hh c => ⟨fun i hi => masked_eq m h c _ (hh.1 c).2.2 i hi, ?_⟩) (run_main m g h)
    exact ⟨((hh.1 c).1 0).trans (finalA_in m g c 0 rfl), ((hh.1 c).1 1).trans (finalA_in m g c 1 rfl), ((hh.1 c).1 2).trans (finalA_in m g c 2 rfl),
      ((hh.1 c).1 3).trans (finalA_in m g c 3 rfl), ((hh.1 c).1 4).trans (finalA_in m g c 4 rfl),
      (hh.1 c).2.1.1, (hh.1 c).2.1.2.1, (hh.1 c).2.1.2.2.1, (hh.1 c).2.1.2.2.2⟩
  · refine (θ_run Cert.ReferenceIdeal.defs _ _).mono (fun _ hh c => ⟨fun i _ => ?_, (hh c).2⟩) (Cert.ReferenceIdeal.Value.run (F := Ideal) m' g')
    obtain ⟨a0, -, -, -, -, a5, a6, a7, a8⟩ := hargs c
    refine congrFun ((hh c).1.trans ((Cert.ReferenceIdeal.Read.val_main_v17_eq (F := Ideal) _ _ _ _ _).trans ?_)) i
    unfold refOut
    exact congr (congr (congr (congrArg₂ (Cert.ReferenceIdeal.Read.val_main_v17 (F := Ideal)) a0 a5) a6) a7) a8

/-- The last call's frame at the bits. -/
theorem frame_kernel2 : Cert.quiescent_Kernel2 := fun m ρ _ => Cert.Kernel2.Gen.frame m ρ

/-- The last call's frame at the ideal reals. -/
theorem frame_kernel2Ideal : Cert.quiescent_Kernel2Ideal := fun m ρ _ => Cert.Kernel2Ideal.Gen.frame m ρ

/-- The frame of the last call's reference: it writes no argument and declares no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The last call's result is its reference's, at every place. -/
theorem values2 : Cert.algebraic_Kernel2Ideal_Reference2Ideal := by
  intro m g m' g' _ hargs
  refine ⟨fun c => Cert.Proof.Ple.leftArr m c, ?_, ?_⟩
  · exact (θ_run Cert.Kernel2Ideal.defs _ _).mono (fun _ hh c => ⟨(hh c).1.trans (Cert.Proof.Ple.array_ideal m c), (hh c).2⟩)
      (Cert.Kernel2Ideal.Value.run_blocks (F := Ideal) m g)
  · refine (θ_run Cert.Reference2Ideal.defs _ _).mono (fun _ hh c => ⟨?_, (hh c).2⟩) (Cert.Reference2Ideal.Value.run (F := Ideal) m' g')
    obtain ⟨a0, a1, a2, a3, a4, a5, a6, a7, a8⟩ := hargs c
    refine (hh c).1.trans ((Cert.Reference2Ideal.Read.val_main_v53_eq (F := Ideal) m' c).trans ?_)
    refine (congr (congr (congr (congr (congr (congr (congr (congrArg₂ (Cert.Reference2Ideal.Read.val_main_v53 (F := Ideal)) a0 a1) a2) a3) a4) a5)
      a6) a7) a8).trans (funext fun i => ?_)
    have ei : i = ValueIdx.ix2 (i 0) (i 1) := funext fun a => (match a with
      | ⟨0, _⟩ => rfl
      | ⟨1, _⟩ => rfl)
    exact (congrArg _ ei).trans (Cert.Proof.Ple.ref_ideal _ _ _ _ _ _ _ _ _ (i 0) (i 1))

/-- The mixers' call's frame at the bits. -/
theorem frame_kernel3 : Cert.quiescent_Kernel3 := fun m ρ _ => Cert.Proof.MixBits.frame m ρ

/-- The mixers' call's frame at the ideal reals. -/
theorem frame_kernel3Ideal : Cert.quiescent_Kernel3Ideal := fun m ρ _ => Cert.Proof.MixIdeal.frame m ρ

/-- The frame of the mixers' reference: it writes no argument and declares no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The mixed rows are the mixers' reference's, at every place. -/
theorem values3 : Cert.algebraic_Kernel3Ideal_Reference3Ideal := by
  intro m g m' g' _ hargs
  refine ⟨fun c => Cert.Proof.MixRow.leftArr m c, ?_, ?_⟩
  · exact (θ_run Cert.Kernel3Ideal.defs _ _).mono (fun _ hh c => ⟨(hh.1 c).trans (Cert.Proof.MixRow.array_ideal m c), hh.2.1 c⟩)
      (θ_run_and (Cert.Proof.MixIdeal.run_rows (F := Ideal) m g) (Cert.Proof.MixIdeal.frame (F := Ideal) m g))
  · refine (θ_run Cert.Reference3Ideal.defs _ _).mono (fun _ hh c => ⟨?_, (hh c).2⟩) (Cert.Reference3Ideal.Value.run (F := Ideal) m' g')
    obtain ⟨a0, a1, a2, a3, a4, a5, a6, a7, a8, a9, a10, -⟩ := hargs c
    refine (hh c).1.trans ((Cert.Reference3Ideal.Read.val_main_v78_eq (F := Ideal) m' c).trans ?_)
    refine (congr (congr (congr (congr (congr (congr (congr (congr (congr (congrArg₂ (Cert.Reference3Ideal.Read.val_main_v78 (F := Ideal)) a0 a1) a2) a3)
      a4) a5) a6) a7) a8) a9) a10).trans (funext fun i => ?_)
    have ei : i = ValueIdx.ix2 (i 0) (i 1) := funext fun a => (match a with
      | ⟨0, _⟩ => rfl
      | ⟨1, _⟩ => rfl)
    exact (congrArg _ ei).trans (Cert.Proof.MixRow.ref_ideal _ _ _ _ _ _ _ _ _ _ _ (i 0) (i 1))

/-- The places where the mixers' call's text changes between the bits and the reals: the packed rows are read as pairs of
    rows, and a value rounded to bf16 and widened again is read as itself. -/
theorem preserves3 : Cert.preserves_Kernel3_Kernel3Ideal :=
  ⟨IdealRules.bf16_pair.bufferStatement _ _, IdealRules.bf16_pair.bufferStatement _ _, IdealRules.truncf_extf.statement _ .f32 .bf16,
    IdealRules.bf16_pair.statement _ _, IdealRules.bf16_pack.statement _, IdealRules.truncf_extf.statement _ .f32 .bf16⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, preFacts, onFacts,
    frame_kernel, frame_kernelIdeal, frame_reference, frame_reference_pre, frame_kernel2, frame_kernel2Ideal, frame_reference2,
    frame_kernel3, frame_kernel3Ideal, frame_reference3, trivial, values, trivial, values2, preserves3, values3⟩

end Cert.Proof

end
